-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 512]⟩ (Layout.meshBlock [2, 2, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![512, 2048]⟩ (Layout.meshBlock [2, 2, 4] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![512, 2048]⟩ (Layout.meshBlock [2, 2, 4] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  bcast_S_S2048x128 : S_.BroadcastsInDim S2048x128 (![] : Fin 0 → Fin S2048x128.rank)
  bcast_S_S128x2048 : S_.BroadcastsInDim S128x2048 (![] : Fin 0 → Fin S128x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn {F : FTy → Type} [FloatOps F] (main_arg0 : FVec F S2x512x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S2x512x2048 1 × IVec S2048x128 1 × IVec S128x2048 1 × IVec S2048x2048 1 × IVec S2048x512 1 × IVec S2048x32 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S128x2048 .f32 := Host.absf main_arg2
  let main_cst_1 : FVec F S_ .f32 := constant S_ .f32 0x7F800000#32
  let main_v7 : FVec F S128x2048 .f32 := broadcastInDim S128x2048 ![] bcast_S_S128x2048 main_cst_1
  let main_v8 : IVec S128x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Pre_finite_scores_ReferenceIdeal.lean ====
abbrev S2x512x2048 : Shape := ⟨3, ![2, 512, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  bcast_S_S2048x512 : S_.BroadcastsInDim S2048x512 (![] : Fin 0 → Fin S2048x512.rank)
  bcast_S_S512x2048 : S_.BroadcastsInDim S512x2048 (![] : Fin 0 → Fin S512x2048.rank)
  bcast_S_S2048x2048 : S_.BroadcastsInDim S2048x2048 (![] : Fin 0 → Fin S2048x2048.rank)
  bcast_S_S2048x32 : S_.BroadcastsInDim S2048x32 (![] : Fin 0 → Fin S2048x32.rank)

variable [Facts]

def fn {F : FTy → Type} [FloatOps F] (main_arg0 : FVec F S2x512x2048 .f32) (main_arg1 : FVec F S2048x512 .f32) (main_arg2 : FVec F S512x2048 .f32) (main_arg3 : FVec F S512x2048 .f32) (main_arg4 : FVec F S2048x2048 .f32) (main_arg5 : FVec F S2048x512 .f32) (main_arg6 : FVec F S2048x32 .f32) (main_arg7 : FVec F S2048x2048 .f32) : IVec S2x512x2048 1 × IVec S2048x512 1 × IVec S512x2048 1 × IVec S2048x2048 1 × IVec S2048x512 1 × IVec S2048x32 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S512x2048 .f32 := Host.absf main_arg2
  let main_cst_1 : FVec F S_ .f32 := constant S_ .f32 0x7F800000#32
  let main_v7 : FVec F S512x2048 .f32 := broadcastInDim S512x2048 ![] bcast_S_S512x2048 main_cst_1
  let main_v8 : IVec S512x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S4x1024x128 : Shape := ⟨3, ![4, 1024, 128]⟩
abbrev S128x4096 : Shape := ⟨2, ![128, 4096]⟩
abbrev S4x128x1024 : Shape := ⟨3, ![4, 128, 1024]⟩
abbrev S1024x512 : Shape := ⟨2, ![1024, 512]⟩
abbrev S1024x128 : Shape := ⟨2, ![1024, 128]⟩
abbrev S1024x32 : Shape := ⟨2, ![1024, 32]⟩
abbrev S4x1024x512 : Shape := ⟨3, ![4, 1024, 512]⟩
abbrev S6 : Shape := ⟨1, ![6]⟩
abbrev S24 : Shape := ⟨1, ![24]⟩
abbrev S4 : Shape := ⟨1, ![4]⟩
abbrev S1 : Shape := ⟨1, ![1]⟩
abbrev S_ : Shape := ⟨0, ![]⟩
abbrev S128x128 : Shape := ⟨2, ![128, 128]⟩
abbrev S1x128x1024 : Shape := ⟨3, ![1, 128, 1024]⟩
abbrev S128x1024 : Shape := ⟨2, ![128, 1024]⟩
abbrev S1024x2048 : Shape := ⟨2, ![1024, 2048]⟩
abbrev S1x1024x128 : Shape := ⟨3, ![1, 1024, 128]⟩
abbrev S1x512x2048 : Shape := ⟨3, ![1, 512, 2048]⟩
abbrev S512x2048 : Shape := ⟨2, ![512, 2048]⟩
abbrev S512x32 : Shape := ⟨2, ![512, 32]⟩
abbrev S512x256 : Shape := ⟨2, ![512, 256]⟩
abbrev S1x512x128 : Shape := ⟨3, ![1, 512, 128]⟩
abbrev S512x128 : Shape := ⟨2, ![512, 128]⟩
abbrev S1x128x256 : Shape := ⟨3, ![1, 128, 256]⟩
abbrev S128x256 : Shape := ⟨2, ![128, 256]⟩
abbrev S512x512 : Shape := ⟨2, ![512, 512]⟩
abbrev S512 : Shape := ⟨1, ![512]⟩
abbrev S512x1 : Shape := ⟨2, ![512, 1]⟩
abbrev S512x1024 : Shape := ⟨2, ![512, 1024]⟩
abbrev S1024x1024 : Shape := ⟨2, ![1024, 1024]⟩
abbrev S2x512x1024 : Shape := ⟨3, ![2, 512, 1024]⟩
abbrev S1x1024x512 : Shape := ⟨3, ![1, 1024, 512]⟩

abbrev nBuf : Space → Nat
  | .hbm => 9
  | .vmem => 17
  | .smem => 0
  | _ => 0

abbrev bufTy : (tb : Table) → Fin (tcTables nBuf tb) → BufTy
  | .hbm, ⟨0, _⟩ => ⟨S2x512x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x2048, .f32⟩
  | .local _ .vmem, ⟨0, _⟩ => ⟨S2048x128, .f32⟩
  | .local _ .vmem, ⟨1, _⟩ => ⟨S128x2048, .f32⟩
  | .local _ .vmem, ⟨2, _⟩ => ⟨S128x2048, .f32⟩
  | .local _ .vmem, ⟨3, _⟩ => ⟨S2048x32, .f32⟩
  | .local _ .vmem, ⟨4, _⟩ => ⟨S2x512x2048, .f32⟩
  | .local _ .vmem, ⟨5, _⟩ => ⟨S2x512x2048, .f32⟩
  | .local _ .vmem, ⟨6, _⟩ => ⟨S4x1024x128, .bf16⟩
  | .local _ .vmem, ⟨7, _⟩ => ⟨S128x4096, .bf16⟩
  | .local _ .vmem, ⟨8, _⟩ => ⟨S4x128x1024, .bf16⟩
  | .local _ .vmem, ⟨9, _⟩ => ⟨S2048x512, .f32⟩
  | .local _ .vmem, ⟨10, _⟩ => ⟨S1024x512, .bf16⟩
  | .local _ .vmem, ⟨11, _⟩ => ⟨S2048x128, .f32⟩
  | .local _ .vmem, ⟨12, _⟩ => ⟨S1024x128, .bf16⟩
  | .local _ .vmem, ⟨13, _⟩ => ⟨S1024x32, .bf16⟩
  | .local _ .vmem, ⟨14, _⟩ => ⟨S1024x512, .bf16⟩
  | .local _ .vmem, ⟨15, _⟩ => ⟨S4x1024x512, .bf16⟩
  | .local _ .vmem, ⟨16, _⟩ => ⟨S2x512x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_scratch11 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32 : BitVec 32 := 512#32
  let v13 : BitVec 32 := Scalar.muli v10 c512_i32
  ![0, v13.toNat]
def k0_off2 (d0 : Dev nD) : Fin 2 → Nat :=
  let c0_i32_6 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_4 : BitVec 32 := 4#32
  let v17 : BitVec 32 := Scalar.muli v10 c4_i32_4
  let c32_i32 : BitVec 32 := 32#32
  let v18 : BitVec 32 := Scalar.muli v17 c32_i32
  ![0, v18.toNat]
def k0_dev1 (d0 : Dev nD) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v25 : BitVec 32 := Scalar.muli v2 c8_i32_10
  let v26 : BitVec 32 := Scalar.addi c0_i32_11 v25
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_12 : BitVec 32 := 4#32
  let v27 : BitVec 32 := Scalar.muli v5 c4_i32_12
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v23 : BitVec 32 := Scalar.addi v8 c1_i32_7
  let c4_i32_8 : BitVec 32 := 4#32
  let v24 : BitVec 32 := Scalar.remsi v23 c4_i32_8
  let c1_i32_13 : BitVec 32 := 1#32
  let v29 : BitVec 32 := Scalar.muli v24 c1_i32_13
  let v30 : BitVec 32 := Scalar.addi v28 v29
  v30.toNat
def k0_dev2 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v33 : BitVec 32 := Scalar.muli v2 c8_i32_17
  let v34 : BitVec 32 := Scalar.addi c0_i32_18 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v35 : BitVec 32 := Scalar.muli v5 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v31 : BitVec 32 := Scalar.addi v8 c2_i32_14
  let c4_i32_15 : BitVec 32 := 4#32
  let v32 : BitVec 32 := Scalar.remsi v31 c4_i32_15
  let c1_i32_20 : BitVec 32 := 1#32
  let v37 : BitVec 32 := Scalar.muli v32 c1_i32_20
  let v38 : BitVec 32 := Scalar.addi v36 v37
  v38.toNat
def k0_dev3 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_24 : BitVec 32 := 8#32
  let v41 : BitVec 32 := Scalar.muli v2 c8_i32_24
  let v42 : BitVec 32 := Scalar.addi c0_i32_25 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_26 : BitVec 32 := 4#32
  let v43 : BitVec 32 := Scalar.muli v5 c4_i32_26
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_21 : BitVec 32 := 3#32
  let v39 : BitVec 32 := Scalar.addi v8 c3_i32_21
  let c4_i32_22 : BitVec 32 := 4#32
  let v40 : BitVec 32 := Scalar.remsi v39 c4_i32_22
  let c1_i32_27 : BitVec 32 := 1#32
  let v45 : BitVec 32 := Scalar.muli v40 c1_i32_27
  let v46 : BitVec 32 := Scalar.addi v44 v45
  v46.toNat
def k0_dev4 (d0 : Dev nD) : Nat :=
  let c0_i32_40 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_28 : BitVec 32 := 1#32
  let v47 : BitVec 32 := Scalar.addi v10 c1_i32_28
  let c4_i32_29 : BitVec 32 := 4#32
  let v48 : BitVec 32 := Scalar.remsi v47 c4_i32_29
  let c0_i32_31 : BitVec 32 := 0#32
  let v50 : BitVec 1 := Scalar.cmpi .sgt v48 c0_i32_31
  let v51 : BitVec 32 := Scalar.extui v50
  let c0_i32_32 : BitVec 32 := 0#32
  let v52 : BitVec 1 := Scalar.cmpi .slt v48 c0_i32_32
  let v53 : BitVec 32 := Scalar.extui v52
  let v54 : BitVec 32 := Scalar.subi v51 v53
  let c2_i32_30 : BitVec 32 := 2#32
  let c0_i32_33 : BitVec 32 := 0#32
  let v55 : BitVec 1 := Scalar.cmpi .sgt c2_i32_30 c0_i32_33
  let v56 : BitVec 32 := Scalar.extui v55
  let c0_i32_34 : BitVec 32 := 0#32
  let v57 : BitVec 1 := Scalar.cmpi .slt c2_i32_30 c0_i32_34
  let v58 : BitVec 32 := Scalar.extui v57
  let v59 : BitVec 32 := Scalar.subi v56 v58
  let v60 : BitVec 1 := Scalar.cmpi .ne v54 v59
  let v61 : BitVec 32 := Scalar.remsi v48 c2_i32_30
  let c0_i32_35 : BitVec 32 := 0#32
  let v62 : BitVec 1 := Scalar.cmpi .ne v61 c0_i32_35
  let v63 : BitVec 1 := Scalar.andi v60 v62
  let v49 : BitVec 32 := Scalar.divsi v48 c2_i32_30
  let c1_i32_36 : BitVec 32 := 1#32
  let v64 : BitVec 32 := Scalar.subi v49 c1_i32_36
  let v65 : BitVec 32 := Scalar.select v63 v64 v49
  let c8_i32_39 : BitVec 32 := 8#32
  let v67 : BitVec 32 := Scalar.muli v65 c8_i32_39
  let v68 : BitVec 32 := Scalar.addi c0_i32_40 v67
  let c2_i32_37 : BitVec 32 := 2#32
  let v66 : BitVec 32 := Scalar.remsi v48 c2_i32_37
  let c4_i32_41 : BitVec 32 := 4#32
  let v69 : BitVec 32 := Scalar.muli v66 c4_i32_41
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v71 : BitVec 32 := Scalar.muli v8 c1_i32_42
  let v72 : BitVec 32 := Scalar.addi v70 v71
  v72.toNat
def k0_dev5 (d0 : Dev nD) : Nat :=
  let c0_i32_55 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_43 : BitVec 32 := 2#32
  let v73 : BitVec 32 := Scalar.addi v10 c2_i32_43
  let c4_i32_44 : BitVec 32 := 4#32
  let v74 : BitVec 32 := Scalar.remsi v73 c4_i32_44
  let c0_i32_46 : BitVec 32 := 0#32
  let v76 : BitVec 1 := Scalar.cmpi .sgt v74 c0_i32_46
  let v77 : BitVec 32 := Scalar.extui v76
  let c0_i32_47 : BitVec 32 := 0#32
  let v78 : BitVec 1 := Scalar.cmpi .slt v74 c0_i32_47
  let v79 : BitVec 32 := Scalar.extui v78
  let v80 : BitVec 32 := Scalar.subi v77 v79
  let c2_i32_45 : BitVec 32 := 2#32
  let c0_i32_48 : BitVec 32 := 0#32
  let v81 : BitVec 1 := Scalar.cmpi .sgt c2_i32_45 c0_i32_48
  let v82 : BitVec 32 := Scalar.extui v81
  let c0_i32_49 : BitVec 32 := 0#32
  let v83 : BitVec 1 := Scalar.cmpi .slt c2_i32_45 c0_i32_49
  let v84 : BitVec 32 := Scalar.extui v83
  let v85 : BitVec 32 := Scalar.subi v82 v84
  let v86 : BitVec 1 := Scalar.cmpi .ne v80 v85
  let v87 : BitVec 32 := Scalar.remsi v74 c2_i32_45
  let c0_i32_50 : BitVec 32 := 0#32
  let v88 : BitVec 1 := Scalar.cmpi .ne v87 c0_i32_50
  let v89 : BitVec 1 := Scalar.andi v86 v88
  let v75 : BitVec 32 := Scalar.divsi v74 c2_i32_45
  let c1_i32_51 : BitVec 32 := 1#32
  let v90 : BitVec 32 := Scalar.subi v75 c1_i32_51
  let v91 : BitVec 32 := Scalar.select v89 v90 v75
  let c8_i32_54 : BitVec 32 := 8#32
  let v93 : BitVec 32 := Scalar.muli v91 c8_i32_54
  let v94 : BitVec 32 := Scalar.addi c0_i32_55 v93
  let c2_i32_52 : BitVec 32 := 2#32
  let v92 : BitVec 32 := Scalar.remsi v74 c2_i32_52
  let c4_i32_56 : BitVec 32 := 4#32
  let v95 : BitVec 32 := Scalar.muli v92 c4_i32_56
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_57 : BitVec 32 := 1#32
  let v97 : BitVec 32 := Scalar.muli v8 c1_i32_57
  let v98 : BitVec 32 := Scalar.addi v96 v97
  v98.toNat
def k0_dev6 (d0 : Dev nD) : Nat :=
  let c0_i32_70 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_58 : BitVec 32 := 3#32
  let v99 : BitVec 32 := Scalar.addi v10 c3_i32_58
  let c4_i32_59 : BitVec 32 := 4#32
  let v100 : BitVec 32 := Scalar.remsi v99 c4_i32_59
  let c0_i32_61 : BitVec 32 := 0#32
  let v102 : BitVec 1 := Scalar.cmpi .sgt v100 c0_i32_61
  let v103 : BitVec 32 := Scalar.extui v102
  let c0_i32_62 : BitVec 32 := 0#32
  let v104 : BitVec 1 := Scalar.cmpi .slt v100 c0_i32_62
  let v105 : BitVec 32 := Scalar.extui v104
  let v106 : BitVec 32 := Scalar.subi v103 v105
  let c2_i32_60 : BitVec 32 := 2#32
  let c0_i32_63 : BitVec 32 := 0#32
  let v107 : BitVec 1 := Scalar.cmpi .sgt c2_i32_60 c0_i32_63
  let v108 : BitVec 32 := Scalar.extui v107
  let c0_i32_64 : BitVec 32 := 0#32
  let v109 : BitVec 1 := Scalar.cmpi .slt c2_i32_60 c0_i32_64
  let v110 : BitVec 32 := Scalar.extui v109
  let v111 : BitVec 32 := Scalar.subi v108 v110
  let v112 : BitVec 1 := Scalar.cmpi .ne v106 v111
  let v113 : BitVec 32 := Scalar.remsi v100 c2_i32_60
  let c0_i32_65 : BitVec 32 := 0#32
  let v114 : BitVec 1 := Scalar.cmpi .ne v113 c0_i32_65
  let v115 : BitVec 1 := Scalar.andi v112 v114
  let v101 : BitVec 32 := Scalar.divsi v100 c2_i32_60
  let c1_i32_66 : BitVec 32 := 1#32
  let v116 : BitVec 32 := Scalar.subi v101 c1_i32_66
  let v117 : BitVec 32 := Scalar.select v115 v116 v101
  let c8_i32_69 : BitVec 32 := 8#32
  let v119 : BitVec 32 := Scalar.muli v117 c8_i32_69
  let v120 : BitVec 32 := Scalar.addi c0_i32_70 v119
  let c2_i32_67 : BitVec 32 := 2#32
  let v118 : BitVec 32 := Scalar.remsi v100 c2_i32_67
  let c4_i32_71 : BitVec 32 := 4#32
  let v121 : BitVec 32 := Scalar.muli v118 c4_i32_71
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v123 : BitVec 32 := Scalar.muli v8 c1_i32_72
  let v124 : BitVec 32 := Scalar.addi v122 v123
  v124.toNat
def k0_off3 (d0 : Dev nD) : Fin 2 → Nat :=
  let c0_i32_175 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_169 : BitVec 32 := 2#32
  let v317 : BitVec 32 := Scalar.muli v10 c2_i32_169
  let c512_i32_170 : BitVec 32 := 512#32
  let v318 : BitVec 32 := Scalar.muli v317 c512_i32_170
  ![0, v318.toNat]
def k0_dev7 (d0 : Dev nD) : Nat :=
  let c0_i32_188 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_187 : BitVec 32 := 8#32
  let v331 : BitVec 32 := Scalar.muli v2 c8_i32_187
  let v332 : BitVec 32 := Scalar.addi c0_i32_188 v331
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_189 : BitVec 32 := 4#32
  let v333 : BitVec 32 := Scalar.muli v5 c4_i32_189
  let v334 : BitVec 32 := Scalar.addi v332 v333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v329 : BitVec 32 := Scalar.addi v8 c1_i32_181
  let c4_i32_182 : BitVec 32 := 4#32
  let v330 : BitVec 32 := Scalar.remsi v329 c4_i32_182
  let c1_i32_190 : BitVec 32 := 1#32
  let v335 : BitVec 32 := Scalar.muli v330 c1_i32_190
  let v336 : BitVec 32 := Scalar.addi v334 v335
  v336.toNat
def k0_dev8 (d0 : Dev nD) : Nat :=
  let c0_i32_202 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_201 : BitVec 32 := 8#32
  let v347 : BitVec 32 := Scalar.muli v2 c8_i32_201
  let v348 : BitVec 32 := Scalar.addi c0_i32_202 v347
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_203 : BitVec 32 := 4#32
  let v349 : BitVec 32 := Scalar.muli v5 c4_i32_203
  let v350 : BitVec 32 := Scalar.addi v348 v349
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_195 : BitVec 32 := 2#32
  let v345 : BitVec 32 := Scalar.addi v8 c2_i32_195
  let c4_i32_196 : BitVec 32 := 4#32
  let v346 : BitVec 32 := Scalar.remsi v345 c4_i32_196
  let c1_i32_204 : BitVec 32 := 1#32
  let v351 : BitVec 32 := Scalar.muli v346 c1_i32_204
  let v352 : BitVec 32 := Scalar.addi v350 v351
  v352.toNat
def k0_dev9 (d0 : Dev nD) : Nat :=
  let c0_i32_216 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_215 : BitVec 32 := 8#32
  let v363 : BitVec 32 := Scalar.muli v2 c8_i32_215
  let v364 : BitVec 32 := Scalar.addi c0_i32_216 v363
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_217 : BitVec 32 := 4#32
  let v365 : BitVec 32 := Scalar.muli v5 c4_i32_217
  let v366 : BitVec 32 := Scalar.addi v364 v365
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_209 : BitVec 32 := 3#32
  let v361 : BitVec 32 := Scalar.addi v8 c3_i32_209
  let c4_i32_210 : BitVec 32 := 4#32
  let v362 : BitVec 32 := Scalar.remsi v361 c4_i32_210
  let c1_i32_218 : BitVec 32 := 1#32
  let v367 : BitVec 32 := Scalar.muli v362 c1_i32_218
  let v368 : BitVec 32 := Scalar.addi v366 v367
  v368.toNat
def k0_dev10 (d0 : Dev nD) : Nat :=
  let c0_i32_239 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_238 : BitVec 32 := 8#32
  let v392 : BitVec 32 := Scalar.muli v2 c8_i32_238
  let v393 : BitVec 32 := Scalar.addi c0_i32_239 v392
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_240 : BitVec 32 := 4#32
  let v394 : BitVec 32 := Scalar.muli v5 c4_i32_240
  let v395 : BitVec 32 := Scalar.addi v393 v394
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_232 : BitVec 32 := 1#32
  let v390 : BitVec 32 := Scalar.addi v8 c1_i32_232
  let c4_i32_233 : BitVec 32 := 4#32
  let v391 : BitVec 32 := Scalar.remsi v390 c4_i32_233
  let c1_i32_241 : BitVec 32 := 1#32
  let v396 : BitVec 32 := Scalar.muli v391 c1_i32_241
  let v397 : BitVec 32 := Scalar.addi v395 v396
  v397.toNat
def k0_dev11 (d0 : Dev nD) : Nat :=
  let c0_i32_253 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_252 : BitVec 32 := 8#32
  let v408 : BitVec 32 := Scalar.muli v2 c8_i32_252
  let v409 : BitVec 32 := Scalar.addi c0_i32_253 v408
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_254 : BitVec 32 := 4#32
  let v410 : BitVec 32 := Scalar.muli v5 c4_i32_254
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_246 : BitVec 32 := 2#32
  let v406 : BitVec 32 := Scalar.addi v8 c2_i32_246
  let c4_i32_247 : BitVec 32 := 4#32
  let v407 : BitVec 32 := Scalar.remsi v406 c4_i32_247
  let c1_i32_255 : BitVec 32 := 1#32
  let v412 : BitVec 32 := Scalar.muli v407 c1_i32_255
  let v413 : BitVec 32 := Scalar.addi v411 v412
  v413.toNat
def k0_dev12 (d0 : Dev nD) : Nat :=
  let c0_i32_266 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_265 : BitVec 32 := 8#32
  let v424 : BitVec 32 := Scalar.muli v2 c8_i32_265
  let v425 : BitVec 32 := Scalar.addi c0_i32_266 v424
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_267 : BitVec 32 := 4#32
  let v426 : BitVec 32 := Scalar.muli v5 c4_i32_267
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_260 : BitVec 32 := 3#32
  let v422 : BitVec 32 := Scalar.addi v8 c3_i32_260
  let c4_i32_261 : BitVec 32 := 4#32
  let v423 : BitVec 32 := Scalar.remsi v422 c4_i32_261
  let c1_i32_268 : BitVec 32 := 1#32
  let v428 : BitVec 32 := Scalar.muli v423 c1_i32_268
  let v429 : BitVec 32 := Scalar.addi v427 v428
  v429.toNat
def k0_off4 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c512_i32_373 : BitVec 32 := 512#32
  let v547 : BitVec 32 := Scalar.muli v10 c512_i32_373
  let c0_i32_381 : BitVec 32 := 0#32
  ![v547.toNat, 0]
def k0_off5 (d0 : Dev nD) (c1_i32_365 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c4_i32_364 : BitVec 32 := 4#32
  let v538 : BitVec 32 := Scalar.addi v10 c4_i32_364
  let v539 : BitVec 32 := Scalar.subi v538 c1_i32_365
  let c4_i32_366 : BitVec 32 := 4#32
  let v540 : BitVec 32 := Scalar.remsi v539 c4_i32_366
  let c512_i32_374 : BitVec 32 := 512#32
  let v548 : BitVec 32 := Scalar.muli v540 c512_i32_374
  let c0_i32_386 : BitVec 32 := 0#32
  ![v548.toNat, 0]
def k0_dev13 (d0 : Dev nD) : Nat :=
  let c0_i32_441 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_427 : BitVec 32 := 1#32
  let v613 : BitVec 32 := Scalar.addi v10 c1_i32_427
  let c4_i32_428 : BitVec 32 := 4#32
  let v614 : BitVec 32 := Scalar.remsi v613 c4_i32_428
  let c0_i32_430 : BitVec 32 := 0#32
  let v616 : BitVec 1 := Scalar.cmpi .sgt v614 c0_i32_430
  let v617 : BitVec 32 := Scalar.extui v616
  let c0_i32_431 : BitVec 32 := 0#32
  let v618 : BitVec 1 := Scalar.cmpi .slt v614 c0_i32_431
  let v619 : BitVec 32 := Scalar.extui v618
  let v620 : BitVec 32 := Scalar.subi v617 v619
  let c2_i32_429 : BitVec 32 := 2#32
  let c0_i32_432 : BitVec 32 := 0#32
  let v621 : BitVec 1 := Scalar.cmpi .sgt c2_i32_429 c0_i32_432
  let v622 : BitVec 32 := Scalar.extui v621
  let c0_i32_433 : BitVec 32 := 0#32
  let v623 : BitVec 1 := Scalar.cmpi .slt c2_i32_429 c0_i32_433
  let v624 : BitVec 32 := Scalar.extui v623
  let v625 : BitVec 32 := Scalar.subi v622 v624
  let v626 : BitVec 1 := Scalar.cmpi .ne v620 v625
  let v627 : BitVec 32 := Scalar.remsi v614 c2_i32_429
  let c0_i32_434 : BitVec 32 := 0#32
  let v628 : BitVec 1 := Scalar.cmpi .ne v627 c0_i32_434
  let v629 : BitVec 1 := Scalar.andi v626 v628
  let v615 : BitVec 32 := Scalar.divsi v614 c2_i32_429
  let c1_i32_435 : BitVec 32 := 1#32
  let v630 : BitVec 32 := Scalar.subi v615 c1_i32_435
  let v631 : BitVec 32 := Scalar.select v629 v630 v615
  let c8_i32_440 : BitVec 32 := 8#32
  let v633 : BitVec 32 := Scalar.muli v631 c8_i32_440
  let v634 : BitVec 32 := Scalar.addi c0_i32_441 v633
  let c2_i32_436 : BitVec 32 := 2#32
  let v632 : BitVec 32 := Scalar.remsi v614 c2_i32_436
  let c4_i32_442 : BitVec 32 := 4#32
  let v635 : BitVec 32 := Scalar.muli v632 c4_i32_442
  let v636 : BitVec 32 := Scalar.addi v634 v635
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_443 : BitVec 32 := 1#32
  let v637 : BitVec 32 := Scalar.muli v8 c1_i32_443
  let v638 : BitVec 32 := Scalar.addi v636 v637
  v638.toNat
def k0_dev14 (d0 : Dev nD) : Nat :=
  let c0_i32_462 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_448 : BitVec 32 := 2#32
  let v646 : BitVec 32 := Scalar.addi v10 c2_i32_448
  let c4_i32_449 : BitVec 32 := 4#32
  let v647 : BitVec 32 := Scalar.remsi v646 c4_i32_449
  let c0_i32_451 : BitVec 32 := 0#32
  let v649 : BitVec 1 := Scalar.cmpi .sgt v647 c0_i32_451
  let v650 : BitVec 32 := Scalar.extui v649
  let c0_i32_452 : BitVec 32 := 0#32
  let v651 : BitVec 1 := Scalar.cmpi .slt v647 c0_i32_452
  let v652 : BitVec 32 := Scalar.extui v651
  let v653 : BitVec 32 := Scalar.subi v650 v652
  let c2_i32_450 : BitVec 32 := 2#32
  let c0_i32_453 : BitVec 32 := 0#32
  let v654 : BitVec 1 := Scalar.cmpi .sgt c2_i32_450 c0_i32_453
  let v655 : BitVec 32 := Scalar.extui v654
  let c0_i32_454 : BitVec 32 := 0#32
  let v656 : BitVec 1 := Scalar.cmpi .slt c2_i32_450 c0_i32_454
  let v657 : BitVec 32 := Scalar.extui v656
  let v658 : BitVec 32 := Scalar.subi v655 v657
  let v659 : BitVec 1 := Scalar.cmpi .ne v653 v658
  let v660 : BitVec 32 := Scalar.remsi v647 c2_i32_450
  let c0_i32_455 : BitVec 32 := 0#32
  let v661 : BitVec 1 := Scalar.cmpi .ne v660 c0_i32_455
  let v662 : BitVec 1 := Scalar.andi v659 v661
  let v648 : BitVec 32 := Scalar.divsi v647 c2_i32_450
  let c1_i32_456 : BitVec 32 := 1#32
  let v663 : BitVec 32 := Scalar.subi v648 c1_i32_456
  let v664 : BitVec 32 := Scalar.select v662 v663 v648
  let c8_i32_461 : BitVec 32 := 8#32
  let v666 : BitVec 32 := Scalar.muli v664 c8_i32_461
  let v667 : BitVec 32 := Scalar.addi c0_i32_462 v666
  let c2_i32_457 : BitVec 32 := 2#32
  let v665 : BitVec 32 := Scalar.remsi v647 c2_i32_457
  let c4_i32_463 : BitVec 32 := 4#32
  let v668 : BitVec 32 := Scalar.muli v665 c4_i32_463
  let v669 : BitVec 32 := Scalar.addi v667 v668
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_464 : BitVec 32 := 1#32
  let v670 : BitVec 32 := Scalar.muli v8 c1_i32_464
  let v671 : BitVec 32 := Scalar.addi v669 v670
  v671.toNat
def k0_dev15 (d0 : Dev nD) : Nat :=
  let c0_i32_482 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_469 : BitVec 32 := 3#32
  let v679 : BitVec 32 := Scalar.addi v10 c3_i32_469
  let c4_i32_470 : BitVec 32 := 4#32
  let v680 : BitVec 32 := Scalar.remsi v679 c4_i32_470
  let c0_i32_472 : BitVec 32 := 0#32
  let v682 : BitVec 1 := Scalar.cmpi .sgt v680 c0_i32_472
  let v683 : BitVec 32 := Scalar.extui v682
  let c0_i32_473 : BitVec 32 := 0#32
  let v684 : BitVec 1 := Scalar.cmpi .slt v680 c0_i32_473
  let v685 : BitVec 32 := Scalar.extui v684
  let v686 : BitVec 32 := Scalar.subi v683 v685
  let c2_i32_471 : BitVec 32 := 2#32
  let c0_i32_474 : BitVec 32 := 0#32
  let v687 : BitVec 1 := Scalar.cmpi .sgt c2_i32_471 c0_i32_474
  let v688 : BitVec 32 := Scalar.extui v687
  let c0_i32_475 : BitVec 32 := 0#32
  let v689 : BitVec 1 := Scalar.cmpi .slt c2_i32_471 c0_i32_475
  let v690 : BitVec 32 := Scalar.extui v689
  let v691 : BitVec 32 := Scalar.subi v688 v690
  let v692 : BitVec 1 := Scalar.cmpi .ne v686 v691
  let v693 : BitVec 32 := Scalar.remsi v680 c2_i32_471
  let c0_i32_476 : BitVec 32 := 0#32
  let v694 : BitVec 1 := Scalar.cmpi .ne v693 c0_i32_476
  let v695 : BitVec 1 := Scalar.andi v692 v694
  let v681 : BitVec 32 := Scalar.divsi v680 c2_i32_471
  let c1_i32_477 : BitVec 32 := 1#32
  let v696 : BitVec 32 := Scalar.subi v681 c1_i32_477
  let v697 : BitVec 32 := Scalar.select v695 v696 v681
  let c8_i32_481 : BitVec 32 := 8#32
  let v699 : BitVec 32 := Scalar.muli v697 c8_i32_481
  let v700 : BitVec 32 := Scalar.addi c0_i32_482 v699
  let c2_i32_478 : BitVec 32 := 2#32
  let v698 : BitVec 32 := Scalar.remsi v680 c2_i32_478
  let c4_i32_483 : BitVec 32 := 4#32
  let v701 : BitVec 32 := Scalar.muli v698 c4_i32_483
  let v702 : BitVec 32 := Scalar.addi v700 v701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_484 : BitVec 32 := 1#32
  let v703 : BitVec 32 := Scalar.muli v8 c1_i32_484
  let v704 : BitVec 32 := Scalar.addi v702 v703
  v704.toNat
def k0_dev16 (d0 : Dev nD) : Nat :=
  let c0_i32_543 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_529 : BitVec 32 := 1#32
  let v763 : BitVec 32 := Scalar.addi v10 c1_i32_529
  let c4_i32_530 : BitVec 32 := 4#32
  let v764 : BitVec 32 := Scalar.remsi v763 c4_i32_530
  let c0_i32_532 : BitVec 32 := 0#32
  let v766 : BitVec 1 := Scalar.cmpi .sgt v764 c0_i32_532
  let v767 : BitVec 32 := Scalar.extui v766
  let c0_i32_533 : BitVec 32 := 0#32
  let v768 : BitVec 1 := Scalar.cmpi .slt v764 c0_i32_533
  let v769 : BitVec 32 := Scalar.extui v768
  let v770 : BitVec 32 := Scalar.subi v767 v769
  let c2_i32_531 : BitVec 32 := 2#32
  let c0_i32_534 : BitVec 32 := 0#32
  let v771 : BitVec 1 := Scalar.cmpi .sgt c2_i32_531 c0_i32_534
  let v772 : BitVec 32 := Scalar.extui v771
  let c0_i32_535 : BitVec 32 := 0#32
  let v773 : BitVec 1 := Scalar.cmpi .slt c2_i32_531 c0_i32_535
  let v774 : BitVec 32 := Scalar.extui v773
  let v775 : BitVec 32 := Scalar.subi v772 v774
  let v776 : BitVec 1 := Scalar.cmpi .ne v770 v775
  let v777 : BitVec 32 := Scalar.remsi v764 c2_i32_531
  let c0_i32_536 : BitVec 32 := 0#32
  let v778 : BitVec 1 := Scalar.cmpi .ne v777 c0_i32_536
  let v779 : BitVec 1 := Scalar.andi v776 v778
  let v765 : BitVec 32 := Scalar.divsi v764 c2_i32_531
  let c1_i32_537 : BitVec 32 := 1#32
  let v780 : BitVec 32 := Scalar.subi v765 c1_i32_537
  let v781 : BitVec 32 := Scalar.select v779 v780 v765
  let c8_i32_542 : BitVec 32 := 8#32
  let v783 : BitVec 32 := Scalar.muli v781 c8_i32_542
  let v784 : BitVec 32 := Scalar.addi c0_i32_543 v783
  let c2_i32_538 : BitVec 32 := 2#32
  let v782 : BitVec 32 := Scalar.remsi v764 c2_i32_538
  let c4_i32_544 : BitVec 32 := 4#32
  let v785 : BitVec 32 := Scalar.muli v782 c4_i32_544
  let v786 : BitVec 32 := Scalar.addi v784 v785
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_545 : BitVec 32 := 1#32
  let v787 : BitVec 32 := Scalar.muli v8 c1_i32_545
  let v788 : BitVec 32 := Scalar.addi v786 v787
  v788.toNat
def k0_dev17 (d0 : Dev nD) : Nat :=
  let c0_i32_562 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_549 : BitVec 32 := 2#32
  let v796 : BitVec 32 := Scalar.addi v10 c2_i32_549
  let c4_i32_550 : BitVec 32 := 4#32
  let v797 : BitVec 32 := Scalar.remsi v796 c4_i32_550
  let c0_i32_552 : BitVec 32 := 0#32
  let v799 : BitVec 1 := Scalar.cmpi .sgt v797 c0_i32_552
  let v800 : BitVec 32 := Scalar.extui v799
  let c0_i32_553 : BitVec 32 := 0#32
  let v801 : BitVec 1 := Scalar.cmpi .slt v797 c0_i32_553
  let v802 : BitVec 32 := Scalar.extui v801
  let v803 : BitVec 32 := Scalar.subi v800 v802
  let c2_i32_551 : BitVec 32 := 2#32
  let c0_i32_554 : BitVec 32 := 0#32
  let v804 : BitVec 1 := Scalar.cmpi .sgt c2_i32_551 c0_i32_554
  let v805 : BitVec 32 := Scalar.extui v804
  let c0_i32_555 : BitVec 32 := 0#32
  let v806 : BitVec 1 := Scalar.cmpi .slt c2_i32_551 c0_i32_555
  let v807 : BitVec 32 := Scalar.extui v806
  let v808 : BitVec 32 := Scalar.subi v805 v807
  let v809 : BitVec 1 := Scalar.cmpi .ne v803 v808
  let v810 : BitVec 32 := Scalar.remsi v797 c2_i32_551
  let c0_i32_556 : BitVec 32 := 0#32
  let v811 : BitVec 1 := Scalar.cmpi .ne v810 c0_i32_556
  let v812 : BitVec 1 := Scalar.andi v809 v811
  let v798 : BitVec 32 := Scalar.divsi v797 c2_i32_551
  let c1_i32_557 : BitVec 32 := 1#32
  let v813 : BitVec 32 := Scalar.subi v798 c1_i32_557
  let v814 : BitVec 32 := Scalar.select v812 v813 v798
  let c8_i32_561 : BitVec 32 := 8#32
  let v816 : BitVec 32 := Scalar.muli v814 c8_i32_561
  let v817 : BitVec 32 := Scalar.addi c0_i32_562 v816
  let c2_i32_558 : BitVec 32 := 2#32
  let v815 : BitVec 32 := Scalar.remsi v797 c2_i32_558
  let c4_i32_563 : BitVec 32 := 4#32
  let v818 : BitVec 32 := Scalar.muli v815 c4_i32_563
  let v819 : BitVec 32 := Scalar.addi v817 v818
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_564 : BitVec 32 := 1#32
  let v820 : BitVec 32 := Scalar.muli v8 c1_i32_564
  let v821 : BitVec 32 := Scalar.addi v819 v820
  v821.toNat
def k0_dev18 (d0 : Dev nD) : Nat :=
  let c0_i32_582 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_569 : BitVec 32 := 3#32
  let v829 : BitVec 32 := Scalar.addi v10 c3_i32_569
  let c4_i32_570 : BitVec 32 := 4#32
  let v830 : BitVec 32 := Scalar.remsi v829 c4_i32_570
  let c0_i32_572 : BitVec 32 := 0#32
  let v832 : BitVec 1 := Scalar.cmpi .sgt v830 c0_i32_572
  let v833 : BitVec 32 := Scalar.extui v832
  let c0_i32_573 : BitVec 32 := 0#32
  let v834 : BitVec 1 := Scalar.cmpi .slt v830 c0_i32_573
  let v835 : BitVec 32 := Scalar.extui v834
  let v836 : BitVec 32 := Scalar.subi v833 v835
  let c2_i32_571 : BitVec 32 := 2#32
  let c0_i32_574 : BitVec 32 := 0#32
  let v837 : BitVec 1 := Scalar.cmpi .sgt c2_i32_571 c0_i32_574
  let v838 : BitVec 32 := Scalar.extui v837
  let c0_i32_575 : BitVec 32 := 0#32
  let v839 : BitVec 1 := Scalar.cmpi .slt c2_i32_571 c0_i32_575
  let v840 : BitVec 32 := Scalar.extui v839
  let v841 : BitVec 32 := Scalar.subi v838 v840
  let v842 : BitVec 1 := Scalar.cmpi .ne v836 v841
  let v843 : BitVec 32 := Scalar.remsi v830 c2_i32_571
  let c0_i32_576 : BitVec 32 := 0#32
  let v844 : BitVec 1 := Scalar.cmpi .ne v843 c0_i32_576
  let v845 : BitVec 1 := Scalar.andi v842 v844
  let v831 : BitVec 32 := Scalar.divsi v830 c2_i32_571
  let c1_i32_577 : BitVec 32 := 1#32
  let v846 : BitVec 32 := Scalar.subi v831 c1_i32_577
  let v847 : BitVec 32 := Scalar.select v845 v846 v831
  let c8_i32_581 : BitVec 32 := 8#32
  let v849 : BitVec 32 := Scalar.muli v847 c8_i32_581
  let v850 : BitVec 32 := Scalar.addi c0_i32_582 v849
  let c2_i32_578 : BitVec 32 := 2#32
  let v848 : BitVec 32 := Scalar.remsi v830 c2_i32_578
  let c4_i32_583 : BitVec 32 := 4#32
  let v851 : BitVec 32 := Scalar.muli v848 c4_i32_583
  let v852 : BitVec 32 := Scalar.addi v850 v851
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_584 : BitVec 32 := 1#32
  let v853 : BitVec 32 := Scalar.muli v8 c1_i32_584
  let v854 : BitVec 32 := Scalar.addi v852 v853
  v854.toNat
def k0_dev19 (d0 : Dev nD) : Nat :=
  let c0_i32_643 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_629 : BitVec 32 := 1#32
  let v913 : BitVec 32 := Scalar.addi v10 c1_i32_629
  let c4_i32_630 : BitVec 32 := 4#32
  let v914 : BitVec 32 := Scalar.remsi v913 c4_i32_630
  let c0_i32_632 : BitVec 32 := 0#32
  let v916 : BitVec 1 := Scalar.cmpi .sgt v914 c0_i32_632
  let v917 : BitVec 32 := Scalar.extui v916
  let c0_i32_633 : BitVec 32 := 0#32
  let v918 : BitVec 1 := Scalar.cmpi .slt v914 c0_i32_633
  let v919 : BitVec 32 := Scalar.extui v918
  let v920 : BitVec 32 := Scalar.subi v917 v919
  let c2_i32_631 : BitVec 32 := 2#32
  let c0_i32_634 : BitVec 32 := 0#32
  let v921 : BitVec 1 := Scalar.cmpi .sgt c2_i32_631 c0_i32_634
  let v922 : BitVec 32 := Scalar.extui v921
  let c0_i32_635 : BitVec 32 := 0#32
  let v923 : BitVec 1 := Scalar.cmpi .slt c2_i32_631 c0_i32_635
  let v924 : BitVec 32 := Scalar.extui v923
  let v925 : BitVec 32 := Scalar.subi v922 v924
  let v926 : BitVec 1 := Scalar.cmpi .ne v920 v925
  let v927 : BitVec 32 := Scalar.remsi v914 c2_i32_631
  let c0_i32_636 : BitVec 32 := 0#32
  let v928 : BitVec 1 := Scalar.cmpi .ne v927 c0_i32_636
  let v929 : BitVec 1 := Scalar.andi v926 v928
  let v915 : BitVec 32 := Scalar.divsi v914 c2_i32_631
  let c1_i32_637 : BitVec 32 := 1#32
  let v930 : BitVec 32 := Scalar.subi v915 c1_i32_637
  let v931 : BitVec 32 := Scalar.select v929 v930 v915
  let c8_i32_642 : BitVec 32 := 8#32
  let v933 : BitVec 32 := Scalar.muli v931 c8_i32_642
  let v934 : BitVec 32 := Scalar.addi c0_i32_643 v933
  let c2_i32_638 : BitVec 32 := 2#32
  let v932 : BitVec 32 := Scalar.remsi v914 c2_i32_638
  let c4_i32_644 : BitVec 32 := 4#32
  let v935 : BitVec 32 := Scalar.muli v932 c4_i32_644
  let v936 : BitVec 32 := Scalar.addi v934 v935
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_645 : BitVec 32 := 1#32
  let v937 : BitVec 32 := Scalar.muli v8 c1_i32_645
  let v938 : BitVec 32 := Scalar.addi v936 v937
  v938.toNat
def k0_dev20 (d0 : Dev nD) : Nat :=
  let c0_i32_662 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_649 : BitVec 32 := 2#32
  let v946 : BitVec 32 := Scalar.addi v10 c2_i32_649
  let c4_i32_650 : BitVec 32 := 4#32
  let v947 : BitVec 32 := Scalar.remsi v946 c4_i32_650
  let c0_i32_652 : BitVec 32 := 0#32
  let v949 : BitVec 1 := Scalar.cmpi .sgt v947 c0_i32_652
  let v950 : BitVec 32 := Scalar.extui v949
  let c0_i32_653 : BitVec 32 := 0#32
  let v951 : BitVec 1 := Scalar.cmpi .slt v947 c0_i32_653
  let v952 : BitVec 32 := Scalar.extui v951
  let v953 : BitVec 32 := Scalar.subi v950 v952
  let c2_i32_651 : BitVec 32 := 2#32
  let c0_i32_654 : BitVec 32 := 0#32
  let v954 : BitVec 1 := Scalar.cmpi .sgt c2_i32_651 c0_i32_654
  let v955 : BitVec 32 := Scalar.extui v954
  let c0_i32_655 : BitVec 32 := 0#32
  let v956 : BitVec 1 := Scalar.cmpi .slt c2_i32_651 c0_i32_655
  let v957 : BitVec 32 := Scalar.extui v956
  let v958 : BitVec 32 := Scalar.subi v955 v957
  let v959 : BitVec 1 := Scalar.cmpi .ne v953 v958
  let v960 : BitVec 32 := Scalar.remsi v947 c2_i32_651
  let c0_i32_656 : BitVec 32 := 0#32
  let v961 : BitVec 1 := Scalar.cmpi .ne v960 c0_i32_656
  let v962 : BitVec 1 := Scalar.andi v959 v961
  let v948 : BitVec 32 := Scalar.divsi v947 c2_i32_651
  let c1_i32_657 : BitVec 32 := 1#32
  let v963 : BitVec 32 := Scalar.subi v948 c1_i32_657
  let v964 : BitVec 32 := Scalar.select v962 v963 v948
  let c8_i32_661 : BitVec 32 := 8#32
  let v966 : BitVec 32 := Scalar.muli v964 c8_i32_661
  let v967 : BitVec 32 := Scalar.addi c0_i32_662 v966
  let c2_i32_658 : BitVec 32 := 2#32
  let v965 : BitVec 32 := Scalar.remsi v947 c2_i32_658
  let c4_i32_663 : BitVec 32 := 4#32
  let v968 : BitVec 32 := Scalar.muli v965 c4_i32_663
  let v969 : BitVec 32 := Scalar.addi v967 v968
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_664 : BitVec 32 := 1#32
  let v970 : BitVec 32 := Scalar.muli v8 c1_i32_664
  let v971 : BitVec 32 := Scalar.addi v969 v970
  v971.toNat
def k0_dev21 (d0 : Dev nD) : Nat :=
  let c0_i32_682 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_669 : BitVec 32 := 3#32
  let v979 : BitVec 32 := Scalar.addi v10 c3_i32_669
  let c4_i32_670 : BitVec 32 := 4#32
  let v980 : BitVec 32 := Scalar.remsi v979 c4_i32_670
  let c0_i32_672 : BitVec 32 := 0#32
  let v982 : BitVec 1 := Scalar.cmpi .sgt v980 c0_i32_672
  let v983 : BitVec 32 := Scalar.extui v982
  let c0_i32_673 : BitVec 32 := 0#32
  let v984 : BitVec 1 := Scalar.cmpi .slt v980 c0_i32_673
  let v985 : BitVec 32 := Scalar.extui v984
  let v986 : BitVec 32 := Scalar.subi v983 v985
  let c2_i32_671 : BitVec 32 := 2#32
  let c0_i32_674 : BitVec 32 := 0#32
  let v987 : BitVec 1 := Scalar.cmpi .sgt c2_i32_671 c0_i32_674
  let v988 : BitVec 32 := Scalar.extui v987
  let c0_i32_675 : BitVec 32 := 0#32
  let v989 : BitVec 1 := Scalar.cmpi .slt c2_i32_671 c0_i32_675
  let v990 : BitVec 32 := Scalar.extui v989
  let v991 : BitVec 32 := Scalar.subi v988 v990
  let v992 : BitVec 1 := Scalar.cmpi .ne v986 v991
  let v993 : BitVec 32 := Scalar.remsi v980 c2_i32_671
  let c0_i32_676 : BitVec 32 := 0#32
  let v994 : BitVec 1 := Scalar.cmpi .ne v993 c0_i32_676
  let v995 : BitVec 1 := Scalar.andi v992 v994
  let v981 : BitVec 32 := Scalar.divsi v980 c2_i32_671
  let c1_i32_677 : BitVec 32 := 1#32
  let v996 : BitVec 32 := Scalar.subi v981 c1_i32_677
  let v997 : BitVec 32 := Scalar.select v995 v996 v981
  let c8_i32_681 : BitVec 32 := 8#32
  let v999 : BitVec 32 := Scalar.muli v997 c8_i32_681
  let v1000 : BitVec 32 := Scalar.addi c0_i32_682 v999
  let c2_i32_678 : BitVec 32 := 2#32
  let v998 : BitVec 32 := Scalar.remsi v980 c2_i32_678
  let c4_i32_683 : BitVec 32 := 4#32
  let v1001 : BitVec 32 := Scalar.muli v998 c4_i32_683
  let v1002 : BitVec 32 := Scalar.addi v1000 v1001
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_684 : BitVec 32 := 1#32
  let v1003 : BitVec 32 := Scalar.muli v8 c1_i32_684
  let v1004 : BitVec 32 := Scalar.addi v1002 v1003
  v1004.toNat
def k0_dev22 (d0 : Dev nD) : Nat :=
  let c0_i32_743 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_729 : BitVec 32 := 1#32
  let v1063 : BitVec 32 := Scalar.addi v10 c1_i32_729
  let c4_i32_730 : BitVec 32 := 4#32
  let v1064 : BitVec 32 := Scalar.remsi v1063 c4_i32_730
  let c0_i32_732 : BitVec 32 := 0#32
  let v1066 : BitVec 1 := Scalar.cmpi .sgt v1064 c0_i32_732
  let v1067 : BitVec 32 := Scalar.extui v1066
  let c0_i32_733 : BitVec 32 := 0#32
  let v1068 : BitVec 1 := Scalar.cmpi .slt v1064 c0_i32_733
  let v1069 : BitVec 32 := Scalar.extui v1068
  let v1070 : BitVec 32 := Scalar.subi v1067 v1069
  let c2_i32_731 : BitVec 32 := 2#32
  let c0_i32_734 : BitVec 32 := 0#32
  let v1071 : BitVec 1 := Scalar.cmpi .sgt c2_i32_731 c0_i32_734
  let v1072 : BitVec 32 := Scalar.extui v1071
  let c0_i32_735 : BitVec 32 := 0#32
  let v1073 : BitVec 1 := Scalar.cmpi .slt c2_i32_731 c0_i32_735
  let v1074 : BitVec 32 := Scalar.extui v1073
  let v1075 : BitVec 32 := Scalar.subi v1072 v1074
  let v1076 : BitVec 1 := Scalar.cmpi .ne v1070 v1075
  let v1077 : BitVec 32 := Scalar.remsi v1064 c2_i32_731
  let c0_i32_736 : BitVec 32 := 0#32
  let v1078 : BitVec 1 := Scalar.cmpi .ne v1077 c0_i32_736
  let v1079 : BitVec 1 := Scalar.andi v1076 v1078
  let v1065 : BitVec 32 := Scalar.divsi v1064 c2_i32_731
  let c1_i32_737 : BitVec 32 := 1#32
  let v1080 : BitVec 32 := Scalar.subi v1065 c1_i32_737
  let v1081 : BitVec 32 := Scalar.select v1079 v1080 v1065
  let c8_i32_742 : BitVec 32 := 8#32
  let v1083 : BitVec 32 := Scalar.muli v1081 c8_i32_742
  let v1084 : BitVec 32 := Scalar.addi c0_i32_743 v1083
  let c2_i32_738 : BitVec 32 := 2#32
  let v1082 : BitVec 32 := Scalar.remsi v1064 c2_i32_738
  let c4_i32_744 : BitVec 32 := 4#32
  let v1085 : BitVec 32 := Scalar.muli v1082 c4_i32_744
  let v1086 : BitVec 32 := Scalar.addi v1084 v1085
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_745 : BitVec 32 := 1#32
  let v1087 : BitVec 32 := Scalar.muli v8 c1_i32_745
  let v1088 : BitVec 32 := Scalar.addi v1086 v1087
  v1088.toNat
def k0_dev23 (d0 : Dev nD) : Nat :=
  let c0_i32_762 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_749 : BitVec 32 := 2#32
  let v1096 : BitVec 32 := Scalar.addi v10 c2_i32_749
  let c4_i32_750 : BitVec 32 := 4#32
  let v1097 : BitVec 32 := Scalar.remsi v1096 c4_i32_750
  let c0_i32_752 : BitVec 32 := 0#32
  let v1099 : BitVec 1 := Scalar.cmpi .sgt v1097 c0_i32_752
  let v1100 : BitVec 32 := Scalar.extui v1099
  let c0_i32_753 : BitVec 32 := 0#32
  let v1101 : BitVec 1 := Scalar.cmpi .slt v1097 c0_i32_753
  let v1102 : BitVec 32 := Scalar.extui v1101
  let v1103 : BitVec 32 := Scalar.subi v1100 v1102
  let c2_i32_751 : BitVec 32 := 2#32
  let c0_i32_754 : BitVec 32 := 0#32
  let v1104 : BitVec 1 := Scalar.cmpi .sgt c2_i32_751 c0_i32_754
  let v1105 : BitVec 32 := Scalar.extui v1104
  let c0_i32_755 : BitVec 32 := 0#32
  let v1106 : BitVec 1 := Scalar.cmpi .slt c2_i32_751 c0_i32_755
  let v1107 : BitVec 32 := Scalar.extui v1106
  let v1108 : BitVec 32 := Scalar.subi v1105 v1107
  let v1109 : BitVec 1 := Scalar.cmpi .ne v1103 v1108
  let v1110 : BitVec 32 := Scalar.remsi v1097 c2_i32_751
  let c0_i32_756 : BitVec 32 := 0#32
  let v1111 : BitVec 1 := Scalar.cmpi .ne v1110 c0_i32_756
  let v1112 : BitVec 1 := Scalar.andi v1109 v1111
  let v1098 : BitVec 32 := Scalar.divsi v1097 c2_i32_751
  let c1_i32_757 : BitVec 32 := 1#32
  let v1113 : BitVec 32 := Scalar.subi v1098 c1_i32_757
  let v1114 : BitVec 32 := Scalar.select v1112 v1113 v1098
  let c8_i32_761 : BitVec 32 := 8#32
  let v1116 : BitVec 32 := Scalar.muli v1114 c8_i32_761
  let v1117 : BitVec 32 := Scalar.addi c0_i32_762 v1116
  let c2_i32_758 : BitVec 32 := 2#32
  let v1115 : BitVec 32 := Scalar.remsi v1097 c2_i32_758
  let c4_i32_763 : BitVec 32 := 4#32
  let v1118 : BitVec 32 := Scalar.muli v1115 c4_i32_763
  let v1119 : BitVec 32 := Scalar.addi v1117 v1118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_764 : BitVec 32 := 1#32
  let v1120 : BitVec 32 := Scalar.muli v8 c1_i32_764
  let v1121 : BitVec 32 := Scalar.addi v1119 v1120
  v1121.toNat
def k0_dev24 (d0 : Dev nD) : Nat :=
  let c0_i32_782 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_769 : BitVec 32 := 3#32
  let v1129 : BitVec 32 := Scalar.addi v10 c3_i32_769
  let c4_i32_770 : BitVec 32 := 4#32
  let v1130 : BitVec 32 := Scalar.remsi v1129 c4_i32_770
  let c0_i32_772 : BitVec 32 := 0#32
  let v1132 : BitVec 1 := Scalar.cmpi .sgt v1130 c0_i32_772
  let v1133 : BitVec 32 := Scalar.extui v1132
  let c0_i32_773 : BitVec 32 := 0#32
  let v1134 : BitVec 1 := Scalar.cmpi .slt v1130 c0_i32_773
  let v1135 : BitVec 32 := Scalar.extui v1134
  let v1136 : BitVec 32 := Scalar.subi v1133 v1135
  let c2_i32_771 : BitVec 32 := 2#32
  let c0_i32_774 : BitVec 32 := 0#32
  let v1137 : BitVec 1 := Scalar.cmpi .sgt c2_i32_771 c0_i32_774
  let v1138 : BitVec 32 := Scalar.extui v1137
  let c0_i32_775 : BitVec 32 := 0#32
  let v1139 : BitVec 1 := Scalar.cmpi .slt c2_i32_771 c0_i32_775
  let v1140 : BitVec 32 := Scalar.extui v1139
  let v1141 : BitVec 32 := Scalar.subi v1138 v1140
  let v1142 : BitVec 1 := Scalar.cmpi .ne v1136 v1141
  let v1143 : BitVec 32 := Scalar.remsi v1130 c2_i32_771
  let c0_i32_776 : BitVec 32 := 0#32
  let v1144 : BitVec 1 := Scalar.cmpi .ne v1143 c0_i32_776
  let v1145 : BitVec 1 := Scalar.andi v1142 v1144
  let v1131 : BitVec 32 := Scalar.divsi v1130 c2_i32_771
  let c1_i32_777 : BitVec 32 := 1#32
  let v1146 : BitVec 32 := Scalar.subi v1131 c1_i32_777
  let v1147 : BitVec 32 := Scalar.select v1145 v1146 v1131
  let c8_i32_781 : BitVec 32 := 8#32
  let v1149 : BitVec 32 := Scalar.muli v1147 c8_i32_781
  let v1150 : BitVec 32 := Scalar.addi c0_i32_782 v1149
  let c2_i32_778 : BitVec 32 := 2#32
  let v1148 : BitVec 32 := Scalar.remsi v1130 c2_i32_778
  let c4_i32_783 : BitVec 32 := 4#32
  let v1151 : BitVec 32 := Scalar.muli v1148 c4_i32_783
  let v1152 : BitVec 32 := Scalar.addi v1150 v1151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_784 : BitVec 32 := 1#32
  let v1153 : BitVec 32 := Scalar.muli v8 c1_i32_784
  let v1154 : BitVec 32 := Scalar.addi v1152 v1153
  v1154.toNat
def k0_dev25 (d0 : Dev nD) : Nat :=
  let c0_i32_846 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_832 : BitVec 32 := 1#32
  let v1214 : BitVec 32 := Scalar.addi v10 c1_i32_832
  let c4_i32_833 : BitVec 32 := 4#32
  let v1215 : BitVec 32 := Scalar.remsi v1214 c4_i32_833
  let c0_i32_835 : BitVec 32 := 0#32
  let v1217 : BitVec 1 := Scalar.cmpi .sgt v1215 c0_i32_835
  let v1218 : BitVec 32 := Scalar.extui v1217
  let c0_i32_836 : BitVec 32 := 0#32
  let v1219 : BitVec 1 := Scalar.cmpi .slt v1215 c0_i32_836
  let v1220 : BitVec 32 := Scalar.extui v1219
  let v1221 : BitVec 32 := Scalar.subi v1218 v1220
  let c2_i32_834 : BitVec 32 := 2#32
  let c0_i32_837 : BitVec 32 := 0#32
  let v1222 : BitVec 1 := Scalar.cmpi .sgt c2_i32_834 c0_i32_837
  let v1223 : BitVec 32 := Scalar.extui v1222
  let c0_i32_838 : BitVec 32 := 0#32
  let v1224 : BitVec 1 := Scalar.cmpi .slt c2_i32_834 c0_i32_838
  let v1225 : BitVec 32 := Scalar.extui v1224
  let v1226 : BitVec 32 := Scalar.subi v1223 v1225
  let v1227 : BitVec 1 := Scalar.cmpi .ne v1221 v1226
  let v1228 : BitVec 32 := Scalar.remsi v1215 c2_i32_834
  let c0_i32_839 : BitVec 32 := 0#32
  let v1229 : BitVec 1 := Scalar.cmpi .ne v1228 c0_i32_839
  let v1230 : BitVec 1 := Scalar.andi v1227 v1229
  let v1216 : BitVec 32 := Scalar.divsi v1215 c2_i32_834
  let c1_i32_840 : BitVec 32 := 1#32
  let v1231 : BitVec 32 := Scalar.subi v1216 c1_i32_840
  let v1232 : BitVec 32 := Scalar.select v1230 v1231 v1216
  let c8_i32_845 : BitVec 32 := 8#32
  let v1234 : BitVec 32 := Scalar.muli v1232 c8_i32_845
  let v1235 : BitVec 32 := Scalar.addi c0_i32_846 v1234
  let c2_i32_841 : BitVec 32 := 2#32
  let v1233 : BitVec 32 := Scalar.remsi v1215 c2_i32_841
  let c4_i32_847 : BitVec 32 := 4#32
  let v1236 : BitVec 32 := Scalar.muli v1233 c4_i32_847
  let v1237 : BitVec 32 := Scalar.addi v1235 v1236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_848 : BitVec 32 := 1#32
  let v1238 : BitVec 32 := Scalar.muli v8 c1_i32_848
  let v1239 : BitVec 32 := Scalar.addi v1237 v1238
  v1239.toNat
def k0_dev26 (d0 : Dev nD) : Nat :=
  let c0_i32_866 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_853 : BitVec 32 := 2#32
  let v1247 : BitVec 32 := Scalar.addi v10 c2_i32_853
  let c4_i32_854 : BitVec 32 := 4#32
  let v1248 : BitVec 32 := Scalar.remsi v1247 c4_i32_854
  let c0_i32_856 : BitVec 32 := 0#32
  let v1250 : BitVec 1 := Scalar.cmpi .sgt v1248 c0_i32_856
  let v1251 : BitVec 32 := Scalar.extui v1250
  let c0_i32_857 : BitVec 32 := 0#32
  let v1252 : BitVec 1 := Scalar.cmpi .slt v1248 c0_i32_857
  let v1253 : BitVec 32 := Scalar.extui v1252
  let v1254 : BitVec 32 := Scalar.subi v1251 v1253
  let c2_i32_855 : BitVec 32 := 2#32
  let c0_i32_858 : BitVec 32 := 0#32
  let v1255 : BitVec 1 := Scalar.cmpi .sgt c2_i32_855 c0_i32_858
  let v1256 : BitVec 32 := Scalar.extui v1255
  let c0_i32_859 : BitVec 32 := 0#32
  let v1257 : BitVec 1 := Scalar.cmpi .slt c2_i32_855 c0_i32_859
  let v1258 : BitVec 32 := Scalar.extui v1257
  let v1259 : BitVec 32 := Scalar.subi v1256 v1258
  let v1260 : BitVec 1 := Scalar.cmpi .ne v1254 v1259
  let v1261 : BitVec 32 := Scalar.remsi v1248 c2_i32_855
  let c0_i32_860 : BitVec 32 := 0#32
  let v1262 : BitVec 1 := Scalar.cmpi .ne v1261 c0_i32_860
  let v1263 : BitVec 1 := Scalar.andi v1260 v1262
  let v1249 : BitVec 32 := Scalar.divsi v1248 c2_i32_855
  let c1_i32_861 : BitVec 32 := 1#32
  let v1264 : BitVec 32 := Scalar.subi v1249 c1_i32_861
  let v1265 : BitVec 32 := Scalar.select v1263 v1264 v1249
  let c8_i32_865 : BitVec 32 := 8#32
  let v1267 : BitVec 32 := Scalar.muli v1265 c8_i32_865
  let v1268 : BitVec 32 := Scalar.addi c0_i32_866 v1267
  let c2_i32_862 : BitVec 32 := 2#32
  let v1266 : BitVec 32 := Scalar.remsi v1248 c2_i32_862
  let c4_i32_867 : BitVec 32 := 4#32
  let v1269 : BitVec 32 := Scalar.muli v1266 c4_i32_867
  let v1270 : BitVec 32 := Scalar.addi v1268 v1269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_868 : BitVec 32 := 1#32
  let v1271 : BitVec 32 := Scalar.muli v8 c1_i32_868
  let v1272 : BitVec 32 := Scalar.addi v1270 v1271
  v1272.toNat
def k0_dev27 (d0 : Dev nD) : Nat :=
  let c0_i32_886 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_873 : BitVec 32 := 3#32
  let v1280 : BitVec 32 := Scalar.addi v10 c3_i32_873
  let c4_i32_874 : BitVec 32 := 4#32
  let v1281 : BitVec 32 := Scalar.remsi v1280 c4_i32_874
  let c0_i32_876 : BitVec 32 := 0#32
  let v1283 : BitVec 1 := Scalar.cmpi .sgt v1281 c0_i32_876
  let v1284 : BitVec 32 := Scalar.extui v1283
  let c0_i32_877 : BitVec 32 := 0#32
  let v1285 : BitVec 1 := Scalar.cmpi .slt v1281 c0_i32_877
  let v1286 : BitVec 32 := Scalar.extui v1285
  let v1287 : BitVec 32 := Scalar.subi v1284 v1286
  let c2_i32_875 : BitVec 32 := 2#32
  let c0_i32_878 : BitVec 32 := 0#32
  let v1288 : BitVec 1 := Scalar.cmpi .sgt c2_i32_875 c0_i32_878
  let v1289 : BitVec 32 := Scalar.extui v1288
  let c0_i32_879 : BitVec 32 := 0#32
  let v1290 : BitVec 1 := Scalar.cmpi .slt c2_i32_875 c0_i32_879
  let v1291 : BitVec 32 := Scalar.extui v1290
  let v1292 : BitVec 32 := Scalar.subi v1289 v1291
  let v1293 : BitVec 1 := Scalar.cmpi .ne v1287 v1292
  let v1294 : BitVec 32 := Scalar.remsi v1281 c2_i32_875
  let c0_i32_880 : BitVec 32 := 0#32
  let v1295 : BitVec 1 := Scalar.cmpi .ne v1294 c0_i32_880
  let v1296 : BitVec 1 := Scalar.andi v1293 v1295
  let v1282 : BitVec 32 := Scalar.divsi v1281 c2_i32_875
  let c1_i32_881 : BitVec 32 := 1#32
  let v1297 : BitVec 32 := Scalar.subi v1282 c1_i32_881
  let v1298 : BitVec 32 := Scalar.select v1296 v1297 v1282
  let c8_i32_885 : BitVec 32 := 8#32
  let v1300 : BitVec 32 := Scalar.muli v1298 c8_i32_885
  let v1301 : BitVec 32 := Scalar.addi c0_i32_886 v1300
  let c2_i32_882 : BitVec 32 := 2#32
  let v1299 : BitVec 32 := Scalar.remsi v1281 c2_i32_882
  let c4_i32_887 : BitVec 32 := 4#32
  let v1302 : BitVec 32 := Scalar.muli v1299 c4_i32_887
  let v1303 : BitVec 32 := Scalar.addi v1301 v1302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_888 : BitVec 32 := 1#32
  let v1304 : BitVec 32 := Scalar.muli v8 c1_i32_888
  let v1305 : BitVec 32 := Scalar.addi v1303 v1304
  v1305.toNat
def k0_dev28 (d0 : Dev nD) : Nat :=
  let c0_i32_948 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_934 : BitVec 32 := 1#32
  let v1364 : BitVec 32 := Scalar.addi v10 c1_i32_934
  let c4_i32_935 : BitVec 32 := 4#32
  let v1365 : BitVec 32 := Scalar.remsi v1364 c4_i32_935
  let c0_i32_937 : BitVec 32 := 0#32
  let v1367 : BitVec 1 := Scalar.cmpi .sgt v1365 c0_i32_937
  let v1368 : BitVec 32 := Scalar.extui v1367
  let c0_i32_938 : BitVec 32 := 0#32
  let v1369 : BitVec 1 := Scalar.cmpi .slt v1365 c0_i32_938
  let v1370 : BitVec 32 := Scalar.extui v1369
  let v1371 : BitVec 32 := Scalar.subi v1368 v1370
  let c2_i32_936 : BitVec 32 := 2#32
  let c0_i32_939 : BitVec 32 := 0#32
  let v1372 : BitVec 1 := Scalar.cmpi .sgt c2_i32_936 c0_i32_939
  let v1373 : BitVec 32 := Scalar.extui v1372
  let c0_i32_940 : BitVec 32 := 0#32
  let v1374 : BitVec 1 := Scalar.cmpi .slt c2_i32_936 c0_i32_940
  let v1375 : BitVec 32 := Scalar.extui v1374
  let v1376 : BitVec 32 := Scalar.subi v1373 v1375
  let v1377 : BitVec 1 := Scalar.cmpi .ne v1371 v1376
  let v1378 : BitVec 32 := Scalar.remsi v1365 c2_i32_936
  let c0_i32_941 : BitVec 32 := 0#32
  let v1379 : BitVec 1 := Scalar.cmpi .ne v1378 c0_i32_941
  let v1380 : BitVec 1 := Scalar.andi v1377 v1379
  let v1366 : BitVec 32 := Scalar.divsi v1365 c2_i32_936
  let c1_i32_942 : BitVec 32 := 1#32
  let v1381 : BitVec 32 := Scalar.subi v1366 c1_i32_942
  let v1382 : BitVec 32 := Scalar.select v1380 v1381 v1366
  let c8_i32_947 : BitVec 32 := 8#32
  let v1384 : BitVec 32 := Scalar.muli v1382 c8_i32_947
  let v1385 : BitVec 32 := Scalar.addi c0_i32_948 v1384
  let c2_i32_943 : BitVec 32 := 2#32
  let v1383 : BitVec 32 := Scalar.remsi v1365 c2_i32_943
  let c4_i32_949 : BitVec 32 := 4#32
  let v1386 : BitVec 32 := Scalar.muli v1383 c4_i32_949
  let v1387 : BitVec 32 := Scalar.addi v1385 v1386
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_950 : BitVec 32 := 1#32
  let v1388 : BitVec 32 := Scalar.muli v8 c1_i32_950
  let v1389 : BitVec 32 := Scalar.addi v1387 v1388
  v1389.toNat
def k0_dev29 (d0 : Dev nD) : Nat :=
  let c0_i32_968 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_955 : BitVec 32 := 2#32
  let v1397 : BitVec 32 := Scalar.addi v10 c2_i32_955
  let c4_i32_956 : BitVec 32 := 4#32
  let v1398 : BitVec 32 := Scalar.remsi v1397 c4_i32_956
  let c0_i32_958 : BitVec 32 := 0#32
  let v1400 : BitVec 1 := Scalar.cmpi .sgt v1398 c0_i32_958
  let v1401 : BitVec 32 := Scalar.extui v1400
  let c0_i32_959 : BitVec 32 := 0#32
  let v1402 : BitVec 1 := Scalar.cmpi .slt v1398 c0_i32_959
  let v1403 : BitVec 32 := Scalar.extui v1402
  let v1404 : BitVec 32 := Scalar.subi v1401 v1403
  let c2_i32_957 : BitVec 32 := 2#32
  let c0_i32_960 : BitVec 32 := 0#32
  let v1405 : BitVec 1 := Scalar.cmpi .sgt c2_i32_957 c0_i32_960
  let v1406 : BitVec 32 := Scalar.extui v1405
  let c0_i32_961 : BitVec 32 := 0#32
  let v1407 : BitVec 1 := Scalar.cmpi .slt c2_i32_957 c0_i32_961
  let v1408 : BitVec 32 := Scalar.extui v1407
  let v1409 : BitVec 32 := Scalar.subi v1406 v1408
  let v1410 : BitVec 1 := Scalar.cmpi .ne v1404 v1409
  let v1411 : BitVec 32 := Scalar.remsi v1398 c2_i32_957
  let c0_i32_962 : BitVec 32 := 0#32
  let v1412 : BitVec 1 := Scalar.cmpi .ne v1411 c0_i32_962
  let v1413 : BitVec 1 := Scalar.andi v1410 v1412
  let v1399 : BitVec 32 := Scalar.divsi v1398 c2_i32_957
  let c1_i32_963 : BitVec 32 := 1#32
  let v1414 : BitVec 32 := Scalar.subi v1399 c1_i32_963
  let v1415 : BitVec 32 := Scalar.select v1413 v1414 v1399
  let c8_i32_967 : BitVec 32 := 8#32
  let v1417 : BitVec 32 := Scalar.muli v1415 c8_i32_967
  let v1418 : BitVec 32 := Scalar.addi c0_i32_968 v1417
  let c2_i32_964 : BitVec 32 := 2#32
  let v1416 : BitVec 32 := Scalar.remsi v1398 c2_i32_964
  let c4_i32_969 : BitVec 32 := 4#32
  let v1419 : BitVec 32 := Scalar.muli v1416 c4_i32_969
  let v1420 : BitVec 32 := Scalar.addi v1418 v1419
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_970 : BitVec 32 := 1#32
  let v1421 : BitVec 32 := Scalar.muli v8 c1_i32_970
  let v1422 : BitVec 32 := Scalar.addi v1420 v1421
  v1422.toNat
def k0_dev30 (d0 : Dev nD) : Nat :=
  let c0_i32_988 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_975 : BitVec 32 := 3#32
  let v1430 : BitVec 32 := Scalar.addi v10 c3_i32_975
  let c4_i32_976 : BitVec 32 := 4#32
  let v1431 : BitVec 32 := Scalar.remsi v1430 c4_i32_976
  let c0_i32_978 : BitVec 32 := 0#32
  let v1433 : BitVec 1 := Scalar.cmpi .sgt v1431 c0_i32_978
  let v1434 : BitVec 32 := Scalar.extui v1433
  let c0_i32_979 : BitVec 32 := 0#32
  let v1435 : BitVec 1 := Scalar.cmpi .slt v1431 c0_i32_979
  let v1436 : BitVec 32 := Scalar.extui v1435
  let v1437 : BitVec 32 := Scalar.subi v1434 v1436
  let c2_i32_977 : BitVec 32 := 2#32
  let c0_i32_980 : BitVec 32 := 0#32
  let v1438 : BitVec 1 := Scalar.cmpi .sgt c2_i32_977 c0_i32_980
  let v1439 : BitVec 32 := Scalar.extui v1438
  let c0_i32_981 : BitVec 32 := 0#32
  let v1440 : BitVec 1 := Scalar.cmpi .slt c2_i32_977 c0_i32_981
  let v1441 : BitVec 32 := Scalar.extui v1440
  let v1442 : BitVec 32 := Scalar.subi v1439 v1441
  let v1443 : BitVec 1 := Scalar.cmpi .ne v1437 v1442
  let v1444 : BitVec 32 := Scalar.remsi v1431 c2_i32_977
  let c0_i32_982 : BitVec 32 := 0#32
  let v1445 : BitVec 1 := Scalar.cmpi .ne v1444 c0_i32_982
  let v1446 : BitVec 1 := Scalar.andi v1443 v1445
  let v1432 : BitVec 32 := Scalar.divsi v1431 c2_i32_977
  let c1_i32_983 : BitVec 32 := 1#32
  let v1447 : BitVec 32 := Scalar.subi v1432 c1_i32_983
  let v1448 : BitVec 32 := Scalar.select v1446 v1447 v1432
  let c8_i32_987 : BitVec 32 := 8#32
  let v1450 : BitVec 32 := Scalar.muli v1448 c8_i32_987
  let v1451 : BitVec 32 := Scalar.addi c0_i32_988 v1450
  let c2_i32_984 : BitVec 32 := 2#32
  let v1449 : BitVec 32 := Scalar.remsi v1431 c2_i32_984
  let c4_i32_989 : BitVec 32 := 4#32
  let v1452 : BitVec 32 := Scalar.muli v1449 c4_i32_989
  let v1453 : BitVec 32 := Scalar.addi v1451 v1452
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_990 : BitVec 32 := 1#32
  let v1454 : BitVec 32 := Scalar.muli v8 c1_i32_990
  let v1455 : BitVec 32 := Scalar.addi v1453 v1454
  v1455.toNat
def k0_dev31 (d0 : Dev nD) : Nat :=
  let c0_i32_1050 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_1036 : BitVec 32 := 1#32
  let v1514 : BitVec 32 := Scalar.addi v10 c1_i32_1036
  let c4_i32_1037 : BitVec 32 := 4#32
  let v1515 : BitVec 32 := Scalar.remsi v1514 c4_i32_1037
  let c0_i32_1039 : BitVec 32 := 0#32
  let v1517 : BitVec 1 := Scalar.cmpi .sgt v1515 c0_i32_1039
  let v1518 : BitVec 32 := Scalar.extui v1517
  let c0_i32_1040 : BitVec 32 := 0#32
  let v1519 : BitVec 1 := Scalar.cmpi .slt v1515 c0_i32_1040
  let v1520 : BitVec 32 := Scalar.extui v1519
  let v1521 : BitVec 32 := Scalar.subi v1518 v1520
  let c2_i32_1038 : BitVec 32 := 2#32
  let c0_i32_1041 : BitVec 32 := 0#32
  let v1522 : BitVec 1 := Scalar.cmpi .sgt c2_i32_1038 c0_i32_1041
  let v1523 : BitVec 32 := Scalar.extui v1522
  let c0_i32_1042 : BitVec 32 := 0#32
  let v1524 : BitVec 1 := Scalar.cmpi .slt c2_i32_1038 c0_i32_1042
  let v1525 : BitVec 32 := Scalar.extui v1524
  let v1526 : BitVec 32 := Scalar.subi v1523 v1525
  let v1527 : BitVec 1 := Scalar.cmpi .ne v1521 v1526
  let v1528 : BitVec 32 := Scalar.remsi v1515 c2_i32_1038
  let c0_i32_1043 : BitVec 32 := 0#32
  let v1529 : BitVec 1 := Scalar.cmpi .ne v1528 c0_i32_1043
  let v1530 : BitVec 1 := Scalar.andi v1527 v1529
  let v1516 : BitVec 32 := Scalar.divsi v1515 c2_i32_1038
  let c1_i32_1044 : BitVec 32 := 1#32
  let v1531 : BitVec 32 := Scalar.subi v1516 c1_i32_1044
  let v1532 : BitVec 32 := Scalar.select v1530 v1531 v1516
  let c8_i32_1049 : BitVec 32 := 8#32
  let v1534 : BitVec 32 := Scalar.muli v1532 c8_i32_1049
  let v1535 : BitVec 32 := Scalar.addi c0_i32_1050 v1534
  let c2_i32_1045 : BitVec 32 := 2#32
  let v1533 : BitVec 32 := Scalar.remsi v1515 c2_i32_1045
  let c4_i32_1051 : BitVec 32 := 4#32
  let v1536 : BitVec 32 := Scalar.muli v1533 c4_i32_1051
  let v1537 : BitVec 32 := Scalar.addi v1535 v1536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1052 : BitVec 32 := 1#32
  let v1538 : BitVec 32 := Scalar.muli v8 c1_i32_1052
  let v1539 : BitVec 32 := Scalar.addi v1537 v1538
  v1539.toNat
def k0_dev32 (d0 : Dev nD) : Nat :=
  let c0_i32_1070 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_1057 : BitVec 32 := 2#32
  let v1547 : BitVec 32 := Scalar.addi v10 c2_i32_1057
  let c4_i32_1058 : BitVec 32 := 4#32
  let v1548 : BitVec 32 := Scalar.remsi v1547 c4_i32_1058
  let c0_i32_1060 : BitVec 32 := 0#32
  let v1550 : BitVec 1 := Scalar.cmpi .sgt v1548 c0_i32_1060
  let v1551 : BitVec 32 := Scalar.extui v1550
  let c0_i32_1061 : BitVec 32 := 0#32
  let v1552 : BitVec 1 := Scalar.cmpi .slt v1548 c0_i32_1061
  let v1553 : BitVec 32 := Scalar.extui v1552
  let v1554 : BitVec 32 := Scalar.subi v1551 v1553
  let c2_i32_1059 : BitVec 32 := 2#32
  let c0_i32_1062 : BitVec 32 := 0#32
  let v1555 : BitVec 1 := Scalar.cmpi .sgt c2_i32_1059 c0_i32_1062
  let v1556 : BitVec 32 := Scalar.extui v1555
  let c0_i32_1063 : BitVec 32 := 0#32
  let v1557 : BitVec 1 := Scalar.cmpi .slt c2_i32_1059 c0_i32_1063
  let v1558 : BitVec 32 := Scalar.extui v1557
  let v1559 : BitVec 32 := Scalar.subi v1556 v1558
  let v1560 : BitVec 1 := Scalar.cmpi .ne v1554 v1559
  let v1561 : BitVec 32 := Scalar.remsi v1548 c2_i32_1059
  let c0_i32_1064 : BitVec 32 := 0#32
  let v1562 : BitVec 1 := Scalar.cmpi .ne v1561 c0_i32_1064
  let v1563 : BitVec 1 := Scalar.andi v1560 v1562
  let v1549 : BitVec 32 := Scalar.divsi v1548 c2_i32_1059
  let c1_i32_1065 : BitVec 32 := 1#32
  let v1564 : BitVec 32 := Scalar.subi v1549 c1_i32_1065
  let v1565 : BitVec 32 := Scalar.select v1563 v1564 v1549
  let c8_i32_1069 : BitVec 32 := 8#32
  let v1567 : BitVec 32 := Scalar.muli v1565 c8_i32_1069
  let v1568 : BitVec 32 := Scalar.addi c0_i32_1070 v1567
  let c2_i32_1066 : BitVec 32 := 2#32
  let v1566 : BitVec 32 := Scalar.remsi v1548 c2_i32_1066
  let c4_i32_1071 : BitVec 32 := 4#32
  let v1569 : BitVec 32 := Scalar.muli v1566 c4_i32_1071
  let v1570 : BitVec 32 := Scalar.addi v1568 v1569
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1072 : BitVec 32 := 1#32
  let v1571 : BitVec 32 := Scalar.muli v8 c1_i32_1072
  let v1572 : BitVec 32 := Scalar.addi v1570 v1571
  v1572.toNat
def k0_dev33 (d0 : Dev nD) : Nat :=
  let c0_i32_1090 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_1077 : BitVec 32 := 3#32
  let v1580 : BitVec 32 := Scalar.addi v10 c3_i32_1077
  let c4_i32_1078 : BitVec 32 := 4#32
  let v1581 : BitVec 32 := Scalar.remsi v1580 c4_i32_1078
  let c0_i32_1080 : BitVec 32 := 0#32
  let v1583 : BitVec 1 := Scalar.cmpi .sgt v1581 c0_i32_1080
  let v1584 : BitVec 32 := Scalar.extui v1583
  let c0_i32_1081 : BitVec 32 := 0#32
  let v1585 : BitVec 1 := Scalar.cmpi .slt v1581 c0_i32_1081
  let v1586 : BitVec 32 := Scalar.extui v1585
  let v1587 : BitVec 32 := Scalar.subi v1584 v1586
  let c2_i32_1079 : BitVec 32 := 2#32
  let c0_i32_1082 : BitVec 32 := 0#32
  let v1588 : BitVec 1 := Scalar.cmpi .sgt c2_i32_1079 c0_i32_1082
  let v1589 : BitVec 32 := Scalar.extui v1588
  let c0_i32_1083 : BitVec 32 := 0#32
  let v1590 : BitVec 1 := Scalar.cmpi .slt c2_i32_1079 c0_i32_1083
  let v1591 : BitVec 32 := Scalar.extui v1590
  let v1592 : BitVec 32 := Scalar.subi v1589 v1591
  let v1593 : BitVec 1 := Scalar.cmpi .ne v1587 v1592
  let v1594 : BitVec 32 := Scalar.remsi v1581 c2_i32_1079
  let c0_i32_1084 : BitVec 32 := 0#32
  let v1595 : BitVec 1 := Scalar.cmpi .ne v1594 c0_i32_1084
  let v1596 : BitVec 1 := Scalar.andi v1593 v1595
  let v1582 : BitVec 32 := Scalar.divsi v1581 c2_i32_1079
  let c1_i32_1085 : BitVec 32 := 1#32
  let v1597 : BitVec 32 := Scalar.subi v1582 c1_i32_1085
  let v1598 : BitVec 32 := Scalar.select v1596 v1597 v1582
  let c8_i32_1089 : BitVec 32 := 8#32
  let v1600 : BitVec 32 := Scalar.muli v1598 c8_i32_1089
  let v1601 : BitVec 32 := Scalar.addi c0_i32_1090 v1600
  let c2_i32_1086 : BitVec 32 := 2#32
  let v1599 : BitVec 32 := Scalar.remsi v1581 c2_i32_1086
  let c4_i32_1091 : BitVec 32 := 4#32
  let v1602 : BitVec 32 := Scalar.muli v1599 c4_i32_1091
  let v1603 : BitVec 32 := Scalar.addi v1601 v1602
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1092 : BitVec 32 := 1#32
  let v1604 : BitVec 32 := Scalar.muli v8 c1_i32_1092
  let v1605 : BitVec 32 := Scalar.addi v1603 v1604
  v1605.toNat
def k0_dev34 (d0 : Dev nD) : Nat :=
  let c0_i32_1151 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1_i32_1138 : BitVec 32 := 1#32
  let v1664 : BitVec 32 := Scalar.addi v10 c1_i32_1138
  let c4_i32_1139 : BitVec 32 := 4#32
  let v1665 : BitVec 32 := Scalar.remsi v1664 c4_i32_1139
  let c0_i32_1141 : BitVec 32 := 0#32
  let v1667 : BitVec 1 := Scalar.cmpi .sgt v1665 c0_i32_1141
  let v1668 : BitVec 32 := Scalar.extui v1667
  let c0_i32_1142 : BitVec 32 := 0#32
  let v1669 : BitVec 1 := Scalar.cmpi .slt v1665 c0_i32_1142
  let v1670 : BitVec 32 := Scalar.extui v1669
  let v1671 : BitVec 32 := Scalar.subi v1668 v1670
  let c2_i32_1140 : BitVec 32 := 2#32
  let c0_i32_1143 : BitVec 32 := 0#32
  let v1672 : BitVec 1 := Scalar.cmpi .sgt c2_i32_1140 c0_i32_1143
  let v1673 : BitVec 32 := Scalar.extui v1672
  let c0_i32_1144 : BitVec 32 := 0#32
  let v1674 : BitVec 1 := Scalar.cmpi .slt c2_i32_1140 c0_i32_1144
  let v1675 : BitVec 32 := Scalar.extui v1674
  let v1676 : BitVec 32 := Scalar.subi v1673 v1675
  let v1677 : BitVec 1 := Scalar.cmpi .ne v1671 v1676
  let v1678 : BitVec 32 := Scalar.remsi v1665 c2_i32_1140
  let c0_i32_1145 : BitVec 32 := 0#32
  let v1679 : BitVec 1 := Scalar.cmpi .ne v1678 c0_i32_1145
  let v1680 : BitVec 1 := Scalar.andi v1677 v1679
  let v1666 : BitVec 32 := Scalar.divsi v1665 c2_i32_1140
  let c1_i32_1146 : BitVec 32 := 1#32
  let v1681 : BitVec 32 := Scalar.subi v1666 c1_i32_1146
  let v1682 : BitVec 32 := Scalar.select v1680 v1681 v1666
  let c8_i32_1150 : BitVec 32 := 8#32
  let v1684 : BitVec 32 := Scalar.muli v1682 c8_i32_1150
  let v1685 : BitVec 32 := Scalar.addi c0_i32_1151 v1684
  let c2_i32_1147 : BitVec 32 := 2#32
  let v1683 : BitVec 32 := Scalar.remsi v1665 c2_i32_1147
  let c4_i32_1152 : BitVec 32 := 4#32
  let v1686 : BitVec 32 := Scalar.muli v1683 c4_i32_1152
  let v1687 : BitVec 32 := Scalar.addi v1685 v1686
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1153 : BitVec 32 := 1#32
  let v1688 : BitVec 32 := Scalar.muli v8 c1_i32_1153
  let v1689 : BitVec 32 := Scalar.addi v1687 v1688
  v1689.toNat
def k0_dev35 (d0 : Dev nD) : Nat :=
  let c0_i32_1171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c2_i32_1158 : BitVec 32 := 2#32
  let v1697 : BitVec 32 := Scalar.addi v10 c2_i32_1158
  let c4_i32_1159 : BitVec 32 := 4#32
  let v1698 : BitVec 32 := Scalar.remsi v1697 c4_i32_1159
  let c0_i32_1161 : BitVec 32 := 0#32
  let v1700 : BitVec 1 := Scalar.cmpi .sgt v1698 c0_i32_1161
  let v1701 : BitVec 32 := Scalar.extui v1700
  let c0_i32_1162 : BitVec 32 := 0#32
  let v1702 : BitVec 1 := Scalar.cmpi .slt v1698 c0_i32_1162
  let v1703 : BitVec 32 := Scalar.extui v1702
  let v1704 : BitVec 32 := Scalar.subi v1701 v1703
  let c2_i32_1160 : BitVec 32 := 2#32
  let c0_i32_1163 : BitVec 32 := 0#32
  let v1705 : BitVec 1 := Scalar.cmpi .sgt c2_i32_1160 c0_i32_1163
  let v1706 : BitVec 32 := Scalar.extui v1705
  let c0_i32_1164 : BitVec 32 := 0#32
  let v1707 : BitVec 1 := Scalar.cmpi .slt c2_i32_1160 c0_i32_1164
  let v1708 : BitVec 32 := Scalar.extui v1707
  let v1709 : BitVec 32 := Scalar.subi v1706 v1708
  let v1710 : BitVec 1 := Scalar.cmpi .ne v1704 v1709
  let v1711 : BitVec 32 := Scalar.remsi v1698 c2_i32_1160
  let c0_i32_1165 : BitVec 32 := 0#32
  let v1712 : BitVec 1 := Scalar.cmpi .ne v1711 c0_i32_1165
  let v1713 : BitVec 1 := Scalar.andi v1710 v1712
  let v1699 : BitVec 32 := Scalar.divsi v1698 c2_i32_1160
  let c1_i32_1166 : BitVec 32 := 1#32
  let v1714 : BitVec 32 := Scalar.subi v1699 c1_i32_1166
  let v1715 : BitVec 32 := Scalar.select v1713 v1714 v1699
  let c8_i32_1170 : BitVec 32 := 8#32
  let v1717 : BitVec 32 := Scalar.muli v1715 c8_i32_1170
  let v1718 : BitVec 32 := Scalar.addi c0_i32_1171 v1717
  let c2_i32_1167 : BitVec 32 := 2#32
  let v1716 : BitVec 32 := Scalar.remsi v1698 c2_i32_1167
  let c4_i32_1172 : BitVec 32 := 4#32
  let v1719 : BitVec 32 := Scalar.muli v1716 c4_i32_1172
  let v1720 : BitVec 32 := Scalar.addi v1718 v1719
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1173 : BitVec 32 := 1#32
  let v1721 : BitVec 32 := Scalar.muli v8 c1_i32_1173
  let v1722 : BitVec 32 := Scalar.addi v1720 v1721
  v1722.toNat
def k0_dev36 (d0 : Dev nD) : Nat :=
  let c0_i32_1191 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c2_i32_2 : BitVec 32 := 2#32
  let v9 : BitVec 32 := Scalar.muli v2 c2_i32_2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c3_i32_1178 : BitVec 32 := 3#32
  let v1730 : BitVec 32 := Scalar.addi v10 c3_i32_1178
  let c4_i32_1179 : BitVec 32 := 4#32
  let v1731 : BitVec 32 := Scalar.remsi v1730 c4_i32_1179
  let c0_i32_1181 : BitVec 32 := 0#32
  let v1733 : BitVec 1 := Scalar.cmpi .sgt v1731 c0_i32_1181
  let v1734 : BitVec 32 := Scalar.extui v1733
  let c0_i32_1182 : BitVec 32 := 0#32
  let v1735 : BitVec 1 := Scalar.cmpi .slt v1731 c0_i32_1182
  let v1736 : BitVec 32 := Scalar.extui v1735
  let v1737 : BitVec 32 := Scalar.subi v1734 v1736
  let c2_i32_1180 : BitVec 32 := 2#32
  let c0_i32_1183 : BitVec 32 := 0#32
  let v1738 : BitVec 1 := Scalar.cmpi .sgt c2_i32_1180 c0_i32_1183
  let v1739 : BitVec 32 := Scalar.extui v1738
  let c0_i32_1184 : BitVec 32 := 0#32
  let v1740 : BitVec 1 := Scalar.cmpi .slt c2_i32_1180 c0_i32_1184
  let v1741 : BitVec 32 := Scalar.extui v1740
  let v1742 : BitVec 32 := Scalar.subi v1739 v1741
  let v1743 : BitVec 1 := Scalar.cmpi .ne v1737 v1742
  let v1744 : BitVec 32 := Scalar.remsi v1731 c2_i32_1180
  let c0_i32_1185 : BitVec 32 := 0#32
  let v1745 : BitVec 1 := Scalar.cmpi .ne v1744 c0_i32_1185
  let v1746 : BitVec 1 := Scalar.andi v1743 v1745
  let v1732 : BitVec 32 := Scalar.divsi v1731 c2_i32_1180
  let c1_i32_1186 : BitVec 32 := 1#32
  let v1747 : BitVec 32 := Scalar.subi v1732 c1_i32_1186
  let v1748 : BitVec 32 := Scalar.select v1746 v1747 v1732
  let c8_i32_1190 : BitVec 32 := 8#32
  let v1750 : BitVec 32 := Scalar.muli v1748 c8_i32_1190
  let v1751 : BitVec 32 := Scalar.addi c0_i32_1191 v1750
  let c2_i32_1187 : BitVec 32 := 2#32
  let v1749 : BitVec 32 := Scalar.remsi v1731 c2_i32_1187
  let c4_i32_1192 : BitVec 32 := 4#32
  let v1752 : BitVec 32 := Scalar.muli v1749 c4_i32_1192
  let v1753 : BitVec 32 := Scalar.addi v1751 v1752
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1193 : BitVec 32 := 1#32
  let v1754 : BitVec 32 := Scalar.muli v8 c1_i32_1193
  let v1755 : BitVec 32 := Scalar.addi v1753 v1754
  v1755.toNat
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2x512x2048 : Shape := ⟨3, ![2, 512, 2048]⟩
abbrev S2048x512 : Shape := ⟨2, ![2048, 512]⟩
abbrev S512x2048 : Shape := ⟨2, ![512, 2048]⟩
abbrev S2048x2048 : Shape := ⟨2, ![2048, 2048]⟩
abbrev S2048x32 : Shape := ⟨2, ![2048, 32]⟩
abbrev S2x512x512 : Shape := ⟨3, ![2, 512, 512]⟩
abbrev S2x512x16x128 : Shape := ⟨4, ![2, 512, 16, 128]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S2x16x512x512 : Shape := ⟨4, ![2, 16, 512, 512]⟩
abbrev S_ : Shape := ⟨0, ![]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2048x512, .f32⟩
  | .hbm, ⟨2, _⟩ => ⟨S512x2048, .f32⟩
  | .hbm, ⟨3, _⟩ => ⟨S512x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x512, .f32⟩
  | .hbm, ⟨9, _⟩ => ⟨S2x512x2048, .f32⟩
  | .hbm, ⟨10, _⟩ => ⟨S2x512x16x128, .f32⟩
  | .hbm, ⟨11, _⟩ => ⟨S2x512x2048, .f32⟩
  | .hbm, ⟨12, _⟩ => ⟨S2x512x16x128, .f32⟩
  | .hbm, ⟨13, _⟩ => ⟨S2x512x2048, .f32⟩
  | .hbm, ⟨14, _⟩ => ⟨S2x512x16x128, .f32⟩
  | .hbm, ⟨15, _⟩ => ⟨S2x512x512, .f32⟩
  | .hbm, ⟨16, _⟩ => ⟨S2x512x16x32, .f32⟩
  | .hbm, ⟨17, _⟩ => ⟨S2x512x32, .f32⟩
  | .hbm, ⟨18, _⟩ => ⟨S2x512x1x32, .f32⟩
  | .hbm, ⟨19, _⟩ => ⟨S2x16x512x512, .f32⟩
  | .hbm, ⟨20, _⟩ => ⟨S2x512x16x32, .f32⟩
  | .hbm, ⟨21, _⟩ => ⟨S2x16x512x512, .f32⟩
  | .hbm, ⟨22, _⟩ => ⟨S2x16x512x512, .f32⟩
  | .hbm, ⟨23, _⟩ => ⟨S_, .f32⟩
  | .hbm, ⟨24, _⟩ => ⟨S2x16x512x512, .f32⟩
  | .hbm, ⟨25, _⟩ => ⟨S2x16x512x512, .f32⟩
  | .hbm, ⟨26, _⟩ => ⟨S_, .f32⟩
  | .hbm, ⟨27, _⟩ => ⟨S2x16x512, .f32⟩
  | .hbm, ⟨28, _⟩ => ⟨S2x16x512x1, .f32⟩
  | .hbm, ⟨29, _⟩ => ⟨S2x16x512x512, .f32⟩
  | .hbm, ⟨30, _⟩ => ⟨S2x16x512x512, .f32⟩
  | .hbm, ⟨31, _⟩ => ⟨S2x16x512x512, .f32⟩
  | .hbm, ⟨32, _⟩ => ⟨S_, .f32⟩
  | .hbm, ⟨33, _⟩ => ⟨S2x16x512, .f32⟩
  | .hbm, ⟨34, _⟩ => ⟨S2x16x512x1, .f32⟩
  | .hbm, ⟨35, _⟩ => ⟨S2x16x512x512, .f32⟩
  | .hbm, ⟨36, _⟩ => ⟨S2x16x512x512, .f32⟩
  | .hbm, ⟨37, _⟩ => ⟨S2x16x128x512, .f32⟩
  | .hbm, ⟨38, _⟩ => ⟨S2x512x16x128, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Base.lean ====
/-
The peers, buffers, cells and contents of the attention kernel: what each buffer of each device holds once it is
filled, as a total function of the launch memory. Sixteen devices in a 2 × 2 × 4 mesh, device `4 p + z` for the
member `z` of the group `p = 2 x + y`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The certificate's ghost state: the pipeline's rounds, the kernel's rounds, and the local copies' counters. -/
abbrev UU : Type := (UR sig nD τ × Rounds.URounds (GSem nD τ sig) (Fin 6)) × Counters

local notation "𝕄" => MT nD τ sig Unit (Elt F) ℕ UU ℕ

def EP : Emb (UR sig nD τ) (MT nD τ sig Unit (Elt F) ℕ UU ℕ) := Emb.inl.trans embL
def ER : Emb (Rounds.URounds (GSem nD τ sig) (Fin 6)) (MT nD τ sig Unit (Elt F) ℕ UU ℕ) := Emb.inr.trans embL

instance EP_lands : (EP : Emb _ 𝕄).LandsIn (upEmb : UEmb _ 𝕄) := by unfold EP; infer_instance
instance ER_lands : (ER : Emb _ 𝕄).LandsIn (upEmb : UEmb _ 𝕄) := by unfold ER; infer_instance

abbrev 𝒱₀ : Variants := Variants.none

/-! ## Peers -/

/-- The device `d` places on along the `z` axis. -/
def zf (d : ℕ) (c : Dev nD) : Dev nD := ⟨4 * (c.val / 4) + (c.val % 4 + d) % 4, by have := c.isLt; simp only [nD] at *; omega⟩
/-- The device `d` groups on, at the same `z`. -/
def pf (d : ℕ) (c : Dev nD) : Dev nD := ⟨4 * ((c.val / 4 + d) % 4) + c.val % 4, by have := c.isLt; simp only [nD] at *; omega⟩

theorem zf_zf {d e : ℕ} (h : (d + e) % 4 = 0) (c : Dev nD) : zf d (zf e c) = c := by
  refine Fin.ext ?_
  have := c.isLt
  simp only [nD] at this
  simp only [zf]
  omega
theorem pf_pf {d e : ℕ} (h : (d + e) % 4 = 0) (c : Dev nD) : pf d (pf e c) = c := by
  refine Fin.ext ?_
  have := c.isLt
  simp only [nD] at this
  simp only [pf]
  omega
theorem zf_group (d : ℕ) (c : Dev nD) : (zf d c).val / 4 = c.val / 4 := by simp only [zf]; omega

/-! ## Buffers -/

abbrev xA : Memref sig .tc .hbm S2x512x2048 .f32 := Memref.whole main_arg0
abbrev wqA : Memref sig .tc .hbm S2048x2048 .f32 := Memref.whole main_arg4
abbrev wqrA : Memref sig .tc .hbm S2048x512 .f32 := Memref.whole main_arg5
abbrev woA : Memref sig .tc .hbm S2048x2048 .f32 := Memref.whole main_arg7
abbrev wdkvM : Memref sig .tc .vmem S2048x128 .f32 := Memref.whole cc0_stg0_0
abbrev wukM : Memref sig .tc .vmem S128x2048 .f32 := Memref.whole cc0_stg1_0
abbrev wuvM : Memref sig .tc .vmem S128x2048 .f32 := Memref.whole cc0_stg2_0
abbrev wkrM : Memref sig .tc .vmem S2048x32 .f32 := Memref.whole cc0_stg3_0
abbrev outM : Memref sig .tc .vmem S2x512x2048 .f32 := Memref.whole cc0_stg4_0
abbrev xM : Memref sig .tc .vmem S2x512x2048 .f32 := Memref.whole cc0_scratch0
abbrev cgM : Memref sig .tc .vmem S4x1024x128 .bf16 := Memref.whole cc0_scratch1
abbrev wcM : Memref sig .tc .vmem S128x4096 .bf16 := Memref.whole cc0_scratch2
abbrev wgM : Memref sig .tc .vmem S4x128x1024 .bf16 := Memref.whole cc0_scratch3
abbrev qtM : Memref sig .tc .vmem S2048x512 .f32 := Memref.whole cc0_scratch4
abbrev qM : Memref sig .tc .vmem S1024x512 .bf16 := Memref.whole cc0_scratch5
abbrev qrtM : Memref sig .tc .vmem S2048x128 .f32 := Memref.whole cc0_scratch6
abbrev qrM : Memref sig .tc .vmem S1024x128 .bf16 := Memref.whole cc0_scratch7
abbrev krM : Memref sig .tc .vmem S1024x32 .bf16 := Memref.whole cc0_scratch8
abbrev ooM : Memref sig .tc .vmem S1024x512 .bf16 := Memref.whole cc0_scratch9
abbrev ogM : Memref sig .tc .vmem S4x1024x512 .bf16 := Memref.whole cc0_scratch10
abbrev wtM : Memref sig .tc .vmem S2x512x2048 .f32 := Memref.whole cc0_scratch11

/-- Slot `d` of the gathered up-projection weights. -/
def wR (d : Fin 4) : Rect S4x128x1024 := Rect.unit (s := S4x128x1024) ![d.val, 0, 0] S1x128x1024.size (by revert d; decide)
/-- Slot `d` of the gathered compressed keys. -/
def cR (d : Fin 4) : Rect S4x1024x128 := Rect.unit (s := S4x1024x128) ![d.val, 0, 0] S1x1024x128.size (by revert d; decide)
/-- Tile `t = 4 b + h` of a device's own head outputs: batch `b`, local head `h`. -/
def oR (t : Fin 8) : Rect S1024x512 :=
  Rect.unit (s := S1024x512) ![512 * (t.val / 4), 128 * (t.val % 4)] S512x128.size (by revert t; decide)
/-- That tile in slot `d` of the gathered head outputs. -/
def gR (d : Fin 4) (t : Fin 8) : Rect S4x1024x512 :=
  Rect.unit (s := S4x1024x512) ![d.val, 512 * (t.val / 4), 128 * (t.val % 4)] S1x512x128.size (by revert d t; decide)
/-- Slot `d` of the gathered head outputs. -/
def gS (d : Fin 4) : Rect S4x1024x512 := Rect.unit (s := S4x1024x512) ![d.val, 0, 0] ![1, 1024, 512] (by revert d; decide)
/-- Half `k` of the double buffer of output weights. -/
def tR (k : Fin 2) : Rect S2x512x2048 := Rect.unit (s := S2x512x2048) ![k.val, 0, 0] S1x512x2048.size (by revert k; decide)

abbrev wSl (d : Fin 4) : Memref sig .tc .vmem S128x1024 .bf16 :=
  (wgM.slice (wR d) (fun _ => rfl)).squeeze S128x1024 squeezes_S1x128x1024_S128x1024
abbrev cSl (d : Fin 4) : Memref sig .tc .vmem S1024x128 .bf16 :=
  (cgM.slice (cR d) (fun _ => rfl)).squeeze S1024x128 squeezes_S1x1024x128_S1024x128
abbrev oSl (t : Fin 8) : Memref sig .tc .vmem S512x128 .bf16 := ooM.slice (oR t) (fun _ => rfl)
abbrev gSl (d : Fin 4) (t : Fin 8) : Memref sig .tc .vmem S512x128 .bf16 :=
  (ogM.slice (gR d t) (fun _ => rfl)).squeeze S512x128 squeezes_S1x512x128_S512x128
abbrev tSl (k : Fin 2) : Memref sig .tc .vmem S512x2048 .f32 :=
  (wtM.slice (tR k) (fun _ => rfl)).squeeze S512x2048 squeezes_S1x512x2048_S512x2048

/-! ## Contents -/

section Contents

variable (m : (ℓ : Loc nD τ sig) → Buf (Elt F) ℓ)

abbrev at2 {a b : ℕ} (i : Fin a) (j : Fin b) : (⟨2, ![a, b]⟩ : Shape).Idx := fun | 0 => i | 1 => j
abbrev at3 {a b d : ℕ} (i : Fin a) (j : Fin b) (k : Fin d) : (⟨3, ![a, b, d]⟩ : Shape).Idx := fun | 0 => i | 1 => j | 2 => k

/-- Device `c`'s arguments: the activations, its columns of the down-projection, its rows of the two
    up-projections, and the four whole weights. -/
def xV (c : Dev nD) : Vec F S2x512x2048 .f32 := m ((c : Thread nD τ).loc main_arg0)
def wdkvV (c : Dev nD) : Vec F S2048x128 .f32 := m ((c : Thread nD τ).loc main_arg1)
def wukV (c : Dev nD) : Vec F S128x2048 .f32 := m ((c : Thread nD τ).loc main_arg2)
def wuvV (c : Dev nD) : Vec F S128x2048 .f32 := m ((c : Thread nD τ).loc main_arg3)
def wqV (c : Dev nD) : Vec F S2048x2048 .f32 := m ((c : Thread nD τ).loc main_arg4)
def wqrV (c : Dev nD) : Vec F S2048x512 .f32 := m ((c : Thread nD τ).loc main_arg5)
def wkrV (c : Dev nD) : Vec F S2048x32 .f32 := m ((c : Thread nD τ).loc main_arg6)
def woV (c : Dev nD) : Vec F S2048x2048 .f32 := m ((c : Thread nD τ).loc main_arg7)

/-- Columns `128 k … 128 k + 127` of an up-projection. -/
def blkW (f : Vec F S128x2048 .f32) (k : ℕ) (hk : k < 16) : Vec F S128x128 .f32 :=
  fun y => f (at2 (y 0) ⟨128 * k + (y 1).val, by have := (y 1).isLt; simp only [S128x128] at this; change _ < 128 at this; omega⟩)

/-- Block `k` of the rounded up-projections: even blocks from the key weights, odd from the value weights. -/
def castV (c : Dev nD) (k : ℕ) (hk : k < 32) : FVec F S128x128 .bf16 :=
  if k % 2 = 0 then k0_pay1 (blkW (wukV m c) (k / 2) (by omega)) else k0_pay1 (blkW (wuvV m c) (k / 2) (by omega))

/-- The rounded up-projections, head by head. -/
def wcV (c : Dev nD) : FVec F S128x4096 .bf16 := fun i =>
  castV m c ((i 1).val / 128) (by have := (i 1).isLt; change _ < 4096 at this; omega)
    (at2 (i 0) ⟨(i 1).val % 128, Nat.mod_lt _ (by decide)⟩)

/-- The columns device `c`'s group works on. -/
def wownV (c c' : Dev nD) : FVec F S128x1024 .bf16 := fun i =>
  wcV m c (at2 (i 0) ⟨1024 * (c'.val / 4) + (i 1).val, by
    have h1 := (i 1).isLt; change _ < 1024 at h1; have h2 := c'.isLt; simp only [nD] at h2; omega⟩)

/-- The gathered up-projections: slot `d` from the device `d` places before. -/
def wgV (c : Dev nD) : FVec F S4x128x1024 .bf16 := fun i => wownV m (zf (4 - (i 0).val) c) c (at2 (i 1) (i 2))

/-- The activations rounded, flat. -/
def xbV (c : Dev nD) : FVec F S1024x2048 .bf16 := k0_pay36 (xV m c)
/-- Device `c`'s columns of the compressed keys. -/
def cownV (c : Dev nD) : FVec F S1x1024x128 .bf16 := k0_pay37 (xV m c) (wdkvV m c)
/-- The gathered compressed keys. -/
def cgV (c : Dev nD) : FVec F S4x1024x128 .bf16 := fun i => cownV m (zf (4 - (i 0).val) c) (at3 0 (i 1) (i 2))

/-- The columns of the query weights the group works on. -/
def qtV (c : Dev nD) : Vec F S2048x512 .f32 := fun i =>
  wqV m c (at2 (i 0) ⟨512 * (c.val / 4) + (i 1).val, by
    have h1 := (i 1).isLt; change _ < 512 at h1; have h2 := c.isLt; simp only [nD] at h2; omega⟩)
def qrtV (c : Dev nD) : Vec F S2048x128 .f32 := fun i =>
  wqrV m c (at2 (i 0) ⟨128 * (c.val / 4) + (i 1).val, by
    have h1 := (i 1).isLt; change _ < 128 at h1; have h2 := c.isLt; simp only [nD] at h2; omega⟩)
def qV (c : Dev nD) : FVec F S1024x512 .bf16 := k0_pay40 (xbV m c) (qtV m c)
def qrV (c : Dev nD) : FVec F S1024x128 .bf16 := k0_pay39 (xbV m c) (qrtV m c)
def krV (c : Dev nD) : FVec F S1024x32 .bf16 := k0_pay38 (xbV m c) (wkrV m c)

/-- What the loads of a tile read. -/
def cB (c : Dev nD) (d : Fin 4) (b : Fin 2) : FVec F S1x512x128 .bf16 := fun y =>
  cgV m c (at3 d ⟨512 * b.val + (y 1).val, by have h1 := (y 1).isLt; change _ < 512 at h1; omega⟩ (y 2))
def wB (c : Dev nD) (d : Fin 4) (h : Fin 4) : FVec F S1x128x256 .bf16 := fun y =>
  wgV m c (at3 d (y 1) ⟨256 * h.val + (y 2).val, by have h1 := (y 2).isLt; change _ < 256 at h1; omega⟩)
def qB (c : Dev nD) (b : Fin 2) (h : Fin 4) : FVec F S512x128 .bf16 := fun y =>
  qV m c (at2 ⟨512 * b.val + (y 0).val, by have h1 := (y 0).isLt; change _ < 512 at h1; omega⟩
    ⟨128 * h.val + (y 1).val, by have h1 := (y 1).isLt; change _ < 128 at h1; omega⟩)
def qrB (c : Dev nD) (b : Fin 2) (h : Fin 4) : FVec F S512x32 .bf16 := fun y =>
  qrV m c (at2 ⟨512 * b.val + (y 0).val, by have h1 := (y 0).isLt; change _ < 512 at h1; omega⟩
    ⟨32 * h.val + (y 1).val, by have h1 := (y 1).isLt; change _ < 32 at h1; omega⟩)
def krB (c : Dev nD) (b : Fin 2) : FVec F S512x32 .bf16 := fun y =>
  krV m c (at2 ⟨512 * b.val + (y 0).val, by have h1 := (y 0).isLt; change _ < 512 at h1; omega⟩ (y 1))

/-- One head's attention over one batch, from the rotary keys, the four slots of compressed keys and weights, and
    the two queries. -/
def headV (kr : FVec F S512x32 .bf16) (c0 c1 c2 c3 : FVec F S1x512x128 .bf16) (w0 w1 w2 w3 : FVec F S1x128x256 .bf16)
    (q : FVec F S512x128 .bf16) (qr : FVec F S512x32 .bf16) : FVec F S512x128 .bf16 :=
  k0_pay46 (k0_pay43 (k0_pay41 c0 w0) c1 w1 c2 w2 c3 w3)
    (k0_pay44 kr (k0_pay41 c0 w0) c1 w1 c2 w2 c3 w3 q qr) (k0_pay45 kr (k0_pay41 c0 w0) c1 w1 c2 w2 c3 w3 q qr)

/-- Device `c`'s head output of batch `b` and local head `h`. -/
def tileV (c : Dev nD) (b : Fin 2) (h : Fin 4) : FVec F S512x128 .bf16 :=
  headV (krB m c b) (cB m c 0 b) (cB m c 1 b) (cB m c 2 b) (cB m c 3 b)
    (wB m c 0 h) (wB m c 1 h) (wB m c 2 h) (wB m c 3 h) (qB m c b h) (qrB m c b h)

/-- Device `c`'s head outputs. -/
def ooV (c : Dev nD) : FVec F S1024x512 .bf16 := fun i =>
  tileV m c ⟨(i 0).val / 512, by have h := (i 0).isLt; change _ < 1024 at h; omega⟩
    ⟨(i 1).val / 128, by have h := (i 1).isLt; change _ < 512 at h; omega⟩
    (at2 ⟨(i 0).val % 512, Nat.mod_lt _ (by decide)⟩ ⟨(i 1).val % 128, Nat.mod_lt _ (by decide)⟩)

/-- The gathered head outputs: slot `d` from the group `d` places before. -/
def ogV (c : Dev nD) : FVec F S4x1024x512 .bf16 := fun i => ooV m (pf (4 - (i 0).val) c) (at2 (i 1) (i 2))

/-- The row block of the output weights that multiplies slot `d`. -/
def woB (c : Dev nD) (d : Fin 4) : Vec F S512x2048 .f32 := fun i =>
  woV m c (at2 ⟨512 * ((c.val / 4 + (4 - d.val)) % 4) + (i 0).val, by
    have h1 := (i 0).isLt; change _ < 512 at h1; omega⟩ (i 1))

end Contents

end Cert.Mla

end
-- ==== Proof.Proto.lean ====
/-
The protocol. Per device one regular semaphore (the barrier) and sixty DMA semaphores, each used for one round.

  barrier          one wait of 6. Signalled once by each of the three other members of the `z` row and once by the
                   same `z` of each of the three other groups. Duty `e - 1` (`e = 1, 2, 3`) of device `t` is paid by
                   `zf e t`, which hands over its slots `e` of both gathered buffers of the row, any contents; duty
                   `2 + e` by `pf e t`, which hands over its slot `e` of the gathered head outputs.
  row send `i`     the sender's own; paid when its copy `i` has left; hands back the share of the source.
  row receive `i`  paid by copy `i` of the device `i % 3 + 1` places before: for `i < 3` slot `i + 1` of the gathered
                   up-projections, for `i ≥ 3` slot `i - 2` of the gathered compressed keys, filled.
  group send `i`   the sender's own; hands back the share of the tile sent.
  group receive i  paid by the device `i / 8 + 1` groups before: tile `i % 8` of slot `i / 8 + 1` of the gathered head
                   outputs, filled.
-/
module

public import proofs.«01_k».proof.Proof.Base

@[expose] public section

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cells -/

/-- What a semaphore is for. -/
inductive Role where
  | bar
  | zs (i : Fin 6)
  | zr (i : Fin 6)
  | os (i : Fin 24)
  | or (i : Fin 24)
  deriving DecidableEq

def Role.sem : Role → SemLoc sig
  | .bar => .reg (sig.barrier 0 rfl)
  | .zs i => .dma ⟨5 + i.val, by have := i.isLt; change _ < 69; omega⟩
  | .zr i => .dma ⟨11 + i.val, by have := i.isLt; change _ < 69; omega⟩
  | .os i => .dma ⟨17 + i.val, by have := i.isLt; change _ < 69; omega⟩
  | .or i => .dma ⟨41 + i.val, by have := i.isLt; change _ < 69; omega⟩

/-- The role of a semaphore, none for the local copies' and the pipeline's. -/
def roleOf : SemLoc sig → Option Role
  | .reg s => some .bar
  | .dma q =>
    if h : q.val < 5 then none
    else if h : q.val < 11 then some (.zs ⟨q.val - 5, by omega⟩)
    else if h : q.val < 17 then some (.zr ⟨q.val - 11, by omega⟩)
    else if h : q.val < 41 then some (.os ⟨q.val - 17, by omega⟩)
    else if h : q.val < 65 then some (.or ⟨q.val - 41, by omega⟩)
    else none

theorem roleOf_sem (k : Role) : roleOf k.sem = some k := by
  cases k with
  | bar => rfl
  | zs i => revert i; decide
  | zr i => revert i; decide
  | os i => revert i; decide
  | or i => revert i; decide

/-- The cell of a role on a device. -/
abbrev cell (c : Dev nD) (k : Role) : GSem nD τ sig := ((c : Thread nD τ), k.sem)

/-! ## Shares and payloads -/

/-- The four quarters of a share: the first is kept, the others travel. -/
def qs : Fin 4 → PosShare TreeShare
  | 0 => fullShare.left.left
  | 1 => fullShare.left.right
  | 2 => fullShare.right.left
  | 3 => fullShare.right.right

section Held

/-- Slot `d` of a device's gathered up-projections, of its compressed keys, a tile of its head outputs, a tile of a slot of
    the gathered ones, that slot, half the double buffer of output weights. -/
abbrev wAt (c : Dev nD) (d : Fin 4) (q : PosShare TreeShare) (f : Buf (Elt F) ((c : Thread nD τ).loc cc0_scratch3)) : sProp 𝕄 :=
  ((c : Thread nD τ).loc cc0_scratch3) ↦[(wR d).set]{q} f
abbrev cAt (c : Dev nD) (d : Fin 4) (q : PosShare TreeShare) (f : Buf (Elt F) ((c : Thread nD τ).loc cc0_scratch1)) : sProp 𝕄 :=
  ((c : Thread nD τ).loc cc0_scratch1) ↦[(cR d).set]{q} f
abbrev oAt (c : Dev nD) (t : Fin 8) (q : PosShare TreeShare) (f : Buf (Elt F) ((c : Thread nD τ).loc cc0_scratch9)) : sProp 𝕄 :=
  ((c : Thread nD τ).loc cc0_scratch9) ↦[(oR t).set]{q} f
abbrev gAt (c : Dev nD) (d : Fin 4) (t : Fin 8) (f : Buf (Elt F) ((c : Thread nD τ).loc cc0_scratch10)) : sProp 𝕄 :=
  ((c : Thread nD τ).loc cc0_scratch10) ↦[(gR d t).set]{fullShare} f
abbrev gSAt (c : Dev nD) (d : Fin 4) (f : Buf (Elt F) ((c : Thread nD τ).loc cc0_scratch10)) : sProp 𝕄 :=
  ((c : Thread nD τ).loc cc0_scratch10) ↦[(gS d).set]{fullShare} f
abbrev tAt (c : Dev nD) (k : Fin 2) (f : Buf (Elt F) ((c : Thread nD τ).loc cc0_scratch11)) : sProp 𝕄 :=
  ((c : Thread nD τ).loc cc0_scratch11) ↦[(tR k).set]{fullShare} f

end Held

theorem wSl_set (d : Fin 4) : (wSl d).view.set = (wR d).set := (View.set_reshape _ _).trans (View.set_slice_whole _ _)
theorem cSl_set (d : Fin 4) : (cSl d).view.set = (cR d).set := (View.set_reshape _ _).trans (View.set_slice_whole _ _)
theorem oSl_set (t : Fin 8) : (oSl t).view.set = (oR t).set := View.set_slice_whole _ _
theorem gSl_set (d : Fin 4) (t : Fin 8) : (gSl d t).view.set = (gR d t).set := (View.set_reshape _ _).trans (View.set_slice_whole _ _)
theorem tSl_set (k : Fin 2) : (tSl k).view.set = (tR k).set := (View.set_reshape _ _).trans (View.set_slice_whole _ _)

variable (m : (ℓ : Loc nD τ sig) → Buf (Elt F) ℓ)

/-- The place of copy `i` of a row: three of the up-projections, then three of the keys. -/
def zPlace (i : Fin 6) : Fin 4 := ⟨i.val % 3 + 1, by omega⟩
/-- The place and the tile of copy `i` between groups. -/
def oPlace (i : Fin 24) : Fin 4 := ⟨i.val / 8 + 1, by have := i.isLt; omega⟩
def oTile (i : Fin 24) : Fin 8 := ⟨i.val % 8, by omega⟩

/-- The landing places of the copies to `zf e t` (for `j = e - 1 < 3`) and to `pf e t` (for `j = e + 2 ≥ 3`). -/
def barPay (t : Dev nD) (j : Fin 6) : sProp 𝕄 :=
  if h : j.val < 3 then
    iprop((∃ f, wAt (zf (j.val + 1) t) ⟨j.val + 1, by omega⟩ fullShare f) ∗ (∃ f, cAt (zf (j.val + 1) t) ⟨j.val + 1, by omega⟩ fullShare f))
  else iprop(∃ f, gSAt (pf (j.val - 2) t) ⟨j.val - 2, by have := j.isLt; omega⟩ f)

def pay (t : Dev nD) : Role → Fin 6 → sProp 𝕄
  | .bar, j => barPay t j
  | .zs i, _ => if i.val < 3 then wAt t 0 (qs (zPlace i)) (wgV m t) else cAt t 0 (qs (zPlace i)) (cgV m t)
  | .zr i, _ => if i.val < 3 then wAt t (zPlace i) fullShare (wgV m t) else cAt t (zPlace i) fullShare (cgV m t)
  | .os i, _ => oAt t (oTile i) (qs (oPlace i)) (ooV m t)
  | .or i, _ => gAt t (oPlace i) (oTile i) (ogV m t)

abbrev Nw : ℕ := (wSl 0).view.dmaCredit
abbrev Nc : ℕ := (cSl 0).view.dmaCredit
abbrev No : ℕ := (gSl 0 0).view.dmaCredit

def amt : Role → ℕ
  | .bar => 1
  | .zs i => if i.val < 3 then Nw else Nc
  | .zr i => if i.val < 3 then Nw else Nc
  | .os _ => No
  | .or _ => No

theorem Nw_pos : 0 < Nw := View.dmaCredit_pos _ (by decide)
theorem Nc_pos : 0 < Nc := View.dmaCredit_pos _ (by decide)
theorem No_pos : 0 < No := View.dmaCredit_pos _ (by decide)

theorem amt_pos (k : Role) : 0 < amt k := by
  cases k <;> simp only [amt] <;> (try split) <;> first | exact Nat.one_pos | exact Nw_pos | exact Nc_pos | exact No_pos

def dutiesOf : Option Role → Finset (Fin 6)
  | none => ∅
  | some .bar => Finset.univ
  | some _ => {0}

def sched : Rounds.Schedule (GSem nD τ sig) (Fin 6) 𝕄 where
  duties g r := if r = 0 ∧ g.1.2 = .tc then dutiesOf (roleOf g.2) else ∅
  unitless _ := False
  amount g _ _ := match roleOf g.2 with
    | some k => amt k
    | none => 1
  payload g _ d := match roleOf g.2 with
    | some k => pay m g.1.1 k d
    | none => iprop(emp)
  amount_pos g _ _ _ := by
    cases roleOf g.2 with
    | none => exact Nat.one_pos
    | some k => exact amt_pos k

instance barPay_storable (t : Dev nD) (j : Fin 6) : BI.Storable (upEmb : UEmb _ 𝕄) (barPay (F := F) t j) := by
  unfold barPay; split <;> infer_instance

instance pay_storable (t : Dev nD) (k : Role) (d : Fin 6) : BI.Storable (upEmb : UEmb _ 𝕄) (pay m t k d) := by
  cases k with
  | bar => exact barPay_storable t d
  | zs i => show BI.Storable upEmb (if i.val < 3 then _ else _); split <;> infer_instance
  | zr i => show BI.Storable upEmb (if i.val < 3 then _ else _); split <;> infer_instance
  | os i => show BI.Storable upEmb (oAt t (oTile i) (qs (oPlace i)) (ooV m t)); infer_instance
  | or i => show BI.Storable upEmb (gAt t (oPlace i) (oTile i) (ogV m t)); infer_instance

instance sched_payload_storable (g : GSem nD τ sig) (r : ℕ) (d : Fin 6) : BI.Storable (upEmb : UEmb _ 𝕄) ((sched m).payload g r d) := by
  show BI.Storable upEmb (match roleOf g.2 with
    | some k => pay m g.1.1 k d
    | none => iprop(emp))
  cases roleOf g.2 <;> dsimp only <;> infer_instance

section Tables
variable (c : Dev nD) (k : Role)

theorem duties_zero : (sched m).duties (cell c k) 0 = dutiesOf (some k) := by
  dsimp only [sched]; rw [if_pos ⟨rfl, rfl⟩, roleOf_sem]
theorem duties_later (g : GSem nD τ sig) : ∀ r, 1 ≤ r → (sched m).duties g r = ∅ :=
  fun r hr => by dsimp only [sched]; exact if_neg fun h => by omega
theorem amount_eq (r : ℕ) (d : Fin 6) : (sched m).amount (cell c k) r d = amt k := by
  dsimp only [sched]; rw [roleOf_sem]
theorem payload_eq (r : ℕ) (d : Fin 6) : (sched m).payload (cell c k) r d = pay m c k d := by
  dsimp only [sched]; rw [roleOf_sem]
theorem expect_bar : (sched m).expect (cell c .bar) 0 = 6 := by
  unfold Schedule.expect Schedule.amountOf; rw [duties_zero]
  simp only [amount_eq, amt, dutiesOf]; rfl
theorem expect_one (h : dutiesOf (some k) = {0}) : (sched m).expect (cell c k) 0 = amt k := by
  unfold Schedule.expect Schedule.amountOf; rw [duties_zero, h, Finset.sum_singleton, amount_eq]
theorem rest_bar : bigSep ((sched m).duties (cell c .bar) 0 \ ∅) (fun d => (sched m).payload (cell c .bar) 0 d) = bigSep Finset.univ (barPay (F := F) c) := by
  rw [Finset.sdiff_empty, duties_zero]; simp only [payload_eq]; rfl
theorem rest_one (h : dutiesOf (some k) = {0}) :
    bigSep ((sched m).duties (cell c k) 0 \ ∅) (fun d => (sched m).payload (cell c k) 0 d) = pay m c k 0 := by
  rw [Finset.sdiff_empty, duties_zero, h, bigSep_singleton, payload_eq]
end Tables

/-! ## Debts and levels -/

/-- The barrier signals, in order: whom and which duty. -/
def barTo (c : Dev nD) (n : Fin 6) : Dev nD := if n.val < 3 then zf (n.val + 1) c else pf (n.val - 2) c
def barDuty (n : Fin 6) : Fin 6 := if h : n.val < 3 then ⟨2 - n.val, by omega⟩ else ⟨8 - n.val, by have := n.isLt; omega⟩

/-- The order of the sends between groups: by tile, then by place. -/
def oIx (n : Fin 24) : Fin 24 := ⟨(n.val % 3) * 8 + n.val / 3, by have := n.isLt; omega⟩
def zTo (c : Dev nD) (i : Fin 6) : Dev nD := zf (i.val % 3 + 1) c
def oTo (c : Dev nD) (i : Fin 24) : Dev nD := pf (i.val / 8 + 1) c

/-- What a device pays, in order: the barrier's signals, the row copies, the copies between groups. -/
def pays (c : Dev nD) : List (GSem nD τ sig × ℕ) :=
  (List.finRange 6).map (fun n => (cell (barTo c n) .bar, 1))
    ++ (List.finRange 6).map (fun i => (cell (zTo c i) (.zr i), amt (.zr i)))
    ++ (List.finRange 24).map (fun n => (cell (oTo c (oIx n)) (.or (oIx n)), amt (.or (oIx n))))

def tallyL : List (GSem nD τ sig × ℕ) → CellTallies nD τ sig Unit
  | [] => 0
  | x :: l => tallyL l + tallyAt x.1 () x.2

/-- What device `c` owes after `n` payments. -/
def owe (c : Dev nD) (n : ℕ) : CellTallies nD τ sig Unit := tallyL ((pays c).drop n)

theorem owe_bar (c : Dev nD) (n : Fin 6) : owe c n.val = owe c (n.val + 1) + tallyAt (cell (barTo c n) .bar) () 1 := by
  fin_cases n <;> rfl
theorem owe_z (c : Dev nD) (i : Fin 6) :
    owe c (6 + i.val) = owe c (7 + i.val) + tallyAt (cell (zTo c i) (.zr i)) () (amt (.zr i)) := by
  fin_cases i <;> rfl
theorem owe_o (c : Dev nD) (n : Fin 24) :
    owe c (12 + n.val) = owe c (13 + n.val) + tallyAt (cell (oTo c (oIx n)) (.or (oIx n))) () (amt (.or (oIx n))) := by
  fin_cases n <;> rfl
theorem owe_end (c : Dev nD) : owe c 36 = 0 := rfl

theorem tallyL_pos {l : List (GSem nD τ sig × ℕ)} {g : GSem nD τ sig} {u : Unit} (h : 0 < tallyL l g u) : ∃ x ∈ l, x.1 = g := by
  induction l with
  | nil => exact absurd h (Nat.lt_irrefl 0)
  | cons x l ih =>
    unfold tallyL at h
    rw [Pi.add_apply, Finsupp.add_apply, tallyAt_apply] at h
    by_cases hx : g = x.1 ∧ u = ()
    · exact ⟨x, List.mem_cons_self, hx.1.symm⟩
    · rw [if_neg hx, Nat.add_zero] at h
      obtain ⟨y, hy, he⟩ := ih h
      exact ⟨y, List.mem_cons_of_mem _ hy, he⟩

def L (g : GSem nD τ sig) : Finset Unit := if g.1.2 = .tc then {()} else ∅
def roleLv : Option Role → ℕ
  | some .bar => 1
  | some (.zr _) => 2
  | some (.or _) => 3
  | _ => 0
def lv (g : GSem nD τ sig) (_ : Unit) : ℕ := roleLv (roleOf g.2)
theorem L_of_ne (g : GSem nD τ sig) (h : g.1.2 ≠ .tc) : L g = ∅ := if_neg h
theorem L_tc (c : Dev nD) (sm : SemLoc sig) : L ((c : Thread nD τ), sm) = {()} := if_pos rfl

theorem pays_tc (c : Dev nD) : ∀ x ∈ pays c, x.1.1.2 = .tc := by
  intro x hx
  simp only [pays, List.mem_append, List.mem_map] at hx
  rcases hx with (⟨n, -, rfl⟩ | ⟨n, -, rfl⟩) | ⟨n, -, rfl⟩ <;> rfl

/-- A wait is allowed at any debt whose cells are all above it. -/
theorem mayWait (c : Dev nD) (sm : SemLoc sig) (n : ℕ) (hn : ∀ x ∈ (pays c).drop n, roleLv (roleOf sm) < roleLv (roleOf x.1.2)) :
    (levAts L lv : sProp 𝕄) ⊢ MayWait (c : Thread nD τ) sm () (owe c n) :=
  MayOwe.of_cut (L := L) (lev := lv) (roleLv (roleOf sm)) (fun p hp => by rw [Finset.mem_singleton.mp hp, L_tc]; exact Finset.mem_singleton_self _)
    (fun g u hg => by
      obtain ⟨x, hx, rfl⟩ := tallyL_pos hg
      have := pays_tc c x (List.mem_of_mem_drop hx)
      rw [L, if_pos this]; exact Finset.mem_singleton_self _)
    (fun p hp => by rw [Finset.mem_singleton.mp hp]; exact le_refl _)
    (fun g u hg => by
      obtain ⟨x, hx, rfl⟩ := tallyL_pos hg
      exact hn x hx)

/-- The levels of what is still owed. -/
def paysLv : List ℕ := List.replicate 6 1 ++ List.replicate 6 2 ++ List.replicate 24 3
theorem pays_lv (c : Dev nD) : (pays c).map (fun x => roleLv (roleOf x.1.2)) = paysLv := by
  simp only [pays, List.map_append, List.map_map]
  rfl

theorem mayWait_of_lt (c : Dev nD) (sm : SemLoc sig) (n : ℕ) (hn : ∀ l ∈ paysLv.drop n, roleLv (roleOf sm) < l) :
    (levAts L lv : sProp 𝕄) ⊢ MayWait (c : Thread nD τ) sm () (owe c n) :=
  mayWait c sm n fun x hx => hn _ (by
    rw [← pays_lv c, ← List.map_drop]; exact List.mem_map_of_mem hx)

theorem mayWait_dma0 (c : Dev nD) (q : DmaSem sig) (hq : roleLv (roleOf (.dma q)) = 0) (n : ℕ) :
    (levAts L lv : sProp 𝕄) ⊢ MayWait (c : Thread nD τ) (.dma q) () (owe c n) :=
  mayWait_of_lt c _ n fun l hl => by
    rw [hq]
    have : ∀ l ∈ paysLv, 0 < l := by decide
    exact this l (List.mem_of_mem_drop hl)

end Cert.Mla

end
-- ==== Proof.Steps.lean ====
/-
The steps of the protocol: what a device holds between two of them, and one lemma for each kind of step.
-/
module

public import proofs.«01_k».proof.Proof.Proto

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Separating products over the rest of, and the part so far of, a finite range -/

def rest {N : ℕ} (f : Fin N → sProp 𝕄) (n : ℕ) : sProp 𝕄 := bigSep (Finset.univ.filter fun i : Fin N => n ≤ i.val) f
def upto {N : ℕ} (f : Fin N → sProp 𝕄) (n : ℕ) : sProp 𝕄 := bigSep (Finset.univ.filter fun i : Fin N => i.val < n) f

theorem rest_succ {N : ℕ} (f : Fin N → sProp 𝕄) (i : Fin N) : rest f i.val = iprop(f i ∗ rest f (i.val + 1)) := by
  have h : (Finset.univ.filter fun j : Fin N => i.val ≤ j.val) = insert i (Finset.univ.filter fun j : Fin N => i.val + 1 ≤ j.val) := by
    ext j; simp only [Finset.mem_filter, Finset.mem_univ, true_and, Finset.mem_insert, Fin.ext_iff]; omega
  unfold rest
  rw [h, bigSep_insert (by simp)]
  rfl
theorem upto_succ {N : ℕ} (f : Fin N → sProp 𝕄) (i : Fin N) : upto f (i.val + 1) = iprop(f i ∗ upto f i.val) := by
  have h : (Finset.univ.filter fun j : Fin N => j.val < i.val + 1) = insert i (Finset.univ.filter fun j : Fin N => j.val < i.val) := by
    ext j; simp only [Finset.mem_filter, Finset.mem_univ, true_and, Finset.mem_insert, Fin.ext_iff]; omega
  unfold upto
  rw [h, bigSep_insert (by simp)]
  rfl
theorem rest_zero {N : ℕ} (f : Fin N → sProp 𝕄) : rest f 0 = bigSep Finset.univ f := by
  unfold rest; congr 1; ext j; simp
theorem upto_zero {N : ℕ} (f : Fin N → sProp 𝕄) : upto f 0 = (iprop(emp) : sProp 𝕄) := by
  unfold upto; rw [show (Finset.univ.filter fun j : Fin N => j.val < 0) = ∅ from by ext j; simp]; rfl
theorem upto_all {N : ℕ} (f : Fin N → sProp 𝕄) : upto f N = bigSep Finset.univ f := by
  unfold upto; congr 1; ext j; simp

/-! ## What every device knows -/

/-- The cells, numbered: the barrier, then the four families. -/
def rk (i : Fin 61) : Role :=
  if h : i.val = 0 then .bar
  else if h : i.val < 7 then .zs ⟨i.val - 1, by omega⟩
  else if h : i.val < 13 then .zr ⟨i.val - 7, by omega⟩
  else if h : i.val < 37 then .os ⟨i.val - 13, by omega⟩
  else .or ⟨i.val - 37, by have := i.isLt; omega⟩
def ik : Role → Fin 61
  | .bar => 0
  | .zs i => ⟨i.val + 1, by have := i.isLt; omega⟩
  | .zr i => ⟨i.val + 7, by have := i.isLt; omega⟩
  | .os i => ⟨i.val + 13, by have := i.isLt; omega⟩
  | .or i => ⟨i.val + 37, by have := i.isLt; omega⟩
theorem rk_ik (k : Role) : rk (ik k) = k := by
  cases k with
  | bar => rfl
  | zs i => revert i; decide
  | zr i => revert i; decide
  | os i => revert i; decide
  | or i => revert i; decide
theorem ik_rk : ∀ i : Fin 61, ik (rk i) = i := by decide

def records (K : Dev nD × Fin 61 → ℕ) : sProp 𝕄 :=
  iprop((bigSep Finset.univ fun x : Dev nD × Fin 61 => cellInv ER (sched m) (K x) (cell x.1 (rk x.2)))
    ∗ bigSep Finset.univ fun x : Dev nD × Fin 61 => reached ER (cell x.1 (rk x.2)) 0)
instance records_persistent (K : Dev nD × Fin 61 → ℕ) : BI.Persistent (records m K) := by unfold records; infer_instance

def env (K : Dev nD × Fin 61 → ℕ) : sProp 𝕄 := iprop(records m K ∗ levAts L lv)
instance env_persistent (K : Dev nD × Fin 61 → ℕ) : BI.Persistent (env m K) := by unfold env; infer_instance

theorem env_inv (K : Dev nD × Fin 61 → ℕ) (c : Dev nD) (k : Role) : env m K ⊢ cellInv ER (sched m) (K (c, ik k)) (cell c k) := by
  unfold env records
  have h : (bigSep Finset.univ fun x : Dev nD × Fin 61 => (cellInv ER (sched m) (K x) (cell x.1 (rk x.2)) : sProp 𝕄)) ⊢ cellInv ER (sched m) (K (c, ik k)) (cell c (rk (ik k))) :=
    bigSep_elim (Finset.mem_univ (c, ik k))
  rw [rk_ik] at h
  iintro ⟨⟨HI, HR⟩, HL⟩
  iapply h; iexact HI
theorem env_reached (K : Dev nD × Fin 61 → ℕ) (c : Dev nD) (k : Role) : env m K ⊢ reached ER (cell c k) 0 := by
  unfold env records
  have h : (bigSep Finset.univ fun x : Dev nD × Fin 61 => (reached ER (cell x.1 (rk x.2)) 0 : sProp 𝕄)) ⊢ reached ER (cell c (rk (ik k))) 0 :=
    bigSep_elim (Finset.mem_univ (c, ik k))
  rw [rk_ik] at h
  iintro ⟨⟨HI, HR⟩, HL⟩
  iapply h; iexact HR
theorem env_lev (K : Dev nD × Fin 61 → ℕ) : env m K ⊢ levAts L lv := by
  unfold env; iintro ⟨HR, HL⟩; iexact HL

/-! ## What a device holds of the protocol -/

/-- The thirty copies in the order they are started, and the cells of each. -/
def sRole (n : Fin 30) : Role := if h : n.val < 6 then .zs ⟨n.val, h⟩ else .os (oIx ⟨n.val - 6, by have := n.isLt; omega⟩)
def dRole (n : Fin 30) : Role := if h : n.val < 6 then .zr ⟨n.val, h⟩ else .or (oIx ⟨n.val - 6, by have := n.isLt; omega⟩)
def sTo (c : Dev nD) (n : Fin 30) : Dev nD :=
  if h : n.val < 6 then zTo c ⟨n.val, h⟩ else oTo c (oIx ⟨n.val - 6, by have := n.isLt; omega⟩)
/-- The arrivals in the order they are waited for, and the departures in theirs. -/
def rRole (n : Fin 30) : Role := if h : n.val < 6 then .zr ⟨n.val, h⟩ else .or ⟨n.val - 6, by have := n.isLt; omega⟩
def wRole (n : Fin 30) : Role := if h : n.val < 6 then .zs ⟨n.val, h⟩ else .os ⟨n.val - 6, by have := n.isLt; omega⟩

theorem owe_s (c : Dev nD) (n : Fin 30) :
    owe c (6 + n.val) = owe c (7 + n.val) + tallyAt (cell (sTo c n) (dRole n)) () (amt (dRole n)) := by
  fin_cases n <;> rfl
theorem amt_s (n : Fin 30) : amt (sRole n) = amt (dRole n) := by unfold sRole dRole; split <;> rfl
theorem duties_one (k : Role) (h : k ≠ .bar) : dutiesOf (some k) = {0} := by cases k <;> first | rfl | exact absurd rfl h
theorem sRole_ne (n : Fin 30) : sRole n ≠ .bar := by revert n; decide
theorem dRole_ne (n : Fin 30) : dRole n ≠ .bar := by revert n; decide
theorem rRole_ne (n : Fin 30) : rRole n ≠ .bar := by revert n; decide
theorem wRole_ne (n : Fin 30) : wRole n ≠ .bar := by revert n; decide

def barTok (c : Dev nD) (n : Fin 6) : sProp 𝕄 := dutyTok ER (cell (barTo c n) .bar) 0 (barDuty n)
/-- The tokens of copy `n`, and where it lands. -/
def tick (c : Dev nD) (n : Fin 30) : sProp 𝕄 :=
  iprop(dutyTok ER (cell (sTo c n) (dRole n)) 0 0 ∗ dutyTok ER (cell c (sRole n)) 0 0 ∗ atPos ER (cell c (sRole n)) 0 ∅ 0)
def landAt (c : Dev nD) : Role → sProp 𝕄
  | .zr i => if i.val < 3 then iprop(∃ f, wAt c (zPlace i) fullShare f) else iprop(∃ f, cAt c (zPlace i) fullShare f)
  | .or i => iprop(∃ f, gAt c (oPlace i) (oTile i) f)
  | _ => iprop(emp)
def land (c : Dev nD) (n : Fin 30) : sProp 𝕄 := landAt (sTo c n) (dRole n)
/-- A pending wait on a cell of one's own. -/
def pend (c : Dev nD) (k : Role) : sProp 𝕄 := iprop(cred (tallyAt (cell c k) () (amt k)) ∗ atPos ER (cell c k) 0 ∅ 0)

/-- Before the barrier: `n` of its signals sent. -/
def Pr0 (c : Dev nD) (n : ℕ) : sProp 𝕄 :=
  iprop((∃ W, owes (c : Thread nD τ) (owe c n) W) ∗ rest (barTok c) n ∗ bigSep Finset.univ (tick c)
    ∗ (cred (tallyAt (cell c .bar) () 6) ∗ atPos ER (cell c .bar) 0 ∅ 0) ∗ bigSep Finset.univ fun u => pend c (rRole u))
/-- After it: `n` copies started, `u` arrivals waited for. -/
def Pr1 (c : Dev nD) (n u : ℕ) : sProp 𝕄 :=
  iprop((∃ W, owes (c : Thread nD τ) (owe c (6 + n)) W) ∗ semVal (cell c .bar) 0
    ∗ rest (fun n => iprop(tick c n ∗ land (F := F) c n)) n ∗ upto (fun n => pend c (sRole n)) n
    ∗ rest (fun u => pend c (rRole u)) u ∗ upto (fun u => semVal (cell c (rRole u)) 0) u)
/-- At the end: `v` departures waited for. -/
def Pr2 (c : Dev nD) (v : ℕ) : sProp 𝕄 :=
  iprop((∃ W, owes (c : Thread nD τ) 0 W) ∗ semVal (cell c .bar) 0 ∗ bigSep Finset.univ (fun u => semVal (cell c (rRole u)) 0)
    ∗ rest (fun v => pend c (wRole v)) v ∗ upto (fun v => semVal (cell c (wRole v)) 0) v ∗ upto (fun v => pay m c (wRole v) 0) v)

/-! ## The barrier -/

/-- A device's own slot, as the barrier's signal `n` hands it over. -/
def ownSlot (c : Dev nD) (n : Fin 6) : sProp 𝕄 :=
  if h : n.val < 3 then
    iprop((∃ f, wAt c ⟨3 - n.val, by omega⟩ fullShare f) ∗ (∃ f, cAt c ⟨3 - n.val, by omega⟩ fullShare f))
  else iprop(∃ f, gSAt c ⟨6 - n.val, by omega⟩ f)

theorem ownSlot_pay (c : Dev nD) (n : Fin 6) : ownSlot (F := F) c n = barPay (barTo c n) (barDuty n) := by
  have hz : ∀ d e, (d + e) % 4 = 0 → zf d (zf e c) = c := fun d e h => zf_zf h c
  have hp : ∀ d e, (d + e) % 4 = 0 → pf d (pf e c) = c := fun d e h => pf_pf h c
  fin_cases n
  · show iprop((∃ f, wAt c 3 fullShare f) ∗ (∃ f, cAt c 3 fullShare f)) = iprop((∃ f, wAt (zf 3 (zf 1 c)) 3 fullShare f) ∗ (∃ f, cAt (zf 3 (zf 1 c)) 3 fullShare f))
    rw [hz 3 1 rfl]
  · show iprop((∃ f, wAt c 2 fullShare f) ∗ (∃ f, cAt c 2 fullShare f)) = iprop((∃ f, wAt (zf 2 (zf 2 c)) 2 fullShare f) ∗ (∃ f, cAt (zf 2 (zf 2 c)) 2 fullShare f))
    rw [hz 2 2 rfl]
  · show iprop((∃ f, wAt c 1 fullShare f) ∗ (∃ f, cAt c 1 fullShare f)) = iprop((∃ f, wAt (zf 1 (zf 3 c)) 1 fullShare f) ∗ (∃ f, cAt (zf 1 (zf 3 c)) 1 fullShare f))
    rw [hz 1 3 rfl]
  · show iprop(∃ f, gSAt c 3 f) = iprop(∃ f, gSAt (pf 3 (pf 1 c)) 3 f)
    rw [hp 3 1 rfl]
  · show iprop(∃ f, gSAt c 2 f) = iprop(∃ f, gSAt (pf 2 (pf 2 c)) 2 f)
    rw [hp 2 2 rfl]
  · show iprop(∃ f, gSAt c 1 f) = iprop(∃ f, gSAt (pf 1 (pf 3 c)) 1 f)
    rw [hp 1 3 rfl]

section StepLemmas
variable (K : Dev nD × Fin 61 → ℕ) (c : Dev nD)

theorem wp_bar {α : Type} (n : Fin 6) {e : Dev nD} (he : e = barTo c n) {k : PUnit → Prog (TpuEff nD τ sig (Elt F) Λ₀ .tc) α} {Q : α → sProp 𝕄} :
    iprop(env m K ∗ Pr0 c n.val ∗ ownSlot c n)
      ⊢ iprop((Pr0 c (n.val + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (e : Thread nD τ) (sig.barrier 0 rfl) 1) k) Q) := by
  subst he
  unfold Pr0
  have hb : ownSlot c n ⊢ (sched m).payload ((barTo c n : Thread nD τ), .reg (sig.barrier 0 rfl)) 0 (barDuty n) := Entails.of_eq ((ownSlot_pay c n).trans (payload_eq m (barTo c n) .bar 0 (barDuty n)).symm)
  have hd : barDuty n ∈ (sched m).duties ((barTo c n : Thread nD τ), .reg (sig.barrier 0 rfl)) 0 := by
    have h := duties_zero m (barTo c n) .bar
    exact h ▸ Finset.mem_univ _
  have hm : (sched m).amount ((barTo c n : Thread nD τ), .reg (sig.barrier 0 rfl)) 0 (barDuty n) = 1 := amount_eq m (barTo c n) .bar 0 _
  have ht : barTok (F := F) c n ⊢ dutyTok ER (cell (barTo c n) .bar) 0 (barDuty n) := Entails.refl _
  rw [rest_succ]
  iintro ⟨#HE, ⟨⟨%W, HO⟩, ⟨Ht, Hb⟩, H3, H4, H5⟩, Hs⟩ Hk
  iapply (Rounds.wp_signal 𝒱₀ ER (sched m) (c : Thread nD τ) none (dst := (barTo c n : Thread nD τ)) (κ := K (barTo c n, ik .bar)) (r := 0) (d := barDuty n)
      hd hm () (owe c (n.val + 1)) (owe_bar c n)) $$ [HO Ht Hs]
  · isplitr; · iapply (env_inv m K (barTo c n) .bar); iexact HE
    isplitl [HO]; · iexact HO
    isplitl [Ht]; · iapply ht; iexact Ht
    isplitl [Hs]; · iapply hb; iexact Hs
    iapply (env_reached m K (barTo c n) .bar); iexact HE
  iintro HO
  iapply Hk
  isplitl [HO]; · iexists W; iexact HO
  isplitl [Hb]; · iexact Hb
  isplitl [H3]; · iexact H3
  isplitl [H4]; · iexact H4
  iexact H5

/-- A wait on one of its own DMA cells: the payload comes with it and the cell closes. -/
theorem wp_pend {α : Type} (k : Role) (hk : k ≠ .bar) {O : CellTallies nD τ sig Unit} (hO : env m K ⊢ MayWait (c : Thread nD τ) k.sem () O)
    {sem : DmaSem sig} (hs : (SemLoc.dma sem : SemLoc sig) = k.sem) {sp sp' : Space} {s s' : Shape} {e e' : EltTy}
    {src : Memref sig .tc sp' s' e'} {dst : Memref sig .tc sp s e} {hsrc : src.view.WordExact} {hdst : dst.view.WordExact}
    (hN : dst.view.dmaCredit = amt k) {W : Waits sig Unit} {kt : PUnit → Prog (TpuEff nD τ sig (Elt F) Λ₀ .tc) α} {Q : α → sProp 𝕄} :
    iprop(env m K ∗ pend c k ∗ owes (c : Thread nD τ) O W)
      ⊢ iprop(((pay m c k 0 ∗ semVal (cell c k) 0 ∗ owes (c : Thread nD τ) O (insert (k.sem, ()) W))
            -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 sem src dst hsrc hdst) kt) Q) := by
  have hw : ∀ X : PUnit → sProp 𝕄, wpE (defs₀ (F := F)) 𝒱₀ (c : Thread nD τ) none Set.univ (.waitDma2 sem src dst hsrc hdst) X
      = waitSpec (c : Thread nD τ) Set.univ k.sem (amt k) X := by
    intro X; rw [← hs, ← hN]; exact wpE_waitDma2_eq 𝒱₀ (c : Thread nD τ) none Set.univ X
  have he : 0 + amt k = (sched m).expect ((c : Thread nD τ), k.sem) 0 := by
    rw [Nat.zero_add]; exact (expect_one m c k (duties_one k hk)).symm
  unfold pend
  iintro ⟨#HE, ⟨Hc, Ha⟩, HO⟩ Hk
  iapply (Rounds.wp_wait_rest_token 𝒱₀ ER (sched m) (c : Thread nD τ) none (κ := K (c, ik k)) (sm := k.sem) (k' := amt k)
      hw (Set.mem_univ _) () (O := O) (W := W) (R := 0) (m := 0) (T := ∅) he) $$ [Hc HO Ha]
  · isplitr; · iapply (env_inv m K c k); iexact HE
    isplitl [Hc]; · iexact Hc
    isplitl [HO]; · iexact HO
    isplitr; · iapply hO; iexact HE
    iexact Ha
  iintro ⟨HO, Ha, -, Hp⟩
  ihave Hp := (Entails.of_eq (rest_one m c k (duties_one k hk))) $$ Hp
  ihave HI := (env_inv m K c k) $$ HE
  imod (Rounds.cell_close ER (sched m) (Set.mem_univ (K (c, ik k))) (fun h => h) (duties_later m (cell c k))) $$ [HI Ha] with Hv
  · isplitl [HI] <;> iassumption
  iapply Hk
  isplitl [Hp]; · iexact Hp
  isplitl [Hv]; · iexact Hv
  iexact HO

theorem roleLv_z (i : Fin 6) : roleLv (roleOf (Role.zr i).sem) = 2 := by rw [roleOf_sem]; rfl

theorem may_zero (sm : SemLoc sig) : env m K ⊢ MayWait (c : Thread nD τ) sm () 0 := by
  have e : (MayWait (c : Thread nD τ) sm () 0 : sProp 𝕄) = iprop(emp) := MayWait_zero ..
  rw [e]; iintro -; iempintro

theorem may_recv (u : Fin 30) (n : ℕ) (hn : 6 ≤ n) (h : 6 ≤ u.val → n = 30) :
    env m K ⊢ MayWait (c : Thread nD τ) (rRole u).sem () (owe c (6 + n)) := by
  by_cases hu : u.val < 6
  · have h0 : roleLv (roleOf (rRole u).sem) = 2 := by rw [roleOf_sem]; unfold rRole; rw [dif_pos hu]; rfl
    have h1 : paysLv.drop 12 = List.replicate 24 3 := rfl
    have h2 : ∀ l ∈ paysLv.drop (6 + n), roleLv (roleOf (rRole u).sem) < l := fun l hl => by
      rw [show 6 + n = 12 + (n - 6) by omega, ← List.drop_drop] at hl
      have hl := List.mem_of_mem_drop hl
      rw [h1] at hl
      rw [(List.mem_replicate.mp hl).2, h0]; exact Nat.lt_succ_self 2
    have h3 : (levAts L lv : sProp 𝕄) ⊢ MayWait (c : Thread nD τ) (rRole u).sem () (owe c (6 + n)) := mayWait_of_lt c _ _ h2
    iintro #HE
    ihave HL := (env_lev m K) $$ HE
    iapply h3
    iexact HL
  · have e : owe c (6 + n) = 0 := by rw [h (by omega), show 6 + 30 = 36 from rfl]; exact owe_end c
    rw [e]
    exact may_zero m K c _

theorem wp_recv {α : Type} (n : ℕ) (u : Fin 30) (hn : 6 ≤ n) (h : 6 ≤ u.val → n = 30) {sem : DmaSem sig} (hs : (SemLoc.dma sem : SemLoc sig) = (rRole u).sem)
    {sp sp' : Space} {s s' : Shape} {e e' : EltTy}
    {src : Memref sig .tc sp' s' e'} {dst : Memref sig .tc sp s e} {hsrc : src.view.WordExact} {hdst : dst.view.WordExact}
    (hN : dst.view.dmaCredit = amt (rRole u)) {kt : PUnit → Prog (TpuEff nD τ sig (Elt F) Λ₀ .tc) α} {Q : α → sProp 𝕄} :
    iprop(env m K ∗ Pr1 c n u.val)
      ⊢ iprop(((Pr1 c n (u.val + 1) ∗ pay m c (rRole u) 0)
            -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 sem src dst hsrc hdst) kt) Q) := by
  unfold Pr1
  rw [rest_succ _ u, upto_succ _ u]
  iintro ⟨#HE, ⟨⟨%W, HO⟩, H1, H2, H3, ⟨Hp, H4⟩, H5⟩⟩ Hk
  iapply (wp_pend m K c (rRole u) (rRole_ne u) (may_recv m K c u n hn h) hs hN) $$ [HO Hp]
  · isplitr; · iexact HE
    isplitl [Hp]; · iexact Hp
    iexact HO
  iintro ⟨Hy, Hv, HO⟩
  iapply Hk
  isplitr [Hy]
  · isplitl [HO]; · iexists _; iexact HO
    isplitl [H1]; · iexact H1
    isplitl [H2]; · iexact H2
    isplitl [H3]; · iexact H3
    isplitl [H4]; · iexact H4
    isplitl [Hv]; · iexact Hv
    iexact H5
  iexact Hy

theorem wp_sent {α : Type} (v : Fin 30) {sem : DmaSem sig} (hs : (SemLoc.dma sem : SemLoc sig) = (wRole v).sem)
    {sp sp' : Space} {s s' : Shape} {e e' : EltTy}
    {src : Memref sig .tc sp' s' e'} {dst : Memref sig .tc sp s e} {hsrc : src.view.WordExact} {hdst : dst.view.WordExact}
    (hN : dst.view.dmaCredit = amt (wRole v)) {kt : PUnit → Prog (TpuEff nD τ sig (Elt F) Λ₀ .tc) α} {Q : α → sProp 𝕄} :
    iprop(env m K ∗ Pr2 m c v.val)
      ⊢ iprop((Pr2 m c (v.val + 1)
            -∗ wp frame (wpE (defs₀ (F := F)) 𝒱₀ (c : Thread nD τ) none) Set.univ (kt ⟨⟩) Q)
        -∗ wp frame (wpE (defs₀ (F := F)) 𝒱₀ (c : Thread nD τ) none) Set.univ (.op (.waitDma2 sem src dst hsrc hdst) kt) Q) := by
  unfold Pr2
  rw [rest_succ _ v, upto_succ _ v, upto_succ _ v]
  iintro ⟨#HE, ⟨⟨%W, HO⟩, H1, H2, ⟨Hp, H4⟩, H5, H6⟩⟩ Hk
  iapply (wp_pend m K c (wRole v) (wRole_ne v) (may_zero m K c _) hs hN) $$ [HO Hp]
  · isplitr; · iexact HE
    isplitl [Hp]; · iexact Hp
    iexact HO
  iintro ⟨Hy, Hv, HO⟩
  iapply Hk
  isplitl [HO]; · iexists _; iexact HO
  isplitl [H1]; · iexact H1
  isplitl [H2]; · iexact H2
  isplitl [H4]; · iexact H4
  isplitl [Hv H5]
  · isplitl [Hv] <;> iassumption
  isplitl [Hy] <;> iassumption

/-- A remote copy. -/
theorem wp_send {α : Type} (n : Fin 30) {t : Dev nD} (ht : t = sTo c n) {sS sR : DmaSem sig} (hS : (SemLoc.dma sS : SemLoc sig) = (sRole n).sem)
    (hR : (SemLoc.dma sR : SemLoc sig) = (dRole n).sem) {s : Shape} {e : EltTy}
    {src : Memref sig .tc .vmem s e} {dst : Memref sig (Dev.tc t : Thread nD τ).2.kind .vmem s e} {hsc : dst.view.ref.isScScratch = false}
    {hsrc : src.view.WordExact} {hdst : dst.view.WordExact}
    {hsem : DmaTarget.Typed .vmem (.dma sR) (.remote (Dev.tc t : Thread nD τ) dst (.dma sS) hsc)}
    (hN : dst.view.amount (.dma sR : SemLoc sig) = amt (dRole n)) {q : PosShare TreeShare} {fs : Buf (Elt F) (src.view.loc (c : Thread nD τ))}
    {P : sProp 𝕄} (hP : P ⊢ (src.view.loc (c : Thread nD τ) ↦[src.view.set]{q} fs))
    (hp1 : (src.view.loc (c : Thread nD τ) ↦[src.view.set]{q} fs) ⊢ pay m c (sRole n) 0)
    (hl : land (F := F) c n ⊢ iprop(∃ fd, dst.view.loc (t : Thread nD τ) ↦[dst.view.set]{fullShare} fd))
    (hp2 : ∀ fd, (dst.view.loc (t : Thread nD τ) ↦[dst.view.set]{fullShare} (dst.view.write (Elt F) fd (src.view.read (Elt F) fs) Finset.univ)) ⊢ pay m t (dRole n) 0)
    {u : ℕ} {k : PUnit → Prog (TpuEff nD τ sig (Elt F) Λ₀ .tc) α} {Q : α → sProp 𝕄} :
    iprop(env m K ∗ Pr1 c n.val u ∗ P)
      ⊢ iprop((Pr1 c (n.val + 1) u -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc t : Thread nD τ) dst (.dma sS) hsc) (.dma sR) hsrc hdst hsem) k) Q) := by
  subst ht
  have e1 : ((c : Thread nD τ), (SemLoc.dma sS : SemLoc sig)) = cell c (sRole n) := by rw [hS]
  have e2 : ((sTo c n : Thread nD τ), (SemLoc.dma sR : SemLoc sig)) = cell (sTo c n) (dRole n) := by rw [hR]
  have h1 : (0 : Fin 6) ∈ (sched m).duties ((c : Thread nD τ), (SemLoc.dma sS : SemLoc sig)) 0 := by
    rw [e1, duties_zero, duties_one _ (sRole_ne n)]; exact Finset.mem_singleton_self _
  have h2 : (0 : Fin 6) ∈ (sched m).duties ((sTo c n : Thread nD τ), (SemLoc.dma sR : SemLoc sig)) 0 := by
    rw [e2, duties_zero, duties_one _ (dRole_ne n)]; exact Finset.mem_singleton_self _
  have h3 : (sched m).amount ((c : Thread nD τ), (SemLoc.dma sS : SemLoc sig)) 0 0 = amt (dRole n) := by rw [e1, amount_eq, amt_s]
  have h4 : (sched m).amount ((sTo c n : Thread nD τ), (SemLoc.dma sR : SemLoc sig)) 0 0 = amt (dRole n) := by rw [e2, amount_eq]
  have h5 : owe c (6 + n.val) = owe c (7 + n.val) + tallyAt ((sTo c n : Thread nD τ), (SemLoc.dma sR : SemLoc sig)) () (amt (dRole n)) := by
    rw [e2]; exact owe_s c n
  have h6 : (src.view.loc (c : Thread nD τ) ↦[src.view.set]{q} fs) ⊢ (sched m).payload ((c : Thread nD τ), (SemLoc.dma sS : SemLoc sig)) 0 0 := by
    rw [e1, payload_eq]; exact hp1
  have h7 : ∀ fd, (dst.view.loc (sTo c n : Thread nD τ) ↦[dst.view.set]{fullShare} (dst.view.write (Elt F) fd (src.view.read (Elt F) fs) Finset.univ))
      ⊢ (sched m).payload ((sTo c n : Thread nD τ), (SemLoc.dma sR : SemLoc sig)) 0 0 := by
    intro fd; rw [e2, payload_eq]; exact hp2 fd
  unfold Pr1 tick
  rw [rest_succ _ n, upto_succ _ n]
  iintro ⟨#HE, ⟨⟨%W, HO⟩, H1, ⟨⟨⟨Ht1, Ht2, Ha⟩, Hl⟩, H2⟩, H3, H4, H5⟩, HP⟩ Hk
  ihave Hs := hP $$ HP
  ihave Hl := hl $$ Hl
  icases Hl with ⟨%fd, Hl⟩
  iapply (Rounds.wp_send_pointsTo 𝒱₀ ER (sched m) (c : Thread nD τ) none (c' := (sTo c n : Thread nD τ)) (sS := .dma sS) (sem := .dma sR)
      (κ₁ := K (c, ik (sRole n))) (κ₂ := K (sTo c n, ik (dRole n)))
      (r₁ := 0) (r₂ := 0) (d₁ := 0) (d₂ := 0) (fd := fd) (q := q)
      h1 h2 () () (amt (dRole n)) hN h3 h4 (O₀ := owe c (6 + n.val)) (owe c (7 + n.val)) h5 (W := W) h6 (h7 fd)) $$ [Hs Hl HO Ht1 Ht2]
  · isplitr; · rw [e1]; iapply (env_inv m K c (sRole n)); iexact HE
    isplitr; · rw [e2]; iapply (env_inv m K (sTo c n) (dRole n)); iexact HE
    isplitl [Hs]; · iexact Hs
    isplitl [Hl]; · iexact Hl
    isplitl [HO]; · iexact HO
    isplitl [Ht2]; · rw [e1]; iexact Ht2
    isplitr; · rw [e1]; iapply (env_reached m K c (sRole n)); iexact HE
    isplitl [Ht1]; · rw [e2]; iexact Ht1
    rw [e2]; iapply (env_reached m K (sTo c n) (dRole n)); iexact HE
  iintro ⟨Hc, HO⟩
  iapply Hk
  isplitl [HO]
  · iexists W; rw [show 6 + (n.val + 1) = 7 + n.val by omega]; iexact HO
  isplitl [H1]; · iexact H1
  isplitl [H2]; · iexact H2
  isplitl [Hc Ha H3]
  · isplitr [H3]
    · unfold pend
      isplitl [Hc]; · rw [amt_s, ← e1]; iexact Hc
      iexact Ha
    · iexact H3
  isplitl [H4]; · iexact H4
  iexact H5

end StepLemmas

end Cert.Mla

end
-- ==== Proof.Geom.lean ====
/-
How the buffers that are shared between devices fall into slots and tiles, and how shares of them are cut and joined.
-/
module

public import proofs.«01_k».proof.Proof.Steps

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Membership -/

theorem mem_wR (d : Fin 4) (x : S4x128x1024.Idx) : x ∈ (wR d).set ↔ (x 0).val = d.val := by
  have h1 := (x 1).isLt; have h2 := (x 2).isLt
  change _ < 128 at h1; change _ < 1024 at h2
  rw [wR, Rect.mem_set_unit]
  constructor
  · intro h; have h0 := h 0; change d.val ≤ _ ∧ _ < d.val + 1 at h0; omega
  · intro h a; fin_cases a
    · show d.val ≤ (x 0).val ∧ (x 0).val < d.val + 1; omega
    · show 0 ≤ (x 1).val ∧ (x 1).val < 0 + 128; omega
    · show 0 ≤ (x 2).val ∧ (x 2).val < 0 + 1024; omega
theorem mem_cR (d : Fin 4) (x : S4x1024x128.Idx) : x ∈ (cR d).set ↔ (x 0).val = d.val := by
  have h1 := (x 1).isLt; have h2 := (x 2).isLt
  change _ < 1024 at h1; change _ < 128 at h2
  rw [cR, Rect.mem_set_unit]
  constructor
  · intro h; have h0 := h 0; change d.val ≤ _ ∧ _ < d.val + 1 at h0; omega
  · intro h a; fin_cases a
    · show d.val ≤ (x 0).val ∧ (x 0).val < d.val + 1; omega
    · show 0 ≤ (x 1).val ∧ (x 1).val < 0 + 1024; omega
    · show 0 ≤ (x 2).val ∧ (x 2).val < 0 + 128; omega
theorem mem_gS (d : Fin 4) (x : S4x1024x512.Idx) : x ∈ (gS d).set ↔ (x 0).val = d.val := by
  have h1 := (x 1).isLt; have h2 := (x 2).isLt
  change _ < 1024 at h1; change _ < 512 at h2
  rw [gS, Rect.mem_set_unit]
  constructor
  · intro h; have h0 := h 0; change d.val ≤ _ ∧ _ < d.val + 1 at h0; omega
  · intro h a; fin_cases a
    · show d.val ≤ (x 0).val ∧ (x 0).val < d.val + 1; omega
    · show 0 ≤ (x 1).val ∧ (x 1).val < 0 + 1024; omega
    · show 0 ≤ (x 2).val ∧ (x 2).val < 0 + 512; omega
theorem mem_tR (k : Fin 2) (x : S2x512x2048.Idx) : x ∈ (tR k).set ↔ (x 0).val = k.val := by
  have h1 := (x 1).isLt; have h2 := (x 2).isLt
  change _ < 512 at h1; change _ < 2048 at h2
  rw [tR, Rect.mem_set_unit]
  constructor
  · intro h; have h0 := h 0; change k.val ≤ _ ∧ _ < k.val + 1 at h0; omega
  · intro h a; fin_cases a
    · show k.val ≤ (x 0).val ∧ (x 0).val < k.val + 1; omega
    · show 0 ≤ (x 1).val ∧ (x 1).val < 0 + 512; omega
    · show 0 ≤ (x 2).val ∧ (x 2).val < 0 + 2048; omega
theorem mem_oR (t : Fin 8) (x : S1024x512.Idx) : x ∈ (oR t).set ↔ 4 * ((x 0).val / 512) + (x 1).val / 128 = t.val := by
  have h1 := (x 0).isLt; have h2 := (x 1).isLt; have ht := t.isLt
  change _ < 1024 at h1; change _ < 512 at h2
  rw [oR, Rect.mem_set_unit]
  constructor
  · intro h; have h0 := h 0; have h1 := h 1
    change 512 * (t.val / 4) ≤ (x 0).val ∧ (x 0).val < 512 * (t.val / 4) + 512 at h0
    change 128 * (t.val % 4) ≤ (x 1).val ∧ (x 1).val < 128 * (t.val % 4) + 128 at h1
    omega
  · intro h a; fin_cases a
    · show 512 * (t.val / 4) ≤ (x 0).val ∧ (x 0).val < 512 * (t.val / 4) + 512; omega
    · show 128 * (t.val % 4) ≤ (x 1).val ∧ (x 1).val < 128 * (t.val % 4) + 128; omega
theorem mem_gR (d : Fin 4) (t : Fin 8) (x : S4x1024x512.Idx) :
    x ∈ (gR d t).set ↔ (x 0).val = d.val ∧ 4 * ((x 1).val / 512) + (x 2).val / 128 = t.val := by
  have h1 := (x 1).isLt; have h2 := (x 2).isLt; have ht := t.isLt
  change _ < 1024 at h1; change _ < 512 at h2
  rw [gR, Rect.mem_set_unit]
  constructor
  · intro h; have h0 := h 0; have h1 := h 1; have h2 := h 2
    change d.val ≤ (x 0).val ∧ (x 0).val < d.val + 1 at h0
    change 512 * (t.val / 4) ≤ (x 1).val ∧ (x 1).val < 512 * (t.val / 4) + 512 at h1
    change 128 * (t.val % 4) ≤ (x 2).val ∧ (x 2).val < 128 * (t.val % 4) + 128 at h2
    omega
  · intro h a; fin_cases a
    · show d.val ≤ (x 0).val ∧ (x 0).val < d.val + 1; omega
    · show 512 * (t.val / 4) ≤ (x 1).val ∧ (x 1).val < 512 * (t.val / 4) + 512; omega
    · show 128 * (t.val % 4) ≤ (x 2).val ∧ (x 2).val < 128 * (t.val % 4) + 128; omega

/-! ## Cutting -/

/-- A set that a numbered family of sets partitions. -/
theorem cut {ℓ : Loc nD τ sig} {T : Type} [Fintype T] {S : Finset (Idx ℓ)} {K : T → Finset (Idx ℓ)} (p : Idx ℓ → T)
    (h : ∀ t x, x ∈ K t ↔ x ∈ S ∧ p x = t) (q : PosShare TreeShare) (f : Buf (Elt F) ℓ) :
    (ℓ ↦[S]{q} f : sProp 𝕄) = bigSep Finset.univ fun t => ℓ ↦[K t]{q} f := by
  classical
  rw [← pointsTo_biUnion Finset.univ K (fun t _ t' _ htt => Finset.disjoint_left.mpr fun x hx hx' =>
    htt (((h t x).mp hx).2.symm.trans ((h t' x).mp hx').2))]
  congr 1
  ext x
  simp only [Finset.mem_biUnion, Finset.mem_univ, true_and, h]
  exact ⟨fun hx => ⟨p x, hx, rfl⟩, fun ⟨t, hx, _⟩ => hx⟩

theorem cutW (c : Dev nD) (q : PosShare TreeShare) (f : Buf (Elt F) ((c : Thread nD τ).loc cc0_scratch3)) :
    (((c : Thread nD τ).loc cc0_scratch3) ↦[Finset.univ]{q} f : sProp 𝕄) = bigSep Finset.univ fun d => wAt c d q f :=
  cut (T := Fin 4) (fun x => (x : S4x128x1024.Idx) 0) (fun d x => by
    rw [mem_wR]; exact ⟨fun h => ⟨Finset.mem_univ _, Fin.ext h⟩, fun h => congrArg Fin.val h.2⟩) q f
theorem cutC (c : Dev nD) (q : PosShare TreeShare) (f : Buf (Elt F) ((c : Thread nD τ).loc cc0_scratch1)) :
    (((c : Thread nD τ).loc cc0_scratch1) ↦[Finset.univ]{q} f : sProp 𝕄) = bigSep Finset.univ fun d => cAt c d q f :=
  cut (T := Fin 4) (fun x => (x : S4x1024x128.Idx) 0) (fun d x => by
    rw [mem_cR]; exact ⟨fun h => ⟨Finset.mem_univ _, Fin.ext h⟩, fun h => congrArg Fin.val h.2⟩) q f
theorem cutG (c : Dev nD) (f : Buf (Elt F) ((c : Thread nD τ).loc cc0_scratch10)) :
    (((c : Thread nD τ).loc cc0_scratch10) ↦[Finset.univ]{fullShare} f : sProp 𝕄) = bigSep Finset.univ fun d => gSAt c d f :=
  cut (T := Fin 4) (fun x => (x : S4x1024x512.Idx) 0) (fun d x => by
    rw [mem_gS]; exact ⟨fun h => ⟨Finset.mem_univ _, Fin.ext h⟩, fun h => congrArg Fin.val h.2⟩) _ f
theorem cutT (c : Dev nD) (f : Buf (Elt F) ((c : Thread nD τ).loc cc0_scratch11)) :
    (((c : Thread nD τ).loc cc0_scratch11) ↦[Finset.univ]{fullShare} f : sProp 𝕄) = bigSep Finset.univ fun k => tAt c k f :=
  cut (T := Fin 2) (fun x => (x : S2x512x2048.Idx) 0) (fun d x => by
    rw [mem_tR]; exact ⟨fun h => ⟨Finset.mem_univ _, Fin.ext h⟩, fun h => congrArg Fin.val h.2⟩) _ f
theorem cutO (c : Dev nD) (q : PosShare TreeShare) (f : Buf (Elt F) ((c : Thread nD τ).loc cc0_scratch9)) :
    (((c : Thread nD τ).loc cc0_scratch9) ↦[Finset.univ]{q} f : sProp 𝕄) = bigSep Finset.univ fun t => oAt c t q f :=
  cut (T := Fin 8) (fun x => ⟨4 * (((x : S1024x512.Idx) 0).val / 512) + ((x : S1024x512.Idx) 1).val / 128, by
      have h1 := ((x : S1024x512.Idx) 0).isLt; have h2 := ((x : S1024x512.Idx) 1).isLt
      change _ < 1024 at h1; change _ < 512 at h2; omega⟩) (fun t x => by
    rw [mem_oR]; exact ⟨fun h => ⟨Finset.mem_univ _, Fin.ext h⟩, fun h => congrArg Fin.val h.2⟩) q f
theorem cutGS (c : Dev nD) (d : Fin 4) (f : Buf (Elt F) ((c : Thread nD τ).loc cc0_scratch10)) :
    (gSAt c d f : sProp 𝕄) = bigSep Finset.univ fun t => gAt c d t f :=
  cut (T := Fin 8) (fun x => ⟨4 * (((x : S4x1024x512.Idx) 1).val / 512) + ((x : S4x1024x512.Idx) 2).val / 128, by
      have h1 := ((x : S4x1024x512.Idx) 1).isLt; have h2 := ((x : S4x1024x512.Idx) 2).isLt
      change _ < 1024 at h1; change _ < 512 at h2; omega⟩) (fun t x => by
    rw [mem_gR, mem_gS]; exact ⟨fun h => ⟨h.1, Fin.ext h.2⟩, fun h => ⟨h.1, congrArg Fin.val h.2⟩⟩) _ f

/-- The four quarters. -/
theorem quarters {ℓ : Loc nD τ sig} (S : Finset (Idx ℓ)) (f : Buf (Elt F) ℓ) :
    (ℓ ↦[S]{fullShare} f : sProp 𝕄) ⊣⊢ iprop((ℓ ↦[S]{qs 0} f) ∗ (ℓ ↦[S]{qs 1} f) ∗ (ℓ ↦[S]{qs 2} f) ∗ (ℓ ↦[S]{qs 3} f)) := by
  have h := pointsTo_share (Ix := Unit) (Name := ℕ) (U := UU) (Lvl := ℕ) (I := S) (f := f) (PosShare.mem_left_op_right (fullShare : PosShare TreeShare))
  have h1 := pointsTo_share (Ix := Unit) (Name := ℕ) (U := UU) (Lvl := ℕ) (I := S) (f := f) (PosShare.mem_left_op_right (fullShare : PosShare TreeShare).left)
  have h2 := pointsTo_share (Ix := Unit) (Name := ℕ) (U := UU) (Lvl := ℕ) (I := S) (f := f) (PosShare.mem_left_op_right (fullShare : PosShare TreeShare).right)
  constructor
  · iintro H
    ihave H := h.1 $$ H
    icases H with ⟨Ha, Hb⟩
    ihave Ha := h1.1 $$ Ha
    ihave Hb := h2.1 $$ Hb
    icases Ha with ⟨H0, H1⟩
    icases Hb with ⟨H2, H3⟩
    isplitl [H0]; · iexact H0
    isplitl [H1]; · iexact H1
    isplitl [H2]; · iexact H2
    iexact H3
  · iintro ⟨H0, H1, H2, H3⟩
    iapply h.2
    isplitl [H0 H1]
    · iapply h1.2; isplitl [H0]; · iexact H0
      iexact H1
    · iapply h2.2; isplitl [H2]; · iexact H2
      iexact H3

/-! ## Products over numbered families -/

theorem six (f : Fin 6 → sProp 𝕄) : bigSep Finset.univ f = iprop(f 0 ∗ f 1 ∗ f 2 ∗ f 3 ∗ f 4 ∗ f 5) := by
  rw [show (Finset.univ : Finset (Fin 6)) = {0, 1, 2, 3, 4, 5} by decide]
  rw [bigSep_insert (by decide), bigSep_insert (by decide), bigSep_insert (by decide), bigSep_insert (by decide), bigSep_insert (by decide), bigSep_singleton]
  rfl
theorem three (f : Fin 3 → sProp 𝕄) : bigSep Finset.univ f = iprop(f 0 ∗ f 1 ∗ f 2) := by
  rw [show (Finset.univ : Finset (Fin 3)) = {0, 1, 2} by decide]
  rw [bigSep_insert (by decide), bigSep_insert (by decide), bigSep_singleton]
  rfl
theorem four (f : Fin 4 → sProp 𝕄) : bigSep Finset.univ f = iprop(f 0 ∗ f 1 ∗ f 2 ∗ f 3) := by
  rw [show (Finset.univ : Finset (Fin 4)) = {0, 1, 2, 3} by decide]
  rw [bigSep_insert (by decide), bigSep_insert (by decide), bigSep_insert (by decide), bigSep_singleton]
  rfl
theorem two (f : Fin 2 → sProp 𝕄) : bigSep Finset.univ f = iprop(f 0 ∗ f 1) := by
  rw [show (Finset.univ : Finset (Fin 2)) = {0, 1} by decide]
  rw [bigSep_insert (by decide), bigSep_singleton]
  rfl
/-- The first six of thirty, and the rest. -/
theorem split30 (f : Fin 30 → sProp 𝕄) :
    bigSep Finset.univ f = iprop((bigSep Finset.univ fun i : Fin 6 => f (Fin.castAdd 24 i)) ∗ bigSep Finset.univ fun i : Fin 24 => f (Fin.natAdd 6 i)) := by
  rw [bigSep_univ_equiv (finSumFinEquiv : Fin 6 ⊕ Fin 24 ≃ Fin 30), bigSep_univ_sum]
  rfl
/-- Twenty-four as three times eight. -/
theorem split24 (f : Fin 24 → sProp 𝕄) :
    bigSep Finset.univ f = bigSep Finset.univ fun d : Fin 3 => bigSep Finset.univ fun t : Fin 8 => f ⟨8 * d.val + t.val, by omega⟩ := by
  rw [bigSep_univ_equiv (finProdFinEquiv : Fin 3 × Fin 8 ≃ Fin 24), bigSep_univ_prod]
  refine bigSep_congr fun d _ => bigSep_congr fun t _ => congrArg f (Fin.ext ?_)
  show t.val + 8 * d.val = 8 * d.val + t.val
  omega
theorem oIx_bij : Function.Bijective oIx := by
  rw [Fintype.bijective_iff_injective_and_card]; exact ⟨by decide, rfl⟩
/-- The order in which the copies are started is only an order. -/
theorem order24 (f : Fin 24 → sProp 𝕄) : (bigSep Finset.univ fun n => f (oIx n)) = bigSep Finset.univ f :=
  (bigSep_univ_equiv (Equiv.ofBijective oIx oIx_bij) f).symm

end Cert.Mla

end
-- ==== Proof.Turn.lean ====
/-
The turns of the protocol: the wait for the barrier, which brings every landing place, and the end of the arrivals.
-/
module

public import proofs.«01_k».proof.Proof.Geom

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem d_o : ∀ n : Fin 24, dRole (Fin.natAdd 6 n) = .or (oIx n) := by decide
theorem to_o (c : Dev nD) (n : Fin 24) : sTo c (Fin.natAdd 6 n) = oTo c (oIx n) := by
  have hn : ¬ (Fin.natAdd 6 n).val < 6 := by simp
  have hi : (⟨(Fin.natAdd 6 n).val - 6, by have := (Fin.natAdd 6 n).isLt; omega⟩ : Fin 24) = n := Fin.ext (by simp)
  unfold sTo
  rw [dif_neg hn, hi]

/-- The landing places of the thirty copies, as the barrier brings them. -/
theorem lands (c : Dev nD) : bigSep Finset.univ (barPay (F := F) c) ⊢ bigSep Finset.univ (land (F := F) c) := by
  have hg : ∀ e : Fin 3, (iprop(∃ f, gSAt (pf (e.val + 1) c) ⟨e.val + 1, by omega⟩ f) : sProp 𝕄)
      ⊢ bigSep Finset.univ fun t : Fin 8 => (fun i : Fin 24 => landAt (oTo c i) (.or i)) ⟨8 * e.val + t.val, by omega⟩ := by
    intro e
    have hx : ∀ f, (gSAt (pf (e.val + 1) c) ⟨e.val + 1, by omega⟩ f : sProp 𝕄)
        ⊢ bigSep Finset.univ fun t : Fin 8 => (fun i : Fin 24 => landAt (oTo c i) (.or i)) ⟨8 * e.val + t.val, by omega⟩ := by
      intro f
      rw [cutGS]
      refine bigSep_mono fun t _ => ?_
      have e1 : (8 * e.val + t.val) / 8 + 1 = e.val + 1 := by omega
      have e2 : (8 * e.val + t.val) % 8 = t.val := by omega
      show _ ⊢ iprop(∃ f, gAt (pf ((8 * e.val + t.val) / 8 + 1) c) ⟨(8 * e.val + t.val) / 8 + 1, _⟩ ⟨(8 * e.val + t.val) % 8, _⟩ f)
      have hgen : ∀ a b (ha : a < 4) (hb : b < 8), a = e.val + 1 → b = t.val →
          (gAt (pf (e.val + 1) c) ⟨e.val + 1, by omega⟩ t f : sProp 𝕄) ⊢ iprop(∃ f, gAt (pf a c) ⟨a, ha⟩ ⟨b, hb⟩ f) := by
        intro a b ha hb h1 h2
        subst h1; subst h2
        iintro H; iexists f; iexact H
      exact hgen _ _ _ _ e1 e2
    iintro ⟨%f, H⟩
    iapply (hx f); iexact H
  rw [six, split30]
  have h24 : (bigSep Finset.univ fun i : Fin 24 => land (F := F) c (Fin.natAdd 6 i)) = bigSep Finset.univ fun i : Fin 24 => landAt (F := F) (oTo c i) (.or i) := by
    rw [← order24 (fun i => landAt (F := F) (oTo c i) (.or i))]
    exact bigSep_congr fun n _ => by unfold land; rw [to_o, d_o]
  have e0 : barPay (F := F) c 0 = iprop((∃ f, wAt (zf 1 c) 1 fullShare f) ∗ (∃ f, cAt (zf 1 c) 1 fullShare f)) := rfl
  have e1 : barPay (F := F) c 1 = iprop((∃ f, wAt (zf 2 c) 2 fullShare f) ∗ (∃ f, cAt (zf 2 c) 2 fullShare f)) := rfl
  have e2 : barPay (F := F) c 2 = iprop((∃ f, wAt (zf 3 c) 3 fullShare f) ∗ (∃ f, cAt (zf 3 c) 3 fullShare f)) := rfl
  have l0 : land (F := F) c (Fin.castAdd 24 0) = iprop(∃ f, wAt (zf 1 c) 1 fullShare f) := rfl
  have l1 : land (F := F) c (Fin.castAdd 24 1) = iprop(∃ f, wAt (zf 2 c) 2 fullShare f) := rfl
  have l2 : land (F := F) c (Fin.castAdd 24 2) = iprop(∃ f, wAt (zf 3 c) 3 fullShare f) := rfl
  have l3 : land (F := F) c (Fin.castAdd 24 3) = iprop(∃ f, cAt (zf 1 c) 1 fullShare f) := rfl
  have l4 : land (F := F) c (Fin.castAdd 24 4) = iprop(∃ f, cAt (zf 2 c) 2 fullShare f) := rfl
  have l5 : land (F := F) c (Fin.castAdd 24 5) = iprop(∃ f, cAt (zf 3 c) 3 fullShare f) := rfl
  have b3 : barPay (F := F) c 3 = iprop(∃ f, gSAt (pf 1 c) 1 f) := rfl
  have b4 : barPay (F := F) c 4 = iprop(∃ f, gSAt (pf 2 c) 2 f) := rfl
  have b5 : barPay (F := F) c 5 = iprop(∃ f, gSAt (pf 3 c) 3 f) := rfl
  rw [h24, split24, three, six, e0, e1, e2, l0, l1, l2, l3, l4, l5, b3, b4, b5]
  iintro ⟨⟨Hw1, Hc1⟩, ⟨Hw2, Hc2⟩, ⟨Hw3, Hc3⟩, H1, H2, H3⟩
  isplitr [H1 H2 H3]
  · isplitl [Hw1]; · iexact Hw1
    isplitl [Hw2]; · iexact Hw2
    isplitl [Hw3]; · iexact Hw3
    isplitl [Hc1]; · iexact Hc1
    isplitl [Hc2]; · iexact Hc2
    iexact Hc3
  · isplitl [H1]; · iapply (hg 0); iexact H1
    isplitl [H2]; · iapply (hg 1); iexact H2
    iapply (hg 2); iexact H3

/-- The wait for the barrier. -/
theorem wp_barrier {α : Type} (K : Dev nD × Fin 61 → ℕ) (c : Dev nD) {k : PUnit → Prog (TpuEff nD τ sig (Elt F) Λ₀ .tc) α} {Q : α → sProp 𝕄} :
    iprop(env m K ∗ Pr0 c 6)
      ⊢ iprop((Pr1 c 0 0 -∗ wp frame (wpE (defs₀ (F := F)) 𝒱₀ (c : Thread nD τ) none) Set.univ (k ⟨⟩) Q)
        -∗ wp frame (wpE (defs₀ (F := F)) 𝒱₀ (c : Thread nD τ) none) Set.univ (.op (.semWait (sig.barrier 0 rfl) 6) k) Q) := by
  have hM : (levAts L lv : sProp 𝕄) ⊢ MayWait (c : Thread nD τ) (Role.bar).sem () (owe c 6) :=
    mayWait_of_lt c _ 6 (by rw [roleOf_sem]; decide)
  have hE : 0 + 6 = (sched m).expect ((c : Thread nD τ), (Role.bar).sem) 0 := by
    have h := expect_bar m c; rw [Nat.zero_add]; exact h.symm
  unfold Pr0 Pr1
  iintro ⟨#HE, ⟨⟨%W, HO⟩, H2, H3, ⟨Hc, Ha⟩, H5⟩⟩ Hk
  iapply (Rounds.wp_wait_rest_token 𝒱₀ ER (sched m) (c : Thread nD τ) none (κ := K (c, ik .bar)) (sm := (Role.bar).sem) (k' := 6)
      (wpE_semWait_eq 𝒱₀ (c : Thread nD τ) none Set.univ) (Set.mem_univ _) () (O := owe c 6) (W := W) (R := 0) (m := 0) (T := ∅) hE) $$ [Hc HO Ha]
  · isplitr; · iapply (env_inv m K c .bar); iexact HE
    isplitl [Hc]; · iexact Hc
    isplitl [HO]; · iexact HO
    isplitr; · iapply hM; iapply (env_lev m K); iexact HE
    iexact Ha
  iintro ⟨HO, Ha, -, Hp⟩
  ihave Hp := (Entails.of_eq (rest_bar m c)) $$ Hp
  ihave HI := (env_inv m K c .bar) $$ HE
  imod (Rounds.cell_close ER (sched m) (Set.mem_univ (K (c, ik .bar))) (fun h => h) (duties_later m (cell c .bar))) $$ [HI Ha] with Hv
  · isplitl [HI] <;> iassumption
  iapply Hk
  isplitl [HO]; · iexists _; iexact HO
  isplitl [Hv]; · iexact Hv
  isplitl [H3 Hp]
  · rw [rest_zero, bigSep_sep']
    isplitl [H3]; · iexact H3
    iapply (lands c); iexact Hp
  isplitr; · rw [upto_zero]; iempintro
  isplitl [H5]; · rw [rest_zero]; iexact H5
  rw [upto_zero]; iempintro

theorem sw_z : ∀ i : Fin 6, sRole (Fin.castAdd 24 i) = wRole (Fin.castAdd 24 i) := by decide
theorem sw_o : ∀ i : Fin 24, sRole (Fin.natAdd 6 i) = wRole (Fin.natAdd 6 (oIx i)) := by decide

/-- Once every copy is started and every arrival is in, only the departures are left. -/
theorem Pr1_Pr2 (c : Dev nD) : (Pr1 c 30 30 : sProp 𝕄) ⊢ Pr2 m c 0 := by
  unfold Pr1 Pr2
  have h1 : (bigSep Finset.univ fun n : Fin 30 => pend (F := F) c (sRole n)) = bigSep Finset.univ fun n : Fin 30 => pend (F := F) c (wRole n) := by
    rw [split30, split30, ← order24 fun i => pend (F := F) c (wRole (Fin.natAdd 6 i))]
    rw [show (fun i : Fin 6 => pend (F := F) c (sRole (Fin.castAdd 24 i))) = fun i => pend c (wRole (Fin.castAdd 24 i)) from
        funext fun i => by rw [sw_z],
      show (fun i : Fin 24 => pend (F := F) c (sRole (Fin.natAdd 6 i))) = fun i => pend c (wRole (Fin.natAdd 6 (oIx i))) from
        funext fun i => by rw [sw_o]]
  rw [upto_all, upto_all, h1]
  iintro ⟨HO, Hv, -, H3, -, H5⟩
  isplitl [HO]; · iexact HO
  isplitl [Hv]; · iexact Hv
  isplitl [H5]; · iexact H5
  isplitl [H3]; · rw [rest_zero]; iexact H3
  isplitr; · rw [upto_zero]; iempintro
  rw [upto_zero]; iempintro

end Cert.Mla

end
-- ==== Proof.Reads.lean ====
/-
What the loads read and the copies carry, element by element.
-/
module

public import proofs.«01_k».proof.Proof.Turn

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Views written whole -/

/-- Elements written through a view hold whatever contents the view reads as what was written. -/
theorem write_at {κ : Kind} {sp : Space} {s : Shape} {e : EltTy} (v : View sig κ sp s e) (fd g : v.ty.Contents (Elt F)) (w : s.Idx → Elt F e)
    (h : ∀ y, w y = v.read (Elt F) g y) : ∀ i ∈ v.set, v.write (Elt F) fd w Finset.univ i = g i := by
  intro i hi
  obtain ⟨y, -, rfl⟩ := Finset.mem_map.mp hi
  rw [View.write_emb_of_mem (h := Finset.mem_univ y), h y, View.read_apply]
  simp

/-! ## Positions under the slices -/

/-- An index into a matrix is the index into its one-slot array. -/
theorem sq {a b : ℕ} (h : (⟨2, ![a, b]⟩ : Shape).numel = (⟨3, ![1, a, b]⟩ : Shape).numel) (y : (⟨2, ![a, b]⟩ : Shape).Idx) :
    Shape.reshapeEquiv h y = (at3 0 (y 0) (y 1) : (⟨3, ![1, a, b]⟩ : Shape).Idx) :=
  Shape.reshapeEquiv_eq_of_rowMajor h (by
    rw [Shape.rowMajor_val_three, Shape.rowMajor_val_two]
    show ((0 * a + (y 0).val) * b + (y 1).val) = (y 0).val * b + (y 1).val
    rw [Nat.zero_mul, Nat.zero_add])

theorem idx2 {a b : ℕ} {i j : (⟨2, ![a, b]⟩ : Shape).Idx} (h0 : (i 0).val = (j 0).val) (h1 : (i 1).val = (j 1).val) : i = j := by
  funext x; fin_cases x <;> exact Fin.ext (by assumption)
theorem idx3 {a b d : ℕ} {i j : (⟨3, ![a, b, d]⟩ : Shape).Idx} (h0 : (i 0).val = (j 0).val) (h1 : (i 1).val = (j 1).val) (h2 : (i 2).val = (j 2).val) : i = j := by
  funext x; fin_cases x <;> exact Fin.ext (by assumption)

theorem wSl_read (d : Fin 4) (f : Vec F S4x128x1024 .bf16) (y : S128x1024.Idx) :
    (wSl d).view.read (Elt F) f y = f (at3 d (y 0) (y 1)) :=
  (congrArg (fun z => f ((wR d).emb z)) (sq squeezes_S1x128x1024_S128x1024.numel_eq y)).trans
    (congrArg f (idx3 (show d.val + 1 * 0 = d.val by omega) (show 0 + 1 * (y 0).val = (y 0).val by omega) (show 0 + 1 * (y 1).val = (y 1).val by omega)))
theorem cSl_read (d : Fin 4) (f : Vec F S4x1024x128 .bf16) (y : S1024x128.Idx) :
    (cSl d).view.read (Elt F) f y = f (at3 d (y 0) (y 1)) :=
  (congrArg (fun z => f ((cR d).emb z)) (sq squeezes_S1x1024x128_S1024x128.numel_eq y)).trans
    (congrArg f (idx3 (show d.val + 1 * 0 = d.val by omega) (show 0 + 1 * (y 0).val = (y 0).val by omega) (show 0 + 1 * (y 1).val = (y 1).val by omega)))
theorem tSl_read (k : Fin 2) (f : Vec F S2x512x2048 .f32) (y : S512x2048.Idx) :
    (tSl k).view.read (Elt F) f y = f (at3 k (y 0) (y 1)) :=
  (congrArg (fun z => f ((tR k).emb z)) (sq squeezes_S1x512x2048_S512x2048.numel_eq y)).trans
    (congrArg f (idx3 (show k.val + 1 * 0 = k.val by omega) (show 0 + 1 * (y 0).val = (y 0).val by omega) (show 0 + 1 * (y 1).val = (y 1).val by omega)))
theorem oSl_read (t : Fin 8) (f : Vec F S1024x512 .bf16) (y : S512x128.Idx) :
    (oSl t).view.read (Elt F) f y = f (at2 ⟨512 * (t.val / 4) + (y 0).val, by have := (y 0).isLt; change _ < 512 at this; omega⟩
      ⟨128 * (t.val % 4) + (y 1).val, by have := (y 1).isLt; change _ < 128 at this; omega⟩) :=
  congrArg f (idx2 (show 512 * (t.val / 4) + 1 * (y 0).val = 512 * (t.val / 4) + (y 0).val by omega)
    (show 128 * (t.val % 4) + 1 * (y 1).val = 128 * (t.val % 4) + (y 1).val by omega))
theorem gSl_read (d : Fin 4) (t : Fin 8) (f : Vec F S4x1024x512 .bf16) (y : S512x128.Idx) :
    (gSl d t).view.read (Elt F) f y = f (at3 d ⟨512 * (t.val / 4) + (y 0).val, by have := (y 0).isLt; change _ < 512 at this; omega⟩
      ⟨128 * (t.val % 4) + (y 1).val, by have := (y 1).isLt; change _ < 128 at this; omega⟩) :=
  (congrArg (fun z => f ((gR d t).emb z)) (sq squeezes_S1x512x128_S512x128.numel_eq y)).trans
    (congrArg f (idx3 (show d.val + 1 * 0 = d.val by omega)
      (show 512 * (t.val / 4) + 1 * (y 0).val = 512 * (t.val / 4) + (y 0).val by omega)
      (show 128 * (t.val % 4) + 1 * (y 1).val = 128 * (t.val % 4) + (y 1).val by omega)))

/-! ## What travels -/

theorem zf_four (c : Dev nD) : zf 4 c = c := Fin.ext (by simp only [zf]; omega)
theorem pf_four (c : Dev nD) : pf 4 c = c := Fin.ext (by have := c.isLt; simp only [nD] at this; simp only [pf]; omega)
theorem wownV_group (c : Dev nD) {c' c'' : Dev nD} (h : c'.val / 4 = c''.val / 4) : wownV m c c' = wownV m c c'' := by
  unfold wownV; simp only [h]

theorem wgV_own (c : Dev nD) (i : Fin 128) (j : Fin 1024) : wgV m c (at3 0 i j) = wownV m c c (at2 i j) := by
  show wownV m (zf 4 c) c (at2 i j) = _; rw [zf_four]
theorem cgV_own (c : Dev nD) (i : Fin 1024) (j : Fin 128) : cgV m c (at3 0 i j) = cownV m c (at3 0 i j) := by
  show cownV m (zf 4 c) (at3 0 i j) = _; rw [zf_four]

theorem w_travels (c : Dev nD) (d : Fin 4) (y : S128x1024.Idx) :
    (wSl 0).view.read (Elt F) (wgV m c) y = (wSl d).view.read (Elt F) (wgV m (zf d.val c)) y := by
  rw [wSl_read, wSl_read]
  refine (wgV_own m c _ _).trans ?_
  show _ = wownV m (zf (4 - d.val) (zf d.val c)) (zf d.val c) (at2 (y 0) (y 1))
  rw [zf_zf (by omega), wownV_group m c (zf_group d.val c)]
theorem c_travels (c : Dev nD) (d : Fin 4) (y : S1024x128.Idx) :
    (cSl 0).view.read (Elt F) (cgV m c) y = (cSl d).view.read (Elt F) (cgV m (zf d.val c)) y := by
  rw [cSl_read, cSl_read]
  refine (cgV_own m c _ _).trans ?_
  show _ = cownV m (zf (4 - d.val) (zf d.val c)) (at3 0 (y 0) (y 1))
  rw [zf_zf (by omega)]
theorem o_travels (c : Dev nD) (d : Fin 4) (t : Fin 8) (y : S512x128.Idx) :
    (oSl t).view.read (Elt F) (ooV m c) y = (gSl d t).view.read (Elt F) (ogV m (pf d.val c)) y := by
  rw [oSl_read, gSl_read]
  show _ = ooV m (pf (4 - d.val) (pf d.val c)) _
  rw [pf_pf (by omega)]

end Cert.Mla

end
-- ==== Proof.Sends.lean ====
/-
The remote copies, one lemma for each of the three families.
-/
module

public import proofs.«01_k».proof.Proof.Reads

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem sRole_w (i : Fin 3) : sRole ⟨i.val, by omega⟩ = .zs ⟨i.val, by omega⟩ := by revert i; decide
theorem dRole_w (i : Fin 3) : dRole ⟨i.val, by omega⟩ = .zr ⟨i.val, by omega⟩ := by revert i; decide
theorem sRole_c (i : Fin 3) : sRole ⟨3 + i.val, by omega⟩ = .zs ⟨3 + i.val, by omega⟩ := by revert i; decide
theorem dRole_c (i : Fin 3) : dRole ⟨3 + i.val, by omega⟩ = .zr ⟨3 + i.val, by omega⟩ := by revert i; decide
theorem sRole_o (t : Fin 8) (e : Fin 3) : sRole ⟨6 + 3 * t.val + e.val, by omega⟩ = .os ⟨8 * e.val + t.val, by omega⟩ := by revert t e; decide
theorem dRole_o (t : Fin 8) (e : Fin 3) : dRole ⟨6 + 3 * t.val + e.val, by omega⟩ = .or ⟨8 * e.val + t.val, by omega⟩ := by revert t e; decide
theorem sTo_w (c : Dev nD) (i : Fin 3) : sTo c ⟨i.val, by omega⟩ = zf (i.val + 1) c := by
  unfold sTo zTo; rw [dif_pos (show i.val < 6 by omega)]; rw [show i.val % 3 = i.val by omega]
theorem sTo_c (c : Dev nD) (i : Fin 3) : sTo c ⟨3 + i.val, by omega⟩ = zf (i.val + 1) c := by
  unfold sTo zTo; rw [dif_pos (show 3 + i.val < 6 by omega)]; rw [show (3 + i.val) % 3 = i.val by omega]
theorem sTo_o (c : Dev nD) (t : Fin 8) (e : Fin 3) : sTo c ⟨6 + 3 * t.val + e.val, by omega⟩ = pf (e.val + 1) c := by
  unfold sTo oTo oIx
  rw [dif_neg (show ¬ 6 + 3 * t.val + e.val < 6 by omega)]
  show pf (((6 + 3 * t.val + e.val - 6) % 3 * 8 + (6 + 3 * t.val + e.val - 6) / 3) / 8 + 1) c = _
  rw [show ((6 + 3 * t.val + e.val - 6) % 3 * 8 + (6 + 3 * t.val + e.val - 6) / 3) / 8 = e.val by omega]
def plc (i : Fin 3) : Fin 4 := ⟨i.val + 1, by omega⟩

theorem pay_zs_w (c : Dev nD) (i : Fin 3) : pay m c (.zs ⟨i.val, by omega⟩) 0 = wAt c 0 (qs (plc i)) (wgV m c) := by
  have h : zPlace ⟨i.val, by omega⟩ = plc i := Fin.ext (show i.val % 3 + 1 = i.val + 1 by omega)
  show (if i.val < 3 then wAt c 0 (qs (zPlace _)) (wgV m c) else _) = _
  rw [if_pos i.isLt, h]
theorem pay_zr_w (c : Dev nD) (i : Fin 3) : pay m c (.zr ⟨i.val, by omega⟩) 0 = wAt c (plc i) fullShare (wgV m c) := by
  have h : zPlace ⟨i.val, by omega⟩ = plc i := Fin.ext (show i.val % 3 + 1 = i.val + 1 by omega)
  show (if i.val < 3 then wAt c (zPlace _) fullShare (wgV m c) else _) = _
  rw [if_pos i.isLt, h]
theorem pay_zs_c (c : Dev nD) (i : Fin 3) : pay m c (.zs ⟨3 + i.val, by omega⟩) 0 = cAt c 0 (qs (plc i)) (cgV m c) := by
  have h : zPlace ⟨3 + i.val, by omega⟩ = plc i := Fin.ext (show (3 + i.val) % 3 + 1 = i.val + 1 by omega)
  show (if 3 + i.val < 3 then _ else cAt c 0 (qs (zPlace _)) (cgV m c)) = _
  rw [if_neg (by omega), h]
theorem pay_zr_c (c : Dev nD) (i : Fin 3) : pay m c (.zr ⟨3 + i.val, by omega⟩) 0 = cAt c (plc i) fullShare (cgV m c) := by
  have h : zPlace ⟨3 + i.val, by omega⟩ = plc i := Fin.ext (show (3 + i.val) % 3 + 1 = i.val + 1 by omega)
  show (if 3 + i.val < 3 then _ else cAt c (zPlace _) fullShare (cgV m c)) = _
  rw [if_neg (by omega), h]
theorem pay_os (c : Dev nD) (t : Fin 8) (e : Fin 3) : pay m c (.os ⟨8 * e.val + t.val, by omega⟩) 0 = oAt c t (qs (plc e)) (ooV m c) := by
  have h : oPlace ⟨8 * e.val + t.val, by omega⟩ = plc e := Fin.ext (show (8 * e.val + t.val) / 8 + 1 = e.val + 1 by omega)
  have h' : oTile ⟨8 * e.val + t.val, by omega⟩ = t := Fin.ext (show (8 * e.val + t.val) % 8 = t.val by omega)
  show oAt c (oTile _) (qs (oPlace _)) (ooV m c) = _
  rw [h, h']
theorem pay_or (c : Dev nD) (t : Fin 8) (e : Fin 3) : pay m c (.or ⟨8 * e.val + t.val, by omega⟩) 0 = gAt c (plc e) t (ogV m c) := by
  have h : oPlace ⟨8 * e.val + t.val, by omega⟩ = plc e := Fin.ext (show (8 * e.val + t.val) / 8 + 1 = e.val + 1 by omega)
  have h' : oTile ⟨8 * e.val + t.val, by omega⟩ = t := Fin.ext (show (8 * e.val + t.val) % 8 = t.val by omega)
  show gAt c (oPlace _) (oTile _) (ogV m c) = _
  rw [h, h']
theorem land_w (c : Dev nD) (i : Fin 3) : land (F := F) c ⟨i.val, by omega⟩ = iprop(∃ f, wAt (zf (i.val + 1) c) (plc i) fullShare f) := by
  have h : zPlace ⟨i.val, by omega⟩ = plc i := Fin.ext (show i.val % 3 + 1 = i.val + 1 by omega)
  unfold land
  rw [dRole_w, sTo_w]
  show (if i.val < 3 then iprop(∃ f, wAt (zf (i.val + 1) c) (zPlace _) fullShare f) else _) = _
  rw [if_pos i.isLt, h]
theorem land_c (c : Dev nD) (i : Fin 3) : land (F := F) c ⟨3 + i.val, by omega⟩ = iprop(∃ f, cAt (zf (i.val + 1) c) (plc i) fullShare f) := by
  have h : zPlace ⟨3 + i.val, by omega⟩ = plc i := Fin.ext (show (3 + i.val) % 3 + 1 = i.val + 1 by omega)
  unfold land
  rw [dRole_c, sTo_c]
  show (if 3 + i.val < 3 then _ else iprop(∃ f, cAt (zf (i.val + 1) c) (zPlace _) fullShare f)) = _
  rw [if_neg (by omega), h]
theorem land_o (c : Dev nD) (t : Fin 8) (e : Fin 3) :
    land (F := F) c ⟨6 + 3 * t.val + e.val, by omega⟩ = iprop(∃ f, gAt (pf (e.val + 1) c) (plc e) t f) := by
  have h : oPlace ⟨8 * e.val + t.val, by omega⟩ = plc e := Fin.ext (show (8 * e.val + t.val) / 8 + 1 = e.val + 1 by omega)
  have h' : oTile ⟨8 * e.val + t.val, by omega⟩ = t := Fin.ext (show (8 * e.val + t.val) % 8 = t.val by omega)
  unfold land
  rw [dRole_o, sTo_o]
  show iprop(∃ f, gAt (pf (e.val + 1) c) (oPlace _) (oTile _) f) = _
  rw [h, h']

section
variable {α : Type} (K : Dev nD × Fin 61 → ℕ) (c : Dev nD)

theorem send_w (i : Fin 3) {n n' u : ℕ} (hn : n = i.val) (hn' : n' = n + 1) {t : Dev nD} (ht : t = zf (i.val + 1) c) {sS sR : DmaSem sig}
    (hS : (SemLoc.dma sS : SemLoc sig) = (Role.zs ⟨i.val, by omega⟩).sem) (hR : (SemLoc.dma sR : SemLoc sig) = (Role.zr ⟨i.val, by omega⟩).sem)
    {src dst : Memref sig .tc .vmem S128x1024 .bf16} (hs : src = wSl 0) (hd : dst = wSl (plc i))
    {hsc : dst.view.ref.isScScratch = false} {hsrc : src.view.WordExact} {hdst : dst.view.WordExact}
    {hsem : DmaTarget.Typed .vmem (.dma sR) (.remote (Dev.tc t : Thread nD τ) dst (.dma sS) hsc)}
    {k : PUnit → Prog (TpuEff nD τ sig (Elt F) Λ₀ .tc) α} {Q : α → sProp 𝕄} :
    iprop(env m K ∗ Pr1 c n u ∗ wAt c 0 (qs (plc i)) (wgV m c))
      ⊢ iprop((Pr1 c n' u -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc t : Thread nD τ) dst (.dma sS) hsc) (.dma sR) hsrc hdst hsem) k) Q) := by
  subst hs; subst hd; subst ht; subst hn'; subst hn
  refine wp_send m K c ⟨i.val, by omega⟩ (sTo_w c i).symm (hS.trans (by rw [sRole_w])) (hR.trans (by rw [dRole_w])) ?_
    (q := qs (plc i)) (fs := wgV m c) (P := wAt c 0 (qs (plc i)) (wgV m c)) ?_ ?_ ?_ ?_
  · rw [dRole_w]
    show _ = (if i.val < 3 then Nw else Nc)
    rw [if_pos i.isLt]
  · rw [wSl_set]
  · rw [sRole_w, pay_zs_w, wSl_set]
  · rw [land_w, wSl_set]
  · intro fd
    rw [dRole_w, pay_zr_w]
    refine Entails.of_eq ((pointsTo_congr (write_at (wSl (plc i)).view fd (wgV m (zf (i.val + 1) c)) _ fun y => w_travels m c (plc i) y)).trans ?_)
    rw [wSl_set]

theorem send_c (i : Fin 3) {n n' u : ℕ} (hn : n = 3 + i.val) (hn' : n' = n + 1) {t : Dev nD} (ht : t = zf (i.val + 1) c) {sS sR : DmaSem sig}
    (hS : (SemLoc.dma sS : SemLoc sig) = (Role.zs ⟨3 + i.val, by omega⟩).sem) (hR : (SemLoc.dma sR : SemLoc sig) = (Role.zr ⟨3 + i.val, by omega⟩).sem)
    {src dst : Memref sig .tc .vmem S1024x128 .bf16} (hs : src = cSl 0) (hd : dst = cSl (plc i))
    {hsc : dst.view.ref.isScScratch = false} {hsrc : src.view.WordExact} {hdst : dst.view.WordExact}
    {hsem : DmaTarget.Typed .vmem (.dma sR) (.remote (Dev.tc t : Thread nD τ) dst (.dma sS) hsc)}
    {k : PUnit → Prog (TpuEff nD τ sig (Elt F) Λ₀ .tc) α} {Q : α → sProp 𝕄} :
    iprop(env m K ∗ Pr1 c n u ∗ cAt c 0 (qs (plc i)) (cgV m c))
      ⊢ iprop((Pr1 c n' u -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc t : Thread nD τ) dst (.dma sS) hsc) (.dma sR) hsrc hdst hsem) k) Q) := by
  subst hs; subst hd; subst ht; subst hn'; subst hn
  refine wp_send m K c ⟨3 + i.val, by omega⟩ (sTo_c c i).symm (hS.trans (by rw [sRole_c])) (hR.trans (by rw [dRole_c])) ?_
    (q := qs (plc i)) (fs := cgV m c) (P := cAt c 0 (qs (plc i)) (cgV m c)) ?_ ?_ ?_ ?_
  · rw [dRole_c]
    show _ = (if 3 + i.val < 3 then Nw else Nc)
    rw [if_neg (by omega)]
  · rw [cSl_set]
  · rw [sRole_c, pay_zs_c, cSl_set]
  · rw [land_c, cSl_set]
  · intro fd
    rw [dRole_c, pay_zr_c]
    refine Entails.of_eq ((pointsTo_congr (write_at (cSl (plc i)).view fd (cgV m (zf (i.val + 1) c)) _ fun y => c_travels m c (plc i) y)).trans ?_)
    rw [cSl_set]

theorem send_o (t : Fin 8) (e : Fin 3) {n n' u : ℕ} (hn : n = 6 + 3 * t.val + e.val) (hn' : n' = n + 1) {t' : Dev nD} (ht : t' = pf (e.val + 1) c)
    {sS sR : DmaSem sig}
    (hS : (SemLoc.dma sS : SemLoc sig) = (Role.os ⟨8 * e.val + t.val, by omega⟩).sem) (hR : (SemLoc.dma sR : SemLoc sig) = (Role.or ⟨8 * e.val + t.val, by omega⟩).sem)
    {src dst : Memref sig .tc .vmem S512x128 .bf16} (hs : src = oSl t) (hd : dst = gSl (plc e) t)
    {hsc : dst.view.ref.isScScratch = false} {hsrc : src.view.WordExact} {hdst : dst.view.WordExact}
    {hsem : DmaTarget.Typed .vmem (.dma sR) (.remote (Dev.tc t' : Thread nD τ) dst (.dma sS) hsc)}
    {k : PUnit → Prog (TpuEff nD τ sig (Elt F) Λ₀ .tc) α} {Q : α → sProp 𝕄} :
    iprop(env m K ∗ Pr1 c n u ∗ oAt c t (qs (plc e)) (ooV m c))
      ⊢ iprop((Pr1 c n' u -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc t' : Thread nD τ) dst (.dma sS) hsc) (.dma sR) hsrc hdst hsem) k) Q) := by
  subst hs; subst hd; subst ht; subst hn'; subst hn
  refine wp_send m K c ⟨6 + 3 * t.val + e.val, by omega⟩ (sTo_o c t e).symm (hS.trans (by rw [sRole_o])) (hR.trans (by rw [dRole_o])) ?_
    (q := qs (plc e)) (fs := ooV m c) (P := oAt c t (qs (plc e)) (ooV m c)) ?_ ?_ ?_ ?_
  · rw [dRole_o]; rfl
  · rw [oSl_set]
  · rw [sRole_o, pay_os, oSl_set]
  · rw [land_o, gSl_set]
  · intro fd
    rw [dRole_o, pay_or]
    refine Entails.of_eq ((pointsTo_congr (write_at (gSl (plc e) t).view fd (ogV m (pf (e.val + 1) c)) _ fun y => o_travels m c (plc e) t y)).trans ?_)
    rw [gSl_set]

end

end Cert.Mla

end
-- ==== Proof.Moves.lean ====
/-
Loads, stores and local copies, by the contents they read and leave.
-/
module

public import proofs.«01_k».proof.Proof.Sends

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A program on device `c`, run to `Q`. -/
abbrev go (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Some contents of elements of a buffer, of which `φ` holds. -/
def Sm (c : Dev nD) {cs : CoreSpace} {s : Shape} {e : EltTy} (μ : Memref sig .tc cs s e) (S : Finset (Idx (μ.view.loc (c : Thread nD τ))))
    (φ : Buf (Elt F) (μ.view.loc (c : Thread nD τ)) → Prop) : sProp 𝕄 :=
  iprop(∃ f, ⌜φ f⌝ ∗ ((μ.view.loc (c : Thread nD τ)) ↦[S]{fullShare} f))

section Rules
variable (c : Dev nD) {cs : CoreSpace} {s : Shape} {e : EltTy} {μ : Memref sig .tc cs s e}

/-- A load reads what the held contents read. -/
theorem wp_ld {α : Type} {r : LoadRect s} {hl : μ.view.LoadsAt r} {S : Finset (Idx (μ.view.loc (c : Thread nD τ)))} {q : PosShare TreeShare}
    {f : Buf (Elt F) (μ.view.loc (c : Thread nD τ))} (hS : μ.view.setOn r.set ⊆ S) {v : r.shape.Idx → Elt F e} (hv : μ.view.readAt (Elt F) r f = v)
    {k : (r.shape.Idx → Elt F e) → Prog (TpuEff nD τ sig (Elt F) Λ₀ .tc) α} {Q : α → sProp 𝕄} :
    ((μ.view.loc (c : Thread nD τ)) ↦[S]{q} f : sProp 𝕄)
      ⊢ iprop((((μ.view.loc (c : Thread nD τ)) ↦[S]{q} f) -∗ go c (k v) Q) -∗ go c (.op (.load μ r hl) k) Q) := by
  subst hv
  exact wp_load 𝒱₀ (c : Thread nD τ) none Set.univ hS

/-- A load whose value is not used. -/
theorem wp_dead {α : Type} {r : LoadRect s} {hl : μ.view.LoadsAt r} {S : Finset (Idx (μ.view.loc (c : Thread nD τ)))}
    {φ : Buf (Elt F) (μ.view.loc (c : Thread nD τ)) → Prop} (hS : μ.view.setOn r.set ⊆ S)
    {k : (r.shape.Idx → Elt F e) → Prog (TpuEff nD τ sig (Elt F) Λ₀ .tc) α} {Q : α → sProp 𝕄} :
    (Sm c μ S φ : sProp 𝕄) ⊢ iprop((∀ v, Sm c μ S φ -∗ go c (k v) Q) -∗ go c (.op (.load μ r hl) k) Q) := by
  unfold Sm
  iintro ⟨%f, %hf, H⟩ Hk
  iapply (wp_ld c (v := μ.view.readAt (Elt F) r f) hS rfl) $$ H
  iintro H
  iapply Hk
  iexists f
  isplitr; · ipureintro; exact hf
  iexact H

/-- A load of what is known of the contents. -/
theorem wp_lds {α : Type} {r : LoadRect s} {hl : μ.view.LoadsAt r} {S : Finset (Idx (μ.view.loc (c : Thread nD τ)))}
    {φ : Buf (Elt F) (μ.view.loc (c : Thread nD τ)) → Prop} (hS : μ.view.setOn r.set ⊆ S)
    {v : r.shape.Idx → Elt F e} (hv : ∀ f, φ f → μ.view.readAt (Elt F) r f = v)
    {k : (r.shape.Idx → Elt F e) → Prog (TpuEff nD τ sig (Elt F) Λ₀ .tc) α} {Q : α → sProp 𝕄} :
    (Sm c μ S φ : sProp 𝕄) ⊢ iprop((Sm c μ S φ -∗ go c (k v) Q) -∗ go c (.op (.load μ r hl) k) Q) := by
  unfold Sm
  iintro ⟨%f, %hf, H⟩ Hk
  iapply (wp_ld c (v := v) hS (hv f hf)) $$ H
  iintro H
  iapply Hk
  iexists f
  isplitr; · ipureintro; exact hf
  iexact H

/-- A store turns one property of the contents into another. -/
theorem wp_st {α : Type} {r : Rect s} {w : r.shape.Idx → Elt F e} {hx : (μ.access r).Stores Finset.univ}
    {hm : (Finset.univ : Finset r.shape.Idx) = Finset.univ ∨ ∀ a, r.stride a = 1} {S : Finset (Idx (μ.view.loc (c : Thread nD τ)))}
    {φ : Buf (Elt F) (μ.view.loc (c : Thread nD τ)) → Prop} (ψ : Buf (Elt F) (μ.view.loc (c : Thread nD τ)) → Prop)
    (hS : (μ.access r).setOn Finset.univ ⊆ S) (h : ∀ f, φ f → ψ ((μ.access r).write (Elt F) f w Finset.univ))
    {k : PUnit → Prog (TpuEff nD τ sig (Elt F) Λ₀ .tc) α} {Q : α → sProp 𝕄} :
    (Sm c μ S φ : sProp 𝕄) ⊢ iprop((Sm c μ S ψ -∗ go c (k ⟨⟩) Q) -∗ go c (.op (.store μ r w Finset.univ hx hm) k) Q) := by
  unfold Sm
  iintro ⟨%f, %hf, H⟩ Hk
  iapply (wp_store 𝒱₀ (c : Thread nD τ) none Set.univ hS) $$ H
  iintro H
  iapply Hk
  iexists _
  isplitr
  · ipureintro; exact h f hf
  iexact H

/-- A store of all that is held leaves the contents that read as what was stored. -/
theorem wp_stx {α : Type} {r : Rect s} {w : r.shape.Idx → Elt F e} {hx : (μ.access r).Stores Finset.univ}
    {hm : (Finset.univ : Finset r.shape.Idx) = Finset.univ ∨ ∀ a, r.stride a = 1} {S : Finset (Idx (μ.view.loc (c : Thread nD τ)))}
    {φ : Buf (Elt F) (μ.view.loc (c : Thread nD τ)) → Prop} (g : Buf (Elt F) (μ.view.loc (c : Thread nD τ)))
    (hS : (μ.access r).set = S) (h : ∀ y, w y = (μ.access r).read (Elt F) g y)
    {k : PUnit → Prog (TpuEff nD τ sig (Elt F) Λ₀ .tc) α} {Q : α → sProp 𝕄} :
    (Sm c μ S φ : sProp 𝕄) ⊢ iprop((((μ.view.loc (c : Thread nD τ)) ↦[S]{fullShare} g) -∗ go c (k ⟨⟩) Q)
      -∗ go c (.op (.store μ r w Finset.univ hx hm) k) Q) := by
  subst hS
  unfold Sm
  iintro ⟨%f, %hf, H⟩ Hk
  iapply (wp_store 𝒱₀ (c : Thread nD τ) none Set.univ (m := μ) (r := r) (S := (μ.access r).set) (by rw [View.setOn_univ])) $$ H
  iintro H
  iapply Hk
  iapply (Entails.of_eq (pointsTo_congr (write_at (μ.access r) f g w h))) $$ H

end Rules

/-! ## Local copies -/

/-- A local copy in flight, which leaves `D` when waited for. -/
def Fl (c : Dev nD) (i : Fin 4) (N : ℕ) (D : sProp 𝕄) : sProp 𝕄 :=
  Transfers.Flight countersEmb (c : Thread nD τ) (.dma (⟨65 + i.val, by have := i.isLt; change _ < 69; omega⟩ : DmaSem sig)) () N D
/-- The semaphore of local copy `i`, at rest. -/
abbrev Lz (c : Dev nD) (i : Fin 4) : sProp 𝕄 :=
  semVal ((c : Thread nD τ), (.dma (⟨65 + i.val, by have := i.isLt; change _ < 69; omega⟩ : DmaSem sig) : SemLoc sig)) 0

theorem wp_cp {α : Type} (c : Dev nD) (i : Fin 4) {sp sp' : Space} {s : Shape} {e : EltTy} {src : Memref sig .tc sp s e} {dst : Memref sig .tc sp' s e}
    {sm : DmaSem sig} (hsm : sm = (⟨65 + i.val, by have := i.isLt; change _ < 69; omega⟩ : DmaSem sig)) {hsrc : src.view.WordExact} {hdst : dst.view.WordExact}
    {hsem : DmaTarget.Typed (nD := nD) (τ := τ) (p := .tc) sp (SemLoc.dma sm) (.here dst)} {N : ℕ} (hN : dst.view.dmaCredit = N) (hN0 : 0 < N)
    {S : Finset (Idx (src.view.loc (c : Thread nD τ)))} {T : Finset (Idx (dst.view.loc (c : Thread nD τ)))} (hS : src.view.set = S) (hT : dst.view.set = T)
    {q : PosShare TreeShare} {fs : Buf (Elt F) (src.view.loc (c : Thread nD τ))} (g : Buf (Elt F) (dst.view.loc (c : Thread nD τ)))
    (h : ∀ y, src.view.read (Elt F) fs y = dst.view.read (Elt F) g y)
    {k : PUnit → Prog (TpuEff nD τ sig (Elt F) Λ₀ .tc) α} {Q : α → sProp 𝕄} :
    iprop(((src.view.loc (c : Thread nD τ)) ↦[S]{q} fs) ∗ (∃ fd, (dst.view.loc (c : Thread nD τ)) ↦[T]{fullShare} fd) ∗ Lz c i)
      ⊢ iprop((Fl c i N iprop(((dst.view.loc (c : Thread nD τ)) ↦[T]{fullShare} g) ∗ ((src.view.loc (c : Thread nD τ)) ↦[S]{q} fs)) -∗ go c (k ⟨⟩) Q)
        -∗ go c (.op (.enqueueDma src (.here dst) (.dma sm) hsrc hdst hsem) k) Q) := by
  subst hsm; subst hS; subst hT
  iintro ⟨Hs, ⟨%fd, Hd⟩, Hv⟩ Hk
  iapply (Transfers.wp_dmaLocal countersEmb 𝒱₀ (c : Thread nD τ) none (src := src) (dst := dst) () N (show dst.view.amount (SemLoc.dma (⟨65 + i.val, _⟩ : DmaSem sig)) = N from hN) hN0 (Finset.Subset.refl _)) $$ [Hs Hd Hv]
  · isplitl [Hs]; · iexact Hs
    isplitl [Hd]; · iexact Hd
    iexact Hv
  iintro HF
  iapply Hk
  unfold Fl
  refine Transfers.Flight_mono _ _ ?_
  refine sep_mono_left ?_
  exact Entails.of_eq (pointsTo_congr (write_at dst.view fd g _ h))

theorem roleOf_local (q : DmaSem sig) (h : 65 ≤ q.val) : roleOf (.dma q) = none := by
  unfold roleOf
  dsimp only
  rw [dif_neg (by omega), dif_neg (by omega), dif_neg (by omega), dif_neg (by omega), dif_neg (by omega)]

theorem wp_lw {α : Type} (K : Dev nD × Fin 61 → ℕ) (c : Dev nD) (i : Fin 4) {sp sp' : Space} {s s' : Shape} {e e' : EltTy} {src : Memref sig .tc sp' s' e'} {dst : Memref sig .tc sp s e}
    {sm : DmaSem sig} (hsm : sm = (⟨65 + i.val, by have := i.isLt; change _ < 69; omega⟩ : DmaSem sig)) {hsrc : src.view.WordExact} {hdst : dst.view.WordExact}
    {N : ℕ} (hN : dst.view.dmaCredit = N) {n u : ℕ} {D : sProp 𝕄}
    {k : PUnit → Prog (TpuEff nD τ sig (Elt F) Λ₀ .tc) α} {Q : α → sProp 𝕄} :
    iprop(env m K ∗ Pr1 c n u ∗ Fl c i N D)
      ⊢ iprop((iprop(Pr1 c n u ∗ D ∗ Lz c i) -∗ go c (k ⟨⟩) Q)
        -∗ go c (.op (.waitDma2 sm src dst hsrc hdst) k) Q) := by
  subst hsm
  have hr : roleLv (roleOf (.dma (⟨65 + i.val, by have := i.isLt; change _ < 69; omega⟩ : DmaSem sig))) = 0 := by
    rw [roleOf_local _ (Nat.le_add_right 65 i.val)]; rfl
  unfold Pr1 Fl
  iintro ⟨#HE, ⟨⟨%W, HO⟩, HR⟩, HF⟩ Hk
  iapply (Transfers.wp_waitLocalO countersEmb 𝒱₀ (c : Thread nD τ) none () hN) $$ [HF HO]
  · isplitl [HF]; · iexact HF
    isplitl [HO]; · iexact HO
    iapply ((env_lev m K).trans (mayWait_dma0 c _ hr (6 + n))) $$ HE
  iintro ⟨HD, Hv, HO⟩
  iapply Hk
  isplitl [HO HR]
  · isplitl [HO]
    · iexists _; iexact HO
    iexact HR
  isplitl [HD]; · iexact HD
  iexact Hv

end Cert.Mla

end
-- ==== Proof.Touch.lean ====
/-
The loads and stores of each buffer, at the contents the kernel gives them.
-/
module

public import proofs.«01_k».proof.Proof.Moves

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A whole buffer of device `c`. -/
abbrev own (c : Dev nD) (b : Ref sig .tc) (q : PosShare TreeShare) (f : Buf (Elt F) ((c : Thread nD τ).loc b)) : sProp 𝕄 :=
  ((c : Thread nD τ).loc b) ↦[Finset.univ]{q} f
/-- A whole buffer of device `c` with any contents. -/
abbrev any (c : Dev nD) (b : Ref sig .tc) : sProp 𝕄 := iprop(∃ f, own (F := F) c b fullShare f)

section Loads
variable (c : Dev nD)

theorem ld_x {α : Type} {Q : α → sProp 𝕄} {q : PosShare TreeShare} {inb hl k} :
    own c cc0_scratch0 q (xV m c) ⊢ iprop((own c cc0_scratch0 q (xV m c) -∗ go c (k (xV m c)) Q)
      -∗ go c (.op (.load xM (Rect.unit (s := S2x512x2048) ![0, 0, 0] S2x512x2048.size inb).toLoadRect hl) k) Q) :=
  wp_ld c (μ := xM) (r := (Rect.unit (s := S2x512x2048) ![0, 0, 0] S2x512x2048.size inb).toLoadRect) (f := xV m c) (v := (xV m c)) (Finset.subset_univ _) (funext fun y => congrArg (xV m c) (idx3 (show 0 + 1 * (y 0).val = (y 0).val by omega) (show 0 + 1 * (y 1).val = (y 1).val by omega) (show 0 + 1 * (y 2).val = (y 2).val by omega)))
theorem ld_wdkv {α : Type} {Q : α → sProp 𝕄} {q : PosShare TreeShare} {inb hl k} :
    own c cc0_stg0_0 q (wdkvV m c) ⊢ iprop((own c cc0_stg0_0 q (wdkvV m c) -∗ go c (k (wdkvV m c)) Q)
      -∗ go c (.op (.load wdkvM (Rect.unit (s := S2048x128) ![0, 0] S2048x128.size inb).toLoadRect hl) k) Q) :=
  wp_ld c (μ := wdkvM) (r := (Rect.unit (s := S2048x128) ![0, 0] S2048x128.size inb).toLoadRect) (f := wdkvV m c) (v := (wdkvV m c)) (Finset.subset_univ _) (funext fun y => congrArg (wdkvV m c) (idx2 (show 0 + 1 * (y 0).val = (y 0).val by omega) (show 0 + 1 * (y 1).val = (y 1).val by omega)))
theorem ld_wkr {α : Type} {Q : α → sProp 𝕄} {q : PosShare TreeShare} {inb hl k} :
    own c cc0_stg3_0 q (wkrV m c) ⊢ iprop((own c cc0_stg3_0 q (wkrV m c) -∗ go c (k (wkrV m c)) Q)
      -∗ go c (.op (.load wkrM (Rect.unit (s := S2048x32) ![0, 0] S2048x32.size inb).toLoadRect hl) k) Q) :=
  wp_ld c (μ := wkrM) (r := (Rect.unit (s := S2048x32) ![0, 0] S2048x32.size inb).toLoadRect) (f := wkrV m c) (v := (wkrV m c)) (Finset.subset_univ _) (funext fun y => congrArg (wkrV m c) (idx2 (show 0 + 1 * (y 0).val = (y 0).val by omega) (show 0 + 1 * (y 1).val = (y 1).val by omega)))
theorem ld_qt {α : Type} {Q : α → sProp 𝕄} {q : PosShare TreeShare} {inb hl k} :
    own c cc0_scratch4 q (qtV m c) ⊢ iprop((own c cc0_scratch4 q (qtV m c) -∗ go c (k (qtV m c)) Q)
      -∗ go c (.op (.load qtM (Rect.unit (s := S2048x512) ![0, 0] S2048x512.size inb).toLoadRect hl) k) Q) :=
  wp_ld c (μ := qtM) (r := (Rect.unit (s := S2048x512) ![0, 0] S2048x512.size inb).toLoadRect) (f := qtV m c) (v := (qtV m c)) (Finset.subset_univ _) (funext fun y => congrArg (qtV m c) (idx2 (show 0 + 1 * (y 0).val = (y 0).val by omega) (show 0 + 1 * (y 1).val = (y 1).val by omega)))
theorem ld_qrt {α : Type} {Q : α → sProp 𝕄} {q : PosShare TreeShare} {inb hl k} :
    own c cc0_scratch6 q (qrtV m c) ⊢ iprop((own c cc0_scratch6 q (qrtV m c) -∗ go c (k (qrtV m c)) Q)
      -∗ go c (.op (.load qrtM (Rect.unit (s := S2048x128) ![0, 0] S2048x128.size inb).toLoadRect hl) k) Q) :=
  wp_ld c (μ := qrtM) (r := (Rect.unit (s := S2048x128) ![0, 0] S2048x128.size inb).toLoadRect) (f := qrtV m c) (v := (qrtV m c)) (Finset.subset_univ _) (funext fun y => congrArg (qrtV m c) (idx2 (show 0 + 1 * (y 0).val = (y 0).val by omega) (show 0 + 1 * (y 1).val = (y 1).val by omega)))
theorem ld_oo {α : Type} {Q : α → sProp 𝕄} {q : PosShare TreeShare} {inb hl k} :
    own c cc0_scratch9 q (ooV m c) ⊢ iprop((own c cc0_scratch9 q (ooV m c) -∗ go c (k (ooV m c)) Q)
      -∗ go c (.op (.load ooM (Rect.unit (s := S1024x512) ![0, 0] S1024x512.size inb).toLoadRect hl) k) Q) :=
  wp_ld c (μ := ooM) (r := (Rect.unit (s := S1024x512) ![0, 0] S1024x512.size inb).toLoadRect) (f := ooV m c) (v := (ooV m c)) (Finset.subset_univ _) (funext fun y => congrArg (ooV m c) (idx2 (show 0 + 1 * (y 0).val = (y 0).val by omega) (show 0 + 1 * (y 1).val = (y 1).val by omega)))

theorem ld_wuk {α : Type} {Q : α → sProp 𝕄} (n : ℕ) (hn : n < 16) {q : PosShare TreeShare} {off : Fin 2 → ℕ} (ho : off = ![0, 128 * n]) {inb hl k} :
    own c cc0_stg1_0 q (wukV m c) ⊢ iprop((own c cc0_stg1_0 q (wukV m c) -∗ go c (k (blkW (wukV m c) n hn)) Q)
      -∗ go c (.op (.load wukM (Rect.unit (s := S128x2048) off S128x128.size inb).toLoadRect hl) k) Q) := by
  subst ho
  exact wp_ld c (μ := wukM) (r := (Rect.unit (s := S128x2048) ![0, 128 * n] S128x128.size inb).toLoadRect) (f := wukV m c) (v := (blkW (wukV m c) n hn)) (Finset.subset_univ _) (funext fun y => congrArg (wukV m c) (idx2 (show 0 + 1 * (y 0).val = (y 0).val by omega) (show 128 * n + 1 * (y 1).val = 128 * n + (y 1).val by omega)))
theorem ld_wuv {α : Type} {Q : α → sProp 𝕄} (n : ℕ) (hn : n < 16) {q : PosShare TreeShare} {off : Fin 2 → ℕ} (ho : off = ![0, 128 * n]) {inb hl k} :
    own c cc0_stg2_0 q (wuvV m c) ⊢ iprop((own c cc0_stg2_0 q (wuvV m c) -∗ go c (k (blkW (wuvV m c) n hn)) Q)
      -∗ go c (.op (.load wuvM (Rect.unit (s := S128x2048) off S128x128.size inb).toLoadRect hl) k) Q) := by
  subst ho
  exact wp_ld c (μ := wuvM) (r := (Rect.unit (s := S128x2048) ![0, 128 * n] S128x128.size inb).toLoadRect) (f := wuvV m c) (v := (blkW (wuvV m c) n hn)) (Finset.subset_univ _) (funext fun y => congrArg (wuvV m c) (idx2 (show 0 + 1 * (y 0).val = (y 0).val by omega) (show 128 * n + 1 * (y 1).val = 128 * n + (y 1).val by omega)))
theorem ld_q {α : Type} {Q : α → sProp 𝕄} (b : Fin 2) (h : Fin 4) {q : PosShare TreeShare} {off : Fin 2 → ℕ} (ho : off = ![512 * b.val, 128 * h.val]) {inb hl k} :
    own c cc0_scratch5 q (qV m c) ⊢ iprop((own c cc0_scratch5 q (qV m c) -∗ go c (k (qB m c b h)) Q)
      -∗ go c (.op (.load qM (Rect.unit (s := S1024x512) off S512x128.size inb).toLoadRect hl) k) Q) := by
  subst ho
  exact wp_ld c (μ := qM) (r := (Rect.unit (s := S1024x512) ![512 * b.val, 128 * h.val] S512x128.size inb).toLoadRect) (f := qV m c) (v := (qB m c b h)) (Finset.subset_univ _) (funext fun y => congrArg (qV m c) (idx2 (show 512 * b.val + 1 * (y 0).val = 512 * b.val + (y 0).val by omega) (show 128 * h.val + 1 * (y 1).val = 128 * h.val + (y 1).val by omega)))
theorem ld_qr {α : Type} {Q : α → sProp 𝕄} (b : Fin 2) (h : Fin 4) {q : PosShare TreeShare} {off : Fin 2 → ℕ} (ho : off = ![512 * b.val, 32 * h.val]) {inb hl k} :
    own c cc0_scratch7 q (qrV m c) ⊢ iprop((own c cc0_scratch7 q (qrV m c) -∗ go c (k (qrB m c b h)) Q)
      -∗ go c (.op (.load qrM (Rect.unit (s := S1024x128) off S512x32.size inb).toLoadRect hl) k) Q) := by
  subst ho
  exact wp_ld c (μ := qrM) (r := (Rect.unit (s := S1024x128) ![512 * b.val, 32 * h.val] S512x32.size inb).toLoadRect) (f := qrV m c) (v := (qrB m c b h)) (Finset.subset_univ _) (funext fun y => congrArg (qrV m c) (idx2 (show 512 * b.val + 1 * (y 0).val = 512 * b.val + (y 0).val by omega) (show 32 * h.val + 1 * (y 1).val = 32 * h.val + (y 1).val by omega)))
theorem ld_kr {α : Type} {Q : α → sProp 𝕄} (b : Fin 2) {q : PosShare TreeShare} {off : Fin 2 → ℕ} (ho : off = ![512 * b.val, 0]) {inb hl k} :
    own c cc0_scratch8 q (krV m c) ⊢ iprop((own c cc0_scratch8 q (krV m c) -∗ go c (k (krB m c b)) Q)
      -∗ go c (.op (.load krM (Rect.unit (s := S1024x32) off S512x32.size inb).toLoadRect hl) k) Q) := by
  subst ho
  exact wp_ld c (μ := krM) (r := (Rect.unit (s := S1024x32) ![512 * b.val, 0] S512x32.size inb).toLoadRect) (f := krV m c) (v := (krB m c b)) (Finset.subset_univ _) (funext fun y => congrArg (krV m c) (idx2 (show 512 * b.val + 1 * (y 0).val = 512 * b.val + (y 0).val by omega) (show 0 + 1 * (y 1).val = (y 1).val by omega)))

theorem ld_c {α : Type} {Q : α → sProp 𝕄} (d : Fin 4) (b : Fin 2) {q : PosShare TreeShare} {off : Fin 3 → ℕ} (ho : off = ![d.val, 512 * b.val, 0]) {inb hl k} :
    cAt c d q (cgV m c) ⊢ iprop((cAt c d q (cgV m c) -∗ go c (k (cB m c d b)) Q)
      -∗ go c (.op (.load cgM (Rect.unit (s := S4x1024x128) off S1x512x128.size inb).toLoadRect hl) k) Q) := by
  subst ho
  refine wp_ld c (μ := cgM) (r := (Rect.unit (s := S4x1024x128) ![d.val, 512 * b.val, 0] S1x512x128.size inb).toLoadRect) (f := cgV m c) (v := (cB m c d b)) (S := (cR d).set) ?_ (funext fun y => congrArg (cgV m c) (idx3 (show d.val + 1 * (y 0).val = d.val by have := (y 0).isLt; change _ < 1 at this; omega) (show 512 * b.val + 1 * (y 1).val = 512 * b.val + (y 1).val by omega) (show 0 + 1 * (y 2).val = (y 2).val by omega)))
  intro x hx
  obtain ⟨y, hy, rfl⟩ := Finset.mem_map.mp hx
  have h0 := (Rect.mem_set_unit).mp hy 0
  refine (mem_cR d _).mpr ?_
  change d.val ≤ (y 0).val ∧ (y 0).val < d.val + 1 at h0
  show (y 0).val = d.val
  omega
theorem ld_w {α : Type} {Q : α → sProp 𝕄} (d h : Fin 4) {q : PosShare TreeShare} {off : Fin 3 → ℕ} (ho : off = ![d.val, 0, 256 * h.val]) {inb hl k} :
    wAt c d q (wgV m c) ⊢ iprop((wAt c d q (wgV m c) -∗ go c (k (wB m c d h)) Q)
      -∗ go c (.op (.load wgM (Rect.unit (s := S4x128x1024) off S1x128x256.size inb).toLoadRect hl) k) Q) := by
  subst ho
  refine wp_ld c (μ := wgM) (r := (Rect.unit (s := S4x128x1024) ![d.val, 0, 256 * h.val] S1x128x256.size inb).toLoadRect) (f := wgV m c) (v := (wB m c d h)) (S := (wR d).set) ?_ (funext fun y => congrArg (wgV m c) (idx3 (show d.val + 1 * (y 0).val = d.val by have := (y 0).isLt; change _ < 1 at this; omega) (show 0 + 1 * (y 1).val = (y 1).val by omega) (show 256 * h.val + 1 * (y 2).val = 256 * h.val + (y 2).val by omega)))
  intro x hx
  obtain ⟨y, hy, rfl⟩ := Finset.mem_map.mp hx
  have h0 := (Rect.mem_set_unit).mp hy 0
  refine (mem_wR d _).mpr ?_
  change d.val ≤ (y 0).val ∧ (y 0).val < d.val + 1 at h0
  show (y 0).val = d.val
  omega

/-- Slot `d` of the gathered head outputs. -/
def ogT (d : Fin 4) : FVec F S1x1024x512 .bf16 := fun y => ogV m c (at3 d (y 1) (y 2))
/-- The row block of the output weights that multiplies slot `d`, as a half of the double buffer. -/
def woT (d : Fin 4) : Vec F S1x512x2048 .f32 := fun y => woB m c d (at2 (y 1) (y 2))
def tV (d : Fin 4) : Vec F S2x512x2048 .f32 := fun i => woB m c d (at2 (i 1) (i 2))

theorem ld_g {α : Type} {Q : α → sProp 𝕄} (d : Fin 4) {off : Fin 3 → ℕ} (ho : off = ![d.val, 0, 0]) {inb hl k} :
    gSAt c d (ogV m c) ⊢ iprop((gSAt c d (ogV m c) -∗ go c (k (ogT m c d)) Q)
      -∗ go c (.op (.load ogM (Rect.unit (s := S4x1024x512) off S1x1024x512.size inb).toLoadRect hl) k) Q) := by
  subst ho
  refine wp_ld c (μ := ogM) (r := (Rect.unit (s := S4x1024x512) ![d.val, 0, 0] S1x1024x512.size inb).toLoadRect) (f := ogV m c) (v := (ogT m c d)) (S := (gS d).set) ?_ (funext fun y => congrArg (ogV m c) (idx3 (show d.val + 1 * (y 0).val = d.val by have := (y 0).isLt; change _ < 1 at this; omega) (show 0 + 1 * (y 1).val = (y 1).val by omega) (show 0 + 1 * (y 2).val = (y 2).val by omega)))
  intro x hx
  obtain ⟨y, hy, rfl⟩ := Finset.mem_map.mp hx
  have h0 := (Rect.mem_set_unit).mp hy 0
  refine (mem_gS d _).mpr ?_
  change d.val ≤ (y 0).val ∧ (y 0).val < d.val + 1 at h0
  show (y 0).val = d.val
  omega
theorem ld_t {α : Type} {Q : α → sProp 𝕄} (t : Fin 2) (d : Fin 4) {off : Fin 3 → ℕ} (ho : off = ![t.val, 0, 0]) {inb hl k} :
    tAt c t (tV m c d) ⊢ iprop((tAt c t (tV m c d) -∗ go c (k (woT m c d)) Q)
      -∗ go c (.op (.load wtM (Rect.unit (s := S2x512x2048) off S1x512x2048.size inb).toLoadRect hl) k) Q) := by
  subst ho
  refine wp_ld c (μ := wtM) (r := (Rect.unit (s := S2x512x2048) ![t.val, 0, 0] S1x512x2048.size inb).toLoadRect) (f := tV m c d) (v := (woT m c d)) (S := (tR t).set) ?_ (funext fun y => congrArg (woB m c d) (idx2 (show 0 + 1 * (y 1).val = (y 1).val by omega) (show 0 + 1 * (y 2).val = (y 2).val by omega)))
  intro x hx
  obtain ⟨y, hy, rfl⟩ := Finset.mem_map.mp hx
  have h0 := (Rect.mem_set_unit).mp hy 0
  refine (mem_tR t _).mpr ?_
  change t.val ≤ (y 0).val ∧ (y 0).val < t.val + 1 at h0
  show (y 0).val = t.val
  omega

end Loads

/-! ## The rounded up-projections -/

/-- The first `n` blocks of the rounded up-projections are in place. -/
def wcS (c : Dev nD) (n : ℕ) : sProp 𝕄 :=
  Sm c wcM Finset.univ fun f => ∀ x : S128x4096.Idx, (x 1).val < 128 * n → f x = wcV m c x

theorem wcS_zero (c : Dev nD) : any (F := F) c cc0_scratch2 ⊢ wcS m c 0 := by
  unfold wcS Sm
  iintro ⟨%f, H⟩
  iexists f
  isplitr; · ipureintro; intro x hx; exact absurd hx (by omega)
  iexact H
theorem wcS_all (c : Dev nD) : wcS m c 32 ⊢ own c cc0_scratch2 fullShare (wcV m c) := by
  unfold wcS Sm
  iintro ⟨%f, %hf, H⟩
  iapply (Entails.of_eq (pointsTo_congr (fun x _ => hf x (by have h := ((x : S128x4096.Idx) 1).isLt; change _ < 4096 at h; exact h)))) $$ H

section Stores
variable (c : Dev nD)

theorem dd_wc {α : Type} {Q : α → sProp 𝕄} (n : ℕ) {r : LoadRect S128x4096} {hl : wcM.view.LoadsAt r} {k} :
    wcS m c n ⊢ iprop((∀ v, wcS m c n -∗ go c (k v) Q) -∗ go c (.op (.load wcM r hl) k) Q) := by
  unfold wcS
  exact wp_dead c (μ := wcM) (r := r) (S := Finset.univ) (φ := fun f => ∀ x : S128x4096.Idx, (x 1).val < 128 * n → f x = wcV m c x) (Finset.subset_univ _)

abbrev kR (n : ℕ) (inb : ∀ a, (![0, 128 * n] : Fin 2 → ℕ) a + S128x128.size a ≤ S128x4096.size a) : Rect S128x4096 := Rect.unit (s := S128x4096) ![0, 128 * n] S128x128.size inb

theorem wc_step (n : ℕ) (hn : n < 32) (inb) (f : Vec F S128x4096 .bf16) (hf : ∀ x : S128x4096.Idx, (x 1).val < 128 * n → f x = wcV m c x)
    (x : S128x4096.Idx) (hx : (x 1).val < 128 * (n + 1)) :
    (wcM.access (kR n inb)).write (Elt F) f (castV m c n hn) Finset.univ x = wcV m c x := by
  by_cases h : (x 1).val < 128 * n
  · refine (View.write_of_not_mem (h := fun hm => ?_) ..).trans (hf x h)
    have hm := (Finset.ext_iff.mp (View.set_slice_whole cc0_scratch2 _) x).mp hm
    have h1 := (Rect.mem_set_unit).mp hm 1
    change 128 * n ≤ (x 1).val ∧ _ at h1
    omega
  · have hr : ∀ y : S128x128.Idx, castV m c n hn y = wcV m c ((kR n inb).emb y) := by
      intro y
      have h1 := (y 1).isLt
      change _ < 128 at h1
      have e : (128 * n + 1 * (y 1).val) / 128 = n := by omega
      have e' : (128 * n + 1 * (y 1).val) % 128 = (y 1).val := by omega
      unfold wcV
      have e0 : ∀ (k : ℕ) (hk : k < 32) (z : S128x128.Idx), k = n → z = y → castV m c n hn y = castV m c k hk z := by
        intro k hk z hk' hz; subst hk'; subst hz; rfl
      exact e0 _ _ _ e (idx2 (show 0 + 1 * (y 0).val = (y 0).val by omega) e')
    refine write_at (wcM.access (kR n inb)) f (wcV m c) _ hr x ?_
    refine (Finset.ext_iff.mp (View.set_slice_whole cc0_scratch2 _) x).mpr ?_
    refine (Rect.mem_set_unit).mpr ?_
    have h0 := (x 0).isLt
    change _ < 128 at h0
    intro a
    fin_cases a
    · show 0 ≤ (x 0).val ∧ (x 0).val < 0 + 128; omega
    · show 128 * n ≤ (x 1).val ∧ (x 1).val < 128 * n + 128; omega

theorem st_wc {α : Type} {Q : α → sProp 𝕄} (n : ℕ) (hn : n < 32) {off : Fin 2 → ℕ} (ho : off = ![0, 128 * n]) {w : FVec F S128x128 .bf16} (hw : w = castV m c n hn) {inb hx hm k} :
    wcS m c n ⊢ iprop((wcS m c (n + 1) -∗ go c (k ⟨⟩) Q)
      -∗ go c (.op (.store wcM (Rect.unit (s := S128x4096) off S128x128.size inb) w Finset.univ hx hm) k) Q) := by
  subst ho; subst hw
  exact wp_st c (μ := wcM) (r := kR n inb) (w := castV m c n hn) (φ := fun f => ∀ x : S128x4096.Idx, (x 1).val < 128 * n → f x = wcV m c x)
    (fun f => ∀ x : S128x4096.Idx, (x 1).val < 128 * (n + 1) → f x = wcV m c x) (Finset.subset_univ _)
    fun f hf x hx => wc_step m c n hn inb f hf x hx

/-! ## Whole results and tiles -/

abbrev SmAny {cs : CoreSpace} {s : Shape} {e : EltTy} (μ : Memref sig .tc cs s e) (S : Finset (Idx (μ.view.loc (c : Thread nD τ)))) : sProp 𝕄 :=
  Sm (F := F) c μ S fun _ => True

theorem unit_univ {a b : ℕ} (inb : ∀ x, (![0, 0] : Fin 2 → ℕ) x + ![a, b] x ≤ (⟨2, ![a, b]⟩ : Shape).size x) :
    (Rect.unit (s := ⟨2, ![a, b]⟩) ![0, 0] ![a, b] inb).set = Finset.univ := by
  refine Finset.eq_univ_of_forall fun x => (Rect.mem_set_unit).mpr ?_
  have h0 := (x 0).isLt
  have h1 := (x 1).isLt
  change _ < a at h0
  change _ < b at h1
  intro i
  fin_cases i
  · show 0 ≤ (x 0).val ∧ (x 0).val < 0 + a; omega
  · show 0 ≤ (x 1).val ∧ (x 1).val < 0 + b; omega

theorem st_kr {α : Type} {Q : α → sProp 𝕄} {w : FVec F S1024x32 .bf16} (hw : w = krV m c) {inb hx hm k} :
    SmAny c krM Finset.univ ⊢ iprop((own c cc0_scratch8 fullShare (krV m c) -∗ go c (k ⟨⟩) Q)
      -∗ go c (.op (.store krM (Rect.unit (s := S1024x32) ![0, 0] S1024x32.size inb) w Finset.univ hx hm) k) Q) := by
  subst hw
  refine wp_stx c (μ := krM) (krV m c) ?_ (fun y => congrArg (krV m c) (idx2 (show (y 0).val = 0 + 1 * (y 0).val by omega) (show (y 1).val = 0 + 1 * (y 1).val by omega)))
  exact (View.set_slice_whole _ _).trans (unit_univ inb)
theorem st_q {α : Type} {Q : α → sProp 𝕄} {w : FVec F S1024x512 .bf16} (hw : w = qV m c) {inb hx hm k} :
    SmAny c qM Finset.univ ⊢ iprop((own c cc0_scratch5 fullShare (qV m c) -∗ go c (k ⟨⟩) Q)
      -∗ go c (.op (.store qM (Rect.unit (s := S1024x512) ![0, 0] S1024x512.size inb) w Finset.univ hx hm) k) Q) := by
  subst hw
  refine wp_stx c (μ := qM) (qV m c) ?_ (fun y => congrArg (qV m c) (idx2 (show (y 0).val = 0 + 1 * (y 0).val by omega) (show (y 1).val = 0 + 1 * (y 1).val by omega)))
  exact (View.set_slice_whole _ _).trans (unit_univ inb)
theorem st_qr {α : Type} {Q : α → sProp 𝕄} {w : FVec F S1024x128 .bf16} (hw : w = qrV m c) {inb hx hm k} :
    SmAny c qrM Finset.univ ⊢ iprop((own c cc0_scratch7 fullShare (qrV m c) -∗ go c (k ⟨⟩) Q)
      -∗ go c (.op (.store qrM (Rect.unit (s := S1024x128) ![0, 0] S1024x128.size inb) w Finset.univ hx hm) k) Q) := by
  subst hw
  refine wp_stx c (μ := qrM) (qrV m c) ?_ (fun y => congrArg (qrV m c) (idx2 (show (y 0).val = 0 + 1 * (y 0).val by omega) (show (y 1).val = 0 + 1 * (y 1).val by omega)))
  exact (View.set_slice_whole _ _).trans (unit_univ inb)

theorem st_c {α : Type} {Q : α → sProp 𝕄} {w : FVec F S1x1024x128 .bf16} (hw : w = cownV m c) {inb hx hm k} :
    SmAny c cgM (cR 0).set ⊢ iprop((cAt c 0 fullShare (cgV m c) -∗ go c (k ⟨⟩) Q)
      -∗ go c (.op (.store cgM (Rect.unit (s := S4x1024x128) ![0, 0, 0] S1x1024x128.size inb) w Finset.univ hx hm) k) Q) := by
  subst hw
  refine wp_stx c (μ := cgM) (cgV m c) (View.set_slice_whole _ _) ?_
  intro y
  have h0 := (y 0).isLt
  change _ < 1 at h0
  have e : ∀ j : S1x1024x128.Idx, j = at3 0 (j 1) (j 2) := fun j =>
    idx3 (by have h := (j 0).isLt; change _ < 1 at h; show (j 0).val = 0; omega) rfl rfl
  refine (congrArg (cownV m c) (e y)).trans ((cgV_own m c (y 1) (y 2)).symm.trans ?_)
  exact congrArg (cgV m c) (idx3 (show 0 = 0 + 1 * (y 0).val by omega) (show (y 1).val = 0 + 1 * (y 1).val by omega) (show (y 2).val = 0 + 1 * (y 2).val by omega))

theorem st_o {α : Type} {Q : α → sProp 𝕄} (b : Fin 2) (h : Fin 4) (t : Fin 8) (ht : t.val = 4 * b.val + h.val) {off : Fin 2 → ℕ} (ho : off = ![512 * b.val, 128 * h.val])
    {w : FVec F S512x128 .bf16} (hw : w = tileV m c b h) {inb hx hm k} :
    SmAny c ooM (oR t).set ⊢ iprop((oAt c t fullShare (ooV m c) -∗ go c (k ⟨⟩) Q)
      -∗ go c (.op (.store ooM (Rect.unit (s := S1024x512) off S512x128.size inb) w Finset.univ hx hm) k) Q) := by
  have hb : t.val / 4 = b.val := by omega
  have hh : t.val % 4 = h.val := by omega
  rw [← hb, ← hh] at ho
  subst ho; subst hw
  refine wp_stx c (μ := ooM) (ooV m c) (View.set_slice_whole _ _) ?_
  intro y
  have h0 := (y 0).isLt
  have h1 := (y 1).isLt
  change _ < 512 at h0
  change _ < 128 at h1
  have e0 : ∀ (b' : Fin 2) (h' : Fin 4) (z : S512x128.Idx), b' = b → h' = h → z = y → tileV m c b h y = tileV m c b' h' z := by
    intro b' h' z hb hh hz; subst hb; subst hh; subst hz; rfl
  refine e0 _ _ _ (Fin.ext ?_) (Fin.ext ?_) (idx2 ?_ ?_)
  · show (512 * (t.val / 4) + 1 * (y 0).val) / 512 = b.val; omega
  · show (128 * (t.val % 4) + 1 * (y 1).val) / 128 = h.val; omega
  · show (512 * (t.val / 4) + 1 * (y 0).val) % 512 = (y 0).val; omega
  · show (128 * (t.val % 4) + 1 * (y 1).val) % 128 = (y 1).val; omega

/-! ## The output, in two halves -/

def loI (y : S2x512x1024.Idx) : S2x512x2048.Idx := at3 (y 0) (y 1) ⟨(y 2).val, by have h := (y 2).isLt; change _ < 1024 at h; omega⟩
def hiI (y : S2x512x1024.Idx) : S2x512x2048.Idx := at3 (y 0) (y 1) ⟨1024 + (y 2).val, by have h := (y 2).isLt; change _ < 1024 at h; omega⟩
def loA (f : Vec F S2x512x2048 .f32) : Vec F S2x512x1024 .f32 := fun y => f (loI y)
def hiA (f : Vec F S2x512x2048 .f32) : Vec F S2x512x1024 .f32 := fun y => f (hiI y)
theorem loA_apply (f : Vec F S2x512x2048 .f32) (y : S2x512x1024.Idx) : loA f y = f (loI y) := rfl
theorem hiA_apply (f : Vec F S2x512x2048 .f32) (y : S2x512x1024.Idx) : hiA f y = f (hiI y) := rfl

/-- The output buffer, with what its halves hold. -/
def outS (φ : Vec F S2x512x1024 .f32 → Vec F S2x512x1024 .f32 → Prop) : sProp 𝕄 :=
  Sm c outM Finset.univ fun f => φ (loA f) (hiA f)

theorem dd_out {α : Type} {Q : α → sProp 𝕄} {φ : Vec F S2x512x1024 .f32 → Vec F S2x512x1024 .f32 → Prop} {r : LoadRect S2x512x2048} {hl : outM.view.LoadsAt r} {k} :
    outS c φ ⊢ iprop((∀ v, outS c φ -∗ go c (k v) Q) -∗ go c (.op (.load outM r hl) k) Q) := by
  unfold outS
  exact wp_dead c (μ := outM) (r := r) (S := Finset.univ) (φ := fun f => φ (loA f) (hiA f)) (Finset.subset_univ _)

theorem ld_lo {α : Type} {Q : α → sProp 𝕄} {φ : Vec F S2x512x1024 .f32 → Vec F S2x512x1024 .f32 → Prop} {a : Vec F S2x512x1024 .f32} (h : ∀ x y, φ x y → x = a) {inb hl k} :
    outS c φ ⊢ iprop((outS c φ -∗ go c (k a) Q)
      -∗ go c (.op (.load outM (Rect.unit (s := S2x512x2048) ![0, 0, 0] S2x512x1024.size inb).toLoadRect hl) k) Q) := by
  unfold outS
  have e : ∀ f : Vec F S2x512x2048 .f32, outM.view.readAt (Elt F) (Rect.unit (s := S2x512x2048) ![0, 0, 0] S2x512x1024.size inb).toLoadRect f = loA f :=
    fun f => funext fun y => congrArg f (idx3 (show 0 + 1 * (y 0).val = (y 0).val by omega) (show 0 + 1 * (y 1).val = (y 1).val by omega) (show 0 + 1 * (y 2).val = (y 2).val by omega))
  exact wp_lds c (μ := outM) (r := (Rect.unit (s := S2x512x2048) ![0, 0, 0] S2x512x1024.size inb).toLoadRect) (S := Finset.univ) (φ := fun f => φ (loA f) (hiA f)) (v := a)
    (Finset.subset_univ _) fun f hf => (e f).trans (h _ _ hf)

theorem ld_hi {α : Type} {Q : α → sProp 𝕄} {φ : Vec F S2x512x1024 .f32 → Vec F S2x512x1024 .f32 → Prop} {a : Vec F S2x512x1024 .f32} (h : ∀ x y, φ x y → y = a) {inb hl k} :
    outS c φ ⊢ iprop((outS c φ -∗ go c (k a) Q)
      -∗ go c (.op (.load outM (Rect.unit (s := S2x512x2048) ![0, 0, 1024] S2x512x1024.size inb).toLoadRect hl) k) Q) := by
  unfold outS
  have e : ∀ f : Vec F S2x512x2048 .f32, outM.view.readAt (Elt F) (Rect.unit (s := S2x512x2048) ![0, 0, 1024] S2x512x1024.size inb).toLoadRect f = hiA f :=
    fun f => funext fun y => congrArg f (idx3 (show 0 + 1 * (y 0).val = (y 0).val by omega) (show 0 + 1 * (y 1).val = (y 1).val by omega) (show 1024 + 1 * (y 2).val = 1024 + (y 2).val by omega))
  exact wp_lds c (μ := outM) (r := (Rect.unit (s := S2x512x2048) ![0, 0, 1024] S2x512x1024.size inb).toLoadRect) (S := Finset.univ) (φ := fun f => φ (loA f) (hiA f)) (v := a)
    (Finset.subset_univ _) fun f hf => (e f).trans (h _ _ hf)

theorem wr_in {r : Rect S2x512x2048} (f : Vec F S2x512x2048 .f32) (w : r.shape.Idx → Elt F .f32) (y : r.shape.Idx) (i : S2x512x2048.Idx) (hi : i = r.emb y) :
    (outM.access r).write (Elt F) f w Finset.univ i = w y := by
  subst hi; exact View.write_emb_of_mem (v := outM.access r) f w (Finset.mem_univ y)
theorem wr_out {r : Rect S2x512x2048} (f : Vec F S2x512x2048 .f32) (w : r.shape.Idx → Elt F .f32) (i : S2x512x2048.Idx) (hi : i ∉ r.set) :
    (outM.access r).write (Elt F) f w Finset.univ i = f i :=
  View.write_of_not_mem (h := by exact fun hm => hi ((Finset.ext_iff.mp (View.set_slice_whole cc0_stg4_0 _) i).mp hm)) ..

abbrev loR (inb : ∀ a, ![0, 0, 0] a + S2x512x1024.size a ≤ S2x512x2048.size a) : Rect S2x512x2048 := Rect.unit (s := S2x512x2048) ![0, 0, 0] S2x512x1024.size inb
abbrev hiR (inb : ∀ a, ![0, 0, 1024] a + S2x512x1024.size a ≤ S2x512x2048.size a) : Rect S2x512x2048 := Rect.unit (s := S2x512x2048) ![0, 0, 1024] S2x512x1024.size inb

theorem lo_lo (inb) (f : Vec F S2x512x2048 .f32) (w : Vec F S2x512x1024 .f32) : loA ((outM.access (loR inb)).write (Elt F) f w Finset.univ) = w :=
  funext fun y => (loA_apply _ y).trans (wr_in (r := loR inb) f w y (loI y)
    (idx3 (show (y 0).val = 0 + 1 * (y 0).val by omega) (show (y 1).val = 0 + 1 * (y 1).val by omega) (show (y 2).val = 0 + 1 * (y 2).val by omega)))
theorem hi_lo (inb) (f : Vec F S2x512x2048 .f32) (w : Vec F S2x512x1024 .f32) : hiA ((outM.access (loR inb)).write (Elt F) f w Finset.univ) = hiA f :=
  funext fun y => (hiA_apply _ y).trans ((wr_out (r := loR inb) f w (hiI y) fun hm => by
    have h2 := (Rect.mem_set_unit).mp hm 2
    change 0 ≤ 1024 + (y 2).val ∧ 1024 + (y 2).val < 0 + 1024 at h2
    omega).trans (hiA_apply f y).symm)
theorem hi_hi (inb) (f : Vec F S2x512x2048 .f32) (w : Vec F S2x512x1024 .f32) : hiA ((outM.access (hiR inb)).write (Elt F) f w Finset.univ) = w :=
  funext fun y => (hiA_apply _ y).trans (wr_in (r := hiR inb) f w y (hiI y)
    (idx3 (show (y 0).val = 0 + 1 * (y 0).val by omega) (show (y 1).val = 0 + 1 * (y 1).val by omega) (show 1024 + (y 2).val = 1024 + 1 * (y 2).val by omega)))
theorem lo_hi (inb) (f : Vec F S2x512x2048 .f32) (w : Vec F S2x512x1024 .f32) : loA ((outM.access (hiR inb)).write (Elt F) f w Finset.univ) = loA f :=
  funext fun y => (loA_apply _ y).trans ((wr_out (r := hiR inb) f w (loI y) fun hm => by
    have h2 := (Rect.mem_set_unit).mp hm 2
    have h := (y 2).isLt
    change _ < 1024 at h
    change 1024 ≤ (y 2).val ∧ (y 2).val < 1024 + 1024 at h2
    omega).trans (loA_apply f y).symm)

theorem st_lo {α : Type} {Q : α → sProp 𝕄} {φ : Vec F S2x512x1024 .f32 → Vec F S2x512x1024 .f32 → Prop} {w : Vec F S2x512x1024 .f32}
    (ψ : Vec F S2x512x1024 .f32 → Vec F S2x512x1024 .f32 → Prop) (h : ∀ x y, φ x y → ψ w y) {inb} {hx : (outM.access (loR inb)).Stores Finset.univ} {hm}
    {k : PUnit → Prog (TpuEff nD τ sig (Elt F) Λ₀ .tc) α} :
    outS c φ ⊢ iprop((outS c ψ -∗ go c (k ⟨⟩) Q)
      -∗ go c (.op (.store outM (loR inb) w Finset.univ hx hm) k) Q) :=
  wp_st c (μ := outM) (r := loR inb) (w := w) (φ := fun f => φ (loA f) (hiA f)) (fun f => ψ (loA f) (hiA f)) (Finset.subset_univ _)
    fun f hf => Eq.mpr (congrArg₂ ψ (lo_lo inb f w) (hi_lo inb f w)) (h _ _ hf)

theorem st_hi {α : Type} {Q : α → sProp 𝕄} {φ : Vec F S2x512x1024 .f32 → Vec F S2x512x1024 .f32 → Prop} {w : Vec F S2x512x1024 .f32}
    (ψ : Vec F S2x512x1024 .f32 → Vec F S2x512x1024 .f32 → Prop) (h : ∀ x y, φ x y → ψ x w) {inb} {hx : (outM.access (hiR inb)).Stores Finset.univ} {hm}
    {k : PUnit → Prog (TpuEff nD τ sig (Elt F) Λ₀ .tc) α} :
    outS c φ ⊢ iprop((outS c ψ -∗ go c (k ⟨⟩) Q)
      -∗ go c (.op (.store outM (hiR inb) w Finset.univ hx hm) k) Q) :=
  wp_st c (μ := outM) (r := hiR inb) (w := w) (φ := fun f => φ (loA f) (hiA f)) (fun f => ψ (loA f) (hiA f)) (Finset.subset_univ _)
    fun f hf => Eq.mpr (congrArg₂ ψ (lo_hi inb f w) (hi_hi inb f w)) (h _ _ hf)

end Stores

end Cert.Mla

end
-- ==== Proof.Copies.lean ====
/-
The local copies: what each leaves in its buffer.
-/
module

public import proofs.«01_k».proof.Proof.Touch

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A local copy from part of what is held at a share that is then given up. -/
theorem wp_cpd {α : Type} (c : Dev nD) (i : Fin 4) {sp sp' : Space} {s : Shape} {e : EltTy} {src : Memref sig .tc sp s e} {dst : Memref sig .tc sp' s e}
    {sm : DmaSem sig} (hsm : sm = (⟨65 + i.val, by have := i.isLt; change _ < 69; omega⟩ : DmaSem sig)) {hsrc : src.view.WordExact} {hdst : dst.view.WordExact}
    {hsem : DmaTarget.Typed (nD := nD) (τ := τ) (p := .tc) sp (SemLoc.dma sm) (.here dst)} {N : ℕ} (hN : dst.view.dmaCredit = N) (hN0 : 0 < N)
    {S : Finset (Idx (src.view.loc (c : Thread nD τ)))} {T : Finset (Idx (dst.view.loc (c : Thread nD τ)))} (hS : src.view.set ⊆ S) (hT : dst.view.set = T)
    {q : PosShare TreeShare} {fs : Buf (Elt F) (src.view.loc (c : Thread nD τ))} (g : Buf (Elt F) (dst.view.loc (c : Thread nD τ)))
    (h : ∀ y, src.view.read (Elt F) fs y = dst.view.read (Elt F) g y)
    {k : PUnit → Prog (TpuEff nD τ sig (Elt F) Λ₀ .tc) α} {Q : α → sProp 𝕄} :
    iprop(((src.view.loc (c : Thread nD τ)) ↦[S]{q} fs) ∗ (∃ fd, (dst.view.loc (c : Thread nD τ)) ↦[T]{fullShare} fd) ∗ Lz c i)
      ⊢ iprop((Fl c i N iprop((dst.view.loc (c : Thread nD τ)) ↦[T]{fullShare} g) -∗ go c (k ⟨⟩) Q)
        -∗ go c (.op (.enqueueDma src (.here dst) (.dma sm) hsrc hdst hsem) k) Q) := by
  iintro ⟨Hs, Hd, Hv⟩ Hk
  icases (pointsTo_split_subset hS).1 $$ Hs with ⟨Hs, -⟩
  iapply (wp_cp c i (src := src) (dst := dst) hsm hN hN0 rfl hT g h) $$ [Hs Hd Hv]
  · isplitl [Hs]; · iexact Hs
    isplitl [Hd]; · iexact Hd
    iexact Hv
  iintro HF
  iapply Hk
  unfold Fl
  iapply (Transfers.Flight_mono _ _ sep_elim_left) $$ HF

abbrev Nx : ℕ := (xM : Memref sig .tc .vmem S2x512x2048 .f32).view.dmaCredit
abbrev Nq : ℕ := (qtM : Memref sig .tc .vmem S2048x512 .f32).view.dmaCredit
abbrev Nqr : ℕ := (qrtM : Memref sig .tc .vmem S2048x128 .f32).view.dmaCredit
abbrev Nt : ℕ := (tSl 0).view.dmaCredit

/-- The activations, the query weights, the rotary query weights, a row block of the output weights: on their way. -/
def fX (c : Dev nD) : sProp 𝕄 := Fl c 3 Nx (own c cc0_scratch0 fullShare (xV m c))
def fQ (c : Dev nD) : sProp 𝕄 := Fl c 1 Nq (own c cc0_scratch4 fullShare (qtV m c))
def fQr (c : Dev nD) : sProp 𝕄 := Fl c 2 Nqr (own c cc0_scratch6 fullShare (qrtV m c))
def fT (c : Dev nD) (t : Fin 2) (d : Fin 4) : sProp 𝕄 := Fl c ⟨t.val, by omega⟩ Nt (tAt c t (tV m c d))

section
variable (c : Dev nD)

theorem cp_x {α : Type} {Q : α → sProp 𝕄} {q : PosShare TreeShare} {sm : DmaSem sig} (hsm : sm = (⟨68, by decide⟩ : DmaSem sig)) {h1 h2 h3 k} :
    iprop(own c main_arg0 q (xV m c) ∗ any c cc0_scratch0 ∗ Lz c 3)
      ⊢ iprop((fX m c -∗ go c (k ⟨⟩) Q) -∗ go c (.op (.enqueueDma xA (.here xM) (.dma sm) h1 h2 h3) k) Q) :=
  wp_cpd c 3 (src := xA) (dst := xM) hsm rfl (View.dmaCredit_pos _ (by decide)) (Finset.subset_univ _) (View.set_whole _) (xV m c) fun _ => rfl

theorem cp_q {α : Type} {Q : α → sProp 𝕄} {q : PosShare TreeShare} {sm : DmaSem sig} (hsm : sm = (⟨66, by decide⟩ : DmaSem sig)) {inb h0 h1 h2 h3 k} :
    iprop(own c main_arg4 q (wqV m c) ∗ any c cc0_scratch4 ∗ Lz c 1)
      ⊢ iprop((fQ m c -∗ go c (k ⟨⟩) Q)
        -∗ go c (.op (.enqueueDma (wqA.slice (Rect.unit (s := S2048x2048) (k0_off1 c) S2048x512.size inb) h0) (.here qtM) (.dma sm) h1 h2 h3) k) Q) := by
  refine wp_cpd c 1 (src := wqA.slice (Rect.unit (s := S2048x2048) (k0_off1 c) S2048x512.size inb) h0) (s := S2048x512) (dst := qtM) hsm rfl (View.dmaCredit_pos _ (show 0 < S2048x512.numel by decide)) (Finset.subset_univ _) (View.set_whole _) (qtV m c) fun y => ?_
  have hc := c.isLt
  simp only [nD] at hc
  have e0 : k0_off1 c 0 = 0 := congrFun (k0_off1_eq c) 0
  have e1 : k0_off1 c 1 = 1024 * (c.val / 8) + 512 * ((c.val / 4) % 2) := congrFun (k0_off1_eq c) 1
  exact congrArg (wqV m c) (idx2 (show k0_off1 c 0 + 1 * (y 0).val = (y 0).val by omega) (show k0_off1 c 1 + 1 * (y 1).val = 512 * (c.val / 4) + (y 1).val by omega))

theorem cp_qr {α : Type} {Q : α → sProp 𝕄} {q : PosShare TreeShare} {sm : DmaSem sig} (hsm : sm = (⟨67, by decide⟩ : DmaSem sig)) {inb h0 h1 h2 h3 k} :
    iprop(own c main_arg5 q (wqrV m c) ∗ any c cc0_scratch6 ∗ Lz c 2)
      ⊢ iprop((fQr m c -∗ go c (k ⟨⟩) Q)
        -∗ go c (.op (.enqueueDma (wqrA.slice (Rect.unit (s := S2048x512) (k0_off2 c) S2048x128.size inb) h0) (.here qrtM) (.dma sm) h1 h2 h3) k) Q) := by
  refine wp_cpd c 2 (src := wqrA.slice (Rect.unit (s := S2048x512) (k0_off2 c) S2048x128.size inb) h0) (s := S2048x128) (dst := qrtM) hsm rfl (View.dmaCredit_pos _ (show 0 < S2048x128.numel by decide)) (Finset.subset_univ _) (View.set_whole _) (qrtV m c) fun y => ?_
  have hc := c.isLt
  simp only [nD] at hc
  have e0 : k0_off2 c 0 = 0 := congrFun (k0_off2_eq c) 0
  have e1 : k0_off2 c 1 = 256 * (c.val / 8) + 128 * ((c.val / 4) % 2) := congrFun (k0_off2_eq c) 1
  exact congrArg (wqrV m c) (idx2 (show k0_off2 c 0 + 1 * (y 0).val = (y 0).val by omega) (show k0_off2 c 1 + 1 * (y 1).val = 128 * (c.val / 4) + (y 1).val by omega))

theorem cp_t {α : Type} {Q : α → sProp 𝕄} (t : Fin 2) (d : Fin 4) {q : PosShare TreeShare} {sm : DmaSem sig} (hsm : sm = (⟨65 + t.val, by have := t.isLt; change _ < 69; omega⟩ : DmaSem sig))
    {off : Fin 2 → ℕ} (ho : off = ![512 * ((c.val / 4 + (4 - d.val)) % 4), 0]) {dst : Memref sig .tc .vmem S512x2048 .f32} (hd : dst = tSl t)
    {inb h0 h1 h2 h3 k} :
    iprop(own c main_arg7 q (woV m c) ∗ (∃ f, tAt c t f) ∗ Lz c ⟨t.val, by omega⟩)
      ⊢ iprop((fT m c t d -∗ go c (k ⟨⟩) Q)
        -∗ go c (.op (.enqueueDma (woA.slice (Rect.unit (s := S2048x2048) off S512x2048.size inb) h0) (.here dst) (.dma sm) h1 h2 h3) k) Q) := by
  subst hd; subst ho
  refine wp_cpd c ⟨t.val, by omega⟩ (src := woA.slice (Rect.unit (s := S2048x2048) _ S512x2048.size inb) h0) (s := S512x2048) (dst := tSl t) (N := Nt) hsm rfl (View.dmaCredit_pos _ (show 0 < S512x2048.numel by decide)) (Finset.subset_univ _)
    (tSl_set t) (tV m c d) fun y => ?_
  rw [tSl_read]
  exact congrArg (woV m c) (idx2 (show 512 * ((c.val / 4 + (4 - d.val)) % 4) + 1 * (y 0).val = 512 * ((c.val / 4 + (4 - d.val)) % 4) + (y 0).val by omega) (show 0 + 1 * (y 1).val = (y 1).val by omega))

theorem off4 : k0_off4 c = ![512 * ((c.val / 4 + (4 - (0 : Fin 4).val)) % 4), 0] := by
  rw [k0_off4_eq]
  have hc := c.isLt
  simp only [nD] at hc
  refine congrArg (fun n => ![n, 0]) ?_
  show _ = 512 * ((c.val / 4 + 4) % 4)
  omega
theorem off5_1 : k0_off5 c 1#32 = ![512 * ((c.val / 4 + (4 - (1 : Fin 4).val)) % 4), 0] := by
  rw [show (1#32 : BitVec 32) = BitVec.ofNat 32 (1 + (0 : Fin 3).val) from rfl, k0_off5_eq]
  have hc := c.isLt
  simp only [nD] at hc
  refine congrArg (fun n => ![n, 0]) ?_
  show 512 * ((2 * (c.val / 8) + c.val / 4 % 2 + 3 - 0) % 4) = 512 * ((c.val / 4 + 3) % 4)
  omega
theorem off5_2 : k0_off5 c 2#32 = ![512 * ((c.val / 4 + (4 - (2 : Fin 4).val)) % 4), 0] := by
  rw [show (2#32 : BitVec 32) = BitVec.ofNat 32 (1 + (1 : Fin 3).val) from rfl, k0_off5_eq]
  have hc := c.isLt
  simp only [nD] at hc
  refine congrArg (fun n => ![n, 0]) ?_
  show 512 * ((2 * (c.val / 8) + c.val / 4 % 2 + 3 - 1) % 4) = 512 * ((c.val / 4 + 2) % 4)
  omega
theorem off5_3 : k0_off5 c 3#32 = ![512 * ((c.val / 4 + (4 - (3 : Fin 4).val)) % 4), 0] := by
  rw [show (3#32 : BitVec 32) = BitVec.ofNat 32 (1 + (2 : Fin 3).val) from rfl, k0_off5_eq]
  have hc := c.isLt
  simp only [nD] at hc
  refine congrArg (fun n => ![n, 0]) ?_
  show 512 * ((2 * (c.val / 8) + c.val / 4 % 2 + 3 - 2) % 4) = 512 * ((c.val / 4 + 1) % 4)
  omega

/-- The group's columns of the rounded up-projections. -/
abbrev wcSl : Memref sig .tc .vmem S128x1024 .bf16 := wcM.slice (Rect.unit (s := S128x4096) (k0_off3 c) S128x1024.size (k0_off3_inb c)) (fun _ => rfl)
/-- They are on their way into slot 0. -/
def fW : sProp 𝕄 :=
  iprop(Fl c 0 Nw iprop(wAt c 0 fullShare (wgV m c) ∗ (((wcSl c).view.loc (c : Thread nD τ)) ↦[(wcSl c).view.set]{fullShare} wcV m c))
    ∗ ((((wcSl c).view.loc (c : Thread nD τ)) ↦[(wcSl c).view.set]{fullShare} wcV m c) -∗ own c cc0_scratch2 fullShare (wcV m c)))

theorem cp_w {α : Type} {Q : α → sProp 𝕄} {sm : DmaSem sig} (hsm : sm = (⟨65, by decide⟩ : DmaSem sig)) {src : Memref sig .tc .vmem S128x1024 .bf16} (hs : src = wcSl c)
    {dst : Memref sig .tc .vmem S128x1024 .bf16} (hd : dst = wSl 0) {h1 h2 h3 k} :
    iprop(own c cc0_scratch2 fullShare (wcV m c) ∗ (∃ f, wAt c 0 fullShare f) ∗ Lz c 0)
      ⊢ iprop((fW m c -∗ go c (k ⟨⟩) Q) -∗ go c (.op (.enqueueDma src (.here dst) (.dma sm) h1 h2 h3) k) Q) := by
  subst hs; subst hd
  iintro ⟨Hs, Hd, Hv⟩ Hk
  icases (pointsTo_split_subset (I := (wcSl c).view.set) (Finset.subset_univ _)).1 $$ Hs with ⟨Hs, Hr⟩
  iapply (wp_cp c 0 (src := wcSl c) (dst := wSl 0) hsm (N := Nw) rfl Nw_pos rfl (wSl_set 0) (fs := wcV m c) (wgV m c) ?_) $$ [Hs Hd Hv]
  · intro y
    rw [wSl_read]
    refine Eq.trans ?_ (wgV_own m c _ _).symm
    have hc := c.isLt
    simp only [nD] at hc
    have e0 : k0_off3 c 0 = 0 := congrFun (k0_off3_eq c) 0
    have e1 : k0_off3 c 1 = 2048 * (c.val / 8) + 1024 * ((c.val / 4) % 2) := congrFun (k0_off3_eq c) 1
    exact congrArg (wcV m c) (idx2 (show k0_off3 c 0 + 1 * (y 0).val = (y 0).val by omega) (show k0_off3 c 1 + 1 * (y 1).val = 1024 * (c.val / 4) + (y 1).val by omega))
  · isplitl [Hs]; · iexact Hs
    isplitl [Hd]; · iexact Hd
    iexact Hv
  iintro HF
  iapply Hk
  unfold fW
  isplitl [HF]; · iexact HF
  iintro Hs
  iapply (pointsTo_split_subset (I := (wcSl c).view.set) (Finset.subset_univ _)).2
  isplitl [Hs]; · iexact Hs
  iexact Hr

end

/-! ## The waits for them -/

section
variable (K : Dev nD × Fin 61 → ℕ) (c : Dev nD) {n u : ℕ}

theorem lw_x {α : Type} {Q : α → sProp 𝕄} {sp sp' : Space} {s s' : Shape} {e e' : EltTy} {src : Memref sig .tc sp' s' e'} {dst : Memref sig .tc sp s e}
    {sm : DmaSem sig} (hsm : sm = (⟨68, by decide⟩ : DmaSem sig)) (hN : dst.view.dmaCredit = Nx) {h1 h2 k} :
    iprop(env m K ∗ Pr1 c n u ∗ fX m c) ⊢ iprop((iprop(Pr1 c n u ∗ own c cc0_scratch0 fullShare (xV m c) ∗ Lz c 3) -∗ go c (k ⟨⟩) Q)
        -∗ go c (.op (.waitDma2 sm src dst h1 h2) k) Q) := wp_lw m K c 3 hsm hN
theorem lw_q {α : Type} {Q : α → sProp 𝕄} {sp sp' : Space} {s s' : Shape} {e e' : EltTy} {src : Memref sig .tc sp' s' e'} {dst : Memref sig .tc sp s e}
    {sm : DmaSem sig} (hsm : sm = (⟨66, by decide⟩ : DmaSem sig)) (hN : dst.view.dmaCredit = Nq) {h1 h2 k} :
    iprop(env m K ∗ Pr1 c n u ∗ fQ m c) ⊢ iprop((iprop(Pr1 c n u ∗ own c cc0_scratch4 fullShare (qtV m c) ∗ Lz c 1) -∗ go c (k ⟨⟩) Q)
        -∗ go c (.op (.waitDma2 sm src dst h1 h2) k) Q) := wp_lw m K c 1 hsm hN
theorem lw_qr {α : Type} {Q : α → sProp 𝕄} {sp sp' : Space} {s s' : Shape} {e e' : EltTy} {src : Memref sig .tc sp' s' e'} {dst : Memref sig .tc sp s e}
    {sm : DmaSem sig} (hsm : sm = (⟨67, by decide⟩ : DmaSem sig)) (hN : dst.view.dmaCredit = Nqr) {h1 h2 k} :
    iprop(env m K ∗ Pr1 c n u ∗ fQr m c) ⊢ iprop((iprop(Pr1 c n u ∗ own c cc0_scratch6 fullShare (qrtV m c) ∗ Lz c 2) -∗ go c (k ⟨⟩) Q)
        -∗ go c (.op (.waitDma2 sm src dst h1 h2) k) Q) := wp_lw m K c 2 hsm hN
theorem lw_t {α : Type} {Q : α → sProp 𝕄} (t : Fin 2) (d : Fin 4) {sp sp' : Space} {s s' : Shape} {e e' : EltTy} {src : Memref sig .tc sp' s' e'} {dst : Memref sig .tc sp s e}
    {sm : DmaSem sig} (hsm : sm = (⟨65 + t.val, by have := t.isLt; change _ < 69; omega⟩ : DmaSem sig)) (hN : dst.view.dmaCredit = Nt) {h1 h2 k} :
    iprop(env m K ∗ Pr1 c n u ∗ fT m c t d) ⊢ iprop((iprop(Pr1 c n u ∗ tAt c t (tV m c d) ∗ Lz c ⟨t.val, by omega⟩) -∗ go c (k ⟨⟩) Q)
        -∗ go c (.op (.waitDma2 sm src dst h1 h2) k) Q) := wp_lw m K c ⟨t.val, by omega⟩ hsm hN
theorem lw_w {α : Type} {Q : α → sProp 𝕄} {sp sp' : Space} {s s' : Shape} {e e' : EltTy} {src : Memref sig .tc sp' s' e'} {dst : Memref sig .tc sp s e}
    {sm : DmaSem sig} (hsm : sm = (⟨65, by decide⟩ : DmaSem sig)) (hN : dst.view.dmaCredit = Nw) {h1 h2 k} :
    iprop(env m K ∗ Pr1 c n u ∗ fW m c) ⊢ iprop((iprop(Pr1 c n u ∗ (wAt c 0 (qs 0) (wgV m c) ∗ wAt c 0 (qs 1) (wgV m c) ∗ wAt c 0 (qs 2) (wgV m c) ∗ wAt c 0 (qs 3) (wgV m c))
        ∗ own c cc0_scratch2 fullShare (wcV m c) ∗ Lz c 0) -∗ go c (k ⟨⟩) Q)
        -∗ go c (.op (.waitDma2 sm src dst h1 h2) k) Q) := by
  unfold fW
  iintro ⟨HE, HP, HF, Hback⟩ Hk
  iapply (wp_lw m K c 0 hsm hN) $$ [HE HP HF]
  · isplitl [HE]; · iexact HE
    isplitl [HP]; · iexact HP
    iexact HF
  iintro ⟨HP, ⟨Hw, Hs⟩, Hv⟩
  iapply Hk
  isplitl [HP]; · iexact HP
  isplitl [Hw]; · iapply (quarters _ _).1 $$ Hw
  isplitl [Hback Hs]
  · iapply Hback $$ Hs
  iexact Hv

end

end Cert.Mla

end
-- ==== Proof.Bundles.lean ====
/-
The steps of the body as its parts use them: every step takes what it needs out of a few bundles and puts it back.
-/
module

public import proofs.«01_k».proof.Proof.Copies

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 61 → ℕ)

/-- A part of the kernel's body at the buffers the program gives it. -/
abbrev ap.{u} {β : Type u} (f : (arg0 : Memref sig .tc .hbm S2x512x2048 .f32) → arg0.IsWhole → (arg1 : Memref sig .tc .vmem S2048x128 .f32) → arg1.IsWhole →
    (arg2 : Memref sig .tc .vmem S128x2048 .f32) → arg2.IsWhole → (arg3 : Memref sig .tc .vmem S128x2048 .f32) → arg3.IsWhole →
    (arg4 : Memref sig .tc .hbm S2048x2048 .f32) → arg4.IsWhole → (arg5 : Memref sig .tc .hbm S2048x512 .f32) → arg5.IsWhole →
    (arg6 : Memref sig .tc .vmem S2048x32 .f32) → arg6.IsWhole → (arg7 : Memref sig .tc .hbm S2048x2048 .f32) → arg7.IsWhole →
    (arg8 : Memref sig .tc .vmem S2x512x2048 .f32) → arg8.IsWhole → (arg9 : Memref sig .tc .vmem S2x512x2048 .f32) → arg9.IsWhole →
    (arg10 : Memref sig .tc .vmem S4x1024x128 .bf16) → arg10.IsWhole → (arg11 : Memref sig .tc .vmem S128x4096 .bf16) → arg11.IsWhole →
    (arg12 : Memref sig .tc .vmem S4x128x1024 .bf16) → arg12.IsWhole → (arg13 : Memref sig .tc .vmem S2048x512 .f32) → arg13.IsWhole →
    (arg14 : Memref sig .tc .vmem S1024x512 .bf16) → arg14.IsWhole → (arg15 : Memref sig .tc .vmem S2048x128 .f32) → arg15.IsWhole →
    (arg16 : Memref sig .tc .vmem S1024x128 .bf16) → arg16.IsWhole → (arg17 : Memref sig .tc .vmem S1024x32 .bf16) → arg17.IsWhole →
    (arg18 : Memref sig .tc .vmem S1024x512 .bf16) → arg18.IsWhole → (arg19 : Memref sig .tc .vmem S4x1024x512 .bf16) → arg19.IsWhole →
    (arg20 : Memref sig .tc .vmem S2x512x2048 .f32) → arg20.IsWhole → DmaSems sig S6 → DmaSems sig S6 → DmaSems sig S24 → DmaSems sig S24 → DmaSems sig S4 → β) : β :=
  f xA (Memref.isWhole_whole _) wdkvM (hstage0_0 0) wukM (hstage0_1 0) wuvM (hstage0_2 0) wqA (Memref.isWhole_whole _) wqrA (Memref.isWhole_whole _)
    wkrM (hstage0_3 0) woA (Memref.isWhole_whole _) outM (hstage0_4 0) xM (Memref.isWhole_whole _) cgM (Memref.isWhole_whole _) wcM (Memref.isWhole_whole _)
    wgM (Memref.isWhole_whole _) qtM (Memref.isWhole_whole _) qM (Memref.isWhole_whole _) qrtM (Memref.isWhole_whole _) qrM (Memref.isWhole_whole _)
    krM (Memref.isWhole_whole _) ooM (Memref.isWhole_whole _) ogM (Memref.isWhole_whole _) wtM (Memref.isWhole_whole _)
    cc0_scratch12 cc0_scratch13 cc0_scratch14 cc0_scratch15 cc0_scratch16

/-! ## The devices addressed -/

theorem dev1 (c : Dev nD) : (⟨k0_dev1 c, k0_dev1_lt c⟩ : Dev nD) = zf 1 c := by revert c; decide +kernel
theorem dev2 (c : Dev nD) : (⟨k0_dev2 c, k0_dev2_lt c⟩ : Dev nD) = zf 2 c := by revert c; decide +kernel
theorem dev3 (c : Dev nD) : (⟨k0_dev3 c, k0_dev3_lt c⟩ : Dev nD) = zf 3 c := by revert c; decide +kernel
theorem dev4 (c : Dev nD) : (⟨k0_dev4 c, k0_dev4_lt c⟩ : Dev nD) = pf 1 c := by revert c; decide +kernel
theorem dev5 (c : Dev nD) : (⟨k0_dev5 c, k0_dev5_lt c⟩ : Dev nD) = pf 2 c := by revert c; decide +kernel
theorem dev6 (c : Dev nD) : (⟨k0_dev6 c, k0_dev6_lt c⟩ : Dev nD) = pf 3 c := by revert c; decide +kernel
theorem dev7 (c : Dev nD) : (⟨k0_dev7 c, k0_dev7_lt c⟩ : Dev nD) = zf 1 c := by revert c; decide +kernel
theorem dev8 (c : Dev nD) : (⟨k0_dev8 c, k0_dev8_lt c⟩ : Dev nD) = zf 2 c := by revert c; decide +kernel
theorem dev9 (c : Dev nD) : (⟨k0_dev9 c, k0_dev9_lt c⟩ : Dev nD) = zf 3 c := by revert c; decide +kernel
theorem dev10 (c : Dev nD) : (⟨k0_dev10 c, k0_dev10_lt c⟩ : Dev nD) = zf 1 c := by revert c; decide +kernel
theorem dev11 (c : Dev nD) : (⟨k0_dev11 c, k0_dev11_lt c⟩ : Dev nD) = zf 2 c := by revert c; decide +kernel
theorem dev12 (c : Dev nD) : (⟨k0_dev12 c, k0_dev12_lt c⟩ : Dev nD) = zf 3 c := by revert c; decide +kernel
theorem dev13 (c : Dev nD) : (⟨k0_dev13 c, k0_dev13_lt c⟩ : Dev nD) = pf 1 c := by revert c; decide +kernel
theorem dev14 (c : Dev nD) : (⟨k0_dev14 c, k0_dev14_lt c⟩ : Dev nD) = pf 2 c := by revert c; decide +kernel
theorem dev15 (c : Dev nD) : (⟨k0_dev15 c, k0_dev15_lt c⟩ : Dev nD) = pf 3 c := by revert c; decide +kernel
theorem dev16 (c : Dev nD) : (⟨k0_dev16 c, k0_dev16_lt c⟩ : Dev nD) = pf 1 c := by revert c; decide +kernel
theorem dev17 (c : Dev nD) : (⟨k0_dev17 c, k0_dev17_lt c⟩ : Dev nD) = pf 2 c := by revert c; decide +kernel
theorem dev18 (c : Dev nD) : (⟨k0_dev18 c, k0_dev18_lt c⟩ : Dev nD) = pf 3 c := by revert c; decide +kernel
theorem dev19 (c : Dev nD) : (⟨k0_dev19 c, k0_dev19_lt c⟩ : Dev nD) = pf 1 c := by revert c; decide +kernel
theorem dev20 (c : Dev nD) : (⟨k0_dev20 c, k0_dev20_lt c⟩ : Dev nD) = pf 2 c := by revert c; decide +kernel
theorem dev21 (c : Dev nD) : (⟨k0_dev21 c, k0_dev21_lt c⟩ : Dev nD) = pf 3 c := by revert c; decide +kernel
theorem dev22 (c : Dev nD) : (⟨k0_dev22 c, k0_dev22_lt c⟩ : Dev nD) = pf 1 c := by revert c; decide +kernel
theorem dev23 (c : Dev nD) : (⟨k0_dev23 c, k0_dev23_lt c⟩ : Dev nD) = pf 2 c := by revert c; decide +kernel
theorem dev24 (c : Dev nD) : (⟨k0_dev24 c, k0_dev24_lt c⟩ : Dev nD) = pf 3 c := by revert c; decide +kernel
theorem dev25 (c : Dev nD) : (⟨k0_dev25 c, k0_dev25_lt c⟩ : Dev nD) = pf 1 c := by revert c; decide +kernel
theorem dev26 (c : Dev nD) : (⟨k0_dev26 c, k0_dev26_lt c⟩ : Dev nD) = pf 2 c := by revert c; decide +kernel
theorem dev27 (c : Dev nD) : (⟨k0_dev27 c, k0_dev27_lt c⟩ : Dev nD) = pf 3 c := by revert c; decide +kernel
theorem dev28 (c : Dev nD) : (⟨k0_dev28 c, k0_dev28_lt c⟩ : Dev nD) = pf 1 c := by revert c; decide +kernel
theorem dev29 (c : Dev nD) : (⟨k0_dev29 c, k0_dev29_lt c⟩ : Dev nD) = pf 2 c := by revert c; decide +kernel
theorem dev30 (c : Dev nD) : (⟨k0_dev30 c, k0_dev30_lt c⟩ : Dev nD) = pf 3 c := by revert c; decide +kernel
theorem dev31 (c : Dev nD) : (⟨k0_dev31 c, k0_dev31_lt c⟩ : Dev nD) = pf 1 c := by revert c; decide +kernel
theorem dev32 (c : Dev nD) : (⟨k0_dev32 c, k0_dev32_lt c⟩ : Dev nD) = pf 2 c := by revert c; decide +kernel
theorem dev33 (c : Dev nD) : (⟨k0_dev33 c, k0_dev33_lt c⟩ : Dev nD) = pf 3 c := by revert c; decide +kernel
theorem dev34 (c : Dev nD) : (⟨k0_dev34 c, k0_dev34_lt c⟩ : Dev nD) = pf 1 c := by revert c; decide +kernel
theorem dev35 (c : Dev nD) : (⟨k0_dev35 c, k0_dev35_lt c⟩ : Dev nD) = pf 2 c := by revert c; decide +kernel
theorem dev36 (c : Dev nD) : (⟨k0_dev36 c, k0_dev36_lt c⟩ : Dev nD) = pf 3 c := by revert c; decide +kernel

section
variable (c : Dev nD)

/-- The end of a part. -/
theorem go_ret {α : Type} {Q : α → sProp 𝕄} {a : α} : Q a ⊢ go c (.ret a) Q := by
  iintro H
  unfold go
  rw [wp_ret]; imodintro
  iexact H

/-- A step that uses part of a bundle. -/
theorem inB {B P X Y : sProp 𝕄} (h : B ⊢ iprop(P ∗ (P -∗ B))) (hl : P ⊢ iprop((P -∗ X) -∗ Y)) : B ⊢ iprop((B -∗ X) -∗ Y) := by
  iintro HB Hk
  icases h $$ HB with ⟨HP, Hback⟩
  iapply hl $$ HP
  iintro HP
  iapply Hk
  iapply Hback $$ HP

theorem pick4 (f : Fin 4 → sProp 𝕄) (d : Fin 4) : bigSep Finset.univ f ⊢ iprop(f d ∗ (f d -∗ bigSep Finset.univ f)) := by
  have e : bigSep Finset.univ f = iprop(f d ∗ bigSep (Finset.univ.erase d) f) := bigSep_erase (Finset.mem_univ d)
  rw [e]
  iintro ⟨H, Hr⟩
  isplitl [H]; · iexact H
  iintro H
  isplitl [H]; · iexact H
  iexact Hr

/-! ## What attention reads -/

/-- The share held of a slot: a quarter of the own one, the whole of the others. -/
def kq : Fin 4 → PosShare TreeShare
  | 0 => qs 0
  | _ => fullShare

/-- The queries, the rotary keys, the gathered compressed keys and up-projections. -/
def att : sProp 𝕄 :=
  iprop(own c cc0_scratch8 fullShare (krV m c) ∗ own c cc0_scratch5 fullShare (qV m c) ∗ own c cc0_scratch7 fullShare (qrV m c)
    ∗ (bigSep Finset.univ fun d => cAt c d (kq d) (cgV m c)) ∗ bigSep Finset.univ fun d => wAt c d (kq d) (wgV m c))

theorem at_kr {α : Type} {Q : α → sProp 𝕄} (b : Fin 2) {off : Fin 2 → ℕ} (ho : off = ![512 * b.val, 0]) {inb hl k} :
    att m c ⊢ iprop((att m c -∗ go c (k (krB m c b)) Q)
      -∗ go c (.op (.load krM (Rect.unit (s := S1024x32) off S512x32.size inb).toLoadRect hl) k) Q) :=
  inB (by
    unfold att
    iintro ⟨A, R⟩
    isplitl [A]; · iexact A
    iintro A
    isplitl [A]; · iexact A
    iexact R) (ld_kr m c b ho)
theorem at_q {α : Type} {Q : α → sProp 𝕄} (b : Fin 2) (h : Fin 4) {off : Fin 2 → ℕ} (ho : off = ![512 * b.val, 128 * h.val]) {inb hl k} :
    att m c ⊢ iprop((att m c -∗ go c (k (qB m c b h)) Q)
      -∗ go c (.op (.load qM (Rect.unit (s := S1024x512) off S512x128.size inb).toLoadRect hl) k) Q) :=
  inB (by
    unfold att
    iintro ⟨R, A, R'⟩
    isplitl [A]; · iexact A
    iintro A
    isplitl [R]; · iexact R
    isplitl [A]; · iexact A
    iexact R') (ld_q m c b h ho)
theorem at_qr {α : Type} {Q : α → sProp 𝕄} (b : Fin 2) (h : Fin 4) {off : Fin 2 → ℕ} (ho : off = ![512 * b.val, 32 * h.val]) {inb hl k} :
    att m c ⊢ iprop((att m c -∗ go c (k (qrB m c b h)) Q)
      -∗ go c (.op (.load qrM (Rect.unit (s := S1024x128) off S512x32.size inb).toLoadRect hl) k) Q) :=
  inB (by
    unfold att
    iintro ⟨R, R', A, R2⟩
    isplitl [A]; · iexact A
    iintro A
    isplitl [R]; · iexact R
    isplitl [R']; · iexact R'
    isplitl [A]; · iexact A
    iexact R2) (ld_qr m c b h ho)
theorem at_c {α : Type} {Q : α → sProp 𝕄} (d : Fin 4) (b : Fin 2) {off : Fin 3 → ℕ} (ho : off = ![d.val, 512 * b.val, 0]) {inb hl k} :
    att m c ⊢ iprop((att m c -∗ go c (k (cB m c d b)) Q)
      -∗ go c (.op (.load cgM (Rect.unit (s := S4x1024x128) off S1x512x128.size inb).toLoadRect hl) k) Q) :=
  inB (P := cAt c d (kq d) (cgV m c)) (by
    unfold att
    iintro ⟨R, R', R2, A, R3⟩
    icases (pick4 (fun d => cAt c d (kq d) (cgV m c)) d) $$ A with ⟨A, Hb⟩
    isplitl [A]; · iexact A
    iintro A
    isplitl [R]; · iexact R
    isplitl [R']; · iexact R'
    isplitl [R2]; · iexact R2
    isplitl [A Hb]; · iapply Hb $$ A
    iexact R3) (ld_c m c d b ho)
theorem at_w {α : Type} {Q : α → sProp 𝕄} (d h : Fin 4) {off : Fin 3 → ℕ} (ho : off = ![d.val, 0, 256 * h.val]) {inb hl k} :
    att m c ⊢ iprop((att m c -∗ go c (k (wB m c d h)) Q)
      -∗ go c (.op (.load wgM (Rect.unit (s := S4x128x1024) off S1x128x256.size inb).toLoadRect hl) k) Q) :=
  inB (P := wAt c d (kq d) (wgV m c)) (by
    unfold att
    iintro ⟨R, R', R2, R3, A⟩
    icases (pick4 (fun d => wAt c d (kq d) (wgV m c)) d) $$ A with ⟨A, Hb⟩
    isplitl [A]; · iexact A
    iintro A
    isplitl [R]; · iexact R
    isplitl [R']; · iexact R'
    isplitl [R2]; · iexact R2
    isplitl [R3]; · iexact R3
    iapply Hb $$ A) (ld_w m c d h ho)

/-! ## Loads whose result is not used -/

theorem set_on (b : Ref sig .tc) (M : Finset b.ty.shape.Idx) : (Memref.whole b).view.setOn M ⊆ M := by
  intro x hx
  obtain ⟨y, hy, e⟩ := Finset.mem_map.mp hx
  have e' : y = x := e
  exact e' ▸ hy

theorem dd_kr {α : Type} {Q : α → sProp 𝕄} {r : LoadRect S1024x32} {hl : krM.view.LoadsAt r} {k} :
    SmAny (F := F) c krM Finset.univ ⊢ iprop((∀ v, SmAny c krM Finset.univ -∗ go c (k v) Q) -∗ go c (.op (.load krM r hl) k) Q) :=
  wp_dead c (μ := krM) (r := r) (S := Finset.univ) (φ := fun _ => True) (Finset.subset_univ _)
theorem dd_q {α : Type} {Q : α → sProp 𝕄} {r : LoadRect S1024x512} {hl : qM.view.LoadsAt r} {k} :
    SmAny (F := F) c qM Finset.univ ⊢ iprop((∀ v, SmAny c qM Finset.univ -∗ go c (k v) Q) -∗ go c (.op (.load qM r hl) k) Q) :=
  wp_dead c (μ := qM) (r := r) (S := Finset.univ) (φ := fun _ => True) (Finset.subset_univ _)
theorem dd_qr {α : Type} {Q : α → sProp 𝕄} {r : LoadRect S1024x128} {hl : qrM.view.LoadsAt r} {k} :
    SmAny (F := F) c qrM Finset.univ ⊢ iprop((∀ v, SmAny c qrM Finset.univ -∗ go c (k v) Q) -∗ go c (.op (.load qrM r hl) k) Q) :=
  wp_dead c (μ := qrM) (r := r) (S := Finset.univ) (φ := fun _ => True) (Finset.subset_univ _)
theorem dd_c {α : Type} {Q : α → sProp 𝕄} {inb hl k} :
    SmAny (F := F) c cgM (cR 0).set ⊢ iprop((∀ v, SmAny c cgM (cR 0).set -∗ go c (k v) Q)
      -∗ go c (.op (.load cgM (Rect.unit (s := S4x1024x128) ![0, 0, 0] S1x1024x128.size inb).toLoadRect hl) k) Q) :=
  wp_dead c (μ := cgM) (r := (Rect.unit (s := S4x1024x128) ![0, 0, 0] S1x1024x128.size inb).toLoadRect) (S := (cR 0).set) (φ := fun _ => True)
    (set_on cc0_scratch1 _)

/-! ## The head outputs, tile by tile -/

/-- The tiles from `n` on to be written; of those before, the first quarter. -/
def oS (n : ℕ) : sProp 𝕄 :=
  iprop(rest (fun t : Fin 8 => SmAny (F := F) c ooM (oR t).set) n ∗ upto (fun t : Fin 8 => oAt c t (qs 0) (ooV m c)) n)

theorem os_dead {α : Type} {Q : α → sProp 𝕄} (t : Fin 8) {n : ℕ} (hn : n = t.val) {off : Fin 2 → ℕ} (ho : off = ![512 * (t.val / 4), 128 * (t.val % 4)]) {inb hl k} :
    oS m c n ⊢ iprop((∀ v, oS m c n -∗ go c (k v) Q)
      -∗ go c (.op (.load ooM (Rect.unit (s := S1024x512) off S512x128.size inb).toLoadRect hl) k) Q) := by
  subst hn; subst ho
  unfold oS
  rw [rest_succ _ t]
  iintro ⟨⟨A, R⟩, R'⟩ Hk
  iapply (wp_dead c (μ := ooM) (r := (Rect.unit (s := S1024x512) ![512 * (t.val / 4), 128 * (t.val % 4)] S512x128.size inb).toLoadRect) (S := (oR t).set)
    (φ := fun _ => True) (set_on cc0_scratch9 _)) $$ A
  iintro %v A
  iapply Hk
  isplitl [A R]
  · isplitl [A]; · iexact A
    iexact R
  iexact R'

theorem os_st {α : Type} {Q : α → sProp 𝕄} (b : Fin 2) (h : Fin 4) (t : Fin 8) (ht : t.val = 4 * b.val + h.val) {n n' : ℕ} (hn : n = t.val) (hn' : n' = n + 1)
    {off : Fin 2 → ℕ} (ho : off = ![512 * b.val, 128 * h.val]) {w : FVec F S512x128 .bf16} (hw : w = tileV m c b h) {inb hx hm k} :
    oS m c n ⊢ iprop((iprop(oS m c n' ∗ oAt c t (qs 1) (ooV m c) ∗ oAt c t (qs 2) (ooV m c) ∗ oAt c t (qs 3) (ooV m c)) -∗ go c (k ⟨⟩) Q)
      -∗ go c (.op (.store ooM (Rect.unit (s := S1024x512) off S512x128.size inb) w Finset.univ hx hm) k) Q) := by
  subst hn'; subst hn
  unfold oS
  rw [rest_succ _ t, upto_succ _ t]
  iintro ⟨⟨A, R⟩, R'⟩ Hk
  iapply (st_o m c b h t ht ho hw) $$ A
  iintro A
  icases (quarters _ _).1 $$ A with ⟨A0, A1, A2, A3⟩
  iapply Hk
  isplitl [R A0 R']
  · isplitl [R]; · iexact R
    isplitl [A0]; · iexact A0
    iexact R'
  isplitl [A1]; · iexact A1
  isplitl [A2]; · iexact A2
  iexact A3

theorem os_all : oS m c 8 ⊢ own c cc0_scratch9 (qs 0) (ooV m c) := by
  unfold oS
  rw [upto_all, ← cutO]
  iintro ⟨-, H⟩
  iexact H

/-- The first `n` tiles of slot `d` of the gathered head outputs. -/
def gG (d : Fin 4) (n : ℕ) : sProp 𝕄 := upto (fun t : Fin 8 => gAt c d t (ogV m c)) n
theorem gG_zero (d : Fin 4) : iprop(emp) ⊢ gG m c d 0 := by unfold gG; rw [upto_zero]
theorem gG_all (d : Fin 4) : gG m c d 8 ⊢ gSAt c d (ogV m c) := by unfold gG; rw [upto_all, cutGS]

/-! ## Arrivals and departures -/

theorem rRole_w (i : Fin 3) : rRole ⟨i.val, by omega⟩ = .zr ⟨i.val, by omega⟩ := by revert i; decide
theorem rRole_c (i : Fin 3) : rRole ⟨3 + i.val, by omega⟩ = .zr ⟨3 + i.val, by omega⟩ := by revert i; decide
theorem rRole_o (t : Fin 8) (e : Fin 3) : rRole ⟨6 + (8 * e.val + t.val), by omega⟩ = .or ⟨8 * e.val + t.val, by omega⟩ := by revert t e; decide
theorem wRole_z (i : Fin 6) : wRole ⟨i.val, by omega⟩ = .zs i := by revert i; decide
theorem wRole_o (i : Fin 24) : wRole ⟨6 + i.val, by omega⟩ = .os i := by revert i; decide

section
variable {sp sp' : Space} {s s' : Shape} {e e' : EltTy} {src : Memref sig .tc sp' s' e'} {dst : Memref sig .tc sp s e}
  {hsrc : src.view.WordExact} {hdst : dst.view.WordExact} {sem : DmaSem sig}

theorem rc_w {α : Type} {Q : α → sProp 𝕄} (i : Fin 3) {u u' : ℕ} (hu : u = i.val) (hu' : u' = u + 1)
    (hs : (SemLoc.dma sem : SemLoc sig) = (Role.zr ⟨i.val, by omega⟩).sem) (hN : dst.view.dmaCredit = Nw) {k : PUnit → Prog (TpuEff nD τ sig (Elt F) Λ₀ .tc) α} :
    iprop(env m K ∗ Pr1 c 6 u) ⊢ iprop((iprop(Pr1 c 6 u' ∗ wAt c (plc i) fullShare (wgV m c)) -∗ go c (k ⟨⟩) Q)
      -∗ go c (.op (.waitDma2 sem src dst hsrc hdst) k) Q) := by
  subst hu'; subst hu
  have h := wp_recv m K c 6 ⟨i.val, by omega⟩ (Nat.le_refl _) (fun h => absurd h (Nat.not_le.mpr (show i.val < 6 by omega)))
    (sem := sem) (src := src) (dst := dst) (hsrc := hsrc) (hdst := hdst) (kt := k) (Q := Q)
    (by rw [rRole_w]; exact hs) (by rw [rRole_w]; exact hN.trans (if_pos i.isLt).symm)
  rw [rRole_w, pay_zr_w] at h
  exact h

theorem rc_c {α : Type} {Q : α → sProp 𝕄} (i : Fin 3) {u u' : ℕ} (hu : u = 3 + i.val) (hu' : u' = u + 1)
    (hs : (SemLoc.dma sem : SemLoc sig) = (Role.zr ⟨3 + i.val, by omega⟩).sem) (hN : dst.view.dmaCredit = Nc) {k : PUnit → Prog (TpuEff nD τ sig (Elt F) Λ₀ .tc) α} :
    iprop(env m K ∗ Pr1 c 6 u) ⊢ iprop((iprop(Pr1 c 6 u' ∗ cAt c (plc i) fullShare (cgV m c)) -∗ go c (k ⟨⟩) Q)
      -∗ go c (.op (.waitDma2 sem src dst hsrc hdst) k) Q) := by
  subst hu'; subst hu
  have h := wp_recv m K c 6 ⟨3 + i.val, by omega⟩ (Nat.le_refl _) (fun h => absurd h (Nat.not_le.mpr (show 3 + i.val < 6 by omega)))
    (sem := sem) (src := src) (dst := dst) (hsrc := hsrc) (hdst := hdst) (kt := k) (Q := Q)
    (by rw [rRole_c]; exact hs) (by rw [rRole_c]; exact hN.trans (if_neg (show ¬ 3 + i.val < 3 by omega)).symm)
  rw [rRole_c, pay_zr_c] at h
  exact h

theorem rc_o {α : Type} {Q : α → sProp 𝕄} (j : Fin 3) (t : Fin 8) {u u' : ℕ} (hu : u = 6 + (8 * j.val + t.val)) (hu' : u' = u + 1) {n n' : ℕ} (hn : n = t.val) (hn' : n' = n + 1)
    (hs : (SemLoc.dma sem : SemLoc sig) = (Role.or ⟨8 * j.val + t.val, by omega⟩).sem) (hN : dst.view.dmaCredit = No) {k : PUnit → Prog (TpuEff nD τ sig (Elt F) Λ₀ .tc) α} :
    iprop(env m K ∗ Pr1 c 30 u ∗ gG m c (plc j) n) ⊢ iprop((iprop(Pr1 c 30 u' ∗ gG m c (plc j) n') -∗ go c (k ⟨⟩) Q)
      -∗ go c (.op (.waitDma2 sem src dst hsrc hdst) k) Q) := by
  subst hu'; subst hu; subst hn'; subst hn
  have h := wp_recv m K c 30 ⟨6 + (8 * j.val + t.val), by omega⟩ (by omega) (fun _ => rfl)
    (sem := sem) (src := src) (dst := dst) (hsrc := hsrc) (hdst := hdst) (kt := k) (Q := Q)
    (by rw [rRole_o]; exact hs) (by rw [rRole_o]; exact hN)
  rw [rRole_o, pay_or] at h
  unfold gG
  rw [upto_succ _ t]
  iintro ⟨HE, HP, HG⟩ Hk
  iapply h $$ [HE HP]
  · isplitl [HE]; · iexact HE
    iexact HP
  iintro ⟨HP, H⟩
  iapply Hk
  isplitl [HP]; · iexact HP
  isplitl [H]; · iexact H
  iexact HG

theorem sn_z {α : Type} {Q : α → sProp 𝕄} (i : Fin 6) {v v' : ℕ} (hv : v = i.val) (hv' : v' = v + 1)
    (hs : (SemLoc.dma sem : SemLoc sig) = (Role.zs i).sem) (hN : dst.view.dmaCredit = amt (.zs i)) {k : PUnit → Prog (TpuEff nD τ sig (Elt F) Λ₀ .tc) α} :
    iprop(env m K ∗ Pr2 m c v) ⊢ iprop((Pr2 m c v' -∗ go c (k ⟨⟩) Q) -∗ go c (.op (.waitDma2 sem src dst hsrc hdst) k) Q) := by
  subst hv'; subst hv
  exact wp_sent m K c ⟨i.val, by omega⟩ (by rw [wRole_z]; exact hs) (by rw [wRole_z]; exact hN)
theorem sn_o {α : Type} {Q : α → sProp 𝕄} (i : Fin 24) {v v' : ℕ} (hv : v = 6 + i.val) (hv' : v' = v + 1)
    (hs : (SemLoc.dma sem : SemLoc sig) = (Role.os i).sem) (hN : dst.view.dmaCredit = No) {k : PUnit → Prog (TpuEff nD τ sig (Elt F) Λ₀ .tc) α} :
    iprop(env m K ∗ Pr2 m c v) ⊢ iprop((Pr2 m c v' -∗ go c (k ⟨⟩) Q) -∗ go c (.op (.waitDma2 sem src dst hsrc hdst) k) Q) := by
  subst hv'; subst hv
  exact wp_sent m K c ⟨6 + i.val, by omega⟩ (by rw [wRole_o]; exact hs) (by rw [wRole_o]; exact hN)

end

/-! ## The output's halves, slot by slot -/

def lo0 : Vec F S2x512x1024 .f32 := k0_pay80 (ooV m c) (woT m c 0)
def hi0 : Vec F S2x512x1024 .f32 := k0_pay81 (ooV m c) (woT m c 0)
def lo1 : Vec F S2x512x1024 .f32 := k0_pay84 (ogT m c 1) (woT m c 1) (lo0 m c)
def hi1 : Vec F S2x512x1024 .f32 := k0_pay85 (ogT m c 1) (woT m c 1) (hi0 m c)
def lo2 : Vec F S2x512x1024 .f32 := k0_pay88 (ogT m c 2) (woT m c 2) (lo1 m c)
def hi2 : Vec F S2x512x1024 .f32 := k0_pay89 (ogT m c 2) (woT m c 2) (hi1 m c)
def lo3 : Vec F S2x512x1024 .f32 := k0_pay92 (ogT m c 3) (woT m c 3) (lo2 m c)
def hi3 : Vec F S2x512x1024 .f32 := k0_pay93 (ogT m c 3) (woT m c 3) (hi2 m c)

end

end Cert.Mla

end
-- ==== Proof.Deal.lean ====
/-
The launch: the tokens, positions, credits and invariants of every cell, dealt to the devices that use them.
-/
module

public import proofs.«01_k».proof.Proof.Bundles

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells -/

theorem cell_inj {a b : Dev nD} {k l : Role} (h : cell a k = cell b l) : a = b ∧ k = l := by
  refine ⟨congrArg (fun g : GSem nD τ sig => g.1.1) h, ?_⟩
  have h2 : k.sem = l.sem := congrArg Prod.snd h
  exact Option.some.inj ((roleOf_sem k).symm.trans ((congrArg roleOf h2).trans (roleOf_sem l)))

theorem rk_inj {i j : Fin 61} (h : rk i = rk j) : i = j := (ik_rk i).symm.trans ((congrArg ik h).trans (ik_rk j))

def kcell (x : Dev nD × Fin 61) : GSem nD τ sig := cell x.1 (rk x.2)
theorem kcell_inj : Function.Injective kcell := by
  rintro ⟨c, i⟩ ⟨d, j⟩ h
  obtain ⟨h1, h2⟩ := cell_inj h
  exact Prod.ext h1 (rk_inj h2)
def allCells : Finset (GSem nD τ sig) := Finset.univ.map ⟨kcell, kcell_inj⟩

/-- One barrier, thirty and thirty others. -/
theorem roles_of {M : Type} [Idealize.SL.RA.URA M] {A B : Fin 30 → Role}
    (h : Function.Injective (Sum.elim (fun _ : Unit => ik .bar) (Sum.elim (fun n => ik (A n)) (fun n => ik (B n))))) (f : Role → sProp M) :
    (bigSep Finset.univ fun i : Fin 61 => f (rk i))
      = iprop(f .bar ∗ (bigSep Finset.univ fun n => f (A n)) ∗ bigSep Finset.univ fun n => f (B n)) := by
  rw [bigSep_univ_equiv (Equiv.ofBijective _ ((Fintype.bijective_iff_injective_and_card _).mpr ⟨h, rfl⟩)), bigSep_univ_sum, bigSep_univ_sum,
    bigSep_univ_of_subsingleton ()]
  have e : ∀ k, f (rk (ik k)) = f k := fun k => congrArg f (rk_ik k)
  show iprop(f (rk (ik .bar)) ∗ (bigSep Finset.univ fun n => f (rk (ik (A n)))) ∗ bigSep Finset.univ fun n => f (rk (ik (B n)))) = _
  rw [e, bigSep_congr (fun n _ => e (A n)), bigSep_congr (fun n _ => e (B n))]

theorem roles_s (f : Role → sProp 𝕄) : (bigSep Finset.univ fun i : Fin 61 => f (rk i))
    = iprop(f .bar ∗ (bigSep Finset.univ fun n => f (sRole n)) ∗ bigSep Finset.univ fun n => f (rRole n)) :=
  roles_of (by decide +kernel) f
theorem roles_w (f : Role → sProp 𝕄) : (bigSep Finset.univ fun i : Fin 61 => f (rk i))
    = iprop(f .bar ∗ (bigSep Finset.univ fun n => f (wRole n)) ∗ bigSep Finset.univ fun n => f (rRole n)) :=
  roles_of (by decide +kernel) f

/-! ## Tokens -/

/-- A device's own cells' tokens: six of the barrier, one of each departure, one of each arrival. -/
def tokOf : Dev nD × (Fin 6 ⊕ Fin 30 ⊕ Fin 30) → GSem nD τ sig × ℕ × Fin 6
  | (c, .inl d) => (cell c .bar, 0, d)
  | (c, .inr (.inl n)) => (cell c (sRole n), 0, 0)
  | (c, .inr (.inr n)) => (cell c (dRole n), 0, 0)
theorem sRole_inj : Function.Injective sRole := by
  have h : ∀ a b, ik (sRole a) = ik (sRole b) → a = b := by decide +kernel
  exact fun a b e => h a b (congrArg ik e)
theorem dRole_inj : Function.Injective dRole := by
  have h : ∀ a b, ik (dRole a) = ik (dRole b) → a = b := by decide +kernel
  exact fun a b e => h a b (congrArg ik e)
theorem sRole_ne_dRole (a b : Fin 30) : sRole a ≠ dRole b := by
  have h : ∀ a b, ik (sRole a) ≠ ik (dRole b) := by decide +kernel
  exact fun e => h a b (congrArg ik e)
theorem tokOf_inj : Function.Injective tokOf := by
  rintro ⟨c, i⟩ ⟨d, j⟩ h
  have hc : (tokOf (c, i)).1 = (tokOf (d, j)).1 := congrArg Prod.fst h
  rcases i with i | i | i <;> rcases j with j | j | j
  · obtain ⟨rfl, -⟩ := cell_inj hc
    have : i = j := congrArg (fun x : GSem nD τ sig × ℕ × Fin 6 => x.2.2) h
    rw [this]
  · exact absurd (cell_inj hc).2.symm (sRole_ne j)
  · exact absurd (cell_inj hc).2.symm (dRole_ne j)
  · exact absurd (cell_inj hc).2 (sRole_ne i)
  · obtain ⟨rfl, e⟩ := cell_inj hc; rw [sRole_inj e]
  · exact absurd (cell_inj hc).2 (sRole_ne_dRole i j)
  · exact absurd (cell_inj hc).2 (dRole_ne i)
  · exact absurd (cell_inj hc).2.symm (sRole_ne_dRole j i)
  · obtain ⟨rfl, e⟩ := cell_inj hc; rw [dRole_inj e]
def allToks : Finset (GSem nD τ sig × ℕ × Fin 6) := Finset.univ.map ⟨tokOf, tokOf_inj⟩

/-- As they are minted. -/
def toks (c : Dev nD) : sProp 𝕄 :=
  iprop((bigSep Finset.univ fun d : Fin 6 => dutyTok ER (cell c .bar) 0 d)
    ∗ (bigSep Finset.univ fun n : Fin 30 => dutyTok ER (cell c (sRole n)) 0 0) ∗ bigSep Finset.univ fun n : Fin 30 => dutyTok ER (cell c (dRole n)) 0 0)
/-- As they are paid. -/
def payToks (c : Dev nD) : sProp 𝕄 :=
  iprop((bigSep Finset.univ fun d : Fin 6 => barTok c d)
    ∗ (bigSep Finset.univ fun n : Fin 30 => dutyTok ER (cell c (sRole n)) 0 0) ∗ bigSep Finset.univ fun n : Fin 30 => dutyTok ER (cell (sTo c n) (dRole n)) 0 0)

def barMap (x : Dev nD × Fin 6) : Dev nD × Fin 6 := (barTo x.1 x.2, barDuty x.2)
def sMap (x : Dev nD × Fin 30) : Dev nD × Fin 30 := (sTo x.1 x.2, x.2)
theorem barMap_bij : Function.Bijective barMap := by
  rw [Fintype.bijective_iff_injective_and_card]
  refine ⟨?_, rfl⟩
  have h : ∀ n l : Fin 6, barDuty n = barDuty l → n = l := by decide +kernel
  have h' : ∀ (n : Fin 6) (a b : Dev nD), barTo a n = barTo b n → a = b := by decide +kernel
  rintro ⟨a, n⟩ ⟨b, l⟩ e
  have e2 := h n l (congrArg Prod.snd e)
  subst e2
  rw [h' n a b (congrArg Prod.fst e)]
theorem sMap_bij : Function.Bijective sMap := by
  rw [Fintype.bijective_iff_injective_and_card]
  refine ⟨?_, rfl⟩
  have h' : ∀ (n : Fin 30) (a b : Dev nD), sTo a n = sTo b n → a = b := by decide +kernel
  rintro ⟨a, n⟩ ⟨b, l⟩ e
  have e2 : n = l := congrArg Prod.snd e
  subst e2
  rw [h' n a b (congrArg Prod.fst e)]

theorem toks_around : (bigSep Finset.univ fun c : Dev nD => (toks c : sProp 𝕄)) ⊢ bigSep Finset.univ fun c : Dev nD => payToks c := by
  unfold toks payToks barTok
  rw [bigSep_sep', bigSep_sep', bigSep_sep', bigSep_sep',
    ← bigSep_univ_prod (fun x : Dev nD × Fin 6 => (dutyTok ER (cell x.1 .bar) 0 x.2 : sProp 𝕄)),
    ← bigSep_univ_prod (fun x : Dev nD × Fin 30 => (dutyTok ER (cell x.1 (dRole x.2)) 0 0 : sProp 𝕄)),
    ← bigSep_univ_prod (fun x : Dev nD × Fin 6 => (dutyTok ER (cell (barTo x.1 x.2) .bar) 0 (barDuty x.2) : sProp 𝕄)),
    ← bigSep_univ_prod (fun x : Dev nD × Fin 30 => (dutyTok ER (cell (sTo x.1 x.2) (dRole x.2)) 0 0 : sProp 𝕄)),
    bigSep_univ_equiv (Equiv.ofBijective _ barMap_bij), bigSep_univ_equiv (Equiv.ofBijective _ sMap_bij)]
  exact Entails.refl _

/-! ## Semaphores -/

/-- The kernel's own semaphores: the sixty of the protocol and the four of the local copies. -/
def osem (i : Fin 64) : SemLoc sig := .dma ⟨5 + i.val, by have := i.isLt; change _ < 69; omega⟩

theorem ownSemFacts : Pipeline.OwnSemFacts cfg0.spec osem := by decide +kernel

theorem osem_rk : ∀ i : Fin 60, osem (Fin.castAdd 4 i) = (rk (Fin.natAdd 1 i)).sem := by decide +kernel

abbrev own0 (c : Dev nD) : sProp 𝕄 := Pipeline.ownSems0 (Ix := Unit) (Name := ℕ) (U := UU) (Lvl := ℕ) (Val := Elt F) (τ := τ) osem c

theorem unscopedSems0_eq (c : Dev nD) : (unscopedSems0 c : sProp 𝕄) = semVal (cell c .bar) 0 := by
  unfold unscopedSems0
  rw [bigSep_eq_bigSepL_of_eq [SemLoc.reg (sig.barrier 0 rfl)] (by decide +kernel) (by decide)]
  rfl

theorem own0_eq (c : Dev nD) : own0 (F := F) c
    = iprop((bigSep Finset.univ fun i : Fin 60 => semVal (cell c (rk (Fin.natAdd 1 i))) 0) ∗ Lz c 0 ∗ Lz c 1 ∗ Lz c 2 ∗ Lz c 3) := by
  unfold own0 Pipeline.ownSems0
  rw [bigSep_univ_equiv (finSumFinEquiv : Fin 60 ⊕ Fin 4 ≃ Fin 64), bigSep_univ_sum]
  have e : ∀ i : Fin 60, (semVal ((c : Thread nD τ), osem (finSumFinEquiv (Sum.inl i : Fin 60 ⊕ Fin 4))) 0 : sProp 𝕄) = semVal (cell c (rk (Fin.natAdd 1 i))) 0 :=
    fun i => congrArg (fun s => (semVal ((c : Thread nD τ), s) 0 : sProp 𝕄)) (osem_rk i)
  rw [bigSep_congr fun i _ => e i, four]
  rfl

theorem sems0_eq (c : Dev nD) : iprop(own0 (F := F) c ∗ unscopedSems0 c)
    ⊣⊢ iprop((bigSep Finset.univ fun i : Fin 61 => semVal (cell c (rk i)) 0) ∗ Lz c 0 ∗ Lz c 1 ∗ Lz c 2 ∗ Lz c 3) := by
  have e : (bigSep Finset.univ fun i : Fin 61 => (semVal (cell c (rk i)) 0 : sProp 𝕄))
      = iprop(semVal (cell c .bar) 0 ∗ bigSep Finset.univ fun i : Fin 60 => semVal (cell c (rk (Fin.natAdd 1 i))) 0) := by
    rw [bigSep_univ_equiv (finSumFinEquiv : Fin 1 ⊕ Fin 60 ≃ Fin 61), bigSep_univ_sum, bigSep_univ_of_subsingleton (0 : Fin 1)]
    rfl
  rw [e, own0_eq, unscopedSems0_eq]
  constructor
  · iintro ⟨⟨H, L⟩, B⟩
    isplitl [H B]
    · isplitl [B]; · iexact B
      iexact H
    iexact L
  · iintro ⟨⟨B, H⟩, L⟩
    isplitl [H L]
    · isplitl [H]; · iexact H
      iexact L
    iexact B

/-! ## The deal -/

/-- What the launch element deals a device. -/
def G (c : Dev nD) : sProp 𝕄 :=
  iprop((bigSep Finset.univ fun i : Fin 61 => roundState ER (sched m) (cell c (rk i)) 0)
    ∗ (bigSep Finset.univ fun i : Fin 61 => atPos ER (cell c (rk i)) 0 ∅ 0) ∗ (bigSep Finset.univ fun i : Fin 61 => reached ER (cell c (rk i)) 0) ∗ toks c)

/-- What stays with a device: its positions, the tokens it pays with and its local semaphores. -/
def linear (c : Dev nD) : sProp 𝕄 :=
  iprop((bigSep Finset.univ fun i : Fin 61 => atPos ER (cell c (rk i)) 0 ∅ 0) ∗ payToks c ∗ Lz c 0 ∗ Lz c 1 ∗ Lz c 2 ∗ Lz c 3)
def G' (c : Dev nD) : sProp 𝕄 := iprop(∃ K, records m K ∗ linear c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : Fin 61 => Φ (cell c (rk i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem core_alloc (c : Dev nD) :
    iprop(own0 c ∗ unscopedSems0 c ∗ G m c)
      ⊢ |={Set.univ}=> iprop((bigSep Finset.univ fun i : Fin 61 => iprop(∃ κ : ℕ, cellInv ER (sched m) κ (cell c (rk i))))
          ∗ (bigSep Finset.univ fun i : Fin 61 => reached ER (cell c (rk i)) 0)
          ∗ (bigSep Finset.univ fun i : Fin 61 => atPos ER (cell c (rk i)) 0 ∅ 0) ∗ toks c ∗ Lz c 0 ∗ Lz c 1 ∗ Lz c 2 ∗ Lz c 3) := by
  unfold G
  iintro ⟨Hos, Hus, Hst, Hat, Hr, Htok⟩
  ihave Hv := (sems0_eq (F := F) c).1 $$ [Hos Hus]
  · isplitl [Hos] <;> iassumption
  icases Hv with ⟨Hv, HL⟩
  imod (show iprop((bigSep Finset.univ fun i : Fin 61 => semVal (cell c (rk i)) 0) ∗ bigSep Finset.univ fun i : Fin 61 => roundState ER (sched m) (cell c (rk i)) 0)
      ⊢ (|={Set.univ}=> bigSep Finset.univ fun i => iprop(∃ κ : ℕ, cellInv ER (sched m) κ (cell c (rk i))) : sProp 𝕄) from by
        rw [← bigSep_sep']
        exact (bigSep_mono fun i _ => (Rounds.body_intro ER (sched m) (cell c (rk i))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact HL

theorem deal_intro (K : Dev nD × Fin 61 → ℕ) (c : Dev nD) : iprop(records m K ∗ linear c) ⊢ G' m c := by
  unfold G'
  iintro H
  iexists K; iexact H

theorem sep_three {A B C : Dev nD → sProp 𝕄} : iprop((bigSep Finset.univ fun c => A c) ∗ (bigSep Finset.univ fun c => B c) ∗ bigSep Finset.univ fun c => C c)
    ⊢ bigSep Finset.univ fun c => iprop(A c ∗ B c ∗ C c) := by
  rw [bigSep_sep', bigSep_sep']

theorem regroup :
    (bigSep Finset.univ fun c : Dev nD => iprop((bigSep Finset.univ fun i : Fin 61 => iprop(∃ κ : ℕ, cellInv ER (sched m) κ (cell c (rk i))))
          ∗ (bigSep Finset.univ fun i : Fin 61 => reached ER (cell c (rk i)) 0)
          ∗ (bigSep Finset.univ fun i : Fin 61 => atPos ER (cell c (rk i)) 0 ∅ 0) ∗ toks c ∗ Lz c 0 ∗ Lz c 1 ∗ Lz c 2 ∗ Lz c 3) : sProp 𝕄)
      ⊢ bigSep Finset.univ (G' m) := by
  rw [bigSep_sep', bigSep_sep', bigSep_sep', bigSep_sep',
    ← bigSep_univ_prod (fun x : Dev nD × Fin 61 => (iprop(∃ κ : ℕ, cellInv ER (sched m) κ (cell x.1 (rk x.2))) : sProp 𝕄)),
    ← bigSep_univ_prod (fun x : Dev nD × Fin 61 => (reached ER (cell x.1 (rk x.2)) 0 : sProp 𝕄))]
  iintro ⟨HI, #HR, Hat, Htok, HL⟩
  ihave HK := (BI.bigSep_exists_pi Finset.univ (fun (x : Dev nD × Fin 61) (κ : ℕ) => (cellInv ER (sched m) κ (cell x.1 (rk x.2)) : sProp 𝕄))) $$ HI
  icases HK with ⟨%K, #HI⟩
  ihave Htk := (toks_around (F := F)) $$ Htok
  iapply (BI.bigSep_with_persistent (R := records m K) fun c _ => deal_intro m K c)
  isplitr
  · unfold records; isplitl; · iexact HI
    iexact HR
  · unfold linear
    iapply (sep_three (F := F))
    isplitl [Hat]; · iexact Hat
    isplitl [Htk]; · iexact Htk
    iexact HL

theorem glob : (bigSep Finset.univ fun c => iprop(own0 c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## Credits -/

/-- The payments, by device and role. -/
def payR (c : Dev nD) : List (Dev nD × Role) :=
  (List.finRange 6).map (fun n => (barTo c n, .bar))
    ++ (List.finRange 6).map (fun i => (zTo c i, .zr i))
    ++ (List.finRange 24).map (fun n => (oTo c (oIx n), .or (oIx n)))
theorem pays_eq (c : Dev nD) : pays c = (payR c).map fun x => (cell x.1 x.2, amt x.2) := by
  simp only [pays, payR, List.map_append, List.map_map]; rfl

theorem tallyL_at (l : List (Dev nD × Role)) (c : Dev nD) (k : Role) :
    tallyL (l.map fun x => (cell x.1 x.2, amt x.2)) (cell c k) () = l.count (c, k) * amt k := by
  induction l with
  | nil => rw [List.count_nil, Nat.zero_mul]; rfl
  | cons x l ih =>
    rw [List.map_cons, tallyL, Pi.add_apply, Finsupp.add_apply, ih, tallyAt_apply, List.count_cons, Nat.add_mul]
    congr 1
    by_cases hx : x = (c, k)
    · subst hx; rw [if_pos ⟨rfl, rfl⟩, if_pos (beq_self_eq_true _), Nat.one_mul]
    · have h1 : (x == (c, k)) = false := beq_eq_false_iff_ne.mpr hx
      rw [if_neg fun h => hx (Prod.ext (cell_inj h.1).1.symm (cell_inj h.1).2.symm), h1, if_neg Bool.false_ne_true, Nat.zero_mul]

def O₀ (c : Dev nD) : CellTallies nD τ sig Unit := owe c 0
theorem O₀_at (d c : Dev nD) (k : Role) : O₀ d (cell c k) () = (payR d).count (c, k) * amt k := by
  unfold O₀ owe; rw [List.drop_zero, pays_eq, tallyL_at]

theorem launch_at (c : Dev nD) (k : Role) (n : ℕ) (h : ∑ d : Dev nD, (payR d).count (c, k) = n) :
    tallyOn (cell c k) (launchCredit (Pipeline.owing O₀) 0 (cell c k)) = (tallyAt (cell c k) () (n * amt k) : CellTallies nD τ sig Unit) := by
  unfold tallyAt; refine congrArg _ (Finsupp.ext fun u => ?_); cases u
  rw [Pipeline.launchCredit_owing, Finsupp.single_eq_same, Finset.sum_congr rfl fun d _ => O₀_at d c k, ← Finset.sum_mul, h]

theorem count_bar : ∀ c : Dev nD, ∑ d : Dev nD, (payR d).count (c, .bar) = 6 := by decide +kernel
theorem count_r : ∀ (c : Dev nD) (u : Fin 30), ∑ d : Dev nD, (payR d).count (c, rRole u) = 1 := by decide +kernel

theorem rRole_sem_inj : Function.Injective fun u : Fin 30 => (rRole u).sem := by
  have h : ∀ a b, ik (rRole a) = ik (rRole b) → a = b := by decide +kernel
  exact fun a b e => h a b (congrArg ik (Option.some.inj ((roleOf_sem _).symm.trans ((congrArg roleOf e).trans (roleOf_sem _)))))

theorem creds (c : Dev nD) : (Pipeline.launchCred O₀ c : sProp 𝕄)
    ⊢ iprop(cred (tallyAt (cell c .bar) () 6) ∗ bigSep Finset.univ fun u => cred (tallyAt (cell c (rRole u)) () (amt (rRole u)))) := by
  unfold Pipeline.launchCred
  rw [bigSep_univ_at _ (Role.bar).sem]
  have e := launch_at c .bar 6 (count_bar c)
  rw [show 6 * amt .bar = 6 from rfl] at e
  refine BIClass.sep_mono (Entails.of_eq (congrArg cred e)) ?_
  have hs : (Finset.univ.image fun u : Fin 30 => (rRole u).sem) ⊆ Finset.univ.erase (Role.bar).sem := by
    intro x hx
    obtain ⟨u, -, rfl⟩ := Finset.mem_image.mp hx
    exact Finset.mem_erase.mpr ⟨fun h => rRole_ne u (Option.some.inj ((roleOf_sem _).symm.trans ((congrArg roleOf h).trans (roleOf_sem _)))), Finset.mem_univ _⟩
  refine (bigSep_subset hs).trans ?_
  rw [bigSep_image_of_injOn rRole_sem_inj.injOn]
  refine bigSep_mono fun u _ => ?_
  have e := launch_at c (rRole u) 1 (count_r c u)
  rw [Nat.one_mul] at e
  exact Entails.of_eq (congrArg cred e)

end Cert.Mla

end
-- ==== Proof.PartsA.lean ====
/-
The parts of the body up to the gathering: what each needs and what it leaves.
-/
module

public import proofs.«01_k».proof.Proof.Bundles

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 61 → ℕ) (c : Dev nD)

theorem part_1 {Q : (Σ' (d0 : Dev nD) (v2 : BitVec 32) (v5 : BitVec 32) (v8 : BitVec 32) (v10 : BitVec 32) (v22 : Sems sig S_), BitVec 32) → sProp 𝕄} :
    iprop(env m K ∗ own c main_arg0 fullShare.right (xV m c) ∗ any c cc0_scratch0 ∗ Lz c 3 ∗ own c main_arg4 fullShare.right (wqV m c) ∗ any c cc0_scratch4 ∗ Lz c 1 ∗ own c main_arg5 fullShare.right (wqrV m c) ∗ any c cc0_scratch6 ∗ Lz c 2 ∗ Pr0 c 0 ∗ ownSlot c 0)
      ⊢ iprop((∀ a1 a2 a3 a4 a6, iprop(fX m c ∗ fQ m c ∗ fQr m c ∗ Pr0 c 1) -∗ Q ⟨c, a1, a2, a3, a4, SemArray.scalar (sig.barrier 0 rfl), a6⟩) -∗ go c ((ap (k0_part1 (F := F)) :) ) Q) := by
  simp only [ap, k0_part1_eq_skeleton]
  unfold k0_part1_skel
  simp only [semSignalWord, semWaitWord, Prog.lift, Prog.bind_op, Prog.bind_ret, Prog.pure_eq_ret, wp_deviceId]
  iintro ⟨#HE, A0, X0, L3, A4, X4, L1, A5, X6, L2, P, S0⟩ Hk
  iapply (cp_x m c rfl) $$ [A0 X0 L3]
  · isplitl [A0]; · iexact A0
    isplitl [X0]; · iexact X0
    iexact L3
  iintro FX
  iapply (cp_q m c rfl) $$ [A4 X4 L1]
  · isplitl [A4]; · iexact A4
    isplitl [X4]; · iexact X4
    iexact L1
  iintro FQ
  iapply (cp_qr m c rfl) $$ [A5 X6 L2]
  · isplitl [A5]; · iexact A5
    isplitl [X6]; · iexact X6
    iexact L2
  iintro FR
  iapply (wp_bar m K c 0 (dev1 c)) $$ [P S0]
  · isplitr; · iexact HE
    isplitl [P]; · iexact P
    iexact S0
  iintro P
  iapply (go_ret c)
  iapply Hk
  isplitl [FX]; · iexact FX
  isplitl [FQ]; · iexact FQ
  isplitl [FR]; · iexact FR
  iexact P

theorem part_2 {v2 v5 v8 v10 v31 : BitVec 32} {Q : (Σ' (v65 : BitVec 32), BitVec 32) → sProp 𝕄} :
    iprop(env m K ∗ Pr0 c 1 ∗ ownSlot c 1 ∗ ownSlot c 2)
      ⊢ iprop((∀ a0 a1, iprop(Pr0 c 3) -∗ Q ⟨a0, a1⟩) -∗ go c ((ap (k0_part2 (F := F)) :) c v2 v5 v8 v10 (SemArray.scalar (sig.barrier 0 rfl)) v31) Q) := by
  simp only [ap, k0_part2_eq_skeleton]
  unfold k0_part2_skel
  simp only [semSignalWord, semWaitWord, Prog.lift, Prog.bind_op, Prog.bind_ret, Prog.pure_eq_ret]
  iintro ⟨#HE, P, S1, S2⟩ Hk
  iapply (wp_bar m K c 1 (dev2 c)) $$ [P S1]
  · isplitr; · iexact HE
    isplitl [P]; · iexact P
    iexact S1
  iintro P
  iapply (wp_bar m K c 2 (dev3 c)) $$ [P S2]
  · isplitr; · iexact HE
    isplitl [P]; · iexact P
    iexact S2
  iintro P
  iapply (go_ret c)
  iapply Hk
  iexact P

theorem part_3 {v8 v10 v65 v66 : BitVec 32} {Q : (Σ' (v100 : BitVec 32) (c2_i32_60 : BitVec 32), BitVec 32) → sProp 𝕄} :
    iprop(env m K ∗ Pr0 c 3 ∗ ownSlot c 3 ∗ ownSlot c 4)
      ⊢ iprop((∀ a0 a1 a2, iprop(Pr0 c 5) -∗ Q ⟨a0, a1, a2⟩) -∗ go c ((ap (k0_part3 (F := F)) :) c v8 v10 (SemArray.scalar (sig.barrier 0 rfl)) v65 v66) Q) := by
  simp only [ap, k0_part3_eq_skeleton]
  unfold k0_part3_skel
  simp only [semSignalWord, semWaitWord, Prog.lift, Prog.bind_op, Prog.bind_ret, Prog.pure_eq_ret]
  iintro ⟨#HE, P, S3, S4⟩ Hk
  iapply (wp_bar m K c 3 (dev4 c)) $$ [P S3]
  · isplitr; · iexact HE
    isplitl [P]; · iexact P
    iexact S3
  iintro P
  iapply (wp_bar m K c 4 (dev5 c)) $$ [P S4]
  · isplitr; · iexact HE
    isplitl [P]; · iexact P
    iexact S4
  iintro P
  iapply (go_ret c)
  iapply Hk
  iexact P

theorem part_4 {v8 v100 c2_i32_60 v101 : BitVec 32} {Q : (FVec F S128x128 .bf16) → sProp 𝕄} :
    iprop(env m K ∗ Pr0 c 5 ∗ ownSlot c 5 ∗ own c cc0_stg1_0 fullShare (wukV m c) ∗ wcS m c 0 ∗ own c cc0_stg2_0 fullShare (wuvV m c))
      ⊢ iprop((iprop(Pr1 c 0 0 ∗ own c cc0_stg1_0 fullShare (wukV m c) ∗ wcS m c 1 ∗ own c cc0_stg2_0 fullShare (wuvV m c)) -∗ Q (k0_pay2 (blkW (wuvV m c) 0 (by decide)))) -∗ go c ((ap (k0_part4 (F := F)) :) c v8 (SemArray.scalar (sig.barrier 0 rfl)) v100 c2_i32_60 v101) Q) := by
  simp only [ap, k0_part4_eq_skeleton]
  unfold k0_part4_skel
  simp only [semSignalWord, semWaitWord, Prog.lift, Prog.bind_op, Prog.bind_ret, Prog.pure_eq_ret]
  iintro ⟨#HE, P, S5, Buk, Wc, Buv⟩ Hk
  iapply (wp_bar m K c 5 (dev6 c)) $$ [P S5]
  · isplitr; · iexact HE
    isplitl [P]; · iexact P
    iexact S5
  iintro P
  iapply (wp_barrier m K c) $$ [P]
  · isplitr; · iexact HE
    iexact P
  iintro P
  iapply (ld_wuk m c 0 (by decide) rfl) $$ Buk
  iintro Buk
  iapply (dd_wc m c 0) $$ Wc
  iintro %v128 Wc
  iapply (st_wc m c 0 (by decide) rfl rfl) $$ Wc
  iintro Wc
  iapply (ld_wuv m c 0 (by decide) rfl) $$ Buv
  iintro Buv
  iapply (dd_wc m c 1) $$ Wc
  iintro %v134 Wc
  iapply (go_ret c)
  iapply Hk
  isplitl [P]; · iexact P
  isplitl [Buk]; · iexact Buk
  isplitl [Wc]; · iexact Wc
  iexact Buv

theorem part_5 {v136 : FVec F S128x128 .bf16} (h1 : v136 = castV m c 1 (by decide)) {Q : (FVec F S128x128 .f32) → sProp 𝕄} :
    iprop(wcS m c 1 ∗ own c cc0_stg1_0 fullShare (wukV m c) ∗ own c cc0_stg2_0 fullShare (wuvV m c))
      ⊢ iprop((iprop(wcS m c 7 ∗ own c cc0_stg1_0 fullShare (wukV m c) ∗ own c cc0_stg2_0 fullShare (wuvV m c)) -∗ Q (k0_pay8 (blkW (wuvV m c) 3 (by decide)))) -∗ go c ((ap (k0_part5 (F := F)) :) v136) Q) := by
  simp only [ap, k0_part5_eq_skeleton]
  unfold k0_part5_skel
  simp only [semSignalWord, semWaitWord, Prog.lift, Prog.bind_op, Prog.bind_ret, Prog.pure_eq_ret]
  iintro ⟨Wc, Buk, Buv⟩ Hk
  iapply (st_wc m c 1 (by decide) rfl h1) $$ Wc
  iintro Wc
  iapply (ld_wuk m c 1 (by decide) rfl) $$ Buk
  iintro Buk
  iapply (dd_wc m c 2) $$ Wc
  iintro %v140 Wc
  iapply (st_wc m c 2 (by decide) rfl rfl) $$ Wc
  iintro Wc
  iapply (ld_wuv m c 1 (by decide) rfl) $$ Buv
  iintro Buv
  iapply (dd_wc m c 3) $$ Wc
  iintro %v146 Wc
  iapply (st_wc m c 3 (by decide) rfl rfl) $$ Wc
  iintro Wc
  iapply (ld_wuk m c 2 (by decide) rfl) $$ Buk
  iintro Buk
  iapply (dd_wc m c 4) $$ Wc
  iintro %v152 Wc
  iapply (st_wc m c 4 (by decide) rfl rfl) $$ Wc
  iintro Wc
  iapply (ld_wuv m c 2 (by decide) rfl) $$ Buv
  iintro Buv
  iapply (dd_wc m c 5) $$ Wc
  iintro %v158 Wc
  iapply (st_wc m c 5 (by decide) rfl rfl) $$ Wc
  iintro Wc
  iapply (ld_wuk m c 3 (by decide) rfl) $$ Buk
  iintro Buk
  iapply (dd_wc m c 6) $$ Wc
  iintro %v164 Wc
  iapply (st_wc m c 6 (by decide) rfl rfl) $$ Wc
  iintro Wc
  iapply (ld_wuv m c 3 (by decide) rfl) $$ Buv
  iintro Buv
  iapply (go_ret c)
  iapply Hk
  isplitl [Wc]; · iexact Wc
  isplitl [Buk]; · iexact Buk
  iexact Buv

theorem part_6 {v168 : FVec F S128x128 .f32} (h1 : k0_pay9 v168 = castV m c 7 (by decide)) {Q : (FVec F S128x128 .bf16) → sProp 𝕄} :
    iprop(wcS m c 7 ∗ own c cc0_stg1_0 fullShare (wukV m c) ∗ own c cc0_stg2_0 fullShare (wuvV m c))
      ⊢ iprop((iprop(wcS m c 12 ∗ own c cc0_stg1_0 fullShare (wukV m c) ∗ own c cc0_stg2_0 fullShare (wuvV m c)) -∗ Q (k0_pay14 (blkW (wukV m c) 6 (by decide)))) -∗ go c ((ap (k0_part6 (F := F)) :) v168) Q) := by
  simp only [ap, k0_part6_eq_skeleton]
  unfold k0_part6_skel
  simp only [semSignalWord, semWaitWord, Prog.lift, Prog.bind_op, Prog.bind_ret, Prog.pure_eq_ret]
  iintro ⟨Wc, Buk, Buv⟩ Hk
  iapply (dd_wc m c 7) $$ Wc
  iintro %v170 Wc
  iapply (st_wc m c 7 (by decide) rfl h1) $$ Wc
  iintro Wc
  iapply (ld_wuk m c 4 (by decide) rfl) $$ Buk
  iintro Buk
  iapply (dd_wc m c 8) $$ Wc
  iintro %v176 Wc
  iapply (st_wc m c 8 (by decide) rfl rfl) $$ Wc
  iintro Wc
  iapply (ld_wuv m c 4 (by decide) rfl) $$ Buv
  iintro Buv
  iapply (dd_wc m c 9) $$ Wc
  iintro %v182 Wc
  iapply (st_wc m c 9 (by decide) rfl rfl) $$ Wc
  iintro Wc
  iapply (ld_wuk m c 5 (by decide) rfl) $$ Buk
  iintro Buk
  iapply (dd_wc m c 10) $$ Wc
  iintro %v188 Wc
  iapply (st_wc m c 10 (by decide) rfl rfl) $$ Wc
  iintro Wc
  iapply (ld_wuv m c 5 (by decide) rfl) $$ Buv
  iintro Buv
  iapply (dd_wc m c 11) $$ Wc
  iintro %v194 Wc
  iapply (st_wc m c 11 (by decide) rfl rfl) $$ Wc
  iintro Wc
  iapply (ld_wuk m c 6 (by decide) rfl) $$ Buk
  iintro Buk
  iapply (dd_wc m c 12) $$ Wc
  iintro %v200 Wc
  iapply (go_ret c)
  iapply Hk
  isplitl [Wc]; · iexact Wc
  isplitl [Buk]; · iexact Buk
  iexact Buv

theorem part_7 {v199 : FVec F S128x128 .bf16} (h1 : k0_pay15 v199 = castV m c 12 (by decide)) {Q : (Vec F S128x128 .f32) → sProp 𝕄} :
    iprop(wcS m c 12 ∗ own c cc0_stg2_0 fullShare (wuvV m c) ∗ own c cc0_stg1_0 fullShare (wukV m c))
      ⊢ iprop((iprop(wcS m c 18 ∗ own c cc0_stg2_0 fullShare (wuvV m c) ∗ own c cc0_stg1_0 fullShare (wukV m c)) -∗ Q (blkW (wukV m c) 9 (by decide))) -∗ go c ((ap (k0_part7 (F := F)) :) v199) Q) := by
  simp only [ap, k0_part7_eq_skeleton]
  unfold k0_part7_skel
  simp only [semSignalWord, semWaitWord, Prog.lift, Prog.bind_op, Prog.bind_ret, Prog.pure_eq_ret]
  iintro ⟨Wc, Buv, Buk⟩ Hk
  iapply (st_wc m c 12 (by decide) rfl h1) $$ Wc
  iintro Wc
  iapply (ld_wuv m c 6 (by decide) rfl) $$ Buv
  iintro Buv
  iapply (dd_wc m c 13) $$ Wc
  iintro %v206 Wc
  iapply (st_wc m c 13 (by decide) rfl rfl) $$ Wc
  iintro Wc
  iapply (ld_wuk m c 7 (by decide) rfl) $$ Buk
  iintro Buk
  iapply (dd_wc m c 14) $$ Wc
  iintro %v212 Wc
  iapply (st_wc m c 14 (by decide) rfl rfl) $$ Wc
  iintro Wc
  iapply (ld_wuv m c 7 (by decide) rfl) $$ Buv
  iintro Buv
  iapply (dd_wc m c 15) $$ Wc
  iintro %v218 Wc
  iapply (st_wc m c 15 (by decide) rfl rfl) $$ Wc
  iintro Wc
  iapply (ld_wuk m c 8 (by decide) rfl) $$ Buk
  iintro Buk
  iapply (dd_wc m c 16) $$ Wc
  iintro %v224 Wc
  iapply (st_wc m c 16 (by decide) rfl rfl) $$ Wc
  iintro Wc
  iapply (ld_wuv m c 8 (by decide) rfl) $$ Buv
  iintro Buv
  iapply (dd_wc m c 17) $$ Wc
  iintro %v230 Wc
  iapply (st_wc m c 17 (by decide) rfl rfl) $$ Wc
  iintro Wc
  iapply (ld_wuk m c 9 (by decide) rfl) $$ Buk
  iintro Buk
  iapply (go_ret c)
  iapply Hk
  isplitl [Wc]; · iexact Wc
  isplitl [Buv]; · iexact Buv
  iexact Buk

theorem part_8 {v233 : Vec F S128x128 .f32} (h1 : k0_pay21 v233 = castV m c 18 (by decide)) {Q : (Σ' (v265 : FVec F S128x128 .bf16), Vec F S128x128 .bf16) → sProp 𝕄} :
    iprop(wcS m c 18 ∗ own c cc0_stg2_0 fullShare (wuvV m c) ∗ own c cc0_stg1_0 fullShare (wukV m c))
      ⊢ iprop((∀ a1, iprop(wcS m c 23 ∗ own c cc0_stg2_0 fullShare (wuvV m c) ∗ own c cc0_stg1_0 fullShare (wukV m c)) -∗ Q ⟨k0_pay26 (blkW (wuvV m c) 11 (by decide)), a1⟩) -∗ go c ((ap (k0_part8 (F := F)) :) v233) Q) := by
  simp only [ap, k0_part8_eq_skeleton]
  unfold k0_part8_skel
  simp only [semSignalWord, semWaitWord, Prog.lift, Prog.bind_op, Prog.bind_ret, Prog.pure_eq_ret]
  iintro ⟨Wc, Buv, Buk⟩ Hk
  iapply (dd_wc m c 18) $$ Wc
  iintro %v236 Wc
  iapply (st_wc m c 18 (by decide) rfl h1) $$ Wc
  iintro Wc
  iapply (ld_wuv m c 9 (by decide) rfl) $$ Buv
  iintro Buv
  iapply (dd_wc m c 19) $$ Wc
  iintro %v242 Wc
  iapply (st_wc m c 19 (by decide) rfl rfl) $$ Wc
  iintro Wc
  iapply (ld_wuk m c 10 (by decide) rfl) $$ Buk
  iintro Buk
  iapply (dd_wc m c 20) $$ Wc
  iintro %v248 Wc
  iapply (st_wc m c 20 (by decide) rfl rfl) $$ Wc
  iintro Wc
  iapply (ld_wuv m c 10 (by decide) rfl) $$ Buv
  iintro Buv
  iapply (dd_wc m c 21) $$ Wc
  iintro %v254 Wc
  iapply (st_wc m c 21 (by decide) rfl rfl) $$ Wc
  iintro Wc
  iapply (ld_wuk m c 11 (by decide) rfl) $$ Buk
  iintro Buk
  iapply (dd_wc m c 22) $$ Wc
  iintro %v260 Wc
  iapply (st_wc m c 22 (by decide) rfl rfl) $$ Wc
  iintro Wc
  iapply (ld_wuv m c 11 (by decide) rfl) $$ Buv
  iintro Buv
  iapply (dd_wc m c 23) $$ Wc
  iintro %v266 Wc
  iapply (go_ret c)
  iapply Hk
  isplitl [Wc]; · iexact Wc
  isplitl [Buv]; · iexact Buv
  iexact Buk

theorem part_9 {v265 : FVec F S128x128 .bf16} {v266 : Vec F S128x128 .bf16} (h1 : k0_pay27 v265 = castV m c 23 (by decide)) {Q : (PUnit) → sProp 𝕄} :
    iprop(wcS m c 23 ∗ own c cc0_stg1_0 fullShare (wukV m c) ∗ own c cc0_stg2_0 fullShare (wuvV m c))
      ⊢ iprop((iprop(wcS m c 29 ∗ own c cc0_stg1_0 fullShare (wukV m c) ∗ own c cc0_stg2_0 fullShare (wuvV m c)) -∗ Q ⟨⟩) -∗ go c ((ap (k0_part9 (F := F)) :) v265 v266) Q) := by
  simp only [ap, k0_part9_eq_skeleton]
  unfold k0_part9_skel
  simp only [semSignalWord, semWaitWord, Prog.lift, Prog.bind_op, Prog.bind_ret, Prog.pure_eq_ret]
  iintro ⟨Wc, Buk, Buv⟩ Hk
  iapply (st_wc m c 23 (by decide) rfl h1) $$ Wc
  iintro Wc
  iapply (ld_wuk m c 12 (by decide) rfl) $$ Buk
  iintro Buk
  iapply (dd_wc m c 24) $$ Wc
  iintro %v272 Wc
  iapply (st_wc m c 24 (by decide) rfl rfl) $$ Wc
  iintro Wc
  iapply (ld_wuv m c 12 (by decide) rfl) $$ Buv
  iintro Buv
  iapply (dd_wc m c 25) $$ Wc
  iintro %v278 Wc
  iapply (st_wc m c 25 (by decide) rfl rfl) $$ Wc
  iintro Wc
  iapply (ld_wuk m c 13 (by decide) rfl) $$ Buk
  iintro Buk
  iapply (dd_wc m c 26) $$ Wc
  iintro %v284 Wc
  iapply (st_wc m c 26 (by decide) rfl rfl) $$ Wc
  iintro Wc
  iapply (ld_wuv m c 13 (by decide) rfl) $$ Buv
  iintro Buv
  iapply (dd_wc m c 27) $$ Wc
  iintro %v290 Wc
  iapply (st_wc m c 27 (by decide) rfl rfl) $$ Wc
  iintro Wc
  iapply (ld_wuk m c 14 (by decide) rfl) $$ Buk
  iintro Buk
  iapply (dd_wc m c 28) $$ Wc
  iintro %v296 Wc
  iapply (st_wc m c 28 (by decide) rfl rfl) $$ Wc
  iintro Wc
  iapply (go_ret c)
  iapply Hk
  isplitl [Wc]; · iexact Wc
  isplitl [Buk]; · iexact Buk
  iexact Buv

theorem part_10 {v8 v10 : BitVec 32} {Q : (Σ' (v329 : BitVec 32), BitVec 32) → sProp 𝕄} :
    iprop(env m K ∗ own c cc0_stg2_0 fullShare (wuvV m c) ∗ wcS m c 29 ∗ own c cc0_stg1_0 fullShare (wukV m c) ∗ (∃ f, wAt c 0 fullShare f) ∗ Lz c 0 ∗ Pr1 c 0 0)
      ⊢ iprop((∀ a0 a1, iprop(own c cc0_stg2_0 fullShare (wuvV m c) ∗ own c cc0_scratch2 fullShare (wcV m c) ∗ own c cc0_stg1_0 fullShare (wukV m c) ∗ wAt c 0 (qs 0) (wgV m c) ∗ Lz c 0 ∗ Pr1 c 0 0 ∗ wAt c 0 (qs 1) (wgV m c) ∗ wAt c 0 (qs 2) (wgV m c) ∗ wAt c 0 (qs 3) (wgV m c)) -∗ Q ⟨a0, a1⟩) -∗ go c ((ap (k0_part10 (F := F)) :) c v8 v10) Q) := by
  simp only [ap, k0_part10_eq_skeleton]
  unfold k0_part10_skel
  simp only [semSignalWord, semWaitWord, Prog.lift, Prog.bind_op, Prog.bind_ret, Prog.pure_eq_ret]
  iintro ⟨#HE, Buv, Wc, Buk, W0, L0, P⟩ Hk
  iapply (ld_wuv m c 14 (by decide) rfl) $$ Buv
  iintro Buv
  iapply (dd_wc m c 29) $$ Wc
  iintro %v302 Wc
  iapply (st_wc m c 29 (by decide) rfl rfl) $$ Wc
  iintro Wc
  iapply (ld_wuk m c 15 (by decide) rfl) $$ Buk
  iintro Buk
  iapply (dd_wc m c 30) $$ Wc
  iintro %v308 Wc
  iapply (st_wc m c 30 (by decide) rfl rfl) $$ Wc
  iintro Wc
  iapply (ld_wuv m c 15 (by decide) rfl) $$ Buv
  iintro Buv
  iapply (dd_wc m c 31) $$ Wc
  iintro %v314 Wc
  iapply (st_wc m c 31 (by decide) rfl rfl) $$ Wc
  iintro Wc
  icases (wcS_all m c) $$ Wc with Wc
  iapply (cp_w m c rfl rfl rfl) $$ [Wc W0 L0]
  · isplitl [Wc]; · iexact Wc
    isplitl [W0]; · iexact W0
    iexact L0
  iintro FW
  iapply (lw_w m K c rfl rfl) $$ [P FW]
  · isplitr; · iexact HE
    isplitl [P]; · iexact P
    iexact FW
  iintro ⟨P, ⟨W0, Wq1, Wq2, Wq3⟩, Wc, L0⟩
  iapply (go_ret c)
  iapply Hk
  isplitl [Buv]; · iexact Buv
  isplitl [Wc]; · iexact Wc
  isplitl [Buk]; · iexact Buk
  isplitl [W0]; · iexact W0
  isplitl [L0]; · iexact L0
  isplitl [P]; · iexact P
  isplitl [Wq1]; · iexact Wq1
  isplitl [Wq2]; · iexact Wq2
  iexact Wq3

theorem part_11 {v2 v5 v8 v329 c4_i32_182 : BitVec 32} {Q : (Σ' (v330 : BitVec 32) (v346 : BitVec 32), BitVec 32) → sProp 𝕄} :
    iprop(env m K ∗ Pr1 c 0 0 ∗ wAt c 0 (qs 1) (wgV m c) ∗ wAt c 0 (qs 2) (wgV m c))
      ⊢ iprop((∀ a0 a1 a2, iprop(Pr1 c 2 0) -∗ Q ⟨a0, a1, a2⟩) -∗ go c ((ap (k0_part11 (F := F)) :) c v2 v5 v8 v329 c4_i32_182) Q) := by
  simp only [ap, k0_part11_eq_skeleton]
  unfold k0_part11_skel
  simp only [semSignalWord, semWaitWord, Prog.lift, Prog.bind_op, Prog.bind_ret, Prog.pure_eq_ret]
  iintro ⟨#HE, P, Wq1, Wq2⟩ Hk
  iapply (send_w m K c 0 (n := 0) (n' := 1) (u := 0) rfl rfl (dev7 c) rfl rfl rfl rfl) $$ [P Wq1]
  · isplitr; · iexact HE
    isplitl [P]; · iexact P
    iexact Wq1
  iintro P
  iapply (send_w m K c 1 (n := 1) (n' := 2) (u := 0) rfl rfl (dev8 c) rfl rfl rfl rfl) $$ [P Wq2]
  · isplitr; · iexact HE
    isplitl [P]; · iexact P
    iexact Wq2
  iintro P
  iapply (go_ret c)
  iapply Hk
  iexact P

theorem part_12 {v2 v5 v8 c3_i32_209 : BitVec 32} {Q : (Σ' (v362 : BitVec 32) (v381 : FVec F S1024x2048 .bf16), BitVec 32) → sProp 𝕄} :
    iprop(env m K ∗ Pr1 c 2 0 ∗ wAt c 0 (qs 3) (wgV m c) ∗ fX m c ∗ own c cc0_stg0_0 fullShare (wdkvV m c) ∗ SmAny c cgM (cR 0).set)
      ⊢ iprop((∀ a0 a2, iprop(Pr1 c 3 0 ∗ own c cc0_scratch0 fullShare (xV m c) ∗ Lz c 3 ∗ own c cc0_stg0_0 fullShare (wdkvV m c) ∗ cAt c 0 (qs 0) (cgV m c) ∗ cAt c 0 (qs 1) (cgV m c) ∗ cAt c 0 (qs 2) (cgV m c) ∗ cAt c 0 (qs 3) (cgV m c)) -∗ Q ⟨a0, k0_pay36 (xV m c), a2⟩) -∗ go c ((ap (k0_part12 (F := F)) :) c v2 v5 v8 c3_i32_209) Q) := by
  simp only [ap, k0_part12_eq_skeleton]
  unfold k0_part12_skel
  simp only [semSignalWord, semWaitWord, Prog.lift, Prog.bind_op, Prog.bind_ret, Prog.pure_eq_ret]
  iintro ⟨#HE, P, Wq3, FX, Bdk, C0⟩ Hk
  iapply (send_w m K c 2 (n := 2) (n' := 3) (u := 0) rfl rfl (dev9 c) rfl rfl rfl rfl) $$ [P Wq3]
  · isplitr; · iexact HE
    isplitl [P]; · iexact P
    iexact Wq3
  iintro P
  iapply (lw_x m K c rfl rfl) $$ [P FX]
  · isplitr; · iexact HE
    isplitl [P]; · iexact P
    iexact FX
  iintro ⟨P, X0, L3⟩
  iapply (ld_x m c) $$ X0
  iintro X0
  iapply (ld_wdkv m c) $$ Bdk
  iintro Bdk
  iapply (dd_c c) $$ C0
  iintro %_ C0
  iapply (st_c m c rfl) $$ C0
  iintro C0
  icases (quarters _ _).1 $$ C0 with ⟨C0, Cq1, Cq2, Cq3⟩
  iapply (go_ret c)
  iapply Hk
  isplitl [P]; · iexact P
  isplitl [X0]; · iexact X0
  isplitl [L3]; · iexact L3
  isplitl [Bdk]; · iexact Bdk
  isplitl [C0]; · iexact C0
  isplitl [Cq1]; · iexact Cq1
  isplitl [Cq2]; · iexact Cq2
  iexact Cq3

theorem part_13 {v2 v5 v8 v391 : BitVec 32} {Q : (Σ' (v407 : BitVec 32) (v422 : BitVec 32), BitVec 32) → sProp 𝕄} :
    iprop(env m K ∗ Pr1 c 3 0 ∗ cAt c 0 (qs 1) (cgV m c) ∗ cAt c 0 (qs 2) (cgV m c))
      ⊢ iprop((∀ a0 a1 a2, iprop(Pr1 c 5 0) -∗ Q ⟨a0, a1, a2⟩) -∗ go c ((ap (k0_part13 (F := F)) :) c v2 v5 v8 v391) Q) := by
  simp only [ap, k0_part13_eq_skeleton]
  unfold k0_part13_skel
  simp only [semSignalWord, semWaitWord, Prog.lift, Prog.bind_op, Prog.bind_ret, Prog.pure_eq_ret]
  iintro ⟨#HE, P, Cq1, Cq2⟩ Hk
  iapply (send_c m K c 0 (n := 3) (n' := 4) (u := 0) rfl rfl (dev10 c) rfl rfl rfl rfl) $$ [P Cq1]
  · isplitr; · iexact HE
    isplitl [P]; · iexact P
    iexact Cq1
  iintro P
  iapply (send_c m K c 1 (n := 4) (n' := 5) (u := 0) rfl rfl (dev11 c) rfl rfl rfl rfl) $$ [P Cq2]
  · isplitr; · iexact HE
    isplitl [P]; · iexact P
    iexact Cq2
  iintro P
  iapply (go_ret c)
  iapply Hk
  iexact P

theorem part_14 {v2 v5 v422 c4_i32_261 : BitVec 32} {v381 : FVec F S1024x2048 .bf16} (h1 : k0_pay38 v381 (wkrV m c) = krV m c) {Q : (Σ' (v423 : BitVec 32), FVec F S1024x128 .bf16) → sProp 𝕄} :
    iprop(env m K ∗ Pr1 c 5 0 ∗ cAt c 0 (qs 3) (cgV m c) ∗ own c cc0_stg3_0 fullShare (wkrV m c) ∗ SmAny c krM Finset.univ ∗ fQr m c ∗ SmAny c qrM Finset.univ)
      ⊢ iprop((∀ a0, iprop(Pr1 c 6 0 ∗ own c cc0_stg3_0 fullShare (wkrV m c) ∗ own c cc0_scratch8 fullShare (krV m c) ∗ own c cc0_scratch6 fullShare (qrtV m c) ∗ Lz c 2 ∗ SmAny c qrM Finset.univ) -∗ Q ⟨a0, k0_pay39 v381 (qrtV m c)⟩) -∗ go c ((ap (k0_part14 (F := F)) :) c v2 v5 v381 v422 c4_i32_261) Q) := by
  simp only [ap, k0_part14_eq_skeleton]
  unfold k0_part14_skel
  simp only [semSignalWord, semWaitWord, Prog.lift, Prog.bind_op, Prog.bind_ret, Prog.pure_eq_ret]
  iintro ⟨#HE, P, Cq3, Bkr, Kr, FR, Qr⟩ Hk
  iapply (send_c m K c 2 (n := 5) (n' := 6) (u := 0) rfl rfl (dev12 c) rfl rfl rfl rfl) $$ [P Cq3]
  · isplitr; · iexact HE
    isplitl [P]; · iexact P
    iexact Cq3
  iintro P
  iapply (ld_wkr m c) $$ Bkr
  iintro Bkr
  iapply (dd_kr c) $$ Kr
  iintro %_ Kr
  iapply (st_kr m c h1) $$ Kr
  iintro Kr
  iapply (lw_qr m K c rfl rfl) $$ [P FR]
  · isplitr; · iexact HE
    isplitl [P]; · iexact P
    iexact FR
  iintro ⟨P, X6, L2⟩
  iapply (ld_qrt m c) $$ X6
  iintro X6
  iapply (dd_qr c) $$ Qr
  iintro %_ Qr
  iapply (go_ret c)
  iapply Hk
  isplitl [P]; · iexact P
  isplitl [Bkr]; · iexact Bkr
  isplitl [Kr]; · iexact Kr
  isplitl [X6]; · iexact X6
  isplitl [L2]; · iexact L2
  iexact Qr

theorem part_15 {v2 v5 v330 v346 : BitVec 32} {v381 : FVec F S1024x2048 .bf16} {v455 : FVec F S1024x128 .bf16} (h1 : v455 = qrV m c) (h2 : k0_pay40 v381 (qtV m c) = qV m c) {Q : (PUnit) → sProp 𝕄} :
    iprop(env m K ∗ SmAny c qrM Finset.univ ∗ Pr1 c 6 0 ∗ fQ m c ∗ SmAny c qM Finset.univ)
      ⊢ iprop((iprop(own c cc0_scratch7 fullShare (qrV m c) ∗ Pr1 c 6 1 ∗ own c cc0_scratch4 fullShare (qtV m c) ∗ Lz c 1 ∗ own c cc0_scratch5 fullShare (qV m c) ∗ wAt c 1 fullShare (wgV m c)) -∗ Q ⟨⟩) -∗ go c ((ap (k0_part15 (F := F)) :) c v2 v5 v330 v346 v381 v455) Q) := by
  simp only [ap, k0_part15_eq_skeleton]
  unfold k0_part15_skel
  simp only [semSignalWord, semWaitWord, Prog.lift, Prog.bind_op, Prog.bind_ret, Prog.pure_eq_ret]
  iintro ⟨#HE, Qr, P, FQ, Qo⟩ Hk
  iapply (st_qr m c h1) $$ Qr
  iintro Qr
  iapply (lw_q m K c rfl rfl) $$ [P FQ]
  · isplitr; · iexact HE
    isplitl [P]; · iexact P
    iexact FQ
  iintro ⟨P, X4, L1⟩
  iapply (ld_qt m c) $$ X4
  iintro X4
  iapply (dd_q c) $$ Qo
  iintro %_ Qo
  iapply (st_q m c h2) $$ Qo
  iintro Qo
  iapply (rc_w m K c 0 (dst := wSl 1) (u := 0) (u' := 1) rfl rfl rfl rfl) $$ [P]
  · isplitr; · iexact HE
    iexact P
  iintro ⟨P, W1⟩
  iapply (go_ret c)
  iapply Hk
  isplitl [Qr]; · iexact Qr
  isplitl [P]; · iexact P
  isplitl [X4]; · iexact X4
  isplitl [L1]; · iexact L1
  isplitl [Qo]; · iexact Qo
  iexact W1

theorem part_16 {v2 v5 v362 v391 : BitVec 32} {Q : (PUnit) → sProp 𝕄} :
    iprop(env m K ∗ Pr1 c 6 1)
      ⊢ iprop((iprop(Pr1 c 6 4 ∗ wAt c 2 fullShare (wgV m c) ∗ wAt c 3 fullShare (wgV m c) ∗ cAt c 1 fullShare (cgV m c)) -∗ Q ⟨⟩) -∗ go c ((ap (k0_part16 (F := F)) :) v2 v5 v362 v391) Q) := by
  simp only [ap, k0_part16_eq_skeleton]
  unfold k0_part16_skel
  simp only [semSignalWord, semWaitWord, Prog.lift, Prog.bind_op, Prog.bind_ret, Prog.pure_eq_ret]
  iintro ⟨#HE, P⟩ Hk
  iapply (rc_w m K c 1 (dst := wSl 2) (u := 1) (u' := 2) rfl rfl rfl rfl) $$ [P]
  · isplitr; · iexact HE
    iexact P
  iintro ⟨P, W2⟩
  iapply (rc_w m K c 2 (dst := wSl 3) (u := 2) (u' := 3) rfl rfl rfl rfl) $$ [P]
  · isplitr; · iexact HE
    iexact P
  iintro ⟨P, W3⟩
  iapply (rc_c m K c 0 (dst := cSl 1) (u := 3) (u' := 4) rfl rfl rfl rfl) $$ [P]
  · isplitr; · iexact HE
    iexact P
  iintro ⟨P, C1⟩
  iapply (go_ret c)
  iapply Hk
  isplitl [P]; · iexact P
  isplitl [W2]; · iexact W2
  isplitl [W3]; · iexact W3
  iexact C1

theorem part_17 {v2 v5 v10 v407 v423 : BitVec 32} {Q : (Σ' (v540 : BitVec 32), BitVec 32) → sProp 𝕄} :
    iprop(env m K ∗ Pr1 c 6 4)
      ⊢ iprop((∀ a0 a1, iprop(Pr1 c 6 6 ∗ cAt c 2 fullShare (cgV m c) ∗ cAt c 3 fullShare (cgV m c)) -∗ Q ⟨a0, a1⟩) -∗ go c ((ap (k0_part17 (F := F)) :) v2 v5 v10 v407 v423) Q) := by
  simp only [ap, k0_part17_eq_skeleton]
  unfold k0_part17_skel
  simp only [semSignalWord, semWaitWord, Prog.lift, Prog.bind_op, Prog.bind_ret, Prog.pure_eq_ret]
  iintro ⟨#HE, P⟩ Hk
  iapply (rc_c m K c 1 (dst := cSl 2) (u := 4) (u' := 5) rfl rfl rfl rfl) $$ [P]
  · isplitr; · iexact HE
    iexact P
  iintro ⟨P, C2⟩
  iapply (rc_c m K c 2 (dst := cSl 3) (u := 5) (u' := 6) rfl rfl rfl rfl) $$ [P]
  · isplitr; · iexact HE
    iexact P
  iintro ⟨P, C3⟩
  iapply (go_ret c)
  iapply Hk
  isplitl [P]; · iexact P
  isplitl [C2]; · iexact C2
  iexact C3

end Cert.Mla

end
-- ==== Proof.PartsB.lean ====
/-
The parts of the body that attend: what each needs and what it leaves.
-/
module

public import proofs.«01_k».proof.Proof.Bundles

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 61 → ℕ) (c : Dev nD)

theorem part_18 {v10 v540 v542 : BitVec 32} {Q : (Σ' (v561 : Vec F S512x32 .bf16) (v568 : FVec F S512x256 .f32), Vec F S1x512x128 .bf16) → sProp 𝕄} :
    iprop(own c main_arg7 fullShare.right.left.left (woV m c) ∗ (∃ f, tAt c 0 f) ∗ Lz c 0 ∗ own c main_arg7 fullShare.right.left.right (woV m c) ∗ (∃ f, tAt c 1 f) ∗ Lz c 1 ∗ att m c)
      ⊢ iprop((iprop(fT m c 0 0 ∗ fT m c 1 1 ∗ att m c) -∗ Q ⟨(krB m c 0), k0_pay41 (cB m c 0 0) (wB m c 0 0), (cB m c 1 0)⟩) -∗ go c ((ap (k0_part18 (F := F)) :) c v10 v540 v542) Q) := by
  simp only [ap, k0_part18_eq_skeleton]
  unfold k0_part18_skel
  simp only [semSignalWord, semWaitWord, Prog.lift, Prog.bind_op, Prog.bind_ret, Prog.pure_eq_ret]
  iintro ⟨A70, T0, L0, A71, T1, L1, Att⟩ Hk
  iapply (cp_t m c 0 0 rfl (off4 c) rfl) $$ [A70 T0 L0]
  · isplitl [A70]; · iexact A70
    isplitl [T0]; · iexact T0
    iexact L0
  iintro F0
  iapply (cp_t m c 1 1 rfl (off5_1 c) rfl) $$ [A71 T1 L1]
  · isplitl [A71]; · iexact A71
    isplitl [T1]; · iexact T1
    iexact L1
  iintro F1
  iapply (at_kr m c 0 rfl) $$ Att
  iintro Att
  iapply (at_c m c 0 0 rfl) $$ Att
  iintro Att
  iapply (at_w m c 0 0 rfl) $$ Att
  iintro Att
  iapply (at_c m c 1 0 rfl) $$ Att
  iintro Att
  iapply (go_ret c)
  iapply Hk
  isplitl [F0]; · iexact F0
  isplitl [F1]; · iexact F1
  iexact Att

theorem part_19 {v561 : Vec F S512x32 .bf16} {v568 : FVec F S512x256 .f32} {v569 : Vec F S1x512x128 .bf16} {Q : (Σ' (v588 : FVec F S512x128 .f32) (v601 : FVec F S512x512 .f32), FVec F S512 .f32) → sProp 𝕄} :
    iprop(att m c)
      ⊢ iprop((iprop(att m c) -∗ Q ⟨k0_pay43 v568 v569 (wB m c 1 0) (cB m c 2 0) (wB m c 2 0) (cB m c 3 0) (wB m c 3 0), k0_pay44 v561 v568 v569 (wB m c 1 0) (cB m c 2 0) (wB m c 2 0) (cB m c 3 0) (wB m c 3 0) (qB m c 0 0) (qrB m c 0 0), k0_pay45 v561 v568 v569 (wB m c 1 0) (cB m c 2 0) (wB m c 2 0) (cB m c 3 0) (wB m c 3 0) (qB m c 0 0) (qrB m c 0 0)⟩) -∗ go c ((ap (k0_part19 (F := F)) :) v561 v568 v569) Q) := by
  simp only [ap, k0_part19_eq_skeleton]
  unfold k0_part19_skel
  simp only [semSignalWord, semWaitWord, Prog.lift, Prog.bind_op, Prog.bind_ret, Prog.pure_eq_ret]
  iintro Att Hk
  iapply (at_w m c 1 0 rfl) $$ Att
  iintro Att
  iapply (at_c m c 2 0 rfl) $$ Att
  iintro Att
  iapply (at_w m c 2 0 rfl) $$ Att
  iintro Att
  iapply (at_c m c 3 0 rfl) $$ Att
  iintro Att
  iapply (at_w m c 3 0 rfl) $$ Att
  iintro Att
  iapply (at_q m c 0 0 rfl) $$ Att
  iintro Att
  iapply (at_qr m c 0 0 rfl) $$ Att
  iintro Att
  iapply (go_ret c)
  iapply Hk
  iexact Att

theorem part_20 {v8 v10 : BitVec 32} {v588 : FVec F S512x128 .f32} {v601 : FVec F S512x512 .f32} {v602 : FVec F S512 .f32} (h1 : k0_pay46 v588 v601 v602 = tileV m c 0 0) {Q : (Σ' (v631 : BitVec 32), BitVec 32) → sProp 𝕄} :
    iprop(oS m c 0)
      ⊢ iprop((∀ a0 a1, iprop(oS m c 1 ∗ oAt c 0 (qs 1) (ooV m c) ∗ oAt c 0 (qs 2) (ooV m c) ∗ oAt c 0 (qs 3) (ooV m c)) -∗ Q ⟨a0, a1⟩) -∗ go c ((ap (k0_part20 (F := F)) :) v8 v10 v588 v601 v602) Q) := by
  simp only [ap, k0_part20_eq_skeleton]
  unfold k0_part20_skel
  simp only [semSignalWord, semWaitWord, Prog.lift, Prog.bind_op, Prog.bind_ret, Prog.pure_eq_ret]
  iintro OS Hk
  iapply (os_dead m c 0 (n := 0) rfl rfl) $$ OS
  iintro %_ OS
  iapply (os_st m c 0 0 0 rfl (n := 0) (n' := 1) rfl rfl rfl h1) $$ OS
  iintro ⟨OS, O01, O02, O03⟩
  iapply (go_ret c)
  iapply Hk
  isplitl [OS]; · iexact OS
  isplitl [O01]; · iexact O01
  isplitl [O02]; · iexact O02
  iexact O03

theorem part_21 {v8 v10 : BitVec 32} {Q : (Σ' (v664 : BitVec 32), BitVec 32) → sProp 𝕄} :
    iprop(env m K ∗ Pr1 c 6 6 ∗ oAt c 0 (qs 1) (ooV m c))
      ⊢ iprop((∀ a0 a1, iprop(Pr1 c 7 6) -∗ Q ⟨a0, a1⟩) -∗ go c ((ap (k0_part21 (F := F)) :) c v8 v10) Q) := by
  simp only [ap, k0_part21_eq_skeleton]
  unfold k0_part21_skel
  simp only [semSignalWord, semWaitWord, Prog.lift, Prog.bind_op, Prog.bind_ret, Prog.pure_eq_ret]
  iintro ⟨#HE, P, O01⟩ Hk
  iapply (send_o m K c 0 0 (n := 6) (n' := 7) (u := 6) rfl rfl (dev13 c) rfl rfl rfl rfl) $$ [P O01]
  · isplitr; · iexact HE
    isplitl [P]; · iexact P
    iexact O01
  iintro P
  iapply (go_ret c)
  iapply Hk
  iexact P

theorem part_22 {v8 v10 : BitVec 32} {Q : (Σ' (v697 : BitVec 32) (v698 : BitVec 32), F .f32) → sProp 𝕄} :
    iprop(env m K ∗ Pr1 c 7 6 ∗ oAt c 0 (qs 2) (ooV m c) ∗ oAt c 0 (qs 3) (ooV m c))
      ⊢ iprop((∀ a0 a1, iprop(Pr1 c 9 6) -∗ Q ⟨a0, a1, (Scalar.ofBits .f32 0x00000000#32 : F .f32)⟩) -∗ go c ((ap (k0_part22 (F := F)) :) c v8 v10) Q) := by
  simp only [ap, k0_part22_eq_skeleton]
  unfold k0_part22_skel
  simp only [semSignalWord, semWaitWord, Prog.lift, Prog.bind_op, Prog.bind_ret, Prog.pure_eq_ret]
  iintro ⟨#HE, P, O02, O03⟩ Hk
  iapply (send_o m K c 0 1 (n := 7) (n' := 8) (u := 6) rfl rfl (dev14 c) rfl rfl rfl rfl) $$ [P O02]
  · isplitr; · iexact HE
    isplitl [P]; · iexact P
    iexact O02
  iintro P
  iapply (send_o m K c 0 2 (n := 8) (n' := 9) (u := 6) rfl rfl (dev15 c) rfl rfl rfl rfl) $$ [P O03]
  · isplitr; · iexact HE
    isplitl [P]; · iexact P
    iexact O03
  iintro P
  iapply (go_ret c)
  iapply Hk
  iexact P

theorem part_23 {cst_489 : F .f32} {Q : (Σ' (v737 : FVec F S512x128 .f32) (v738 : FVec F S512x128 .f32), Vec F S512x128 .bf16) → sProp 𝕄} :
    iprop(att m c)
      ⊢ iprop((iprop(att m c) -∗ Q ⟨k0_pay48 cst_489 (cB m c 0 0) (wB m c 0 1) (cB m c 1 0) (wB m c 1 1) (cB m c 2 0) (wB m c 2 1) (cB m c 3 0) (wB m c 3 1), k0_pay49 cst_489 (cB m c 0 0) (wB m c 0 1) (cB m c 1 0) (wB m c 1 1) (cB m c 2 0) (wB m c 2 1) (cB m c 3 0) (wB m c 3 1), (qB m c 0 1)⟩) -∗ go c ((ap (k0_part23 (F := F)) :) cst_489) Q) := by
  simp only [ap, k0_part23_eq_skeleton]
  unfold k0_part23_skel
  simp only [semSignalWord, semWaitWord, Prog.lift, Prog.bind_op, Prog.bind_ret, Prog.pure_eq_ret]
  iintro Att Hk
  iapply (at_c m c 0 0 rfl) $$ Att
  iintro Att
  iapply (at_w m c 0 1 rfl) $$ Att
  iintro Att
  iapply (at_c m c 1 0 rfl) $$ Att
  iintro Att
  iapply (at_w m c 1 1 rfl) $$ Att
  iintro Att
  iapply (at_c m c 2 0 rfl) $$ Att
  iintro Att
  iapply (at_w m c 2 1 rfl) $$ Att
  iintro Att
  iapply (at_c m c 3 0 rfl) $$ Att
  iintro Att
  iapply (at_w m c 3 1 rfl) $$ Att
  iintro Att
  iapply (at_q m c 0 1 rfl) $$ Att
  iintro Att
  iapply (go_ret c)
  iapply Hk
  iexact Att

theorem part_24 {v10 : BitVec 32} {v561 : Vec F S512x32 .bf16} {v737 v738 : FVec F S512x128 .f32} {v739 : Vec F S512x128 .bf16} (h1 : k0_pay50 v561 v737 v738 v739 (qrB m c 0 1) = tileV m c 0 1) {Q : (Σ' (v764 : BitVec 32), BitVec 32) → sProp 𝕄} :
    iprop(att m c ∗ oS m c 1)
      ⊢ iprop((∀ a0 a1, iprop(att m c ∗ oS m c 2 ∗ oAt c 1 (qs 1) (ooV m c) ∗ oAt c 1 (qs 2) (ooV m c) ∗ oAt c 1 (qs 3) (ooV m c)) -∗ Q ⟨a0, a1⟩) -∗ go c ((ap (k0_part24 (F := F)) :) v10 v561 v737 v738 v739) Q) := by
  simp only [ap, k0_part24_eq_skeleton]
  unfold k0_part24_skel
  simp only [semSignalWord, semWaitWord, Prog.lift, Prog.bind_op, Prog.bind_ret, Prog.pure_eq_ret]
  iintro ⟨Att, OS⟩ Hk
  iapply (at_qr m c 0 1 rfl) $$ Att
  iintro Att
  iapply (os_dead m c 1 (n := 1) rfl rfl) $$ OS
  iintro %_ OS
  iapply (os_st m c 0 1 1 rfl (n := 1) (n' := 2) rfl rfl rfl h1) $$ OS
  iintro ⟨OS, O11, O12, O13⟩
  iapply (go_ret c)
  iapply Hk
  isplitl [Att]; · iexact Att
  isplitl [OS]; · iexact OS
  isplitl [O11]; · iexact O11
  isplitl [O12]; · iexact O12
  iexact O13

theorem part_25 {v8 v10 v764 v781 : BitVec 32} {Q : (Σ' (v782 : BitVec 32) (v814 : BitVec 32), BitVec 32) → sProp 𝕄} :
    iprop(env m K ∗ Pr1 c 9 6 ∗ oAt c 1 (qs 1) (ooV m c))
      ⊢ iprop((∀ a0 a1 a2, iprop(Pr1 c 10 6) -∗ Q ⟨a0, a1, a2⟩) -∗ go c ((ap (k0_part25 (F := F)) :) c v8 v10 v764 v781) Q) := by
  simp only [ap, k0_part25_eq_skeleton]
  unfold k0_part25_skel
  simp only [semSignalWord, semWaitWord, Prog.lift, Prog.bind_op, Prog.bind_ret, Prog.pure_eq_ret]
  iintro ⟨#HE, P, O11⟩ Hk
  iapply (send_o m K c 1 0 (n := 9) (n' := 10) (u := 6) rfl rfl (dev16 c) rfl rfl rfl rfl) $$ [P O11]
  · isplitr; · iexact HE
    isplitl [P]; · iexact P
    iexact O11
  iintro P
  iapply (go_ret c)
  iapply Hk
  iexact P

theorem part_26 {v8 v10 v814 v815 : BitVec 32} {Q : (Σ' (v847 : BitVec 32) (v848 : BitVec 32) (v850 : BitVec 32), BitVec 32) → sProp 𝕄} :
    iprop(env m K ∗ Pr1 c 10 6 ∗ oAt c 1 (qs 2) (ooV m c))
      ⊢ iprop((∀ a0 a1 a2 a3, iprop(Pr1 c 11 6) -∗ Q ⟨a0, a1, a2, a3⟩) -∗ go c ((ap (k0_part26 (F := F)) :) c v8 v10 v814 v815) Q) := by
  simp only [ap, k0_part26_eq_skeleton]
  unfold k0_part26_skel
  simp only [semSignalWord, semWaitWord, Prog.lift, Prog.bind_op, Prog.bind_ret, Prog.pure_eq_ret]
  iintro ⟨#HE, P, O12⟩ Hk
  iapply (send_o m K c 1 1 (n := 10) (n' := 11) (u := 6) rfl rfl (dev17 c) rfl rfl rfl rfl) $$ [P O12]
  · isplitr; · iexact HE
    isplitl [P]; · iexact P
    iexact O12
  iintro P
  iapply (go_ret c)
  iapply Hk
  iexact P

theorem part_27 {v8 v848 v850 c4_i32_583 : BitVec 32} {Q : (FVec F S512x256 .f32) → sProp 𝕄} :
    iprop(env m K ∗ Pr1 c 11 6 ∗ oAt c 1 (qs 3) (ooV m c) ∗ att m c)
      ⊢ iprop((iprop(Pr1 c 12 6 ∗ att m c) -∗ Q (k0_pay51 (cB m c 0 0) (wB m c 0 2) (cB m c 1 0) (wB m c 1 2) (cB m c 2 0) (wB m c 2 2))) -∗ go c ((ap (k0_part27 (F := F)) :) c v8 v848 v850 c4_i32_583) Q) := by
  simp only [ap, k0_part27_eq_skeleton]
  unfold k0_part27_skel
  simp only [semSignalWord, semWaitWord, Prog.lift, Prog.bind_op, Prog.bind_ret, Prog.pure_eq_ret]
  iintro ⟨#HE, P, O13, Att⟩ Hk
  iapply (send_o m K c 1 2 (n := 11) (n' := 12) (u := 6) rfl rfl (dev18 c) rfl rfl rfl rfl) $$ [P O13]
  · isplitr; · iexact HE
    isplitl [P]; · iexact P
    iexact O13
  iintro P
  iapply (at_c m c 0 0 rfl) $$ Att
  iintro Att
  iapply (at_w m c 0 2 rfl) $$ Att
  iintro Att
  iapply (at_c m c 1 0 rfl) $$ Att
  iintro Att
  iapply (at_w m c 1 2 rfl) $$ Att
  iintro Att
  iapply (at_c m c 2 0 rfl) $$ Att
  iintro Att
  iapply (at_w m c 2 2 rfl) $$ Att
  iintro Att
  iapply (go_ret c)
  iapply Hk
  isplitl [P]; · iexact P
  iexact Att

theorem part_28 {v10 : BitVec 32} {v561 : Vec F S512x32 .bf16} {v880 : FVec F S512x256 .f32} (h1 : k0_pay52 v561 v880 (cB m c 3 0) (wB m c 3 2) (qB m c 0 2) (qrB m c 0 2) = tileV m c 0 2) {Q : (Σ' (v914 : BitVec 32) (c2_i32_631 : BitVec 32) (v915 : BitVec 32) (v917 : BitVec 32), BitVec 32) → sProp 𝕄} :
    iprop(att m c ∗ oS m c 2)
      ⊢ iprop((∀ a0 a1 a2 a3 a4, iprop(att m c ∗ oS m c 3 ∗ oAt c 2 (qs 1) (ooV m c) ∗ oAt c 2 (qs 2) (ooV m c) ∗ oAt c 2 (qs 3) (ooV m c)) -∗ Q ⟨a0, a1, a2, a3, a4⟩) -∗ go c ((ap (k0_part28 (F := F)) :) v10 v561 v880) Q) := by
  simp only [ap, k0_part28_eq_skeleton]
  unfold k0_part28_skel
  simp only [semSignalWord, semWaitWord, Prog.lift, Prog.bind_op, Prog.bind_ret, Prog.pure_eq_ret]
  iintro ⟨Att, OS⟩ Hk
  iapply (at_c m c 3 0 rfl) $$ Att
  iintro Att
  iapply (at_w m c 3 2 rfl) $$ Att
  iintro Att
  iapply (at_q m c 0 2 rfl) $$ Att
  iintro Att
  iapply (at_qr m c 0 2 rfl) $$ Att
  iintro Att
  iapply (os_dead m c 2 (n := 2) rfl rfl) $$ OS
  iintro %_ OS
  iapply (os_st m c 0 2 2 rfl (n := 2) (n' := 3) rfl rfl rfl h1) $$ OS
  iintro ⟨OS, O21, O22, O23⟩
  iapply (go_ret c)
  iapply Hk
  isplitl [Att]; · iexact Att
  isplitl [OS]; · iexact OS
  isplitl [O21]; · iexact O21
  isplitl [O22]; · iexact O22
  iexact O23

theorem part_29 {v8 v10 v914 c2_i32_631 v915 v917 c0_i32_633 : BitVec 32} {Q : (Σ' (v931 : BitVec 32) (v932 : BitVec 32) (v947 : BitVec 32) (c2_i32_651 : BitVec 32) (v948 : BitVec 32) (v953 : BitVec 32), BitVec 1) → sProp 𝕄} :
    iprop(env m K ∗ Pr1 c 12 6 ∗ oAt c 2 (qs 1) (ooV m c))
      ⊢ iprop((∀ a0 a1 a2 a3 a4 a5 a6, iprop(Pr1 c 13 6) -∗ Q ⟨a0, a1, a2, a3, a4, a5, a6⟩) -∗ go c ((ap (k0_part29 (F := F)) :) c v8 v10 v914 c2_i32_631 v915 v917 c0_i32_633) Q) := by
  simp only [ap, k0_part29_eq_skeleton]
  unfold k0_part29_skel
  simp only [semSignalWord, semWaitWord, Prog.lift, Prog.bind_op, Prog.bind_ret, Prog.pure_eq_ret]
  iintro ⟨#HE, P, O21⟩ Hk
  iapply (send_o m K c 2 0 (n := 12) (n' := 13) (u := 6) rfl rfl (dev19 c) rfl rfl rfl rfl) $$ [P O21]
  · isplitr; · iexact HE
    isplitl [P]; · iexact P
    iexact O21
  iintro P
  iapply (go_ret c)
  iapply Hk
  iexact P

theorem part_30 {v8 v10 v947 c2_i32_651 v948 v953 : BitVec 32} {v954 : BitVec 1} {Q : (Σ' (v964 : BitVec 32) (v965 : BitVec 32) (v980 : BitVec 32) (c2_i32_671 : BitVec 32) (v981 : BitVec 32) (v986 : BitVec 32), BitVec 32) → sProp 𝕄} :
    iprop(env m K ∗ Pr1 c 13 6 ∗ oAt c 2 (qs 2) (ooV m c))
      ⊢ iprop((∀ a0 a1 a2 a3 a4 a5 a6, iprop(Pr1 c 14 6) -∗ Q ⟨a0, a1, a2, a3, a4, a5, a6⟩) -∗ go c ((ap (k0_part30 (F := F)) :) c v8 v10 v947 c2_i32_651 v948 v953 v954) Q) := by
  simp only [ap, k0_part30_eq_skeleton]
  unfold k0_part30_skel
  simp only [semSignalWord, semWaitWord, Prog.lift, Prog.bind_op, Prog.bind_ret, Prog.pure_eq_ret]
  iintro ⟨#HE, P, O22⟩ Hk
  iapply (send_o m K c 2 1 (n := 13) (n' := 14) (u := 6) rfl rfl (dev20 c) rfl rfl rfl rfl) $$ [P O22]
  · isplitr; · iexact HE
    isplitl [P]; · iexact P
    iexact O22
  iintro P
  iapply (go_ret c)
  iapply Hk
  iexact P

theorem part_31 {v8 v980 c2_i32_671 v981 v986 v991 : BitVec 32} {Q : (Σ' (v997 : BitVec 32) (v998 : BitVec 32) (v1018 : FVec F S512x256 .f32) (v1020 : FVec F S512x128 .bf16), FVec F S128x256 .bf16) → sProp 𝕄} :
    iprop(env m K ∗ Pr1 c 14 6 ∗ oAt c 2 (qs 3) (ooV m c) ∗ att m c)
      ⊢ iprop((∀ a0 a1, iprop(Pr1 c 15 6 ∗ att m c) -∗ Q ⟨a0, a1, k0_pay53 (cB m c 0 0) (wB m c 0 3), k0_pay54 (cB m c 1 0), k0_pay55 (wB m c 1 3)⟩) -∗ go c ((ap (k0_part31 (F := F)) :) c v8 v980 c2_i32_671 v981 v986 v991) Q) := by
  simp only [ap, k0_part31_eq_skeleton]
  unfold k0_part31_skel
  simp only [semSignalWord, semWaitWord, Prog.lift, Prog.bind_op, Prog.bind_ret, Prog.pure_eq_ret]
  iintro ⟨#HE, P, O23, Att⟩ Hk
  iapply (send_o m K c 2 2 (n := 14) (n' := 15) (u := 6) rfl rfl (dev21 c) rfl rfl rfl rfl) $$ [P O23]
  · isplitr; · iexact HE
    isplitl [P]; · iexact P
    iexact O23
  iintro P
  iapply (at_c m c 0 0 rfl) $$ Att
  iintro Att
  iapply (at_w m c 0 3 rfl) $$ Att
  iintro Att
  iapply (at_c m c 1 0 rfl) $$ Att
  iintro Att
  iapply (at_w m c 1 3 rfl) $$ Att
  iintro Att
  iapply (go_ret c)
  iapply Hk
  isplitl [P]; · iexact P
  iexact Att

theorem part_32 {v561 : Vec F S512x32 .bf16} {v1018 : FVec F S512x256 .f32} {v1020 : FVec F S512x128 .bf16} {v1022 : FVec F S128x256 .bf16} {Q : (Σ' (v1056 : FVec F S512x128 .f32), FVec F S512x128 .f32) → sProp 𝕄} :
    iprop(att m c)
      ⊢ iprop((iprop(att m c) -∗ Q ⟨k0_pay58 v561 v1018 v1020 v1022 (cB m c 2 0) (wB m c 2 3) (cB m c 3 0) (wB m c 3 3) (qB m c 0 3) (qrB m c 0 3), k0_pay59 v561 v1018 v1020 v1022 (cB m c 2 0) (wB m c 2 3) (cB m c 3 0) (wB m c 3 3) (qB m c 0 3) (qrB m c 0 3)⟩) -∗ go c ((ap (k0_part32 (F := F)) :) v561 v1018 v1020 v1022) Q) := by
  simp only [ap, k0_part32_eq_skeleton]
  unfold k0_part32_skel
  simp only [semSignalWord, semWaitWord, Prog.lift, Prog.bind_op, Prog.bind_ret, Prog.pure_eq_ret]
  iintro Att Hk
  iapply (at_c m c 2 0 rfl) $$ Att
  iintro Att
  iapply (at_w m c 2 3 rfl) $$ Att
  iintro Att
  iapply (at_c m c 3 0 rfl) $$ Att
  iintro Att
  iapply (at_w m c 3 3 rfl) $$ Att
  iintro Att
  iapply (at_q m c 0 3 rfl) $$ Att
  iintro Att
  iapply (at_qr m c 0 3 rfl) $$ Att
  iintro Att
  iapply (go_ret c)
  iapply Hk
  iexact Att

theorem part_33 {v8 v10 : BitVec 32} {v1056 v1057 : FVec F S512x128 .f32} (h1 : k0_pay60 v1056 v1057 = tileV m c 0 3) {Q : (Σ' (v1081 : BitVec 32), BitVec 32) → sProp 𝕄} :
    iprop(oS m c 3)
      ⊢ iprop((∀ a0 a1, iprop(oS m c 4 ∗ oAt c 3 (qs 1) (ooV m c) ∗ oAt c 3 (qs 2) (ooV m c) ∗ oAt c 3 (qs 3) (ooV m c)) -∗ Q ⟨a0, a1⟩) -∗ go c ((ap (k0_part33 (F := F)) :) v8 v10 v1056 v1057) Q) := by
  simp only [ap, k0_part33_eq_skeleton]
  unfold k0_part33_skel
  simp only [semSignalWord, semWaitWord, Prog.lift, Prog.bind_op, Prog.bind_ret, Prog.pure_eq_ret]
  iintro OS Hk
  iapply (os_dead m c 3 (n := 3) rfl rfl) $$ OS
  iintro %_ OS
  iapply (os_st m c 0 3 3 rfl (n := 3) (n' := 4) rfl rfl rfl h1) $$ OS
  iintro ⟨OS, O31, O32, O33⟩
  iapply (go_ret c)
  iapply Hk
  isplitl [OS]; · iexact OS
  isplitl [O31]; · iexact O31
  isplitl [O32]; · iexact O32
  iexact O33

theorem part_34 {v8 v10 : BitVec 32} {Q : (Σ' (v1114 : BitVec 32) (v1115 : BitVec 32), BitVec 32) → sProp 𝕄} :
    iprop(env m K ∗ Pr1 c 15 6 ∗ oAt c 3 (qs 1) (ooV m c) ∗ oAt c 3 (qs 2) (ooV m c))
      ⊢ iprop((∀ a0 a1 a2, iprop(Pr1 c 17 6) -∗ Q ⟨a0, a1, a2⟩) -∗ go c ((ap (k0_part34 (F := F)) :) c v8 v10) Q) := by
  simp only [ap, k0_part34_eq_skeleton]
  unfold k0_part34_skel
  simp only [semSignalWord, semWaitWord, Prog.lift, Prog.bind_op, Prog.bind_ret, Prog.pure_eq_ret]
  iintro ⟨#HE, P, O31, O32⟩ Hk
  iapply (send_o m K c 3 0 (n := 15) (n' := 16) (u := 6) rfl rfl (dev22 c) rfl rfl rfl rfl) $$ [P O31]
  · isplitr; · iexact HE
    isplitl [P]; · iexact P
    iexact O31
  iintro P
  iapply (send_o m K c 3 1 (n := 16) (n' := 17) (u := 6) rfl rfl (dev23 c) rfl rfl rfl rfl) $$ [P O32]
  · isplitr; · iexact HE
    isplitl [P]; · iexact P
    iexact O32
  iintro P
  iapply (go_ret c)
  iapply Hk
  iexact P

theorem part_35 {v8 v1129 : BitVec 32} {Q : (Σ' (v1147 : BitVec 32) (v1148 : BitVec 32) (v1162 : Vec F S512x32 .bf16), FVec F S512x256 .f32) → sProp 𝕄} :
    iprop(env m K ∗ Pr1 c 17 6 ∗ oAt c 3 (qs 3) (ooV m c) ∗ att m c)
      ⊢ iprop((∀ a0 a1, iprop(Pr1 c 18 6 ∗ att m c) -∗ Q ⟨a0, a1, (krB m c 1), k0_pay61 (F := F)⟩) -∗ go c ((ap (k0_part35 (F := F)) :) c v8 v1129) Q) := by
  simp only [ap, k0_part35_eq_skeleton]
  unfold k0_part35_skel
  simp only [semSignalWord, semWaitWord, Prog.lift, Prog.bind_op, Prog.bind_ret, Prog.pure_eq_ret]
  iintro ⟨#HE, P, O33, Att⟩ Hk
  iapply (send_o m K c 3 2 (n := 17) (n' := 18) (u := 6) rfl rfl (dev24 c) rfl rfl rfl rfl) $$ [P O33]
  · isplitr; · iexact HE
    isplitl [P]; · iexact P
    iexact O33
  iintro P
  iapply (at_kr m c 1 rfl) $$ Att
  iintro Att
  iapply (go_ret c)
  iapply Hk
  isplitl [P]; · iexact P
  iexact Att

theorem part_36 {v1163 : FVec F S512x256 .f32} {Q : (Σ' (v1189 : FVec F S512x128 .f32) (v1190 : Vec F S512x128 .bf16) (v1191 : Vec F S512x32 .bf16) (v1192 : FVec F S512x128 .bf16), FVec F S512x512 .f32) → sProp 𝕄} :
    iprop(att m c)
      ⊢ iprop((iprop(att m c) -∗ Q ⟨k0_pay63 v1163 (cB m c 0 1) (wB m c 0 0) (cB m c 1 1) (wB m c 1 0) (cB m c 2 1) (wB m c 2 0) (cB m c 3 1) (wB m c 3 0), (qB m c 1 0), (qrB m c 1 0), k0_pay64 v1163 (cB m c 0 1) (wB m c 0 0) (cB m c 1 1) (wB m c 1 0) (cB m c 2 1) (wB m c 2 0) (cB m c 3 1) (wB m c 3 0), (constant S512x512 .f32 0x00000000#32 : FVec F S512x512 .f32)⟩) -∗ go c ((ap (k0_part36 (F := F)) :) v1163) Q) := by
  simp only [ap, k0_part36_eq_skeleton]
  unfold k0_part36_skel
  simp only [semSignalWord, semWaitWord, Prog.lift, Prog.bind_op, Prog.bind_ret, Prog.pure_eq_ret]
  iintro Att Hk
  iapply (at_c m c 0 1 rfl) $$ Att
  iintro Att
  iapply (at_w m c 0 0 rfl) $$ Att
  iintro Att
  iapply (at_c m c 1 1 rfl) $$ Att
  iintro Att
  iapply (at_w m c 1 0 rfl) $$ Att
  iintro Att
  iapply (at_c m c 2 1 rfl) $$ Att
  iintro Att
  iapply (at_w m c 2 0 rfl) $$ Att
  iintro Att
  iapply (at_c m c 3 1 rfl) $$ Att
  iintro Att
  iapply (at_w m c 3 0 rfl) $$ Att
  iintro Att
  iapply (at_q m c 1 0 rfl) $$ Att
  iintro Att
  iapply (at_qr m c 1 0 rfl) $$ Att
  iintro Att
  iapply (go_ret c)
  iapply Hk
  iexact Att

theorem part_37 {v10 : BitVec 32} {v1162 v1191 : Vec F S512x32 .bf16} {v1189 : FVec F S512x128 .f32} {v1190 : Vec F S512x128 .bf16} {v1192 : FVec F S512x128 .bf16} {cst_824 : FVec F S512x512 .f32} (h1 : k0_pay65 v1162 v1189 v1190 v1191 v1192 cst_824 = tileV m c 1 0) {Q : (Σ' (v1232 : BitVec 32), BitVec 32) → sProp 𝕄} :
    iprop(oS m c 4)
      ⊢ iprop((∀ a0 a1, iprop(oS m c 5 ∗ oAt c 4 (qs 1) (ooV m c) ∗ oAt c 4 (qs 2) (ooV m c) ∗ oAt c 4 (qs 3) (ooV m c)) -∗ Q ⟨a0, a1⟩) -∗ go c ((ap (k0_part37 (F := F)) :) v10 v1162 v1189 v1190 v1191 v1192 cst_824) Q) := by
  simp only [ap, k0_part37_eq_skeleton]
  unfold k0_part37_skel
  simp only [semSignalWord, semWaitWord, Prog.lift, Prog.bind_op, Prog.bind_ret, Prog.pure_eq_ret]
  iintro OS Hk
  iapply (os_dead m c 4 (n := 4) rfl rfl) $$ OS
  iintro %_ OS
  iapply (os_st m c 1 0 4 rfl (n := 4) (n' := 5) rfl rfl rfl h1) $$ OS
  iintro ⟨OS, O41, O42, O43⟩
  iapply (go_ret c)
  iapply Hk
  isplitl [OS]; · iexact OS
  isplitl [O41]; · iexact O41
  isplitl [O42]; · iexact O42
  iexact O43

theorem part_38 {v8 v10 v1232 v1233 : BitVec 32} {Q : (Σ' (v1265 : BitVec 32) (v1266 : BitVec 32) (v1267 : BitVec 32), BitVec 32) → sProp 𝕄} :
    iprop(env m K ∗ Pr1 c 18 6 ∗ oAt c 4 (qs 1) (ooV m c))
      ⊢ iprop((∀ a0 a1 a2 a3, iprop(Pr1 c 19 6) -∗ Q ⟨a0, a1, a2, a3⟩) -∗ go c ((ap (k0_part38 (F := F)) :) c v8 v10 v1232 v1233) Q) := by
  simp only [ap, k0_part38_eq_skeleton]
  unfold k0_part38_skel
  simp only [semSignalWord, semWaitWord, Prog.lift, Prog.bind_op, Prog.bind_ret, Prog.pure_eq_ret]
  iintro ⟨#HE, P, O41⟩ Hk
  iapply (send_o m K c 4 0 (n := 18) (n' := 19) (u := 6) rfl rfl (dev25 c) rfl rfl rfl rfl) $$ [P O41]
  · isplitr; · iexact HE
    isplitl [P]; · iexact P
    iexact O41
  iintro P
  iapply (go_ret c)
  iapply Hk
  iexact P

theorem part_39 {v8 v10 v1266 v1267 c0_i32_866 : BitVec 32} {Q : (Σ' (v1298 : BitVec 32) (v1299 : BitVec 32) (v1303 : BitVec 32), BitVec 32) → sProp 𝕄} :
    iprop(env m K ∗ Pr1 c 19 6 ∗ oAt c 4 (qs 2) (ooV m c))
      ⊢ iprop((∀ a0 a1 a2 a3, iprop(Pr1 c 20 6) -∗ Q ⟨a0, a1, a2, a3⟩) -∗ go c ((ap (k0_part39 (F := F)) :) c v8 v10 v1266 v1267 c0_i32_866) Q) := by
  simp only [ap, k0_part39_eq_skeleton]
  unfold k0_part39_skel
  simp only [semSignalWord, semWaitWord, Prog.lift, Prog.bind_op, Prog.bind_ret, Prog.pure_eq_ret]
  iintro ⟨#HE, P, O42⟩ Hk
  iapply (send_o m K c 4 1 (n := 19) (n' := 20) (u := 6) rfl rfl (dev26 c) rfl rfl rfl rfl) $$ [P O42]
  · isplitr; · iexact HE
    isplitl [P]; · iexact P
    iexact O42
  iintro P
  iapply (go_ret c)
  iapply Hk
  iexact P

theorem part_40 {v8 v1303 c1_i32_888 : BitVec 32} {Q : (Σ' (v1331 : FVec F S512x256 .f32), FVec F S512x128 .bf16) → sProp 𝕄} :
    iprop(env m K ∗ Pr1 c 20 6 ∗ oAt c 4 (qs 3) (ooV m c) ∗ att m c)
      ⊢ iprop((iprop(Pr1 c 21 6 ∗ att m c) -∗ Q ⟨k0_pay66 (cB m c 0 1) (wB m c 0 1) (cB m c 1 1) (wB m c 1 1) (cB m c 2 1) (wB m c 2 1), k0_pay67 (cB m c 3 1)⟩) -∗ go c ((ap (k0_part40 (F := F)) :) c v8 v1303 c1_i32_888) Q) := by
  simp only [ap, k0_part40_eq_skeleton]
  unfold k0_part40_skel
  simp only [semSignalWord, semWaitWord, Prog.lift, Prog.bind_op, Prog.bind_ret, Prog.pure_eq_ret]
  iintro ⟨#HE, P, O43, Att⟩ Hk
  iapply (send_o m K c 4 2 (n := 20) (n' := 21) (u := 6) rfl rfl (dev27 c) rfl rfl rfl rfl) $$ [P O43]
  · isplitr; · iexact HE
    isplitl [P]; · iexact P
    iexact O43
  iintro P
  iapply (at_c m c 0 1 rfl) $$ Att
  iintro Att
  iapply (at_w m c 0 1 rfl) $$ Att
  iintro Att
  iapply (at_c m c 1 1 rfl) $$ Att
  iintro Att
  iapply (at_w m c 1 1 rfl) $$ Att
  iintro Att
  iapply (at_c m c 2 1 rfl) $$ Att
  iintro Att
  iapply (at_w m c 2 1 rfl) $$ Att
  iintro Att
  iapply (at_c m c 3 1 rfl) $$ Att
  iintro Att
  iapply (go_ret c)
  iapply Hk
  isplitl [P]; · iexact P
  iexact Att

theorem part_41 {v10 : BitVec 32} {v1162 : Vec F S512x32 .bf16} {v1331 : FVec F S512x256 .f32} {v1333 : FVec F S512x128 .bf16} (h1 : k0_pay68 v1162 v1331 v1333 (wB m c 3 1) (qB m c 1 1) (qrB m c 1 1) = tileV m c 1 1) {Q : (Σ' (v1365 : BitVec 32) (c2_i32_936 : BitVec 32) (v1366 : BitVec 32), BitVec 32) → sProp 𝕄} :
    iprop(att m c ∗ oS m c 5)
      ⊢ iprop((∀ a0 a1 a2 a3, iprop(att m c ∗ oS m c 6 ∗ oAt c 5 (qs 1) (ooV m c) ∗ oAt c 5 (qs 2) (ooV m c) ∗ oAt c 5 (qs 3) (ooV m c)) -∗ Q ⟨a0, a1, a2, a3⟩) -∗ go c ((ap (k0_part41 (F := F)) :) v10 v1162 v1331 v1333) Q) := by
  simp only [ap, k0_part41_eq_skeleton]
  unfold k0_part41_skel
  simp only [semSignalWord, semWaitWord, Prog.lift, Prog.bind_op, Prog.bind_ret, Prog.pure_eq_ret]
  iintro ⟨Att, OS⟩ Hk
  iapply (at_w m c 3 1 rfl) $$ Att
  iintro Att
  iapply (at_q m c 1 1 rfl) $$ Att
  iintro Att
  iapply (at_qr m c 1 1 rfl) $$ Att
  iintro Att
  iapply (os_dead m c 5 (n := 5) rfl rfl) $$ OS
  iintro %_ OS
  iapply (os_st m c 1 1 5 rfl (n := 5) (n' := 6) rfl rfl rfl h1) $$ OS
  iintro ⟨OS, O51, O52, O53⟩
  iapply (go_ret c)
  iapply Hk
  isplitl [Att]; · iexact Att
  isplitl [OS]; · iexact OS
  isplitl [O51]; · iexact O51
  isplitl [O52]; · iexact O52
  iexact O53

theorem part_42 {v8 v10 v1365 c2_i32_936 v1366 v1371 : BitVec 32} {Q : (Σ' (v1382 : BitVec 32) (v1383 : BitVec 32) (v1398 : BitVec 32) (c2_i32_957 : BitVec 32) (v1399 : BitVec 32) (v1404 : BitVec 32) (v1406 : BitVec 32), BitVec 1) → sProp 𝕄} :
    iprop(env m K ∗ Pr1 c 21 6 ∗ oAt c 5 (qs 1) (ooV m c))
      ⊢ iprop((∀ a0 a1 a2 a3 a4 a5 a6 a7, iprop(Pr1 c 22 6) -∗ Q ⟨a0, a1, a2, a3, a4, a5, a6, a7⟩) -∗ go c ((ap (k0_part42 (F := F)) :) c v8 v10 v1365 c2_i32_936 v1366 v1371) Q) := by
  simp only [ap, k0_part42_eq_skeleton]
  unfold k0_part42_skel
  simp only [semSignalWord, semWaitWord, Prog.lift, Prog.bind_op, Prog.bind_ret, Prog.pure_eq_ret]
  iintro ⟨#HE, P, O51⟩ Hk
  iapply (send_o m K c 5 0 (n := 21) (n' := 22) (u := 6) rfl rfl (dev28 c) rfl rfl rfl rfl) $$ [P O51]
  · isplitr; · iexact HE
    isplitl [P]; · iexact P
    iexact O51
  iintro P
  iapply (go_ret c)
  iapply Hk
  iexact P

theorem part_43 {v8 v10 v1398 c2_i32_957 v1399 v1404 v1406 : BitVec 32} {v1407 : BitVec 1} {Q : (Σ' (v1415 : BitVec 32) (v1416 : BitVec 32) (v1431 : BitVec 32) (v1432 : BitVec 32) (v1443 : BitVec 1) (v1444 : BitVec 32), BitVec 32) → sProp 𝕄} :
    iprop(env m K ∗ Pr1 c 22 6 ∗ oAt c 5 (qs 2) (ooV m c))
      ⊢ iprop((∀ a0 a1 a2 a3 a4 a5 a6, iprop(Pr1 c 23 6) -∗ Q ⟨a0, a1, a2, a3, a4, a5, a6⟩) -∗ go c ((ap (k0_part43 (F := F)) :) c v8 v10 v1398 c2_i32_957 v1399 v1404 v1406 v1407) Q) := by
  simp only [ap, k0_part43_eq_skeleton]
  unfold k0_part43_skel
  simp only [semSignalWord, semWaitWord, Prog.lift, Prog.bind_op, Prog.bind_ret, Prog.pure_eq_ret]
  iintro ⟨#HE, P, O52⟩ Hk
  iapply (send_o m K c 5 1 (n := 22) (n' := 23) (u := 6) rfl rfl (dev29 c) rfl rfl rfl rfl) $$ [P O52]
  · isplitr; · iexact HE
    isplitl [P]; · iexact P
    iexact O52
  iintro P
  iapply (go_ret c)
  iapply Hk
  iexact P

theorem part_44 {v8 v1431 v1432 v1444 c0_i32_982 : BitVec 32} {v1443 : BitVec 1} {Q : (Σ' (v1448 : BitVec 32) (v1449 : BitVec 32), FVec F S512x256 .f32) → sProp 𝕄} :
    iprop(env m K ∗ Pr1 c 23 6 ∗ oAt c 5 (qs 3) (ooV m c) ∗ att m c)
      ⊢ iprop((∀ a0 a1, iprop(Pr1 c 24 6 ∗ att m c) -∗ Q ⟨a0, a1, k0_pay69 (cB m c 0 1) (wB m c 0 2) (cB m c 1 1) (wB m c 1 2)⟩) -∗ go c ((ap (k0_part44 (F := F)) :) c v8 v1431 v1432 v1443 v1444 c0_i32_982) Q) := by
  simp only [ap, k0_part44_eq_skeleton]
  unfold k0_part44_skel
  simp only [semSignalWord, semWaitWord, Prog.lift, Prog.bind_op, Prog.bind_ret, Prog.pure_eq_ret]
  iintro ⟨#HE, P, O53, Att⟩ Hk
  iapply (send_o m K c 5 2 (n := 23) (n' := 24) (u := 6) rfl rfl (dev30 c) rfl rfl rfl rfl) $$ [P O53]
  · isplitr; · iexact HE
    isplitl [P]; · iexact P
    iexact O53
  iintro P
  iapply (at_c m c 0 1 rfl) $$ Att
  iintro Att
  iapply (at_w m c 0 2 rfl) $$ Att
  iintro Att
  iapply (at_c m c 1 1 rfl) $$ Att
  iintro Att
  iapply (at_w m c 1 2 rfl) $$ Att
  iintro Att
  iapply (go_ret c)
  iapply Hk
  isplitl [P]; · iexact P
  iexact Att

theorem part_45 {v1162 : Vec F S512x32 .bf16} {v1475 : FVec F S512x256 .f32} {Q : (FVec F S512x128 .bf16) → sProp 𝕄} :
    iprop(att m c)
      ⊢ iprop((iprop(att m c) -∗ Q (k0_pay70 v1162 v1475 (cB m c 2 1) (wB m c 2 2) (cB m c 3 1) (wB m c 3 2) (qB m c 1 2) (qrB m c 1 2))) -∗ go c ((ap (k0_part45 (F := F)) :) v1162 v1475) Q) := by
  simp only [ap, k0_part45_eq_skeleton]
  unfold k0_part45_skel
  simp only [semSignalWord, semWaitWord, Prog.lift, Prog.bind_op, Prog.bind_ret, Prog.pure_eq_ret]
  iintro Att Hk
  iapply (at_c m c 2 1 rfl) $$ Att
  iintro Att
  iapply (at_w m c 2 2 rfl) $$ Att
  iintro Att
  iapply (at_c m c 3 1 rfl) $$ Att
  iintro Att
  iapply (at_w m c 3 2 rfl) $$ Att
  iintro Att
  iapply (at_q m c 1 2 rfl) $$ Att
  iintro Att
  iapply (at_qr m c 1 2 rfl) $$ Att
  iintro Att
  iapply (go_ret c)
  iapply Hk
  iexact Att

theorem part_46 {v8 v10 : BitVec 32} {v1510 : FVec F S512x128 .bf16} (h1 : k0_pay71 v1510 = tileV m c 1 2) {Q : (Σ' (v1532 : BitVec 32), BitVec 32) → sProp 𝕄} :
    iprop(env m K ∗ oS m c 6 ∗ Pr1 c 24 6)
      ⊢ iprop((∀ a0 a1, iprop(oS m c 7 ∗ oAt c 6 (qs 2) (ooV m c) ∗ oAt c 6 (qs 3) (ooV m c) ∗ Pr1 c 25 6) -∗ Q ⟨a0, a1⟩) -∗ go c ((ap (k0_part46 (F := F)) :) c v8 v10 v1510) Q) := by
  simp only [ap, k0_part46_eq_skeleton]
  unfold k0_part46_skel
  simp only [semSignalWord, semWaitWord, Prog.lift, Prog.bind_op, Prog.bind_ret, Prog.pure_eq_ret]
  iintro ⟨#HE, OS, P⟩ Hk
  iapply (os_dead m c 6 (n := 6) rfl rfl) $$ OS
  iintro %_ OS
  iapply (os_st m c 1 2 6 rfl (n := 6) (n' := 7) rfl rfl rfl h1) $$ OS
  iintro ⟨OS, O61, O62, O63⟩
  iapply (send_o m K c 6 0 (n := 24) (n' := 25) (u := 6) rfl rfl (dev31 c) rfl rfl rfl rfl) $$ [P O61]
  · isplitr; · iexact HE
    isplitl [P]; · iexact P
    iexact O61
  iintro P
  iapply (go_ret c)
  iapply Hk
  isplitl [OS]; · iexact OS
  isplitl [O62]; · iexact O62
  isplitl [O63]; · iexact O63
  iexact P

theorem part_47 {v8 v10 : BitVec 32} {Q : (Σ' (v1565 : BitVec 32) (v1566 : BitVec 32) (v1581 : BitVec 32), BitVec 32) → sProp 𝕄} :
    iprop(env m K ∗ Pr1 c 25 6 ∗ oAt c 6 (qs 2) (ooV m c))
      ⊢ iprop((∀ a0 a1 a2 a3, iprop(Pr1 c 26 6) -∗ Q ⟨a0, a1, a2, a3⟩) -∗ go c ((ap (k0_part47 (F := F)) :) c v8 v10) Q) := by
  simp only [ap, k0_part47_eq_skeleton]
  unfold k0_part47_skel
  simp only [semSignalWord, semWaitWord, Prog.lift, Prog.bind_op, Prog.bind_ret, Prog.pure_eq_ret]
  iintro ⟨#HE, P, O62⟩ Hk
  iapply (send_o m K c 6 1 (n := 25) (n' := 26) (u := 6) rfl rfl (dev32 c) rfl rfl rfl rfl) $$ [P O62]
  · isplitr; · iexact HE
    isplitl [P]; · iexact P
    iexact O62
  iintro P
  iapply (go_ret c)
  iapply Hk
  iexact P

theorem part_48 {v8 v1581 c2_i32_1079 : BitVec 32} {Q : (Σ' (v1598 : BitVec 32) (v1599 : BitVec 32) (v1613 : FVec F S512x256 .f32), FVec F S512x128 .bf16) → sProp 𝕄} :
    iprop(env m K ∗ Pr1 c 26 6 ∗ oAt c 6 (qs 3) (ooV m c) ∗ att m c)
      ⊢ iprop((∀ a0 a1, iprop(Pr1 c 27 6 ∗ att m c) -∗ Q ⟨a0, a1, k0_pay72 (F := F), k0_pay73 (cB m c 0 1)⟩) -∗ go c ((ap (k0_part48 (F := F)) :) c v8 v1581 c2_i32_1079) Q) := by
  simp only [ap, k0_part48_eq_skeleton]
  unfold k0_part48_skel
  simp only [semSignalWord, semWaitWord, Prog.lift, Prog.bind_op, Prog.bind_ret, Prog.pure_eq_ret]
  iintro ⟨#HE, P, O63, Att⟩ Hk
  iapply (send_o m K c 6 2 (n := 26) (n' := 27) (u := 6) rfl rfl (dev33 c) rfl rfl rfl rfl) $$ [P O63]
  · isplitr; · iexact HE
    isplitl [P]; · iexact P
    iexact O63
  iintro P
  iapply (at_c m c 0 1 rfl) $$ Att
  iintro Att
  iapply (go_ret c)
  iapply Hk
  isplitl [P]; · iexact P
  iexact Att

theorem part_49 {v1162 : Vec F S512x32 .bf16} {v1613 : FVec F S512x256 .f32} {v1615 : FVec F S512x128 .bf16} {Q : (Σ' (v1639 : FVec F S512x128 .f32) (v1645 : FVec F S512x512 .f32), FVec F S512x512 .f32) → sProp 𝕄} :
    iprop(att m c)
      ⊢ iprop((iprop(att m c) -∗ Q ⟨k0_pay75 v1613 v1615 (wB m c 0 3) (cB m c 1 1) (wB m c 1 3) (cB m c 2 1) (wB m c 2 3) (cB m c 3 1) (wB m c 3 3), k0_pay76 v1162 v1613 v1615 (wB m c 0 3) (cB m c 1 1) (wB m c 1 3) (cB m c 2 1) (wB m c 2 3) (cB m c 3 1) (wB m c 3 3) (qB m c 1 3) (qrB m c 1 3), k0_pay77 (F := F)⟩) -∗ go c ((ap (k0_part49 (F := F)) :) v1162 v1613 v1615) Q) := by
  simp only [ap, k0_part49_eq_skeleton]
  unfold k0_part49_skel
  simp only [semSignalWord, semWaitWord, Prog.lift, Prog.bind_op, Prog.bind_ret, Prog.pure_eq_ret]
  iintro Att Hk
  iapply (at_w m c 0 3 rfl) $$ Att
  iintro Att
  iapply (at_c m c 1 1 rfl) $$ Att
  iintro Att
  iapply (at_w m c 1 3 rfl) $$ Att
  iintro Att
  iapply (at_c m c 2 1 rfl) $$ Att
  iintro Att
  iapply (at_w m c 2 3 rfl) $$ Att
  iintro Att
  iapply (at_c m c 3 1 rfl) $$ Att
  iintro Att
  iapply (at_w m c 3 3 rfl) $$ Att
  iintro Att
  iapply (at_q m c 1 3 rfl) $$ Att
  iintro Att
  iapply (at_qr m c 1 3 rfl) $$ Att
  iintro Att
  iapply (go_ret c)
  iapply Hk
  iexact Att

theorem part_50 {v10 : BitVec 32} {v1639 : FVec F S512x128 .f32} {v1645 v1646 : FVec F S512x512 .f32} (h1 : k0_pay78 v1639 v1645 v1646 = tileV m c 1 3) {Q : (Σ' (v1682 : BitVec 32) (v1683 : BitVec 32), BitVec 32) → sProp 𝕄} :
    iprop(oS m c 7)
      ⊢ iprop((∀ a0 a1 a2, iprop(oS m c 8 ∗ oAt c 7 (qs 1) (ooV m c) ∗ oAt c 7 (qs 2) (ooV m c) ∗ oAt c 7 (qs 3) (ooV m c)) -∗ Q ⟨a0, a1, a2⟩) -∗ go c ((ap (k0_part50 (F := F)) :) v10 v1639 v1645 v1646) Q) := by
  simp only [ap, k0_part50_eq_skeleton]
  unfold k0_part50_skel
  simp only [semSignalWord, semWaitWord, Prog.lift, Prog.bind_op, Prog.bind_ret, Prog.pure_eq_ret]
  iintro OS Hk
  iapply (os_dead m c 7 (n := 7) rfl rfl) $$ OS
  iintro %_ OS
  iapply (os_st m c 1 3 7 rfl (n := 7) (n' := 8) rfl rfl rfl h1) $$ OS
  iintro ⟨OS, O71, O72, O73⟩
  iapply (go_ret c)
  iapply Hk
  isplitl [OS]; · iexact OS
  isplitl [O71]; · iexact O71
  isplitl [O72]; · iexact O72
  iexact O73

theorem part_51 {v8 v10 v1683 v1685 : BitVec 32} {Q : (Σ' (v1715 : BitVec 32) (v1716 : BitVec 32) (v1720 : BitVec 32), BitVec 32) → sProp 𝕄} :
    iprop(env m K ∗ Pr1 c 27 6 ∗ oAt c 7 (qs 1) (ooV m c))
      ⊢ iprop((∀ a0 a1 a2 a3, iprop(Pr1 c 28 6) -∗ Q ⟨a0, a1, a2, a3⟩) -∗ go c ((ap (k0_part51 (F := F)) :) c v8 v10 v1683 v1685) Q) := by
  simp only [ap, k0_part51_eq_skeleton]
  unfold k0_part51_skel
  simp only [semSignalWord, semWaitWord, Prog.lift, Prog.bind_op, Prog.bind_ret, Prog.pure_eq_ret]
  iintro ⟨#HE, P, O71⟩ Hk
  iapply (send_o m K c 7 0 (n := 27) (n' := 28) (u := 6) rfl rfl (dev34 c) rfl rfl rfl rfl) $$ [P O71]
  · isplitr; · iexact HE
    isplitl [P]; · iexact P
    iexact O71
  iintro P
  iapply (go_ret c)
  iapply Hk
  iexact P

theorem part_52 {v8 v10 v1720 v1721 : BitVec 32} {Q : (Σ' (v1748 : BitVec 32), BitVec 32) → sProp 𝕄} :
    iprop(env m K ∗ Pr1 c 28 6 ∗ oAt c 7 (qs 2) (ooV m c))
      ⊢ iprop((∀ a0 a1, iprop(Pr1 c 29 6) -∗ Q ⟨a0, a1⟩) -∗ go c ((ap (k0_part52 (F := F)) :) c v8 v10 v1720 v1721) Q) := by
  simp only [ap, k0_part52_eq_skeleton]
  unfold k0_part52_skel
  simp only [semSignalWord, semWaitWord, Prog.lift, Prog.bind_op, Prog.bind_ret, Prog.pure_eq_ret]
  iintro ⟨#HE, P, O72⟩ Hk
  iapply (send_o m K c 7 1 (n := 28) (n' := 29) (u := 6) rfl rfl (dev35 c) rfl rfl rfl rfl) $$ [P O72]
  · isplitr; · iexact HE
    isplitl [P]; · iexact P
    iexact O72
  iintro P
  iapply (go_ret c)
  iapply Hk
  iexact P

end Cert.Mla

end
-- ==== Proof.PartsC.lean ====
/-
The parts of the body that project the heads and wait for what is out: what each needs and what it leaves.
-/
module

public import proofs.«01_k».proof.Proof.Bundles

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 61 → ℕ) (c : Dev nD)

theorem part_53 {Q : (PUnit) → sProp 𝕄} :
    iprop(env m K ∗ Pr1 c 29 6 ∗ oAt c 7 (qs 3) (ooV m c) ∗ fT m c 0 0 ∗ oS m c 8 ∗ outS c (fun _ _ => True) ∗ own c main_arg7 fullShare.right.right.left (woV m c))
      ⊢ iprop((iprop(Pr1 c 30 6 ∗ fT m c 0 2 ∗ own c cc0_scratch9 (qs 0) (ooV m c) ∗ outS c (fun x y => x = lo0 m c ∧ y = hi0 m c)) -∗ Q ⟨⟩) -∗ go c ((ap (k0_part53 (F := F)) :) c) Q) := by
  simp only [ap, k0_part53_eq_skeleton]
  unfold k0_part53_skel
  simp only [semSignalWord, semWaitWord, Prog.lift, Prog.bind_op, Prog.bind_ret, Prog.pure_eq_ret]
  iintro ⟨#HE, P, O73, F0, OS, U, A72⟩ Hk
  iapply (send_o m K c 7 2 (n := 29) (n' := 30) (u := 6) rfl rfl (dev36 c) rfl rfl rfl rfl) $$ [P O73]
  · isplitr; · iexact HE
    isplitl [P]; · iexact P
    iexact O73
  iintro P
  iapply (lw_t m K c 0 0 (dst := tSl 0) rfl rfl) $$ [P F0]
  · isplitr; · iexact HE
    isplitl [P]; · iexact P
    iexact F0
  iintro ⟨P, T0, L0⟩
  icases (os_all m c) $$ OS with OS
  iapply (ld_oo m c) $$ OS
  iintro OS
  iapply (ld_t m c 0 0 rfl) $$ T0
  iintro T0
  iapply (dd_out c) $$ U
  iintro %_ U
  iapply (st_lo c (fun x _ => x = lo0 m c) (fun _ _ _ => rfl)) $$ U
  iintro U
  iapply (dd_out c) $$ U
  iintro %_ U
  iapply (st_hi c (fun x y => x = lo0 m c ∧ y = hi0 m c) (fun _ _ h => ⟨h, rfl⟩)) $$ U
  iintro U
  iapply (cp_t m c 0 2 rfl (off5_2 c) rfl) $$ [A72 T0 L0]
  · isplitl [A72]; · iexact A72
    isplitl [T0]; · iexists _; iexact T0
    iexact L0
  iintro F0
  iapply (go_ret c)
  iapply Hk
  isplitl [P]; · iexact P
  isplitl [F0]; · iexact F0
  isplitl [OS]; · iexact OS
  iexact U

theorem part_54 {v8 v631 v632 v781 v782 v931 v932 : BitVec 32} {Q : (PUnit) → sProp 𝕄} :
    iprop(env m K ∗ Pr1 c 30 6 ∗ gG m c 1 0)
      ⊢ iprop((iprop(Pr1 c 30 8 ∗ gG m c 1 2) -∗ Q ⟨⟩) -∗ go c ((ap (k0_part54 (F := F)) :) v8 v631 v632 v781 v782 v931 v932) Q) := by
  simp only [ap, k0_part54_eq_skeleton]
  unfold k0_part54_skel
  simp only [semSignalWord, semWaitWord, Prog.lift, Prog.bind_op, Prog.bind_ret, Prog.pure_eq_ret]
  iintro ⟨#HE, P, G1⟩ Hk
  iapply (rc_o m K c 0 0 (dst := gSl 1 0) (u := 6) (u' := 7) rfl rfl (n := 0) (n' := 1) rfl rfl rfl rfl) $$ [P G1]
  · isplitr; · iexact HE
    isplitl [P]; · iexact P
    iexact G1
  iintro ⟨P, G1⟩
  iapply (rc_o m K c 0 1 (dst := gSl 1 1) (u := 7) (u' := 8) rfl rfl (n := 1) (n' := 2) rfl rfl rfl rfl) $$ [P G1]
  · isplitr; · iexact HE
    isplitl [P]; · iexact P
    iexact G1
  iintro ⟨P, G1⟩
  iapply (go_ret c)
  iapply Hk
  isplitl [P]; · iexact P
  iexact G1

theorem part_55 {v8 v1081 v1082 v1232 v1233 v1382 : BitVec 32} {Q : (Σ' (v1841 : BitVec 32), BitVec 32) → sProp 𝕄} :
    iprop(env m K ∗ Pr1 c 30 8 ∗ gG m c 1 2)
      ⊢ iprop((∀ a0 a1, iprop(Pr1 c 30 11 ∗ gG m c 1 5) -∗ Q ⟨a0, a1⟩) -∗ go c ((ap (k0_part55 (F := F)) :) v8 v1081 v1082 v1232 v1233 v1382) Q) := by
  simp only [ap, k0_part55_eq_skeleton]
  unfold k0_part55_skel
  simp only [semSignalWord, semWaitWord, Prog.lift, Prog.bind_op, Prog.bind_ret, Prog.pure_eq_ret]
  iintro ⟨#HE, P, G1⟩ Hk
  iapply (rc_o m K c 0 2 (dst := gSl 1 2) (u := 8) (u' := 9) rfl rfl (n := 2) (n' := 3) rfl rfl rfl rfl) $$ [P G1]
  · isplitr; · iexact HE
    isplitl [P]; · iexact P
    iexact G1
  iintro ⟨P, G1⟩
  iapply (rc_o m K c 0 3 (dst := gSl 1 3) (u := 9) (u' := 10) rfl rfl (n := 3) (n' := 4) rfl rfl rfl rfl) $$ [P G1]
  · isplitr; · iexact HE
    isplitl [P]; · iexact P
    iexact G1
  iintro ⟨P, G1⟩
  iapply (rc_o m K c 0 4 (dst := gSl 1 4) (u := 10) (u' := 11) rfl rfl (n := 4) (n' := 5) rfl rfl rfl rfl) $$ [P G1]
  · isplitr; · iexact HE
    isplitl [P]; · iexact P
    iexact G1
  iintro ⟨P, G1⟩
  iapply (go_ret c)
  iapply Hk
  isplitl [P]; · iexact P
  iexact G1

theorem part_56 {v8 v1383 v1532 v1533 v1682 v1683 v1841 c4_i32_1281 : BitVec 32} {Q : (PUnit) → sProp 𝕄} :
    iprop(env m K ∗ Pr1 c 30 11 ∗ gG m c 1 5)
      ⊢ iprop((iprop(Pr1 c 30 13 ∗ gG m c 1 7) -∗ Q ⟨⟩) -∗ go c ((ap (k0_part56 (F := F)) :) v8 v1383 v1532 v1533 v1682 v1683 v1841 c4_i32_1281) Q) := by
  simp only [ap, k0_part56_eq_skeleton]
  unfold k0_part56_skel
  simp only [semSignalWord, semWaitWord, Prog.lift, Prog.bind_op, Prog.bind_ret, Prog.pure_eq_ret]
  iintro ⟨#HE, P, G1⟩ Hk
  iapply (rc_o m K c 0 5 (dst := gSl 1 5) (u := 11) (u' := 12) rfl rfl (n := 5) (n' := 6) rfl rfl rfl rfl) $$ [P G1]
  · isplitr; · iexact HE
    isplitl [P]; · iexact P
    iexact G1
  iintro ⟨P, G1⟩
  iapply (rc_o m K c 0 6 (dst := gSl 1 6) (u := 12) (u' := 13) rfl rfl (n := 6) (n' := 7) rfl rfl rfl rfl) $$ [P G1]
  · isplitr; · iexact HE
    isplitl [P]; · iexact P
    iexact G1
  iintro ⟨P, G1⟩
  iapply (go_ret c)
  iapply Hk
  isplitl [P]; · iexact P
  iexact G1

theorem part_57 {Q : (PUnit) → sProp 𝕄} :
    iprop(env m K ∗ Pr1 c 30 13 ∗ gG m c 1 7 ∗ fT m c 1 1 ∗ outS c (fun x y => x = lo0 m c ∧ y = hi0 m c))
      ⊢ iprop((iprop(Pr1 c 30 14 ∗ gSAt c 1 (ogV m c) ∗ tAt c 1 (tV m c 1) ∗ Lz c 1 ∗ outS c (fun x y => x = lo1 m c ∧ y = hi1 m c)) -∗ Q ⟨⟩) -∗ go c ((ap (k0_part57 (F := F)) :) c) Q) := by
  simp only [ap, k0_part57_eq_skeleton]
  unfold k0_part57_skel
  simp only [semSignalWord, semWaitWord, Prog.lift, Prog.bind_op, Prog.bind_ret, Prog.pure_eq_ret]
  iintro ⟨#HE, P, G1, F1, U⟩ Hk
  iapply (rc_o m K c 0 7 (dst := gSl 1 7) (u := 13) (u' := 14) rfl rfl (n := 7) (n' := 8) rfl rfl rfl rfl) $$ [P G1]
  · isplitr; · iexact HE
    isplitl [P]; · iexact P
    iexact G1
  iintro ⟨P, G1⟩
  iapply (lw_t m K c 1 1 (dst := tSl 1) rfl rfl) $$ [P F1]
  · isplitr; · iexact HE
    isplitl [P]; · iexact P
    iexact F1
  iintro ⟨P, T1, L1⟩
  icases (show gG m c (plc 0) 8 ⊢ gSAt c 1 (ogV m c) from gG_all m c 1) $$ G1 with G1
  iapply (ld_g m c 1 rfl) $$ G1
  iintro G1
  iapply (ld_t m c 1 1 rfl) $$ T1
  iintro T1
  iapply (ld_lo c (fun _ _ h => h.1)) $$ U
  iintro U
  iapply (dd_out c) $$ U
  iintro %_ U
  iapply (st_lo c (fun x y => x = lo1 m c ∧ y = hi0 m c) (fun _ _ h => ⟨rfl, h.2⟩)) $$ U
  iintro U
  iapply (ld_hi c (fun _ _ h => h.2)) $$ U
  iintro U
  iapply (dd_out c) $$ U
  iintro %_ U
  iapply (st_hi c (fun x y => x = lo1 m c ∧ y = hi1 m c) (fun _ _ h => ⟨h.1, rfl⟩)) $$ U
  iintro U
  iapply (go_ret c)
  iapply Hk
  isplitl [P]; · iexact P
  isplitl [G1]; · iexact G1
  isplitl [T1]; · iexact T1
  isplitl [L1]; · iexact L1
  iexact U

theorem part_58 {v8 v664 v665 v814 v815 v964 v965 : BitVec 32} {Q : (BitVec 32) → sProp 𝕄} :
    iprop(env m K ∗ own c main_arg7 fullShare.right.right.right (woV m c) ∗ tAt c 1 (tV m c 1) ∗ Lz c 1 ∗ Pr1 c 30 14 ∗ gG m c 2 0)
      ⊢ iprop((∀ a0, iprop(fT m c 1 3 ∗ Pr1 c 30 16 ∗ gG m c 2 2) -∗ Q a0) -∗ go c ((ap (k0_part58 (F := F)) :) c v8 v664 v665 v814 v815 v964 v965) Q) := by
  simp only [ap, k0_part58_eq_skeleton]
  unfold k0_part58_skel
  simp only [semSignalWord, semWaitWord, Prog.lift, Prog.bind_op, Prog.bind_ret, Prog.pure_eq_ret]
  iintro ⟨#HE, A73, T1, L1, P, G2⟩ Hk
  iapply (cp_t m c 1 3 rfl (off5_3 c) rfl) $$ [A73 T1 L1]
  · isplitl [A73]; · iexact A73
    isplitl [T1]; · iexists _; iexact T1
    iexact L1
  iintro F1
  iapply (rc_o m K c 1 0 (dst := gSl 2 0) (u := 14) (u' := 15) rfl rfl (n := 0) (n' := 1) rfl rfl rfl rfl) $$ [P G2]
  · isplitr; · iexact HE
    isplitl [P]; · iexact P
    iexact G2
  iintro ⟨P, G2⟩
  iapply (rc_o m K c 1 1 (dst := gSl 2 1) (u := 15) (u' := 16) rfl rfl (n := 1) (n' := 2) rfl rfl rfl rfl) $$ [P G2]
  · isplitr; · iexact HE
    isplitl [P]; · iexact P
    iexact G2
  iintro ⟨P, G2⟩
  iapply (go_ret c)
  iapply Hk
  isplitl [F1]; · iexact F1
  isplitl [P]; · iexact P
  iexact G2

theorem part_59 {v8 v1114 v1115 v1265 v1266 v1927 : BitVec 32} {Q : (PUnit) → sProp 𝕄} :
    iprop(env m K ∗ Pr1 c 30 16 ∗ gG m c 2 2)
      ⊢ iprop((iprop(Pr1 c 30 19 ∗ gG m c 2 5) -∗ Q ⟨⟩) -∗ go c ((ap (k0_part59 (F := F)) :) v8 v1114 v1115 v1265 v1266 v1927) Q) := by
  simp only [ap, k0_part59_eq_skeleton]
  unfold k0_part59_skel
  simp only [semSignalWord, semWaitWord, Prog.lift, Prog.bind_op, Prog.bind_ret, Prog.pure_eq_ret]
  iintro ⟨#HE, P, G2⟩ Hk
  iapply (rc_o m K c 1 2 (dst := gSl 2 2) (u := 16) (u' := 17) rfl rfl (n := 2) (n' := 3) rfl rfl rfl rfl) $$ [P G2]
  · isplitr; · iexact HE
    isplitl [P]; · iexact P
    iexact G2
  iintro ⟨P, G2⟩
  iapply (rc_o m K c 1 3 (dst := gSl 2 3) (u := 17) (u' := 18) rfl rfl (n := 3) (n' := 4) rfl rfl rfl rfl) $$ [P G2]
  · isplitr; · iexact HE
    isplitl [P]; · iexact P
    iexact G2
  iintro ⟨P, G2⟩
  iapply (rc_o m K c 1 4 (dst := gSl 2 4) (u := 18) (u' := 19) rfl rfl (n := 4) (n' := 5) rfl rfl rfl rfl) $$ [P G2]
  · isplitr; · iexact HE
    isplitl [P]; · iexact P
    iexact G2
  iintro ⟨P, G2⟩
  iapply (go_ret c)
  iapply Hk
  isplitl [P]; · iexact P
  iexact G2

theorem part_60 {v8 v1415 v1416 v1565 v1566 v1715 v1716 : BitVec 32} {Q : (PUnit) → sProp 𝕄} :
    iprop(env m K ∗ Pr1 c 30 19 ∗ gG m c 2 5)
      ⊢ iprop((iprop(Pr1 c 30 21 ∗ gG m c 2 7) -∗ Q ⟨⟩) -∗ go c ((ap (k0_part60 (F := F)) :) v8 v1415 v1416 v1565 v1566 v1715 v1716) Q) := by
  simp only [ap, k0_part60_eq_skeleton]
  unfold k0_part60_skel
  simp only [semSignalWord, semWaitWord, Prog.lift, Prog.bind_op, Prog.bind_ret, Prog.pure_eq_ret]
  iintro ⟨#HE, P, G2⟩ Hk
  iapply (rc_o m K c 1 5 (dst := gSl 2 5) (u := 19) (u' := 20) rfl rfl (n := 5) (n' := 6) rfl rfl rfl rfl) $$ [P G2]
  · isplitr; · iexact HE
    isplitl [P]; · iexact P
    iexact G2
  iintro ⟨P, G2⟩
  iapply (rc_o m K c 1 6 (dst := gSl 2 6) (u := 20) (u' := 21) rfl rfl (n := 6) (n' := 7) rfl rfl rfl rfl) $$ [P G2]
  · isplitr; · iexact HE
    isplitl [P]; · iexact P
    iexact G2
  iintro ⟨P, G2⟩
  iapply (go_ret c)
  iapply Hk
  isplitl [P]; · iexact P
  iexact G2

theorem part_61 {Q : (PUnit) → sProp 𝕄} :
    iprop(env m K ∗ Pr1 c 30 21 ∗ gG m c 2 7 ∗ fT m c 0 2 ∗ outS c (fun x y => x = lo1 m c ∧ y = hi1 m c))
      ⊢ iprop((iprop(Pr1 c 30 22 ∗ gSAt c 2 (ogV m c) ∗ tAt c 0 (tV m c 2) ∗ Lz c 0 ∗ outS c (fun x y => x = lo2 m c ∧ y = hi2 m c)) -∗ Q ⟨⟩) -∗ go c ((ap (k0_part61 (F := F)) :) c) Q) := by
  simp only [ap, k0_part61_eq_skeleton]
  unfold k0_part61_skel
  simp only [semSignalWord, semWaitWord, Prog.lift, Prog.bind_op, Prog.bind_ret, Prog.pure_eq_ret]
  iintro ⟨#HE, P, G2, F0, U⟩ Hk
  iapply (rc_o m K c 1 7 (dst := gSl 2 7) (u := 21) (u' := 22) rfl rfl (n := 7) (n' := 8) rfl rfl rfl rfl) $$ [P G2]
  · isplitr; · iexact HE
    isplitl [P]; · iexact P
    iexact G2
  iintro ⟨P, G2⟩
  iapply (lw_t m K c 0 2 (dst := tSl 0) rfl rfl) $$ [P F0]
  · isplitr; · iexact HE
    isplitl [P]; · iexact P
    iexact F0
  iintro ⟨P, T0, L0⟩
  icases (show gG m c (plc 1) 8 ⊢ gSAt c 2 (ogV m c) from gG_all m c 2) $$ G2 with G2
  iapply (ld_g m c 2 rfl) $$ G2
  iintro G2
  iapply (ld_t m c 0 2 rfl) $$ T0
  iintro T0
  iapply (ld_lo c (fun _ _ h => h.1)) $$ U
  iintro U
  iapply (dd_out c) $$ U
  iintro %_ U
  iapply (st_lo c (fun x y => x = lo2 m c ∧ y = hi1 m c) (fun _ _ h => ⟨rfl, h.2⟩)) $$ U
  iintro U
  iapply (ld_hi c (fun _ _ h => h.2)) $$ U
  iintro U
  iapply (dd_out c) $$ U
  iintro %_ U
  iapply (st_hi c (fun x y => x = lo2 m c ∧ y = hi2 m c) (fun _ _ h => ⟨h.1, rfl⟩)) $$ U
  iintro U
  iapply (go_ret c)
  iapply Hk
  isplitl [P]; · iexact P
  isplitl [G2]; · iexact G2
  isplitl [T0]; · iexact T0
  isplitl [L0]; · iexact L0
  iexact U

theorem part_62 {v8 v697 v698 v847 v848 v997 v998 : BitVec 32} {Q : (PUnit) → sProp 𝕄} :
    iprop(env m K ∗ Pr1 c 30 22 ∗ gG m c 3 0)
      ⊢ iprop((iprop(Pr1 c 30 24 ∗ gG m c 3 2) -∗ Q ⟨⟩) -∗ go c ((ap (k0_part62 (F := F)) :) v8 v697 v698 v847 v848 v997 v998) Q) := by
  simp only [ap, k0_part62_eq_skeleton]
  unfold k0_part62_skel
  simp only [semSignalWord, semWaitWord, Prog.lift, Prog.bind_op, Prog.bind_ret, Prog.pure_eq_ret]
  iintro ⟨#HE, P, G3⟩ Hk
  iapply (rc_o m K c 2 0 (dst := gSl 3 0) (u := 22) (u' := 23) rfl rfl (n := 0) (n' := 1) rfl rfl rfl rfl) $$ [P G3]
  · isplitr; · iexact HE
    isplitl [P]; · iexact P
    iexact G3
  iintro ⟨P, G3⟩
  iapply (rc_o m K c 2 1 (dst := gSl 3 1) (u := 23) (u' := 24) rfl rfl (n := 1) (n' := 2) rfl rfl rfl rfl) $$ [P G3]
  · isplitr; · iexact HE
    isplitl [P]; · iexact P
    iexact G3
  iintro ⟨P, G3⟩
  iapply (go_ret c)
  iapply Hk
  isplitl [P]; · iexact P
  iexact G3

theorem part_63 {v8 v1147 v1148 v1298 v1299 v1448 : BitVec 32} {Q : (BitVec 32) → sProp 𝕄} :
    iprop(env m K ∗ Pr1 c 30 24 ∗ gG m c 3 2)
      ⊢ iprop((∀ a0, iprop(Pr1 c 30 27 ∗ gG m c 3 5) -∗ Q a0) -∗ go c ((ap (k0_part63 (F := F)) :) v8 v1147 v1148 v1298 v1299 v1448) Q) := by
  simp only [ap, k0_part63_eq_skeleton]
  unfold k0_part63_skel
  simp only [semSignalWord, semWaitWord, Prog.lift, Prog.bind_op, Prog.bind_ret, Prog.pure_eq_ret]
  iintro ⟨#HE, P, G3⟩ Hk
  iapply (rc_o m K c 2 2 (dst := gSl 3 2) (u := 24) (u' := 25) rfl rfl (n := 2) (n' := 3) rfl rfl rfl rfl) $$ [P G3]
  · isplitr; · iexact HE
    isplitl [P]; · iexact P
    iexact G3
  iintro ⟨P, G3⟩
  iapply (rc_o m K c 2 3 (dst := gSl 3 3) (u := 25) (u' := 26) rfl rfl (n := 3) (n' := 4) rfl rfl rfl rfl) $$ [P G3]
  · isplitr; · iexact HE
    isplitl [P]; · iexact P
    iexact G3
  iintro ⟨P, G3⟩
  iapply (rc_o m K c 2 4 (dst := gSl 3 4) (u := 26) (u' := 27) rfl rfl (n := 4) (n' := 5) rfl rfl rfl rfl) $$ [P G3]
  · isplitr; · iexact HE
    isplitl [P]; · iexact P
    iexact G3
  iintro ⟨P, G3⟩
  iapply (go_ret c)
  iapply Hk
  isplitl [P]; · iexact P
  iexact G3

theorem part_64 {v8 v1449 v1598 v1599 v1748 v1749 v2069 : BitVec 32} {Q : (PUnit) → sProp 𝕄} :
    iprop(env m K ∗ Pr1 c 30 27 ∗ gG m c 3 5)
      ⊢ iprop((iprop(Pr1 c 30 29 ∗ gG m c 3 7) -∗ Q ⟨⟩) -∗ go c ((ap (k0_part64 (F := F)) :) v8 v1449 v1598 v1599 v1748 v1749 v2069) Q) := by
  simp only [ap, k0_part64_eq_skeleton]
  unfold k0_part64_skel
  simp only [semSignalWord, semWaitWord, Prog.lift, Prog.bind_op, Prog.bind_ret, Prog.pure_eq_ret]
  iintro ⟨#HE, P, G3⟩ Hk
  iapply (rc_o m K c 2 5 (dst := gSl 3 5) (u := 27) (u' := 28) rfl rfl (n := 5) (n' := 6) rfl rfl rfl rfl) $$ [P G3]
  · isplitr; · iexact HE
    isplitl [P]; · iexact P
    iexact G3
  iintro ⟨P, G3⟩
  iapply (rc_o m K c 2 6 (dst := gSl 3 6) (u := 28) (u' := 29) rfl rfl (n := 6) (n' := 7) rfl rfl rfl rfl) $$ [P G3]
  · isplitr; · iexact HE
    isplitl [P]; · iexact P
    iexact G3
  iintro ⟨P, G3⟩
  iapply (go_ret c)
  iapply Hk
  isplitl [P]; · iexact P
  iexact G3

theorem part_65 {Q : (PUnit) → sProp 𝕄} :
    iprop(env m K ∗ Pr1 c 30 29 ∗ gG m c 3 7 ∗ fT m c 1 3 ∗ outS c (fun x y => x = lo2 m c ∧ y = hi2 m c))
      ⊢ iprop((iprop(Pr1 c 30 30 ∗ gSAt c 3 (ogV m c) ∗ tAt c 1 (tV m c 3) ∗ Lz c 1 ∗ outS c (fun x y => x = lo3 m c ∧ y = hi3 m c)) -∗ Q ⟨⟩) -∗ go c ((ap (k0_part65 (F := F)) :) c) Q) := by
  simp only [ap, k0_part65_eq_skeleton]
  unfold k0_part65_skel
  simp only [semSignalWord, semWaitWord, Prog.lift, Prog.bind_op, Prog.bind_ret, Prog.pure_eq_ret]
  iintro ⟨#HE, P, G3, F1, U⟩ Hk
  iapply (rc_o m K c 2 7 (dst := gSl 3 7) (u := 29) (u' := 30) rfl rfl (n := 7) (n' := 8) rfl rfl rfl rfl) $$ [P G3]
  · isplitr; · iexact HE
    isplitl [P]; · iexact P
    iexact G3
  iintro ⟨P, G3⟩
  iapply (lw_t m K c 1 3 (dst := tSl 1) rfl rfl) $$ [P F1]
  · isplitr; · iexact HE
    isplitl [P]; · iexact P
    iexact F1
  iintro ⟨P, T1, L1⟩
  icases (show gG m c (plc 2) 8 ⊢ gSAt c 3 (ogV m c) from gG_all m c 3) $$ G3 with G3
  iapply (ld_g m c 3 rfl) $$ G3
  iintro G3
  iapply (ld_t m c 1 3 rfl) $$ T1
  iintro T1
  iapply (ld_lo c (fun _ _ h => h.1)) $$ U
  iintro U
  iapply (dd_out c) $$ U
  iintro %_ U
  iapply (st_lo c (fun x y => x = lo3 m c ∧ y = hi2 m c) (fun _ _ h => ⟨rfl, h.2⟩)) $$ U
  iintro U
  iapply (ld_hi c (fun _ _ h => h.2)) $$ U
  iintro U
  iapply (dd_out c) $$ U
  iintro %_ U
  iapply (st_hi c (fun x y => x = lo3 m c ∧ y = hi3 m c) (fun _ _ h => ⟨h.1, rfl⟩)) $$ U
  iintro U
  iapply (go_ret c)
  iapply Hk
  isplitl [P]; · iexact P
  isplitl [G3]; · iexact G3
  isplitl [T1]; · iexact T1
  isplitl [L1]; · iexact L1
  iexact U

theorem part_66 {Q : (PUnit) → sProp 𝕄} :
    iprop(env m K ∗ Pr2 m c 0)
      ⊢ iprop((iprop(Pr2 m c 4) -∗ Q ⟨⟩) -∗ go c ((ap (k0_part66 (F := F)) :) ) Q) := by
  simp only [ap, k0_part66_eq_skeleton]
  unfold k0_part66_skel
  simp only [semSignalWord, semWaitWord, Prog.lift, Prog.bind_op, Prog.bind_ret, Prog.pure_eq_ret]
  iintro ⟨#HE, P⟩ Hk
  iapply (sn_z m K c 0 (dst := wSl 0) (v := 0) (v' := 1) rfl rfl rfl rfl) $$ [P]
  · isplitr; · iexact HE
    iexact P
  iintro P
  iapply (sn_z m K c 1 (dst := wSl 0) (v := 1) (v' := 2) rfl rfl rfl rfl) $$ [P]
  · isplitr; · iexact HE
    iexact P
  iintro P
  iapply (sn_z m K c 2 (dst := wSl 0) (v := 2) (v' := 3) rfl rfl rfl rfl) $$ [P]
  · isplitr; · iexact HE
    iexact P
  iintro P
  iapply (sn_z m K c 3 (dst := cSl 0) (v := 3) (v' := 4) rfl rfl rfl rfl) $$ [P]
  · isplitr; · iexact HE
    iexact P
  iintro P
  iapply (go_ret c)
  iapply Hk
  iexact P

theorem part_67 {Q : (PUnit) → sProp 𝕄} :
    iprop(env m K ∗ Pr2 m c 4)
      ⊢ iprop((iprop(Pr2 m c 8) -∗ Q ⟨⟩) -∗ go c ((ap (k0_part67 (F := F)) :) ) Q) := by
  simp only [ap, k0_part67_eq_skeleton]
  unfold k0_part67_skel
  simp only [semSignalWord, semWaitWord, Prog.lift, Prog.bind_op, Prog.bind_ret, Prog.pure_eq_ret]
  iintro ⟨#HE, P⟩ Hk
  iapply (sn_z m K c 4 (dst := cSl 0) (v := 4) (v' := 5) rfl rfl rfl rfl) $$ [P]
  · isplitr; · iexact HE
    iexact P
  iintro P
  iapply (sn_z m K c 5 (dst := cSl 0) (v := 5) (v' := 6) rfl rfl rfl rfl) $$ [P]
  · isplitr; · iexact HE
    iexact P
  iintro P
  iapply (sn_o m K c 0 (dst := oSl 0) (v := 6) (v' := 7) rfl rfl rfl rfl) $$ [P]
  · isplitr; · iexact HE
    iexact P
  iintro P
  iapply (sn_o m K c 1 (dst := oSl 1) (v := 7) (v' := 8) rfl rfl rfl rfl) $$ [P]
  · isplitr; · iexact HE
    iexact P
  iintro P
  iapply (go_ret c)
  iapply Hk
  iexact P

theorem part_68 {Q : (PUnit) → sProp 𝕄} :
    iprop(env m K ∗ Pr2 m c 8)
      ⊢ iprop((iprop(Pr2 m c 12) -∗ Q ⟨⟩) -∗ go c ((ap (k0_part68 (F := F)) :) ) Q) := by
  simp only [ap, k0_part68_eq_skeleton]
  unfold k0_part68_skel
  simp only [semSignalWord, semWaitWord, Prog.lift, Prog.bind_op, Prog.bind_ret, Prog.pure_eq_ret]
  iintro ⟨#HE, P⟩ Hk
  iapply (sn_o m K c 2 (dst := oSl 2) (v := 8) (v' := 9) rfl rfl rfl rfl) $$ [P]
  · isplitr; · iexact HE
    iexact P
  iintro P
  iapply (sn_o m K c 3 (dst := oSl 3) (v := 9) (v' := 10) rfl rfl rfl rfl) $$ [P]
  · isplitr; · iexact HE
    iexact P
  iintro P
  iapply (sn_o m K c 4 (dst := oSl 4) (v := 10) (v' := 11) rfl rfl rfl rfl) $$ [P]
  · isplitr; · iexact HE
    iexact P
  iintro P
  iapply (sn_o m K c 5 (dst := oSl 5) (v := 11) (v' := 12) rfl rfl rfl rfl) $$ [P]
  · isplitr; · iexact HE
    iexact P
  iintro P
  iapply (go_ret c)
  iapply Hk
  iexact P

theorem part_69 {Q : (PUnit) → sProp 𝕄} :
    iprop(env m K ∗ Pr2 m c 12)
      ⊢ iprop((iprop(Pr2 m c 16) -∗ Q ⟨⟩) -∗ go c ((ap (k0_part69 (F := F)) :) ) Q) := by
  simp only [ap, k0_part69_eq_skeleton]
  unfold k0_part69_skel
  simp only [semSignalWord, semWaitWord, Prog.lift, Prog.bind_op, Prog.bind_ret, Prog.pure_eq_ret]
  iintro ⟨#HE, P⟩ Hk
  iapply (sn_o m K c 6 (dst := oSl 6) (v := 12) (v' := 13) rfl rfl rfl rfl) $$ [P]
  · isplitr; · iexact HE
    iexact P
  iintro P
  iapply (sn_o m K c 7 (dst := oSl 7) (v := 13) (v' := 14) rfl rfl rfl rfl) $$ [P]
  · isplitr; · iexact HE
    iexact P
  iintro P
  iapply (sn_o m K c 8 (dst := oSl 0) (v := 14) (v' := 15) rfl rfl rfl rfl) $$ [P]
  · isplitr; · iexact HE
    iexact P
  iintro P
  iapply (sn_o m K c 9 (dst := oSl 1) (v := 15) (v' := 16) rfl rfl rfl rfl) $$ [P]
  · isplitr; · iexact HE
    iexact P
  iintro P
  iapply (go_ret c)
  iapply Hk
  iexact P

theorem part_70 {Q : (PUnit) → sProp 𝕄} :
    iprop(env m K ∗ Pr2 m c 16)
      ⊢ iprop((iprop(Pr2 m c 20) -∗ Q ⟨⟩) -∗ go c ((ap (k0_part70 (F := F)) :) ) Q) := by
  simp only [ap, k0_part70_eq_skeleton]
  unfold k0_part70_skel
  simp only [semSignalWord, semWaitWord, Prog.lift, Prog.bind_op, Prog.bind_ret, Prog.pure_eq_ret]
  iintro ⟨#HE, P⟩ Hk
  iapply (sn_o m K c 10 (dst := oSl 2) (v := 16) (v' := 17) rfl rfl rfl rfl) $$ [P]
  · isplitr; · iexact HE
    iexact P
  iintro P
  iapply (sn_o m K c 11 (dst := oSl 3) (v := 17) (v' := 18) rfl rfl rfl rfl) $$ [P]
  · isplitr; · iexact HE
    iexact P
  iintro P
  iapply (sn_o m K c 12 (dst := oSl 4) (v := 18) (v' := 19) rfl rfl rfl rfl) $$ [P]
  · isplitr; · iexact HE
    iexact P
  iintro P
  iapply (sn_o m K c 13 (dst := oSl 5) (v := 19) (v' := 20) rfl rfl rfl rfl) $$ [P]
  · isplitr; · iexact HE
    iexact P
  iintro P
  iapply (go_ret c)
  iapply Hk
  iexact P

theorem part_71 {Q : (PUnit) → sProp 𝕄} :
    iprop(env m K ∗ Pr2 m c 20)
      ⊢ iprop((iprop(Pr2 m c 25) -∗ Q ⟨⟩) -∗ go c ((ap (k0_part71 (F := F)) :) ) Q) := by
  simp only [ap, k0_part71_eq_skeleton]
  unfold k0_part71_skel
  simp only [semSignalWord, semWaitWord, Prog.lift, Prog.bind_op, Prog.bind_ret, Prog.pure_eq_ret]
  iintro ⟨#HE, P⟩ Hk
  iapply (sn_o m K c 14 (dst := oSl 6) (v := 20) (v' := 21) rfl rfl rfl rfl) $$ [P]
  · isplitr; · iexact HE
    iexact P
  iintro P
  iapply (sn_o m K c 15 (dst := oSl 7) (v := 21) (v' := 22) rfl rfl rfl rfl) $$ [P]
  · isplitr; · iexact HE
    iexact P
  iintro P
  iapply (sn_o m K c 16 (dst := oSl 0) (v := 22) (v' := 23) rfl rfl rfl rfl) $$ [P]
  · isplitr; · iexact HE
    iexact P
  iintro P
  iapply (sn_o m K c 17 (dst := oSl 1) (v := 23) (v' := 24) rfl rfl rfl rfl) $$ [P]
  · isplitr; · iexact HE
    iexact P
  iintro P
  iapply (sn_o m K c 18 (dst := oSl 2) (v := 24) (v' := 25) rfl rfl rfl rfl) $$ [P]
  · isplitr; · iexact HE
    iexact P
  iintro P
  iapply (go_ret c)
  iapply Hk
  iexact P

theorem part_72 {Q : (PUnit) → sProp 𝕄} :
    iprop(env m K ∗ Pr2 m c 25)
      ⊢ iprop((iprop(Pr2 m c 29) -∗ Q ⟨⟩) -∗ go c ((ap (k0_part72 (F := F)) :) ) Q) := by
  simp only [ap, k0_part72_eq_skeleton]
  unfold k0_part72_skel
  simp only [semSignalWord, semWaitWord, Prog.lift, Prog.bind_op, Prog.bind_ret, Prog.pure_eq_ret]
  iintro ⟨#HE, P⟩ Hk
  iapply (sn_o m K c 19 (dst := oSl 3) (v := 25) (v' := 26) rfl rfl rfl rfl) $$ [P]
  · isplitr; · iexact HE
    iexact P
  iintro P
  iapply (sn_o m K c 20 (dst := oSl 4) (v := 26) (v' := 27) rfl rfl rfl rfl) $$ [P]
  · isplitr; · iexact HE
    iexact P
  iintro P
  iapply (sn_o m K c 21 (dst := oSl 5) (v := 27) (v' := 28) rfl rfl rfl rfl) $$ [P]
  · isplitr; · iexact HE
    iexact P
  iintro P
  iapply (sn_o m K c 22 (dst := oSl 6) (v := 28) (v' := 29) rfl rfl rfl rfl) $$ [P]
  · isplitr; · iexact HE
    iexact P
  iintro P
  iapply (go_ret c)
  iapply Hk
  iexact P

end Cert.Mla

end
-- ==== Proof.Tiles.lean ====
/-
The payloads of every tile make the same value: the head's output.
-/
module

public import proofs.«01_k».proof.Proof.Bundles

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

theorem tile_0 : k0_pay46 (k0_pay43 (k0_pay41 (cB m c 0 0) (wB m c 0 0)) ((cB m c 1 0)) (wB m c 1 0) (cB m c 2 0) (wB m c 2 0) (cB m c 3 0) (wB m c 3 0)) (k0_pay44 ((krB m c 0)) (k0_pay41 (cB m c 0 0) (wB m c 0 0)) ((cB m c 1 0)) (wB m c 1 0) (cB m c 2 0) (wB m c 2 0) (cB m c 3 0) (wB m c 3 0) (qB m c 0 0) (qrB m c 0 0)) (k0_pay45 ((krB m c 0)) (k0_pay41 (cB m c 0 0) (wB m c 0 0)) ((cB m c 1 0)) (wB m c 1 0) (cB m c 2 0) (wB m c 2 0) (cB m c 3 0) (wB m c 3 0) (qB m c 0 0) (qrB m c 0 0)) = tileV m c 0 0 := rfl
theorem tile_1 : k0_pay50 ((krB m c 0)) (k0_pay48 ((Scalar.ofBits .f32 0x00000000#32 : F .f32)) (cB m c 0 0) (wB m c 0 1) (cB m c 1 0) (wB m c 1 1) (cB m c 2 0) (wB m c 2 1) (cB m c 3 0) (wB m c 3 1)) (k0_pay49 ((Scalar.ofBits .f32 0x00000000#32 : F .f32)) (cB m c 0 0) (wB m c 0 1) (cB m c 1 0) (wB m c 1 1) (cB m c 2 0) (wB m c 2 1) (cB m c 3 0) (wB m c 3 1)) ((qB m c 0 1)) (qrB m c 0 1) = tileV m c 0 1 := rfl
theorem tile_2 : k0_pay52 ((krB m c 0)) ((k0_pay51 (cB m c 0 0) (wB m c 0 2) (cB m c 1 0) (wB m c 1 2) (cB m c 2 0) (wB m c 2 2))) (cB m c 3 0) (wB m c 3 2) (qB m c 0 2) (qrB m c 0 2) = tileV m c 0 2 := rfl
theorem tile_3 : k0_pay60 (k0_pay58 ((krB m c 0)) (k0_pay53 (cB m c 0 0) (wB m c 0 3)) (k0_pay54 (cB m c 1 0)) (k0_pay55 (wB m c 1 3)) (cB m c 2 0) (wB m c 2 3) (cB m c 3 0) (wB m c 3 3) (qB m c 0 3) (qrB m c 0 3)) (k0_pay59 ((krB m c 0)) (k0_pay53 (cB m c 0 0) (wB m c 0 3)) (k0_pay54 (cB m c 1 0)) (k0_pay55 (wB m c 1 3)) (cB m c 2 0) (wB m c 2 3) (cB m c 3 0) (wB m c 3 3) (qB m c 0 3) (qrB m c 0 3)) = tileV m c 0 3 := rfl
theorem tile_4 : k0_pay65 ((krB m c 1)) (k0_pay63 (k0_pay61 (F := F)) (cB m c 0 1) (wB m c 0 0) (cB m c 1 1) (wB m c 1 0) (cB m c 2 1) (wB m c 2 0) (cB m c 3 1) (wB m c 3 0)) ((qB m c 1 0)) ((qrB m c 1 0)) (k0_pay64 (k0_pay61 (F := F)) (cB m c 0 1) (wB m c 0 0) (cB m c 1 1) (wB m c 1 0) (cB m c 2 1) (wB m c 2 0) (cB m c 3 1) (wB m c 3 0)) ((constant S512x512 .f32 0x00000000#32 : FVec F S512x512 .f32)) = tileV m c 1 0 := rfl
theorem tile_5 : k0_pay68 ((krB m c 1)) (k0_pay66 (cB m c 0 1) (wB m c 0 1) (cB m c 1 1) (wB m c 1 1) (cB m c 2 1) (wB m c 2 1)) (k0_pay67 (cB m c 3 1)) (wB m c 3 1) (qB m c 1 1) (qrB m c 1 1) = tileV m c 1 1 := rfl
theorem tile_6 : k0_pay71 ((k0_pay70 ((krB m c 1)) (k0_pay69 (cB m c 0 1) (wB m c 0 2) (cB m c 1 1) (wB m c 1 2)) (cB m c 2 1) (wB m c 2 2) (cB m c 3 1) (wB m c 3 2) (qB m c 1 2) (qrB m c 1 2))) = tileV m c 1 2 := rfl
theorem tile_7 : k0_pay78 (k0_pay75 (k0_pay72 (F := F)) (k0_pay73 (cB m c 0 1)) (wB m c 0 3) (cB m c 1 1) (wB m c 1 3) (cB m c 2 1) (wB m c 2 3) (cB m c 3 1) (wB m c 3 3)) (k0_pay76 ((krB m c 1)) (k0_pay72 (F := F)) (k0_pay73 (cB m c 0 1)) (wB m c 0 3) (cB m c 1 1) (wB m c 1 3) (cB m c 2 1) (wB m c 2 3) (cB m c 3 1) (wB m c 3 3) (qB m c 1 3) (qrB m c 1 3)) (k0_pay77 (F := F)) = tileV m c 1 3 := rfl

end Cert.Mla

end
-- ==== Proof.Root.lean ====
/-
The whole body: its parts in order.
-/
module

public import proofs.«01_k».proof.Proof.PartsA
public import proofs.«01_k».proof.Proof.PartsB
public import proofs.«01_k».proof.Proof.PartsC
public import proofs.«01_k».proof.Proof.Tiles

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 61 → ℕ) (c : Dev nD)

theorem att_intro : iprop(own c cc0_scratch8 fullShare (krV m c) ∗ own c cc0_scratch5 fullShare (qV m c) ∗ own c cc0_scratch7 fullShare (qrV m c)
    ∗ cAt c 0 (qs 0) (cgV m c) ∗ cAt c 1 fullShare (cgV m c) ∗ cAt c 2 fullShare (cgV m c) ∗ cAt c 3 fullShare (cgV m c)
    ∗ wAt c 0 (qs 0) (wgV m c) ∗ wAt c 1 fullShare (wgV m c) ∗ wAt c 2 fullShare (wgV m c) ∗ wAt c 3 fullShare (wgV m c)) ⊢ att m c := by
  unfold att
  have e : ∀ f : Fin 4 → sProp 𝕄, bigSep Finset.univ f = iprop(f 0 ∗ f 1 ∗ f 2 ∗ f 3) := four
  rw [e, e]
  iintro ⟨A, B, C, C0, C1, C2, C3, W0, W1, W2, W3⟩
  isplitl [A]; · iexact A
  isplitl [B]; · iexact B
  isplitl [C]; · iexact C
  isplitl [C0 C1 C2 C3]
  · isplitl [C0]; · iexact C0
    isplitl [C1]; · iexact C1
    isplitl [C2]; · iexact C2
    iexact C3
  isplitl [W0]; · iexact W0
  isplitl [W1]; · iexact W1
  isplitl [W2]; · iexact W2
  iexact W3

/-- Before the body. -/
def bodyStart : sProp 𝕄 :=
  iprop(Pr0 c 0 ∗ own c main_arg0 fullShare.right (xV m c) ∗ own c main_arg4 fullShare.right (wqV m c) ∗ own c main_arg5 fullShare.right (wqrV m c) ∗ own c main_arg7 fullShare.right.left.left (woV m c) ∗ own c main_arg7 fullShare.right.left.right (woV m c) ∗ own c main_arg7 fullShare.right.right.left (woV m c) ∗ own c main_arg7 fullShare.right.right.right (woV m c) ∗ any c cc0_scratch0 ∗ any c cc0_scratch4 ∗ any c cc0_scratch6 ∗ Lz c 0 ∗ Lz c 1 ∗ Lz c 2 ∗ Lz c 3 ∗ ownSlot c 0 ∗ ownSlot c 1 ∗ ownSlot c 2 ∗ ownSlot c 3 ∗ ownSlot c 4 ∗ ownSlot c 5 ∗ wcS m c 0 ∗ own c cc0_stg0_0 fullShare (wdkvV m c) ∗ own c cc0_stg1_0 fullShare (wukV m c) ∗ own c cc0_stg2_0 fullShare (wuvV m c) ∗ own c cc0_stg3_0 fullShare (wkrV m c) ∗ (∃ f, wAt c 0 fullShare f) ∗ SmAny c cgM (cR 0).set ∗ SmAny c krM Finset.univ ∗ SmAny c qM Finset.univ ∗ SmAny c qrM Finset.univ ∗ oS m c 0 ∗ (∃ f, tAt c 0 f) ∗ (∃ f, tAt c 1 f) ∗ outS c (fun _ _ => True) ∗ gG m c 1 0 ∗ gG m c 2 0 ∗ gG m c 3 0)
/-- After the second slot is projected. -/
def bodyMid : sProp 𝕄 :=
  iprop(gG m c 3 0 ∗ own c cc0_stg2_0 fullShare (wuvV m c) ∗ own c cc0_scratch2 fullShare (wcV m c) ∗ own c cc0_stg1_0 fullShare (wukV m c) ∗ own c cc0_scratch0 fullShare (xV m c) ∗ Lz c 3 ∗ own c cc0_stg0_0 fullShare (wdkvV m c) ∗ own c cc0_stg3_0 fullShare (wkrV m c) ∗ own c cc0_scratch6 fullShare (qrtV m c) ∗ Lz c 2 ∗ own c cc0_scratch4 fullShare (qtV m c) ∗ att m c ∗ fT m c 0 2 ∗ own c cc0_scratch9 (qs 0) (ooV m c) ∗ gSAt c 1 (ogV m c) ∗ outS c (fun x y => x = lo1 m c ∧ y = hi1 m c) ∗ fT m c 1 3 ∗ Pr1 c 30 21 ∗ gG m c 2 7)
/-- After the body. -/
def bodyEnd : sProp 𝕄 :=
  iprop(own c cc0_stg2_0 fullShare (wuvV m c) ∗ own c cc0_scratch2 fullShare (wcV m c) ∗ own c cc0_stg1_0 fullShare (wukV m c) ∗ own c cc0_scratch0 fullShare (xV m c) ∗ Lz c 3 ∗ own c cc0_stg0_0 fullShare (wdkvV m c) ∗ own c cc0_stg3_0 fullShare (wkrV m c) ∗ own c cc0_scratch6 fullShare (qrtV m c) ∗ Lz c 2 ∗ own c cc0_scratch4 fullShare (qtV m c) ∗ att m c ∗ own c cc0_scratch9 (qs 0) (ooV m c) ∗ gSAt c 1 (ogV m c) ∗ gSAt c 2 (ogV m c) ∗ tAt c 0 (tV m c 2) ∗ Lz c 0 ∗ gSAt c 3 (ogV m c) ∗ tAt c 1 (tV m c 3) ∗ Lz c 1 ∗ outS c (fun x y => x = lo3 m c ∧ y = hi3 m c) ∗ Pr2 m c 30)

set_option maxHeartbeats 2000000 in
theorem part_73 {Q : (Σ' (d0 : Dev nD) (v8 : BitVec 32) (v697 : BitVec 32) (v698 : BitVec 32) (v847 : BitVec 32) (v848 : BitVec 32) (v997 : BitVec 32) (v998 : BitVec 32) (v1147 : BitVec 32) (v1148 : BitVec 32) (v1298 : BitVec 32) (v1299 : BitVec 32) (v1448 : BitVec 32) (v1449 : BitVec 32) (v1598 : BitVec 32) (v1599 : BitVec 32) (v1748 : BitVec 32), BitVec 32) → sProp 𝕄} :
    iprop(env m K ∗ bodyStart m c) ⊢ iprop((∀ a0 a1 a2 a3 a4 a5 a6 a7 a8 a9 a10 a11 a12 a13 a14 a15 a16, bodyMid m c -∗ Q ⟨c, a0, a1, a2, a3, a4, a5, a6, a7, a8, a9, a10, a11, a12, a13, a14, a15, a16⟩) -∗ go c ((ap (k0_part73 (F := F)) :)) Q) := by
  simp only [ap, k0_part73_eq_skeleton]
  unfold k0_part73_skel bodyStart bodyMid
  iintro ⟨#HE, P, A0, A4, A5, A70, A71, A72, A73, X0, X4, X6, L0, L1, L2, L3, S0, S1, S2, S3, S4, S5, Wc, Bdk, Buk, Buv, Bkr, W0, C0, Kr, Qo, Qr, OS, T0, T1, U, G1, G2, G3⟩ Hk
  unfold go
  rw [wp_bind]
  iapply (part_1 m K c) $$ [A0 X0 L3 A4 X4 L1 A5 X6 L2 P S0]
  · isplitr; · iexact HE
    isplitl [A0]; · iexact A0
    isplitl [X0]; · iexact X0
    isplitl [L3]; · iexact L3
    isplitl [A4]; · iexact A4
    isplitl [X4]; · iexact X4
    isplitl [L1]; · iexact L1
    isplitl [A5]; · iexact A5
    isplitl [X6]; · iexact X6
    isplitl [L2]; · iexact L2
    isplitl [P]; · iexact P
    iexact S0
  iintro %_ %_ %_ %_ %_ ⟨FX, FQ, FR, P⟩
  try dsimp only
  rw [wp_bind]
  iapply (part_2 m K c) $$ [P S1 S2]
  · isplitr; · iexact HE
    isplitl [P]; · iexact P
    isplitl [S1]; · iexact S1
    iexact S2
  iintro %_ %_ P
  try dsimp only
  rw [wp_bind]
  iapply (part_3 m K c) $$ [P S3 S4]
  · isplitr; · iexact HE
    isplitl [P]; · iexact P
    isplitl [S3]; · iexact S3
    iexact S4
  iintro %_ %_ %_ P
  try dsimp only
  rw [wp_bind]
  iapply (part_4 m K c) $$ [P S5 Buk Wc Buv]
  · isplitr; · iexact HE
    isplitl [P]; · iexact P
    isplitl [S5]; · iexact S5
    isplitl [Buk]; · iexact Buk
    isplitl [Wc]; · iexact Wc
    iexact Buv
  iintro ⟨P, Buk, Wc, Buv⟩
  rw [wp_bind]
  iapply (part_5 m c rfl) $$ [Wc Buk Buv]
  · isplitl [Wc]; · iexact Wc
    isplitl [Buk]; · iexact Buk
    iexact Buv
  iintro ⟨Wc, Buk, Buv⟩
  try dsimp only
  rw [wp_bind]
  iapply (part_6 m c rfl) $$ [Wc Buk Buv]
  · isplitl [Wc]; · iexact Wc
    isplitl [Buk]; · iexact Buk
    iexact Buv
  iintro ⟨Wc, Buk, Buv⟩
  try dsimp only
  rw [wp_bind]
  iapply (part_7 m c rfl) $$ [Wc Buv Buk]
  · isplitl [Wc]; · iexact Wc
    isplitl [Buv]; · iexact Buv
    iexact Buk
  iintro ⟨Wc, Buv, Buk⟩
  try dsimp only
  rw [wp_bind]
  iapply (part_8 m c rfl) $$ [Wc Buv Buk]
  · isplitl [Wc]; · iexact Wc
    isplitl [Buv]; · iexact Buv
    iexact Buk
  iintro %_ ⟨Wc, Buv, Buk⟩
  try dsimp only
  rw [wp_bind]
  iapply (part_9 m c rfl) $$ [Wc Buk Buv]
  · isplitl [Wc]; · iexact Wc
    isplitl [Buk]; · iexact Buk
    iexact Buv
  iintro ⟨Wc, Buk, Buv⟩
  try dsimp only
  rw [wp_bind]
  iapply (part_10 m K c) $$ [Buv Wc Buk W0 L0 P]
  · isplitr; · iexact HE
    isplitl [Buv]; · iexact Buv
    isplitl [Wc]; · iexact Wc
    isplitl [Buk]; · iexact Buk
    isplitl [W0]; · iexact W0
    isplitl [L0]; · iexact L0
    iexact P
  iintro %_ %_ ⟨Buv, Wc, Buk, W0, L0, P, Wq1, Wq2, Wq3⟩
  try dsimp only
  rw [wp_bind]
  iapply (part_11 m K c) $$ [P Wq1 Wq2]
  · isplitr; · iexact HE
    isplitl [P]; · iexact P
    isplitl [Wq1]; · iexact Wq1
    iexact Wq2
  iintro %_ %_ %_ P
  try dsimp only
  rw [wp_bind]
  iapply (part_12 m K c) $$ [P Wq3 FX Bdk C0]
  · isplitr; · iexact HE
    isplitl [P]; · iexact P
    isplitl [Wq3]; · iexact Wq3
    isplitl [FX]; · iexact FX
    isplitl [Bdk]; · iexact Bdk
    iexact C0
  iintro %_ %_ ⟨P, X0, L3, Bdk, C0, Cq1, Cq2, Cq3⟩
  try dsimp only
  rw [wp_bind]
  iapply (part_13 m K c) $$ [P Cq1 Cq2]
  · isplitr; · iexact HE
    isplitl [P]; · iexact P
    isplitl [Cq1]; · iexact Cq1
    iexact Cq2
  iintro %_ %_ %_ P
  try dsimp only
  rw [wp_bind]
  iapply (part_14 m K c rfl) $$ [P Cq3 Bkr Kr FR Qr]
  · isplitr; · iexact HE
    isplitl [P]; · iexact P
    isplitl [Cq3]; · iexact Cq3
    isplitl [Bkr]; · iexact Bkr
    isplitl [Kr]; · iexact Kr
    isplitl [FR]; · iexact FR
    iexact Qr
  iintro %_ ⟨P, Bkr, Kr, X6, L2, Qr⟩
  try dsimp only
  rw [wp_bind]
  iapply (part_15 m K c rfl rfl) $$ [Qr P FQ Qo]
  · isplitr; · iexact HE
    isplitl [Qr]; · iexact Qr
    isplitl [P]; · iexact P
    isplitl [FQ]; · iexact FQ
    iexact Qo
  iintro ⟨Qr, P, X4, L1, Qo, W1⟩
  try dsimp only
  rw [wp_bind]
  iapply (part_16 m K c) $$ [P]
  · isplitr; · iexact HE
    iexact P
  iintro ⟨P, W2, W3, C1⟩
  try dsimp only
  rw [wp_bind]
  iapply (part_17 m K c) $$ [P]
  · isplitr; · iexact HE
    iexact P
  iintro %_ %_ ⟨P, C2, C3⟩
  try dsimp only
  icases (att_intro m c) $$ [Kr Qo Qr C0 C1 C2 C3 W0 W1 W2 W3] with Att
  · isplitl [Kr]; · iexact Kr
    isplitl [Qo]; · iexact Qo
    isplitl [Qr]; · iexact Qr
    isplitl [C0]; · iexact C0
    isplitl [C1]; · iexact C1
    isplitl [C2]; · iexact C2
    isplitl [C3]; · iexact C3
    isplitl [W0]; · iexact W0
    isplitl [W1]; · iexact W1
    isplitl [W2]; · iexact W2
    iexact W3
  rw [wp_bind]
  iapply (part_18 m c) $$ [A70 T0 L0 A71 T1 L1 Att]
  · isplitl [A70]; · iexact A70
    isplitl [T0]; · iexact T0
    isplitl [L0]; · iexact L0
    isplitl [A71]; · iexact A71
    isplitl [T1]; · iexact T1
    isplitl [L1]; · iexact L1
    iexact Att
  iintro ⟨F0, F1, Att⟩
  try dsimp only
  rw [wp_bind]
  iapply (part_19 m c) $$ Att
  iintro Att
  try dsimp only
  rw [wp_bind]
  iapply (part_20 m c (tile_0 m c)) $$ OS
  iintro %_ %_ ⟨OS, O01, O02, O03⟩
  try dsimp only
  rw [wp_bind]
  iapply (part_21 m K c) $$ [P O01]
  · isplitr; · iexact HE
    isplitl [P]; · iexact P
    iexact O01
  iintro %_ %_ P
  try dsimp only
  rw [wp_bind]
  iapply (part_22 m K c) $$ [P O02 O03]
  · isplitr; · iexact HE
    isplitl [P]; · iexact P
    isplitl [O02]; · iexact O02
    iexact O03
  iintro %_ %_ P
  try dsimp only
  rw [wp_bind]
  iapply (part_23 m c) $$ Att
  iintro Att
  try dsimp only
  rw [wp_bind]
  iapply (part_24 m c (tile_1 m c)) $$ [Att OS]
  · isplitl [Att]; · iexact Att
    iexact OS
  iintro %_ %_ ⟨Att, OS, O11, O12, O13⟩
  try dsimp only
  rw [wp_bind]
  iapply (part_25 m K c) $$ [P O11]
  · isplitr; · iexact HE
    isplitl [P]; · iexact P
    iexact O11
  iintro %_ %_ %_ P
  try dsimp only
  rw [wp_bind]
  iapply (part_26 m K c) $$ [P O12]
  · isplitr; · iexact HE
    isplitl [P]; · iexact P
    iexact O12
  iintro %_ %_ %_ %_ P
  try dsimp only
  rw [wp_bind]
  iapply (part_27 m K c) $$ [P O13 Att]
  · isplitr; · iexact HE
    isplitl [P]; · iexact P
    isplitl [O13]; · iexact O13
    iexact Att
  iintro ⟨P, Att⟩
  try dsimp only
  rw [wp_bind]
  iapply (part_28 m c (tile_2 m c)) $$ [Att OS]
  · isplitl [Att]; · iexact Att
    iexact OS
  iintro %_ %_ %_ %_ %_ ⟨Att, OS, O21, O22, O23⟩
  try dsimp only
  rw [wp_bind]
  iapply (part_29 m K c) $$ [P O21]
  · isplitr; · iexact HE
    isplitl [P]; · iexact P
    iexact O21
  iintro %_ %_ %_ %_ %_ %_ %_ P
  try dsimp only
  rw [wp_bind]
  iapply (part_30 m K c) $$ [P O22]
  · isplitr; · iexact HE
    isplitl [P]; · iexact P
    iexact O22
  iintro %_ %_ %_ %_ %_ %_ %_ P
  try dsimp only
  rw [wp_bind]
  iapply (part_31 m K c) $$ [P O23 Att]
  · isplitr; · iexact HE
    isplitl [P]; · iexact P
    isplitl [O23]; · iexact O23
    iexact Att
  iintro %_ %_ ⟨P, Att⟩
  try dsimp only
  rw [wp_bind]
  iapply (part_32 m c) $$ Att
  iintro Att
  try dsimp only
  rw [wp_bind]
  iapply (part_33 m c (tile_3 m c)) $$ OS
  iintro %_ %_ ⟨OS, O31, O32, O33⟩
  try dsimp only
  rw [wp_bind]
  iapply (part_34 m K c) $$ [P O31 O32]
  · isplitr; · iexact HE
    isplitl [P]; · iexact P
    isplitl [O31]; · iexact O31
    iexact O32
  iintro %_ %_ %_ P
  try dsimp only
  rw [wp_bind]
  iapply (part_35 m K c) $$ [P O33 Att]
  · isplitr; · iexact HE
    isplitl [P]; · iexact P
    isplitl [O33]; · iexact O33
    iexact Att
  iintro %_ %_ ⟨P, Att⟩
  try dsimp only
  rw [wp_bind]
  iapply (part_36 m c) $$ Att
  iintro Att
  try dsimp only
  rw [wp_bind]
  iapply (part_37 m c (tile_4 m c)) $$ OS
  iintro %_ %_ ⟨OS, O41, O42, O43⟩
  try dsimp only
  rw [wp_bind]
  iapply (part_38 m K c) $$ [P O41]
  · isplitr; · iexact HE
    isplitl [P]; · iexact P
    iexact O41
  iintro %_ %_ %_ %_ P
  try dsimp only
  rw [wp_bind]
  iapply (part_39 m K c) $$ [P O42]
  · isplitr; · iexact HE
    isplitl [P]; · iexact P
    iexact O42
  iintro %_ %_ %_ %_ P
  try dsimp only
  rw [wp_bind]
  iapply (part_40 m K c) $$ [P O43 Att]
  · isplitr; · iexact HE
    isplitl [P]; · iexact P
    isplitl [O43]; · iexact O43
    iexact Att
  iintro ⟨P, Att⟩
  try dsimp only
  rw [wp_bind]
  iapply (part_41 m c (tile_5 m c)) $$ [Att OS]
  · isplitl [Att]; · iexact Att
    iexact OS
  iintro %_ %_ %_ %_ ⟨Att, OS, O51, O52, O53⟩
  try dsimp only
  rw [wp_bind]
  iapply (part_42 m K c) $$ [P O51]
  · isplitr; · iexact HE
    isplitl [P]; · iexact P
    iexact O51
  iintro %_ %_ %_ %_ %_ %_ %_ %_ P
  try dsimp only
  rw [wp_bind]
  iapply (part_43 m K c) $$ [P O52]
  · isplitr; · iexact HE
    isplitl [P]; · iexact P
    iexact O52
  iintro %_ %_ %_ %_ %_ %_ %_ P
  try dsimp only
  rw [wp_bind]
  iapply (part_44 m K c) $$ [P O53 Att]
  · isplitr; · iexact HE
    isplitl [P]; · iexact P
    isplitl [O53]; · iexact O53
    iexact Att
  iintro %_ %_ ⟨P, Att⟩
  try dsimp only
  rw [wp_bind]
  iapply (part_45 m c) $$ Att
  iintro Att
  try dsimp only
  rw [wp_bind]
  iapply (part_46 m K c (tile_6 m c)) $$ [OS P]
  · isplitr; · iexact HE
    isplitl [OS]; · iexact OS
    iexact P
  iintro %_ %_ ⟨OS, O62, O63, P⟩
  try dsimp only
  rw [wp_bind]
  iapply (part_47 m K c) $$ [P O62]
  · isplitr; · iexact HE
    isplitl [P]; · iexact P
    iexact O62
  iintro %_ %_ %_ %_ P
  try dsimp only
  rw [wp_bind]
  iapply (part_48 m K c) $$ [P O63 Att]
  · isplitr; · iexact HE
    isplitl [P]; · iexact P
    isplitl [O63]; · iexact O63
    iexact Att
  iintro %_ %_ ⟨P, Att⟩
  try dsimp only
  rw [wp_bind]
  iapply (part_49 m c) $$ Att
  iintro Att
  try dsimp only
  rw [wp_bind]
  iapply (part_50 m c (tile_7 m c)) $$ OS
  iintro %_ %_ %_ ⟨OS, O71, O72, O73⟩
  try dsimp only
  rw [wp_bind]
  iapply (part_51 m K c) $$ [P O71]
  · isplitr; · iexact HE
    isplitl [P]; · iexact P
    iexact O71
  iintro %_ %_ %_ %_ P
  try dsimp only
  rw [wp_bind]
  iapply (part_52 m K c) $$ [P O72]
  · isplitr; · iexact HE
    isplitl [P]; · iexact P
    iexact O72
  iintro %_ %_ P
  try dsimp only
  rw [wp_bind]
  iapply (part_53 m K c) $$ [P O73 F0 OS U A72]
  · isplitr; · iexact HE
    isplitl [P]; · iexact P
    isplitl [O73]; · iexact O73
    isplitl [F0]; · iexact F0
    isplitl [OS]; · iexact OS
    isplitl [U]; · iexact U
    iexact A72
  iintro ⟨P, F0, OS, U⟩
  try dsimp only
  rw [wp_bind]
  iapply (part_54 m K c) $$ [P G1]
  · isplitr; · iexact HE
    isplitl [P]; · iexact P
    iexact G1
  iintro ⟨P, G1⟩
  try dsimp only
  rw [wp_bind]
  iapply (part_55 m K c) $$ [P G1]
  · isplitr; · iexact HE
    isplitl [P]; · iexact P
    iexact G1
  iintro %_ %_ ⟨P, G1⟩
  try dsimp only
  rw [wp_bind]
  iapply (part_56 m K c) $$ [P G1]
  · isplitr; · iexact HE
    isplitl [P]; · iexact P
    iexact G1
  iintro ⟨P, G1⟩
  try dsimp only
  rw [wp_bind]
  iapply (part_57 m K c) $$ [P G1 F1 U]
  · isplitr; · iexact HE
    isplitl [P]; · iexact P
    isplitl [G1]; · iexact G1
    isplitl [F1]; · iexact F1
    iexact U
  iintro ⟨P, G1, T1, L1, U⟩
  try dsimp only
  rw [wp_bind]
  iapply (part_58 m K c) $$ [A73 T1 L1 P G2]
  · isplitr; · iexact HE
    isplitl [A73]; · iexact A73
    isplitl [T1]; · iexact T1
    isplitl [L1]; · iexact L1
    isplitl [P]; · iexact P
    iexact G2
  iintro %_ ⟨F1, P, G2⟩
  try dsimp only
  rw [wp_bind]
  iapply (part_59 m K c) $$ [P G2]
  · isplitr; · iexact HE
    isplitl [P]; · iexact P
    iexact G2
  iintro ⟨P, G2⟩
  try dsimp only
  rw [wp_bind]
  iapply (part_60 m K c) $$ [P G2]
  · isplitr; · iexact HE
    isplitl [P]; · iexact P
    iexact G2
  iintro ⟨P, G2⟩
  try dsimp only
  iapply (go_ret c)
  iapply Hk
  isplitl [G3]; · iexact G3
  isplitl [Buv]; · iexact Buv
  isplitl [Wc]; · iexact Wc
  isplitl [Buk]; · iexact Buk
  isplitl [X0]; · iexact X0
  isplitl [L3]; · iexact L3
  isplitl [Bdk]; · iexact Bdk
  isplitl [Bkr]; · iexact Bkr
  isplitl [X6]; · iexact X6
  isplitl [L2]; · iexact L2
  isplitl [X4]; · iexact X4
  isplitl [Att]; · iexact Att
  isplitl [F0]; · iexact F0
  isplitl [OS]; · iexact OS
  isplitl [G1]; · iexact G1
  isplitl [U]; · iexact U
  isplitl [F1]; · iexact F1
  isplitl [P]; · iexact P
  iexact G2

set_option maxHeartbeats 1000000 in
theorem body_runs {Q : PUnit → sProp 𝕄} : iprop(env m K ∗ bodyStart m c) ⊢ iprop((bodyEnd m c -∗ Q ⟨⟩) -∗ go c ((ap (cc0__body (F := F)) :)) Q) := by
  simp only [ap, cc0__body_eq_skeleton]
  unfold cc0__body_skel
  iintro ⟨#HE, H⟩ Hk
  unfold go
  rw [wp_bind]
  iapply (part_73 m K c) $$ [H]
  · isplitr; · iexact HE
    iexact H
  iintro %_ %_ %_ %_ %_ %_ %_ %_ %_ %_ %_ %_ %_ %_ %_ %_ %_ H
  try dsimp only
  unfold bodyMid bodyEnd
  icases H with ⟨G3, Buv, Wc, Buk, X0, L3, Bdk, Bkr, X6, L2, X4, Att, F0, OS, G1, U, F1, P, G2⟩
  rw [wp_bind]
  iapply (part_61 m K c) $$ [P G2 F0 U]
  · isplitr; · iexact HE
    isplitl [P]; · iexact P
    isplitl [G2]; · iexact G2
    isplitl [F0]; · iexact F0
    iexact U
  iintro ⟨P, G2, T0, L0, U⟩
  rw [wp_bind]
  iapply (part_62 m K c) $$ [P G3]
  · isplitr; · iexact HE
    isplitl [P]; · iexact P
    iexact G3
  iintro ⟨P, G3⟩
  try dsimp only
  rw [wp_bind]
  iapply (part_63 m K c) $$ [P G3]
  · isplitr; · iexact HE
    isplitl [P]; · iexact P
    iexact G3
  iintro %_ ⟨P, G3⟩
  try dsimp only
  rw [wp_bind]
  iapply (part_64 m K c) $$ [P G3]
  · isplitr; · iexact HE
    isplitl [P]; · iexact P
    iexact G3
  iintro ⟨P, G3⟩
  try dsimp only
  rw [wp_bind]
  iapply (part_65 m K c) $$ [P G3 F1 U]
  · isplitr; · iexact HE
    isplitl [P]; · iexact P
    isplitl [G3]; · iexact G3
    isplitl [F1]; · iexact F1
    iexact U
  iintro ⟨P, G3, T1, L1, U⟩
  try dsimp only
  icases (Pr1_Pr2 m c) $$ P with P
  rw [wp_bind]
  iapply (part_66 m K c) $$ [P]
  · isplitr; · iexact HE
    iexact P
  iintro P
  try dsimp only
  rw [wp_bind]
  iapply (part_67 m K c) $$ [P]
  · isplitr; · iexact HE
    iexact P
  iintro P
  try dsimp only
  rw [wp_bind]
  iapply (part_68 m K c) $$ [P]
  · isplitr; · iexact HE
    iexact P
  iintro P
  try dsimp only
  rw [wp_bind]
  iapply (part_69 m K c) $$ [P]
  · isplitr; · iexact HE
    iexact P
  iintro P
  try dsimp only
  rw [wp_bind]
  iapply (part_70 m K c) $$ [P]
  · isplitr; · iexact HE
    iexact P
  iintro P
  try dsimp only
  rw [wp_bind]
  iapply (part_71 m K c) $$ [P]
  · isplitr; · iexact HE
    iexact P
  iintro P
  try dsimp only
  rw [wp_bind]
  iapply (part_72 m K c) $$ [P]
  · isplitr; · iexact HE
    iexact P
  iintro P
  try dsimp only
  simp only [Prog.lift, Prog.bind_op, Prog.bind_ret, Prog.pure_eq_ret]
  iapply (sn_o m K c 23 (dst := oSl 7) (v := 29) (v' := 30) rfl rfl rfl rfl) $$ [P]
  · isplitr; · iexact HE
    iexact P
  iintro P
  iapply (go_ret c)
  iapply Hk
  isplitl [Buv]; · iexact Buv
  isplitl [Wc]; · iexact Wc
  isplitl [Buk]; · iexact Buk
  isplitl [X0]; · iexact X0
  isplitl [L3]; · iexact L3
  isplitl [Bdk]; · iexact Bdk
  isplitl [Bkr]; · iexact Bkr
  isplitl [X6]; · iexact X6
  isplitl [L2]; · iexact L2
  isplitl [X4]; · iexact X4
  isplitl [Att]; · iexact Att
  isplitl [OS]; · iexact OS
  isplitl [G1]; · iexact G1
  isplitl [G2]; · iexact G2
  isplitl [T0]; · iexact T0
  isplitl [L0]; · iexact L0
  isplitl [G3]; · iexact G3
  isplitl [T1]; · iexact T1
  isplitl [L1]; · iexact L1
  isplitl [U]; · iexact U
  iexact P

end Cert.Mla

end
-- ==== Proof.Start.lean ====
/-
From the launch's resources to the body's, and back from what the body leaves.
-/
module

public import proofs.«01_k».proof.Proof.Deal
public import proofs.«01_k».proof.Proof.Root

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Before the body -/

/-- The halves of the large arguments that the body reads. -/
def rights : sProp 𝕄 :=
  iprop(own c main_arg0 fullShare.right (xV m c) ∗ own c main_arg4 fullShare.right (wqV m c) ∗ own c main_arg5 fullShare.right (wqrV m c) ∗ own c main_arg7 fullShare.right (woV m c))
/-- The halves that stay out of it. -/
def lefts : sProp 𝕄 :=
  iprop(own c main_arg0 fullShare.left (xV m c) ∗ own c main_arg4 fullShare.left (wqV m c) ∗ own c main_arg5 fullShare.left (wqrV m c) ∗ own c main_arg7 fullShare.left (woV m c))

def credits : sProp 𝕄 :=
  iprop(cred (tallyAt (cell c .bar) () 6) ∗ bigSep Finset.univ fun u => cred (tallyAt (cell c (rRole u)) () (amt (rRole u))))

theorem pr0_intro : iprop((bigSep Finset.univ fun i : Fin 61 => atPos ER (cell c (rk i)) 0 ∅ 0) ∗ payToks c ∗ credits c ∗ (∃ W, owes (c : Thread nD τ) (owe c 0) W))
    ⊢ (Pr0 c 0 : sProp 𝕄) := by
  have e : (bigSep Finset.univ fun i : Fin 61 => (atPos ER (cell c (rk i)) 0 ∅ 0 : sProp 𝕄))
      = iprop(atPos ER (cell c .bar) 0 ∅ 0 ∗ (bigSep Finset.univ fun n => atPos ER (cell c (sRole n)) 0 ∅ 0) ∗ bigSep Finset.univ fun n => atPos ER (cell c (rRole n)) 0 ∅ 0) :=
    roles_s fun k => atPos ER (cell c k) 0 ∅ 0
  have et : (bigSep Finset.univ (tick c) : sProp 𝕄)
      = iprop((bigSep Finset.univ fun n : Fin 30 => dutyTok ER (cell (sTo c n) (dRole n)) 0 0) ∗ (bigSep Finset.univ fun n : Fin 30 => dutyTok ER (cell c (sRole n)) 0 0)
        ∗ bigSep Finset.univ fun n => atPos ER (cell c (sRole n)) 0 ∅ 0) := by
    unfold tick; rw [bigSep_sep', bigSep_sep']
  have ep : (bigSep Finset.univ (fun u => pend c (rRole u)) : sProp 𝕄)
      = iprop((bigSep Finset.univ fun u => cred (tallyAt (cell c (rRole u)) () (amt (rRole u)))) ∗ bigSep Finset.univ fun n => atPos ER (cell c (rRole n)) 0 ∅ 0) := by
    unfold pend; rw [bigSep_sep']
  rw [e]
  unfold Pr0 payToks credits
  rw [rest_zero, et, ep]
  iintro ⟨⟨PB, PS, PR⟩, ⟨TB, TS, TD⟩, ⟨CB, CR⟩, HO⟩
  isplitl [HO]; · iexact HO
  isplitl [TB]; · iexact TB
  isplitl [TD TS PS]
  · isplitl [TD]; · iexact TD
    isplitl [TS]; · iexact TS
    iexact PS
  isplitl [CB PB]
  · isplitl [CB]; · iexact CB
    iexact PB
  isplitl [CR]; · iexact CR
  iexact PR

theorem sm_any {cs : CoreSpace} {s : Shape} {e : EltTy} (μ : Memref sig .tc cs s e) (S : Finset (Idx (μ.view.loc (c : Thread nD τ)))) :
    iprop(∃ f, ((μ.view.loc (c : Thread nD τ)) ↦[S]{fullShare} f : sProp 𝕄)) ⊢ SmAny c μ S := by
  unfold SmAny Sm
  iintro ⟨%f, H⟩
  iexists f
  isplitr; · ipureintro; trivial
  iexact H

theorem cut_w : (any c cc0_scratch3 : sProp 𝕄) ⊢ iprop((∃ f, wAt c 0 fullShare f) ∗ (∃ f, wAt c 1 fullShare f) ∗ (∃ f, wAt c 2 fullShare f) ∗ (∃ f, wAt c 3 fullShare f)) := by
  unfold any own
  iintro ⟨%f, H⟩
  ihave H' := (Entails.of_eq ((cutW c fullShare f).trans (four _))) $$ H
  icases H' with ⟨H0, H1, H2, H3⟩
  isplitl [H0]; · iexists f; iexact H0
  isplitl [H1]; · iexists f; iexact H1
  isplitl [H2]; · iexists f; iexact H2
  iexists f; iexact H3
theorem cut_c : (any c cc0_scratch1 : sProp 𝕄) ⊢ iprop((∃ f, cAt c 0 fullShare f) ∗ (∃ f, cAt c 1 fullShare f) ∗ (∃ f, cAt c 2 fullShare f) ∗ (∃ f, cAt c 3 fullShare f)) := by
  unfold any own
  iintro ⟨%f, H⟩
  ihave H' := (Entails.of_eq ((cutC c fullShare f).trans (four _))) $$ H
  icases H' with ⟨H0, H1, H2, H3⟩
  isplitl [H0]; · iexists f; iexact H0
  isplitl [H1]; · iexists f; iexact H1
  isplitl [H2]; · iexists f; iexact H2
  iexists f; iexact H3
theorem cut_g : (any c cc0_scratch10 : sProp 𝕄) ⊢ iprop((∃ f, gSAt c 0 f) ∗ (∃ f, gSAt c 1 f) ∗ (∃ f, gSAt c 2 f) ∗ (∃ f, gSAt c 3 f)) := by
  unfold any own
  iintro ⟨%f, H⟩
  ihave H' := (Entails.of_eq ((cutG c f).trans (four _))) $$ H
  icases H' with ⟨H0, H1, H2, H3⟩
  isplitl [H0]; · iexists f; iexact H0
  isplitl [H1]; · iexists f; iexact H1
  isplitl [H2]; · iexists f; iexact H2
  iexists f; iexact H3
theorem cut_t : (any c cc0_scratch11 : sProp 𝕄) ⊢ iprop((∃ f, tAt c 0 f) ∗ (∃ f, tAt c 1 f)) := by
  unfold any own
  iintro ⟨%f, H⟩
  ihave H' := (Entails.of_eq ((cutT c f).trans (two _))) $$ H
  icases H' with ⟨H0, H1⟩
  isplitl [H0]; · iexists f; iexact H0
  iexists f; iexact H1
theorem cut_o : (any c cc0_scratch9 : sProp 𝕄) ⊢ oS m c 0 := by
  unfold any own oS
  rw [rest_zero, upto_zero]
  iintro ⟨%f, H⟩
  ihave H' := (Entails.of_eq (cutO c fullShare f)) $$ H
  have h1 : ∀ t : Fin 8, (oAt c t fullShare f : sProp 𝕄) ⊢ SmAny (F := F) c ooM (oR t).set := fun t => by
    iintro H
    iapply (sm_any c ooM (oR t).set)
    iexists f; iexact H
  isplitl
  · have h : (bigSep Finset.univ fun t => oAt c t fullShare f : sProp 𝕄) ⊢ bigSep Finset.univ fun t : Fin 8 => SmAny (F := F) c ooM (oR t).set :=
      bigSep_mono fun t _ => h1 t
    iapply h; iexact H'
  iempintro

theorem slot_w (d : Fin 4) (n : Fin 6) (hn : n.val < 3) (hd : d.val = 3 - n.val) :
    iprop((∃ f, wAt c d fullShare f) ∗ (∃ f, cAt c d fullShare f)) ⊢ ownSlot (F := F) c n := by
  have e : (⟨3 - n.val, by omega⟩ : Fin 4) = d := Fin.ext hd.symm
  unfold ownSlot; rw [dif_pos hn, e]
theorem slot_g (d : Fin 4) (n : Fin 6) (hn : ¬ n.val < 3) (hd : d.val = 6 - n.val) :
    iprop(∃ f, gSAt c d f) ⊢ ownSlot (F := F) c n := by
  have e : (⟨6 - n.val, by have := n.isLt; omega⟩ : Fin 4) = d := Fin.ext hd.symm
  unfold ownSlot; rw [dif_neg hn, e]

/-- The share of the output weights the four copies read. -/
theorem cut_wo : own c main_arg7 fullShare.right (woV m c) ⊢ iprop(own c main_arg7 fullShare.right.left.left (woV m c) ∗ own c main_arg7 fullShare.right.left.right (woV m c)
    ∗ own c main_arg7 fullShare.right.right.left (woV m c) ∗ own c main_arg7 fullShare.right.right.right (woV m c)) := by
  have h := pointsTo_share (Ix := Unit) (Name := ℕ) (U := UU) (Lvl := ℕ) (ℓ := (c : Thread nD τ).loc main_arg7) (I := Finset.univ) (f := woV m c) (PosShare.mem_left_op_right (fullShare : PosShare TreeShare).right)
  have h1 := pointsTo_share (Ix := Unit) (Name := ℕ) (U := UU) (Lvl := ℕ) (ℓ := (c : Thread nD τ).loc main_arg7) (I := Finset.univ) (f := woV m c) (PosShare.mem_left_op_right (fullShare : PosShare TreeShare).right.left)
  have h2 := pointsTo_share (Ix := Unit) (Name := ℕ) (U := UU) (Lvl := ℕ) (ℓ := (c : Thread nD τ).loc main_arg7) (I := Finset.univ) (f := woV m c) (PosShare.mem_left_op_right (fullShare : PosShare TreeShare).right.right)
  iintro H
  ihave H := h.1 $$ H
  icases H with ⟨H1, H2⟩
  ihave H1 := h1.1 $$ H1
  icases H1 with ⟨A, B⟩
  ihave H2 := h2.1 $$ H2
  icases H2 with ⟨C, D⟩
  isplitl [A]; · iexact A
  isplitl [B]; · iexact B
  isplitl [C]; · iexact C
  iexact D

/-- The scratch buffers, any contents. -/
def scratch : sProp 𝕄 :=
  iprop(any c cc0_scratch0 ∗ any c cc0_scratch1 ∗ any c cc0_scratch2 ∗ any c cc0_scratch3 ∗ any c cc0_scratch4 ∗ any c cc0_scratch5
    ∗ any c cc0_scratch6 ∗ any c cc0_scratch7 ∗ any c cc0_scratch8 ∗ any c cc0_scratch9 ∗ any c cc0_scratch10 ∗ any c cc0_scratch11)
theorem scratch_eq : (Pipeline.scopedRest (Ix := Unit) (Name := ℕ) (U := UU) (Lvl := ℕ) (Val := Elt F) spec0 c : sProp 𝕄) = scratch c := scopedRest0_eq c

/-- The staged arguments. -/
def staged : sProp 𝕄 :=
  iprop(own c cc0_stg0_0 fullShare (wdkvV m c) ∗ own c cc0_stg1_0 fullShare (wukV m c) ∗ own c cc0_stg2_0 fullShare (wuvV m c) ∗ own c cc0_stg3_0 fullShare (wkrV m c))

set_option maxHeartbeats 1000000 in
theorem body_enter : iprop(linear c ∗ credits c ∗ (∃ W, owes (c : Thread nD τ) (owe c 0) W) ∗ rights m c ∗ scratch c ∗ staged m c ∗ any c cc0_stg4_0)
    ⊢ iprop(bodyStart m c ∗ ∃ f, gSAt c 0 f) := by
  unfold linear rights scratch staged bodyStart
  iintro ⟨⟨PA, PT, L0, L1, L2, L3⟩, CR, HO, ⟨A0, A4, A5, A7⟩, ⟨X0, X1, X2, X3, X4, X5, X6, X7, X8, X9, X10, X11⟩, ⟨B0, B1, B2, B3⟩, U⟩
  ihave P := (pr0_intro (F := F) c) $$ [PA PT CR HO]
  · isplitl [PA]; · iexact PA
    isplitl [PT]; · iexact PT
    isplitl [CR]; · iexact CR
    iexact HO
  icases (cut_wo m c) $$ A7 with ⟨A70, A71, A72, A73⟩
  icases (cut_w (F := F) c) $$ X3 with ⟨W0, W1, W2, W3⟩
  icases (cut_c (F := F) c) $$ X1 with ⟨C0, C1, C2, C3⟩
  icases (cut_g (F := F) c) $$ X10 with ⟨G0, G1, G2, G3⟩
  icases (cut_t (F := F) c) $$ X11 with ⟨T0, T1⟩
  isplitr [G0]
  · isplitl [P]; · iexact P
    isplitl [A0]; · iexact A0
    isplitl [A4]; · iexact A4
    isplitl [A5]; · iexact A5
    isplitl [A70]; · iexact A70
    isplitl [A71]; · iexact A71
    isplitl [A72]; · iexact A72
    isplitl [A73]; · iexact A73
    isplitl [X0]; · iexact X0
    isplitl [X4]; · iexact X4
    isplitl [X6]; · iexact X6
    isplitl [L0]; · iexact L0
    isplitl [L1]; · iexact L1
    isplitl [L2]; · iexact L2
    isplitl [L3]; · iexact L3
    isplitl [W3 C3]
    · iapply (slot_w (F := F) c 3 0 (by decide) rfl); isplitl [W3]; · iexact W3
      iexact C3
    isplitl [W2 C2]
    · iapply (slot_w (F := F) c 2 1 (by decide) rfl); isplitl [W2]; · iexact W2
      iexact C2
    isplitl [W1 C1]
    · iapply (slot_w (F := F) c 1 2 (by decide) rfl); isplitl [W1]; · iexact W1
      iexact C1
    isplitl [G3]; · iapply (slot_g (F := F) c 3 3 (by decide) rfl); iexact G3
    isplitl [G2]; · iapply (slot_g (F := F) c 2 4 (by decide) rfl); iexact G2
    isplitl [G1]; · iapply (slot_g (F := F) c 1 5 (by decide) rfl); iexact G1
    isplitl [X2]; · iapply (wcS_zero m c); iexact X2
    isplitl [B0]; · iexact B0
    isplitl [B1]; · iexact B1
    isplitl [B2]; · iexact B2
    isplitl [B3]; · iexact B3
    isplitl [W0]; · iexact W0
    isplitl [C0]; · iapply (sm_any (F := F) c cgM (cR 0).set); iexact C0
    isplitl [X8]; · iapply (sm_any (F := F) c krM Finset.univ); iexact X8
    isplitl [X5]; · iapply (sm_any (F := F) c qM Finset.univ); iexact X5
    isplitl [X7]; · iapply (sm_any (F := F) c qrM Finset.univ); iexact X7
    isplitl [X9]; · iapply (cut_o m c); iexact X9
    isplitl [T0]; · iexact T0
    isplitl [T1]; · iexact T1
    isplitl [U]; · unfold outS; iapply (sm_any (F := F) c outM Finset.univ); iexact U
    isplitr; · iapply (gG_zero m c 1); iempintro
    isplitr; · iapply (gG_zero m c 2); iempintro
    iapply (gG_zero m c 3); iempintro
  iexact G0

/-! ## After it -/

theorem back_w : iprop((bigSep Finset.univ fun d => wAt c d (kq d) (wgV m c)) ∗ wAt c 0 (qs 1) (wgV m c) ∗ wAt c 0 (qs 2) (wgV m c) ∗ wAt c 0 (qs 3) (wgV m c))
    ⊢ any c cc0_scratch3 := by
  have e : ∀ f : Fin 4 → sProp 𝕄, bigSep Finset.univ f = iprop(f 0 ∗ f 1 ∗ f 2 ∗ f 3) := four
  rw [e]
  iintro ⟨⟨A, W1, W2, W3⟩, B, C, D⟩
  unfold any own
  iexists (wgV m c)
  iapply (Entails.of_eq ((cutW c fullShare (wgV m c)).trans (e _)).symm)
  isplitl [A B C D]
  · iapply (quarters (F := F) (ℓ := (c : Thread nD τ).loc cc0_scratch3) (wR 0).set (wgV m c)).2
    isplitl [A]; · iexact A
    isplitl [B]; · iexact B
    isplitl [C]; · iexact C
    iexact D
  isplitl [W1]; · iexact W1
  isplitl [W2]; · iexact W2
  iexact W3
theorem back_c : iprop((bigSep Finset.univ fun d => cAt c d (kq d) (cgV m c)) ∗ cAt c 0 (qs 1) (cgV m c) ∗ cAt c 0 (qs 2) (cgV m c) ∗ cAt c 0 (qs 3) (cgV m c))
    ⊢ any c cc0_scratch1 := by
  have e : ∀ f : Fin 4 → sProp 𝕄, bigSep Finset.univ f = iprop(f 0 ∗ f 1 ∗ f 2 ∗ f 3) := four
  rw [e]
  iintro ⟨⟨A, W1, W2, W3⟩, B, C, D⟩
  unfold any own
  iexists (cgV m c)
  iapply (Entails.of_eq ((cutC c fullShare (cgV m c)).trans (e _)).symm)
  isplitl [A B C D]
  · iapply (quarters (F := F) (ℓ := (c : Thread nD τ).loc cc0_scratch1) (cR 0).set (cgV m c)).2
    isplitl [A]; · iexact A
    isplitl [B]; · iexact B
    isplitl [C]; · iexact C
    iexact D
  isplitl [W1]; · iexact W1
  isplitl [W2]; · iexact W2
  iexact W3

theorem tile_at : ∀ (d : Fin 3) (t : Fin 8), oTile ⟨8 * d.val + t.val, by omega⟩ = t ∧ oPlace ⟨8 * d.val + t.val, by omega⟩ = d.succ := by decide +kernel
theorem back_o : iprop(own c cc0_scratch9 (qs 0) (ooV m c) ∗ bigSep Finset.univ fun i : Fin 24 => oAt c (oTile i) (qs (oPlace i)) (ooV m c)) ⊢ any c cc0_scratch9 := by
  have h : (bigSep Finset.univ fun i : Fin 24 => (oAt c (oTile i) (qs (oPlace i)) (ooV m c) : sProp 𝕄))
      = iprop(own c cc0_scratch9 (qs 1) (ooV m c) ∗ own c cc0_scratch9 (qs 2) (ooV m c) ∗ own c cc0_scratch9 (qs 3) (ooV m c)) := by
    rw [split24]
    have e : ∀ d : Fin 3, (bigSep Finset.univ fun t : Fin 8 => (oAt c (oTile ⟨8 * d.val + t.val, by omega⟩) (qs (oPlace ⟨8 * d.val + t.val, by omega⟩)) (ooV m c) : sProp 𝕄))
        = own c cc0_scratch9 (qs d.succ) (ooV m c) := fun d => by
      rw [bigSep_congr fun t _ => by rw [(tile_at d t).1, (tile_at d t).2]]
      exact (cutO c (qs d.succ) (ooV m c)).symm
    rw [bigSep_congr fun d _ => e d, three]
    rfl
  rw [h]
  iintro ⟨A, B, C, D⟩
  unfold any own
  iexists (ooV m c)
  iapply (quarters (F := F) (ℓ := (c : Thread nD τ).loc cc0_scratch9) Finset.univ (ooV m c)).2
  isplitl [A]; · iexact A
  isplitl [B]; · iexact B
  isplitl [C]; · iexact C
  iexact D

theorem back_g : iprop((∃ f, gSAt c 0 f) ∗ gSAt c 1 (ogV m c) ∗ gSAt c 2 (ogV m c) ∗ gSAt c 3 (ogV m c)) ⊢ any c cc0_scratch10 := by
  iintro ⟨⟨%f, H0⟩, H1, H2, H3⟩
  unfold any own
  iexists (fun i : S4x1024x512.Idx => if (i 0).val = 0 then f i else ogV m c i)
  iapply (Entails.of_eq ((cutG c (fun i : S4x1024x512.Idx => if (i 0).val = 0 then f i else ogV m c i)).trans (four _)).symm)
  have h0 : gSAt c 0 f ⊢ gSAt c 0 (fun i : S4x1024x512.Idx => if (i 0).val = 0 then f i else ogV m c i) :=
    Entails.of_eq (pointsTo_congr fun i hi => (if_pos ((mem_gS 0 i).mp hi)).symm)
  have h : ∀ d : Fin 4, d.val ≠ 0 → gSAt c d (ogV m c) ⊢ gSAt c d (fun i : S4x1024x512.Idx => if (i 0).val = 0 then f i else ogV m c i) := fun d hd =>
    Entails.of_eq (pointsTo_congr fun i hi => (if_neg fun h => hd (((mem_gS d i).mp hi).symm.trans h)).symm)
  isplitl [H0]; · iapply h0; iexact H0
  isplitl [H1]; · iapply (h 1 (by decide)); iexact H1
  isplitl [H2]; · iapply (h 2 (by decide)); iexact H2
  iapply (h 3 (by decide)); iexact H3
theorem back_t (f g : Vec F S2x512x2048 .f32) : iprop(tAt c 0 f ∗ tAt c 1 g) ⊢ any c cc0_scratch11 := by
  iintro ⟨H0, H1⟩
  unfold any own
  iexists (fun i : S2x512x2048.Idx => if (i 0).val = 0 then f i else g i)
  iapply (Entails.of_eq ((cutT c (fun i : S2x512x2048.Idx => if (i 0).val = 0 then f i else g i)).trans (two _)).symm)
  have h0 : tAt c 0 f ⊢ tAt c 0 (fun i : S2x512x2048.Idx => if (i 0).val = 0 then f i else g i) :=
    Entails.of_eq (pointsTo_congr fun i hi => (if_pos ((mem_tR 0 i).mp hi)).symm)
  have h1 : tAt c 1 g ⊢ tAt c 1 (fun i : S2x512x2048.Idx => if (i 0).val = 0 then f i else g i) :=
    Entails.of_eq (pointsTo_congr fun i hi => (if_neg fun h => absurd (((mem_tR 1 i).mp hi).symm.trans h) (by decide)).symm)
  isplitl [H0]; · iapply h0; iexact H0
  iapply h1; iexact H1

theorem wRole_os : ∀ i : Fin 24, wRole (Fin.natAdd 6 i) = .os i := by decide +kernel
theorem back_pay : upto (fun v => pay m c (wRole v) 0) 30
    ⊢ iprop((wAt c 0 (qs 1) (wgV m c) ∗ wAt c 0 (qs 2) (wgV m c) ∗ wAt c 0 (qs 3) (wgV m c)) ∗ (cAt c 0 (qs 1) (cgV m c) ∗ cAt c 0 (qs 2) (cgV m c) ∗ cAt c 0 (qs 3) (cgV m c))
      ∗ bigSep Finset.univ fun i : Fin 24 => oAt c (oTile i) (qs (oPlace i)) (ooV m c)) := by
  rw [upto_all, split30, six]
  have e : ∀ i : Fin 24, (pay m c (wRole (Fin.natAdd 6 i)) 0 : sProp 𝕄) = oAt c (oTile i) (qs (oPlace i)) (ooV m c) := fun i => by rw [wRole_os]; rfl
  rw [bigSep_congr fun i _ => e i]
  show iprop((wAt c 0 (qs 1) (wgV m c) ∗ wAt c 0 (qs 2) (wgV m c) ∗ wAt c 0 (qs 3) (wgV m c) ∗ cAt c 0 (qs 1) (cgV m c) ∗ cAt c 0 (qs 2) (cgV m c) ∗ cAt c 0 (qs 3) (cgV m c)) ∗ _) ⊢ _
  iintro ⟨⟨A, B, C, D, E, G⟩, H⟩
  isplitl [A B C]
  · isplitl [A]; · iexact A
    isplitl [B]; · iexact B
    iexact C
  isplitl [D E G]
  · isplitl [D]; · iexact D
    isplitl [E]; · iexact E
    iexact G
  iexact H

/-- The result: its left half and its right half. -/
def outV : Vec F S2x512x2048 .f32 := fun i =>
  if h : (i 2).val < 1024 then lo3 m c (at3 (i 0) (i 1) ⟨(i 2).val, h⟩)
  else hi3 m c (at3 (i 0) (i 1) ⟨(i 2).val - 1024, by have h2 := (i 2).isLt; change _ < 2048 at h2; omega⟩)

theorem back_out : outS c (fun x y => x = lo3 m c ∧ y = hi3 m c) ⊢ own c cc0_stg4_0 fullShare (outV m c) := by
  unfold outS Sm own
  iintro ⟨%f, %hf, H⟩
  have e : f = outV m c := by
    funext i
    have h2 := (i 2).isLt
    change (i 2).val < 2048 at h2
    unfold outV
    split
    · next h =>
      rw [← hf.1]
      refine congrArg f (funext fun a => ?_)
      match a with
      | 0 => rfl
      | 1 => rfl
      | 2 => rfl
    · next h =>
      rw [← hf.2]
      refine congrArg f (funext fun a => ?_)
      match a with
      | 0 => rfl
      | 1 => rfl
      | 2 => exact Fin.ext (show (i 2).val = 1024 + ((i 2).val - 1024) by omega)
  subst e
  iexact H

theorem back_sems : iprop(semVal (cell c .bar) 0 ∗ bigSep Finset.univ (fun u => semVal (cell c (rRole u)) 0) ∗ upto (fun v => semVal (cell c (wRole v)) 0) 30
      ∗ Lz c 0 ∗ Lz c 1 ∗ Lz c 2 ∗ Lz c 3)
    ⊢ iprop(own0 (F := F) c ∗ unscopedSems0 c) := by
  refine BIBase.Entails.trans ?_ (sems0_eq (F := F) c).2
  have e : (bigSep Finset.univ fun i : Fin 61 => (semVal (cell c (rk i)) 0 : sProp 𝕄))
      = iprop(semVal (cell c .bar) 0 ∗ (bigSep Finset.univ fun n => semVal (cell c (wRole n)) 0) ∗ bigSep Finset.univ fun n => semVal (cell c (rRole n)) 0) :=
    roles_w fun k => semVal (cell c k) 0
  rw [e, upto_all]
  iintro ⟨B, R, W, L⟩
  isplitl [B R W]
  · isplitl [B]; · iexact B
    isplitl [W]; · iexact W
    iexact R
  iexact L

set_option maxHeartbeats 1000000 in
theorem body_leave : iprop(bodyEnd m c ∗ ∃ f, gSAt c 0 f)
    ⊢ iprop((own0 (F := F) c ∗ unscopedSems0 c) ∗ scratch c ∗ (∃ W, owes (c : Thread nD τ) 0 W) ∗ staged m c ∗ own c cc0_stg4_0 fullShare (outV m c)) := by
  unfold bodyEnd Pr2 att staged scratch
  iintro ⟨⟨B2, X2, B1, X0, L3, B0, B3, X6, L2, X4, ⟨X8, X5, X7, C, W⟩, O, G1, G2, T0, L0, G3, T1, L1, U, HO, SB, SR, -, SW, HP⟩, G0⟩
  icases (back_pay m c) $$ HP with ⟨⟨W1, W2, W3⟩, ⟨C1, C2, C3⟩, OQ⟩
  isplitl [SB SR SW L0 L1 L2 L3]
  · iapply (back_sems (F := F) c)
    isplitl [SB]; · iexact SB
    isplitl [SR]; · iexact SR
    isplitl [SW]; · iexact SW
    isplitl [L0]; · iexact L0
    isplitl [L1]; · iexact L1
    isplitl [L2]; · iexact L2
    iexact L3
  isplitr [HO B0 B1 B2 B3 U]
  · isplitl [X0]; · iexists _; iexact X0
    isplitl [C C1 C2 C3]
    · iapply (back_c m c); isplitl [C]; · iexact C
      isplitl [C1]; · iexact C1
      isplitl [C2]; · iexact C2
      iexact C3
    isplitl [X2]; · iexists _; iexact X2
    isplitl [W W1 W2 W3]
    · iapply (back_w m c); isplitl [W]; · iexact W
      isplitl [W1]; · iexact W1
      isplitl [W2]; · iexact W2
      iexact W3
    isplitl [X4]; · iexists _; iexact X4
    isplitl [X5]; · iexists _; iexact X5
    isplitl [X6]; · iexists _; iexact X6
    isplitl [X7]; · iexists _; iexact X7
    isplitl [X8]; · iexists _; iexact X8
    isplitl [O OQ]
    · iapply (back_o m c); isplitl [O]; · iexact O
      iexact OQ
    isplitl [G0 G1 G2 G3]
    · iapply (back_g m c); isplitl [G0]; · iexact G0
      isplitl [G1]; · iexact G1
      isplitl [G2]; · iexact G2
      iexact G3
    iapply (back_t c (tV m c 2) (tV m c 3)); isplitl [T0]; · iexact T0
    iexact T1
  isplitl [HO]; · iexact HO
  isplitl [B0 B1 B2 B3]
  · isplitl [B0]; · iexact B0
    isplitl [B1]; · iexact B1
    isplitl [B2]; · iexact B2
    iexact B3
  iapply (back_out m c); iexact U

end Cert.Mla

end
-- ==== Proof.Run.lean ====
/-
The run of the program on all devices: it ends, the arguments are unchanged, the semaphores are zero, and each device's
result is `outV`.
-/
module

public import proofs.«01_k».proof.Proof.Start
public import proofs.«01_k».proof.Proof.Gen.KernelIdeal.Points
public import Idealize.ShloMosaic.Lib.Pipeline.CollectiveSegs
public import Idealize.ShloMosaic.Lib.Pipeline.Value

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

/-- What a device holds when the body starts, and when it has ended. -/
def Φ₀ (c : Dev nD) : sProp 𝕄 := iprop((∃ K, env m K ∗ linear c) ∗ credits c ∗ rights m c ∗ scratch c)
def Φ₁ (c : Dev nD) : sProp 𝕄 := iprop((own0 (F := F) c ∗ unscopedSems0 c) ∗ scratch c)

def dats (_ : Fin 1) (c : Dev nD) : Dat τ (Elt F) Unit ℕ UU ℕ cfg0 c where
  A w := m ((cfg0.win w).arr.view.loc (c : Thread nD τ))
  after w _ := match w with
    | ⟨0, _⟩ => wdkvV m c
    | ⟨1, _⟩ => wukV m c
    | ⟨2, _⟩ => wuvV m c
    | ⟨3, _⟩ => wkrV m c
    | ⟨4, _⟩ => outV m c
  Φ t := match t with
    | ⟨0, _⟩ => Φ₀ m c
    | ⟨_ + 1, _⟩ => Φ₁ c
  q _ := fullShare
  owed t := match t with
    | ⟨0, _⟩ => owe c 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ own c b fullShare f) := by
  unfold owns own; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ own c b fullShare f)

theorem before_0 (c : Dev nD) (d) : (dats m 0 c).before (0 : Fin 5) t0_0 d = wdkvV m c := by
  unfold Dat.before; rw [if_pos (fetch0_0 t0_0)]
  funext y
  exact congrArg (m ((c : Thread nD τ).loc main_arg1)) (funext fun a => Fin.ext (by
    match a with
    | 0 => show 0 * _ + 1 * (y 0).val = _; omega
    | 1 => show 0 * _ + 1 * (y 1).val = _; omega))
theorem before_1 (c : Dev nD) (d) : (dats m 0 c).before (1 : Fin 5) t0_0 d = wukV m c := by
  unfold Dat.before; rw [if_pos (fetch0_1 t0_0)]
  funext y
  exact congrArg (m ((c : Thread nD τ).loc main_arg2)) (funext fun a => Fin.ext (by
    match a with
    | 0 => show 0 * _ + 1 * (y 0).val = _; omega
    | 1 => show 0 * _ + 1 * (y 1).val = _; omega))
theorem before_2 (c : Dev nD) (d) : (dats m 0 c).before (2 : Fin 5) t0_0 d = wuvV m c := by
  unfold Dat.before; rw [if_pos (fetch0_2 t0_0)]
  funext y
  exact congrArg (m ((c : Thread nD τ).loc main_arg3)) (funext fun a => Fin.ext (by
    match a with
    | 0 => show 0 * _ + 1 * (y 0).val = _; omega
    | 1 => show 0 * _ + 1 * (y 1).val = _; omega))
theorem before_3 (c : Dev nD) (d) : (dats m 0 c).before (3 : Fin 5) t0_0 d = wkrV m c := by
  unfold Dat.before; rw [if_pos (fetch0_3 t0_0)]
  funext y
  exact congrArg (m ((c : Thread nD τ).loc main_arg6)) (funext fun a => Fin.ext (by
    match a with
    | 0 => show 0 * _ + 1 * (y 0).val = _; omega
    | 1 => show 0 * _ + 1 * (y 1).val = _; omega))

/-! ## The body -/

def bodyPre' (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))
def bodyPost (c : Dev nD) : sProp 𝕄 :=
  iprop(Φ₁ c ∗ (dats m 0 c).owesAt () t0_0.succ
    ∗ stg c cc0_stg0_0 (wdkvV m c) ∗ stg c cc0_stg1_0 (wukV m c) ∗ stg c cc0_stg2_0 (wuvV m c) ∗ stg c cc0_stg3_0 (wkrV m c)
    ∗ stg c cc0_stg4_0 (outV m c))

theorem stg_intro (c : Dev nD) (b : Ref sig .tc) (X : b.ty.Contents (Elt F)) : own c b fullShare X ⊢ stg c b X := by
  iintro H
  iexists X
  isplitr; · ipureintro; rfl
  iexact H

theorem owes_in (c : Dev nD) : (dats m 0 c).owesAt () t0_0.castSucc ⊢ iprop(∃ W, owes (c : Thread nD τ) (owe c 0) W) := by
  unfold Dat.owesAt Pipeline.owesWithin
  rw [show (dats m 0 c).owed t0_0.castSucc = owe c 0 from rfl]
  iintro ⟨%W, %hW, HO⟩
  iexists W; iexact HO
theorem owes_out (c : Dev nD) : iprop(∃ W, owes (c : Thread nD τ) 0 W) ⊢ (dats m 0 c).owesAt () t0_0.succ := by
  unfold Dat.owesAt Pipeline.owesWithin
  rw [show (dats m 0 c).owed t0_0.succ = 0 from rfl]
  iintro ⟨%W, HO⟩
  iexists W
  isplitr; · ipureintro; exact fun _ _ => Or.inl trivial
  iexact HO

theorem body_pre (c : Dev nD) : bodyPre' m c ⊢ iprop((∃ K, env m K ∗ bodyStart m c) ∗ ∃ f, gSAt c 0 f) := by
  unfold bodyPre' Φ₀
  iintro ⟨⟨⟨%K, #HE, HL⟩, HC, HR, HX⟩, HO, ⟨%d0, %f0, %e0, B0⟩, ⟨%d1, %f1, %e1, B1⟩, ⟨%d2, %f2, %e2, B2⟩, ⟨%d3, %f3, %e3, B3⟩, ⟨%d4, %f4, -, B4⟩⟩
  rw [before_0] at e0
  rw [before_1] at e1
  rw [before_2] at e2
  rw [before_3] at e3
  subst e0; subst e1; subst e2; subst e3
  ihave H := (body_enter m c) $$ [HL HC HR HX HO B0 B1 B2 B3 B4]
  · isplitl [HL]; · iexact HL
    isplitl [HC]; · iexact HC
    isplitl [HO]; · iapply (owes_in m c); iexact HO
    isplitl [HR]; · iexact HR
    isplitl [HX]; · iexact HX
    isplitl [B0 B1 B2 B3]
    · unfold staged
      isplitl [B0]; · iexact B0
      isplitl [B1]; · iexact B1
      isplitl [B2]; · iexact B2
      iexact B3
    iexists f4; iexact B4
  icases H with ⟨H, G0⟩
  isplitl [H]
  · iexists K
    isplitr; · iexact HE
    iexact H
  iexact G0

theorem body_post (c : Dev nD) : iprop(bodyEnd m c ∗ ∃ f, gSAt c 0 f) ⊢ bodyPost m c := by
  unfold bodyPost Φ₁
  iintro H
  icases (body_leave m c) $$ H with ⟨HS, HX, HO, HB, HU⟩
  unfold staged
  icases HB with ⟨B0, B1, B2, B3⟩
  isplitl [HS HX]
  · isplitl [HS]; · iexact HS
    iexact HX
  isplitl [HO]; · iapply (owes_out m c); iexact HO
  isplitl [B0]; · iapply (stg_intro c cc0_stg0_0 (wdkvV m c)); iexact B0
  isplitl [B1]; · iapply (stg_intro c cc0_stg1_0 (wukV m c)); iexact B1
  isplitl [B2]; · iapply (stg_intro c cc0_stg2_0 (wuvV m c)); iexact B2
  isplitl [B3]; · iapply (stg_intro c cc0_stg3_0 (wkrV m c)); iexact B3
  iapply (stg_intro c cc0_stg4_0 (outV m c)); iexact HU

theorem body_whole (c : Dev nD) : bodyPre' m c ⊢ go c ((ap (cc0__body (F := F)) :)) (fun _ => bodyPost m c) := by
  iintro H
  icases (body_pre m c) $$ H with ⟨⟨%K, #HE, H⟩, G0⟩
  iapply (body_runs m K c) $$ [H]
  · isplitr; · iexact HE
    iexact H
  iintro H
  iapply (body_post m c)
  isplitl [H]; · iexact H
  iexact G0

set_option maxRecDepth 100000 in
theorem body_obligation (c : Dev nD) : BodyObligation (dats m 0 c) (defs₀ (F := F)) 𝒱₀ () Set.univ := fun t => by
  rw [fin_N0 t]
  rw [bigSep_W0, bigSep_W0]
  simp only [owns_whole_eq]
  exact body_whole m c

/-! ## The launch -/

theorem share_eq (c : Dev nD) (w : Fin cfg0.W) : (dats m 0 c).share w = fullShare := by unfold Dat.share; split <;> rfl

def u₀ : UU :=
  ((initOf (Pipeline.cells cfgs cellOf_inj) (Pipeline.launchToks cfgs cellOf_inj), initOf allCells allToks), 1)

theorem u_split : (ownU u₀ : sProp 𝕄) ⊢ iprop(BI.own (EP (initOf (Pipeline.cells cfgs cellOf_inj) (Pipeline.launchToks cfgs cellOf_inj)))
    ∗ BI.own (ER (initOf allCells allToks))) := by
  unfold u₀ EP ER
  iintro Hu
  icases (ownU_pair _ _) $$ Hu with ⟨H, -⟩
  iapply (own_pair_emb embL _ _) $$ H

theorem u_deal : (ownU u₀ : sProp 𝕄) ⊢ |={Set.univ}=> iprop(BI.own (EP (initOf (Pipeline.cells cfgs cellOf_inj) (Pipeline.launchToks cfgs cellOf_inj)))
    ∗ bigSep Finset.univ (G m)) := by
  iintro Hu
  icases u_split $$ Hu with ⟨HP, HX⟩
  imod (fund_all m) $$ HX with HG
  imodintro
  isplitl [HP] <;> iassumption

/-- What the region is entered with. -/
def start (c : Dev nD) : sProp 𝕄 := iprop((∃ K, env m K ∗ linear c) ∗ credits c ∗ rights m c)

theorem halves (c : Dev nD) (b : Ref sig .tc) (f : Buf (Elt F) ((c : Thread nD τ).loc b)) :
    own c b fullShare f ⊢ iprop(own c b fullShare.left f ∗ own c b fullShare.right f) :=
  (pointsTo_share (Ix := Unit) (Name := ℕ) (U := UU) (Lvl := ℕ) (ℓ := (c : Thread nD τ).loc b) (I := Finset.univ) (f := f)
    (PosShare.mem_left_op_right (fullShare : PosShare TreeShare))).1

theorem rest_in (c : Dev nD) : (Pipeline.unscopedRestP (Ix := Unit) (Name := ℕ) (U := UU) (Lvl := ℕ) Pipeline.Prefetch.none cfg0.spec c (fun b => m ((c : Thread nD τ).loc b)) : sProp 𝕄)
    ⊢ iprop(rights m c ∗ lefts m c) := by
  rw [Pipeline.unscopedRestP_none, unscopedRest0_eq]
  unfold rights lefts
  iintro ⟨A0, A4, A5, A7⟩
  icases (halves (F := F) c main_arg0 _) $$ A0 with ⟨L0, R0⟩
  icases (halves (F := F) c main_arg4 _) $$ A4 with ⟨L4, R4⟩
  icases (halves (F := F) c main_arg5 _) $$ A5 with ⟨L5, R5⟩
  icases (halves (F := F) c main_arg7 _) $$ A7 with ⟨L7, R7⟩
  isplitl [R0 R4 R5 R7]
  · isplitl [R0]; · iexact R0
    isplitl [R4]; · iexact R4
    isplitl [R5]; · iexact R5
    iexact R7
  isplitl [L0]; · iexact L0
  isplitl [L4]; · iexact L4
  isplitl [L5]; · iexact L5
  iexact L7

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ lefts m c) := by
  unfold G' start
  iintro ⟨HR, #HL, HC, -, ⟨%K, #HK, HG⟩⟩
  icases (rest_in m c) $$ HR with ⟨HR, HZ⟩
  ihave HC := (creds (F := F) c) $$ HC
  imodintro
  isplitr [HZ]
  · isplitl [HG]
    · iexists K
      unfold env
      isplitr
      · isplitr; · iexact HK
        iexact HL
      iexact HG
    isplitl [HC]; · unfold credits; iexact HC
    iexact HR
  iexact HZ

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀ start
  iintro ⟨⟨HE, HC, HR⟩, -, HX⟩
  isplitl [HE]; · iexact HE
  isplitl [HC]; · iexact HC
  isplitl [HR]; · iexact HR
  iexact HX

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_eq]
  unfold Φ₁
  iintro ⟨⟨HO, HU⟩, HX⟩
  isplitl [HU]; · iexact HU
  isplitl [HO]; · iexact HO
  iexact HX

theorem stage_lv : ∀ (w : Fin cfg0.W) (s : Fin (cfg0.win w).nbuf), roleLv (roleOf (.dma ((cfg0.win w).sem s))) = 0 := by decide +kernel

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_dma0 c _ (stage_lv w s) 0
    · exact mayWait_dma0 c _ (stage_lv w s) 36

/-! ## The run -/

/-- What is read off a final state beside the staged arrays: the other arguments, and the barrier's semaphore. -/
def QY (c : Dev nD) (s : MemSt nD τ sig (Elt F)) : Prop :=
  (s.mem ((c : Thread nD τ).loc main_arg0) = xV m c ∧ s.mem ((c : Thread nD τ).loc main_arg4) = wqV m c
    ∧ s.mem ((c : Thread nD τ).loc main_arg5) = wqrV m c ∧ s.mem ((c : Thread nD τ).loc main_arg7) = woV m c)
  ∧ ∀ sm : SemLoc sig, sm.isScoped .tc = false → s.sem ((c.tc : Thread nD τ), sm) = 0

theorem read_left (c : Dev nD) (b : Ref sig .tc) (f : Buf (Elt F) ((c : Thread nD τ).loc b)) (s : Phys nD τ sig (Elt F)) :
    iprop(SI s ∗ own c b fullShare.left f) ⊢ (⌜s.mem.mem ((c : Thread nD τ).loc b) = f⌝ : sProp 𝕄) :=
  BIBase.Entails.trans SI_pointsTo_agree (BI.pure_mono fun h => funext fun i => h i (Finset.mem_univ i))

theorem reads (c : Dev nD) (s' : Phys nD τ sig (Elt F)) :
    iprop(unscopedSems0 c ∗ lefts m c ∗ SI s') ⊢ (|={Set.univ}=> iprop(⌜QY m c s'.mem⌝ ∗ SI s') : sProp 𝕄) := by
  unfold lefts
  iintro ⟨HU, ⟨A0, A4, A5, A7⟩, HSI⟩
  ihave %h0 := (read_left c main_arg0 (xV m c) s') $$ [HSI A0]
  · isplitl [HSI] <;> iassumption
  ihave %h4 := (read_left c main_arg4 (wqV m c) s') $$ [HSI A4]
  · isplitl [HSI] <;> iassumption
  ihave %h5 := (read_left c main_arg5 (wqrV m c) s') $$ [HSI A5]
  · isplitl [HSI] <;> iassumption
  ihave %h7 := (read_left c main_arg7 (woV m c) s') $$ [HSI A7]
  · isplitl [HSI] <;> iassumption
  imod (Pipeline.unscopedSems0_read (X := unscopedSems0 c) (c := c) fupd_intro s') $$ [HU HSI] with ⟨%hs, HSI⟩
  · isplitl [HU] <;> iassumption
  imodintro
  isplitr; · ipureintro; exact ⟨⟨h0, h4, h5, h7⟩, hs⟩
  iexact HSI

/-- A final state: each staged array at what the region leaves, the other arguments as they were. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

set_option maxRecDepth 100000 in
set_option maxHeartbeats 2000000 in
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := u_deal m)
    (hglob := glob m)
    (hA := fun _ _ => rfl) (hpf := fun _ k => k.elim0)
    (X := start m) (Y := fun c => unscopedSems0 c) (Z := lefts m)
    (hX := start_intro m ρ) (hin := phi0_intro m) (hout := phi1_exit m)
    (QY := QY m) (hY := reads m)
    (hQ := fun _ h hs => ⟨fun c => ⟨(h c).1, (h c).2.2⟩, sem_eq_zero hs fun c => (h c).2.2.2⟩)

/-- A device's arguments are as they were and its result is `outV`. -/
def Good (r : PUnit × MemSt nD τ sig (Elt F)) (c : Dev nD) : Prop :=
  (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
  ∧ r.2.mem ((c.tc : Thread nD τ).loc main_v1) = outV m c

theorem out_eq (c : Dev nD) : (dats m 0 c).arrAt 4 cfg0.N = outV m c := by
  refine (dats m 0 c).arrAt_eq_of_cover 4 (outV m c) (fun t _ => ?_) (fun i => ⟨t0_0, flush0_4 _, ?_⟩)
  · rw [fin_N0 t]
    funext y
    exact congrArg (outV m c) (funext fun a => Fin.ext (by
      match a with
      | 0 => show (y 0).val = 0 * _ + 1 * (y 0).val; omega
      | 1 => show (y 1).val = 0 * _ + 1 * (y 1).val; omega
      | 2 => show (y 2).val = 0 * _ + 1 * (y 2).val; omega))
  · show i ∈ ((View.whole main_v1).slice ((cfg0.win 4).rect t0_0)).set
    rw [View.set_slice_whole, Rect.mem_set_unit]
    intro a
    match a with
    | ⟨0, _⟩ => have h : (i 0).val < 2 := (i 0).isLt
                show 0 * 2 ≤ (i 0).val ∧ (i 0).val < 0 * 2 + 2; omega
    | ⟨1, _⟩ => have h : (i 1).val < 512 := (i 1).isLt
                show 0 * 512 ≤ (i 1).val ∧ (i 1).val < 0 * 512 + 512; omega
    | ⟨2, _⟩ => have h : (i 2).val < 2048 := (i 2).isLt
                show 0 * 2048 ≤ (i 2).val ∧ (i 2).val < 0 * 2048 + 2048; omega

theorem run_good : θ_run defs (onTc (τ := τ) (main (F := F))) ⟨m, fun _ => 0, ρ⟩ (fun r => (∀ c, Good m r c) ∧ r.2.sem = fun _ => 0) :=
  (θ_run defs _ _).mono (fun r h => ⟨fun c => ⟨⟨(h.1 c).2.1.1, ((h.1 c).1 0).trans ((dats m 0 c).arrAt_in 0 rfl _), ((h.1 c).1 1).trans ((dats m 0 c).arrAt_in 1 rfl _),
    ((h.1 c).1 2).trans ((dats m 0 c).arrAt_in 2 rfl _), (h.1 c).2.1.2.1, (h.1 c).2.1.2.2.1, ((h.1 c).1 3).trans ((dats m 0 c).arrAt_in 3 rfl _), (h.1 c).2.1.2.2.2⟩,
    ((h.1 c).1 4).trans (out_eq m c)⟩, h.2⟩) (run_main m ρ)

end Cert.Mla

end
-- ==== Proof.Frames.lean ====
/-
The two programs `Kernel` and `KernelIdeal` are the same text, so a run of one is a run of the other: both frames follow
from the one run.
-/
module

public import proofs.«01_k».proof.Proof.Run
public import proofs.«01_k».proof.Proof.Gen.Kernel

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem defs₀_same : (Cert.Kernel.defs₀ (F := F)) = Cert.KernelIdeal.defs₀ := by
  unfold Cert.Kernel.defs₀ Cert.KernelIdeal.defs₀
  refine congrArg Defs.onTc (funext fun l => funext fun a => ?_)
  match l, a with
  | 0, (t, s) => with_unfolding_all rfl

theorem defs_same : (Cert.Kernel.defs (F := F)) = Cert.KernelIdeal.defs := by
  unfold Cert.Kernel.defs Cert.KernelIdeal.defs
  exact congrArg (Pipeline.defs (Cert.KernelIdeal.pcfgs (F := F))) (defs₀_same (F := F))

theorem main_same : (Cert.Kernel.main (F := F)) = Cert.KernelIdeal.main := by with_unfolding_all rfl

variable (m : (ℓ : Loc nD τ sig) → Buf (Elt F) ℓ) (ρ : Dev nD → PrngReg)

theorem run_kernel : θ_run (Cert.Kernel.defs (F := F)) (onTc (τ := τ) (Cert.Kernel.main (F := F))) ⟨m, fun _ => 0, ρ⟩
    (fun r => (∀ c, Good m r c) ∧ r.2.sem = fun _ => 0) := by
  rw [defs_same, main_same]
  exact run_good m ρ

end Cert.Mla

end
-- ==== Proof.Payloads.lean ====
/-
The payloads of the kernel read at an index over the extended reals: products of matrices as sums, a row of scores
as its exponentials, a head's output as a quotient of sums.
-/
module

public import proofs.«01_k».proof.Proof.Base
public import proofs.«01_k».proof.Proof.Bundles
public import proofs.«01_k».proof.Proof.Start
public import Idealize.ShloMosaic.Lib.Pointwise

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem at2_ix {a b : ℕ} (i : Fin a) (j : Fin b) : (at2 i j : (⟨2, ![a, b]⟩ : Shape).Idx) = ix2 i j := by
  funext k; match k with | 0 => rfl | 1 => rfl
theorem at3_ix {a b d : ℕ} (i : Fin a) (j : Fin b) (k : Fin d) : (at3 i j k : (⟨3, ![a, b, d]⟩ : Shape).Idx) = ix3 i j k := by
  funext l; match l with | 0 => rfl | 1 => rfl | 2 => rfl

theorem pay1_at (v : Vec Ideal S128x128 .f32) (j : S128x128.Idx) : k0_pay1 v j = v j := by
  unfold k0_pay1
  pointwise

theorem pay36_at (v : Vec Ideal S2x512x2048 .f32) (r : Fin 1024) (k : Fin 2048) :
    k0_pay36 v (ix2 r k) = v (ix3 ⟨r.val / 512, by omega⟩ ⟨r.val % 512, by omega⟩ k) := by
  unfold k0_pay36
  pointwise

theorem pay37_at (v : Vec Ideal S2x512x2048 .f32) (w : Vec Ideal S2048x128 .f32) (r : Fin 1024) (j : Fin 128) :
    k0_pay37 v w (ix3 0 r j) = ∑ k : Fin 2048, v (ix3 ⟨r.val / 512, by omega⟩ ⟨r.val % 512, by omega⟩ k) * w (ix2 k j) := by
  unfold k0_pay37
  pointwise
  simp only [pay36_at]

theorem pay38_at (v : FVec Ideal S1024x2048 .bf16) (w : Vec Ideal S2048x32 .f32) (r : Fin 1024) (j : Fin 32) :
    k0_pay38 v w (ix2 r j) = ∑ k : Fin 2048, v (ix2 r k) * w (ix2 k j) := by
  unfold k0_pay38
  pointwise

theorem pay39_at (v : FVec Ideal S1024x2048 .bf16) (w : Vec Ideal S2048x128 .f32) (r : Fin 1024) (j : Fin 128) :
    k0_pay39 v w (ix2 r j) = ∑ k : Fin 2048, v (ix2 r k) * w (ix2 k j) := by
  unfold k0_pay39
  pointwise

theorem pay40_at (v : FVec Ideal S1024x2048 .bf16) (w : Vec Ideal S2048x512 .f32) (r : Fin 1024) (j : Fin 512) :
    k0_pay40 v w (ix2 r j) = ∑ k : Fin 2048, v (ix2 r k) * w (ix2 k j) := by
  unfold k0_pay40
  pointwise

theorem pay41_at (c0 : Vec Ideal S1x512x128 .bf16) (w0 : Vec Ideal S1x128x256 .bf16) (s : Fin 512) (e : Fin 256) :
    k0_pay41 c0 w0 (ix2 s e) = ∑ k : Fin 128, c0 (ix3 0 s k) * w0 (ix3 0 k e) := by
  unfold k0_pay41
  pointwise

theorem pay42_at (v : FVec Ideal S512x256 .f32) (c1 : Vec Ideal S1x512x128 .bf16) (w1 : Vec Ideal S1x128x256 .bf16)
    (c2 : Vec Ideal S1x512x128 .bf16) (w2 : Vec Ideal S1x128x256 .bf16) (c3 : Vec Ideal S1x512x128 .bf16)
    (w3 : Vec Ideal S1x128x256 .bf16) (s : Fin 512) (e : Fin 256) :
    k0_pay42 v c1 w1 c2 w2 c3 w3 (ix2 s e) = v (ix2 s e) + ∑ k : Fin 128, c1 (ix3 0 s k) * w1 (ix3 0 k e)
      + ∑ k : Fin 128, c2 (ix3 0 s k) * w2 (ix3 0 k e) + ∑ k : Fin 128, c3 (ix3 0 s k) * w3 (ix3 0 k e) := by
  unfold k0_pay42
  pointwise

theorem pay43_at (v : FVec Ideal S512x256 .f32) (c1 : Vec Ideal S1x512x128 .bf16) (w1 : Vec Ideal S1x128x256 .bf16)
    (c2 : Vec Ideal S1x512x128 .bf16) (w2 : Vec Ideal S1x128x256 .bf16) (c3 : Vec Ideal S1x512x128 .bf16)
    (w3 : Vec Ideal S1x128x256 .bf16) (s : Fin 512) (e : Fin 128) :
    k0_pay43 v c1 w1 c2 w2 c3 w3 (ix2 s e) = k0_pay42 v c1 w1 c2 w2 c3 w3 (ix2 s ⟨128 + e.val, by omega⟩) := by
  unfold k0_pay43
  pointwise

/-- A row of scores: the products of the two queries with the two keys, scaled. -/
def scoreK (kr : FVec Ideal S512x32 .bf16) (kv : FVec Ideal S512x256 .f32) (q : FVec Ideal S512x128 .bf16)
    (qr : FVec Ideal S512x32 .bf16) (s t : Fin 512) : EReal :=
  (∑ d : Fin 128, q (ix2 s d) * kv (ix2 t ⟨d.val, by omega⟩) + ∑ d : Fin 32, qr (ix2 s d) * kr (ix2 t d))
    * Ideal.ofBits .f32 0x3DA1E89B#32

theorem pay44_at (kr : FVec Ideal S512x32 .bf16) (v : FVec Ideal S512x256 .f32) (c1 : Vec Ideal S1x512x128 .bf16) (w1 : Vec Ideal S1x128x256 .bf16)
    (c2 : Vec Ideal S1x512x128 .bf16) (w2 : Vec Ideal S1x128x256 .bf16) (c3 : Vec Ideal S1x512x128 .bf16)
    (w3 : Vec Ideal S1x128x256 .bf16) (q : FVec Ideal S512x128 .bf16) (qr : FVec Ideal S512x32 .bf16) (s t : Fin 512) :
    k0_pay44 kr v c1 w1 c2 w2 c3 w3 q qr (ix2 s t)
      = Ideal.exp (scoreK kr (k0_pay42 v c1 w1 c2 w2 c3 w3) q qr s t
        - Finset.univ.fold max (Ideal.ofBits .f32 0xFF800000#32) (fun u => scoreK kr (k0_pay42 v c1 w1 c2 w2 c3 w3) q qr s u)) := by
  unfold k0_pay44 scoreK
  pointwise

theorem pay45_at (kr : FVec Ideal S512x32 .bf16) (v : FVec Ideal S512x256 .f32) (c1 : Vec Ideal S1x512x128 .bf16) (w1 : Vec Ideal S1x128x256 .bf16)
    (c2 : Vec Ideal S1x512x128 .bf16) (w2 : Vec Ideal S1x128x256 .bf16) (c3 : Vec Ideal S1x512x128 .bf16)
    (w3 : Vec Ideal S1x128x256 .bf16) (q : FVec Ideal S512x128 .bf16) (qr : FVec Ideal S512x32 .bf16) (s : Fin 512) :
    k0_pay45 kr v c1 w1 c2 w2 c3 w3 q qr (ix1 s) = ∑ t : Fin 512, k0_pay44 kr v c1 w1 c2 w2 c3 w3 q qr (ix2 s t) := by
  unfold k0_pay45
  pointwise

theorem pay46_at (v : FVec Ideal S512x128 .f32) (p : FVec Ideal S512x512 .f32) (den : FVec Ideal S512 .f32) (s : Fin 512) (d : Fin 128) :
    k0_pay46 v p den (ix2 s d) = Ideal.div (∑ t : Fin 512, p (ix2 s t) * v (ix2 t d)) (den (ix1 s)) := by
  unfold k0_pay46
  pointwise

theorem pay80_at (o : FVec Ideal S1024x512 .bf16) (w : Vec Ideal S1x512x2048 .f32) (b : Fin 2) (s : Fin 512) (n : Fin 1024) :
    k0_pay80 o w (ix3 b s n) = ∑ k : Fin 512, o (ix2 ⟨b.val * 512 + s.val, by omega⟩ k) * w (ix3 0 k ⟨n.val, by omega⟩) := by
  unfold k0_pay80 k0_pay79
  pointwise

theorem pay81_at (o : FVec Ideal S1024x512 .bf16) (w : Vec Ideal S1x512x2048 .f32) (b : Fin 2) (s : Fin 512) (n : Fin 1024) :
    k0_pay81 o w (ix3 b s n) = ∑ k : Fin 512, o (ix2 ⟨b.val * 512 + s.val, by omega⟩ k) * w (ix3 0 k ⟨1024 + n.val, by omega⟩) := by
  unfold k0_pay81 k0_pay79
  pointwise

theorem pay84_at (o : FVec Ideal S1x1024x512 .bf16) (w : Vec Ideal S1x512x2048 .f32) (a : Vec Ideal S2x512x1024 .f32) (b : Fin 2) (s : Fin 512) (n : Fin 1024) :
    k0_pay84 o w a (ix3 b s n) = a (ix3 b s n) + ∑ k : Fin 512, o (ix3 0 ⟨b.val * 512 + s.val, by omega⟩ k) * w (ix3 0 k ⟨n.val, by omega⟩) := by
  unfold k0_pay84 k0_pay82 k0_pay83
  pointwise

theorem pay85_at (o : FVec Ideal S1x1024x512 .bf16) (w : Vec Ideal S1x512x2048 .f32) (a : Vec Ideal S2x512x1024 .f32) (b : Fin 2) (s : Fin 512) (n : Fin 1024) :
    k0_pay85 o w a (ix3 b s n) = a (ix3 b s n) + ∑ k : Fin 512, o (ix3 0 ⟨b.val * 512 + s.val, by omega⟩ k) * w (ix3 0 k ⟨1024 + n.val, by omega⟩) := by
  unfold k0_pay85 k0_pay82 k0_pay83
  pointwise

theorem pay88_eq : @k0_pay88 Ideal _ = k0_pay84 := rfl
theorem pay89_eq : @k0_pay89 Ideal _ = k0_pay85 := rfl
theorem pay92_eq : @k0_pay92 Ideal _ = k0_pay84 := rfl
theorem pay93_eq : @k0_pay93 Ideal _ = k0_pay85 := rfl

end Cert.Mla

end
-- ==== Proof.Reference.lean ====
/-
The reference's result over the extended reals, read at an index: the projections as sums, a row of scores, its
softmax, the heads' outputs and the last projection. The same sums are what the kernel computes in blocks.
-/
module

public import proofs.«01_k».proof.Proof.Gen.ReferenceIdeal.Run
public import Idealize.ShloMosaic.Lib.Pointwise

@[expose] public section

set_option maxRecDepth 8000

noncomputable section

namespace Cert.Mla

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The whole arguments. -/
structure Args where
  x : FVec Ideal (⟨3, ![2, 512, 2048]⟩ : Shape) .f32
  dkv : FVec Ideal (⟨2, ![2048, 512]⟩ : Shape) .f32
  uk : FVec Ideal (⟨2, ![512, 2048]⟩ : Shape) .f32
  uv : FVec Ideal (⟨2, ![512, 2048]⟩ : Shape) .f32
  q : FVec Ideal (⟨2, ![2048, 2048]⟩ : Shape) .f32
  qr : FVec Ideal (⟨2, ![2048, 512]⟩ : Shape) .f32
  kr : FVec Ideal (⟨2, ![2048, 32]⟩ : Shape) .f32
  o : FVec Ideal (⟨2, ![2048, 2048]⟩ : Shape) .f32

namespace Args

variable (A : Args)

/-- The compressed keys. -/
def comp (b : Fin 2) (s : Fin 512) (j : Fin 512) : EReal := ∑ k : Fin 2048, A.x (ix3 b s k) * A.dkv (ix2 k j)
/-- The keys and the values. -/
def key (b : Fin 2) (s : Fin 512) (n : Fin 2048) : EReal := ∑ j : Fin 512, A.comp b s j * A.uk (ix2 j n)
def val (b : Fin 2) (s : Fin 512) (n : Fin 2048) : EReal := ∑ j : Fin 512, A.comp b s j * A.uv (ix2 j n)
/-- The queries. -/
def query (b : Fin 2) (s : Fin 512) (n : Fin 2048) : EReal := ∑ k : Fin 2048, A.x (ix3 b s k) * A.q (ix2 k n)
/-- The rotary queries and keys. -/
def rquery (b : Fin 2) (s : Fin 512) (n : Fin 512) : EReal := ∑ k : Fin 2048, A.x (ix3 b s k) * A.qr (ix2 k n)
def rkey (b : Fin 2) (s : Fin 512) (n : Fin 32) : EReal := ∑ k : Fin 2048, A.x (ix3 b s k) * A.kr (ix2 k n)
/-- The score of a query at `s` and a key at `t`. -/
def score (b : Fin 2) (h : Fin 16) (s t : Fin 512) : EReal :=
  (∑ d : Fin 128, A.query b s ⟨h.val * 128 + d.val, by omega⟩ * A.key b t ⟨h.val * 128 + d.val, by omega⟩
    + ∑ d : Fin 32, A.rquery b s ⟨h.val * 32 + d.val, by omega⟩ * A.rkey b t d) * Ideal.ofBits .f32 0x3DA1E89B#32
/-- The exponential of a score less the row's greatest. -/
def weight (b : Fin 2) (h : Fin 16) (s t : Fin 512) : EReal :=
  Ideal.exp (A.score b h s t - Finset.univ.fold max (Ideal.ofBits .f32 0xFF800000#32) (fun u => A.score b h s u))
/-- A head's output: the values weighed by the normalized exponentials. -/
def head (b : Fin 2) (h : Fin 16) (s : Fin 512) (d : Fin 128) : EReal :=
  ∑ t : Fin 512, A.val b t ⟨h.val * 128 + d.val, by omega⟩ * Ideal.div (A.weight b h s t) (∑ u : Fin 512, A.weight b h s u)
/-- The result. -/
def result (b : Fin 2) (s : Fin 512) (n : Fin 2048) : EReal :=
  ∑ j : Fin 2048, A.head b ⟨j.val / 128, by omega⟩ s ⟨j.val % 128, by omega⟩ * A.o (ix2 j n)

end Args

/-- The reference's arguments. -/
def refArgs (m : (ℓ : Loc Cert.ReferenceIdeal.nD Cert.ReferenceIdeal.τ Cert.ReferenceIdeal.sig) → Buf (Elt Ideal) ℓ) (c : Dev Cert.ReferenceIdeal.nD) : Args where
  x := m ((c.tc : Thread Cert.ReferenceIdeal.nD Cert.ReferenceIdeal.τ).loc Cert.ReferenceIdeal.main_arg0)
  dkv := m ((c.tc : Thread Cert.ReferenceIdeal.nD Cert.ReferenceIdeal.τ).loc Cert.ReferenceIdeal.main_arg1)
  uk := m ((c.tc : Thread Cert.ReferenceIdeal.nD Cert.ReferenceIdeal.τ).loc Cert.ReferenceIdeal.main_arg2)
  uv := m ((c.tc : Thread Cert.ReferenceIdeal.nD Cert.ReferenceIdeal.τ).loc Cert.ReferenceIdeal.main_arg3)
  q := m ((c.tc : Thread Cert.ReferenceIdeal.nD Cert.ReferenceIdeal.τ).loc Cert.ReferenceIdeal.main_arg4)
  qr := m ((c.tc : Thread Cert.ReferenceIdeal.nD Cert.ReferenceIdeal.τ).loc Cert.ReferenceIdeal.main_arg5)
  kr := m ((c.tc : Thread Cert.ReferenceIdeal.nD Cert.ReferenceIdeal.τ).loc Cert.ReferenceIdeal.main_arg6)
  o := m ((c.tc : Thread Cert.ReferenceIdeal.nD Cert.ReferenceIdeal.τ).loc Cert.ReferenceIdeal.main_arg7)

section Stages

open Cert.ReferenceIdeal Cert.ReferenceIdeal.Gen

variable (A : Args)

/-- The reference's stages as whole arrays. -/
def compT : FVec Ideal S2x512x512 .f32 := Host.dotGeneral dot_S2x512x2048_S2048x512_S2x512x512_2_0_01_1_n_n none (A.x) (A.dkv)
def keyT : FVec Ideal S2x512x16x128 .f32 := shapeCast _ (Host.dotGeneral dot_S2x512x512_S512x2048_S2x512x2048_2_0_01_1_n_n none (compT A) (A.uk)) shapeCasts_S2x512x2048_S2x512x16x128
def valT : FVec Ideal S2x512x16x128 .f32 := shapeCast _ (Host.dotGeneral dot_S2x512x512_S512x2048_S2x512x2048_2_0_01_1_n_n none (compT A) (A.uv)) shapeCasts_S2x512x2048_S2x512x16x128
def queryT : FVec Ideal S2x512x16x128 .f32 := shapeCast _ (Host.dotGeneral dot_S2x512x2048_S2048x2048_S2x512x2048_2_0_01_1_n_n none (A.x) (A.q)) shapeCasts_S2x512x2048_S2x512x16x128
def rqueryT : FVec Ideal S2x512x16x32 .f32 := shapeCast _ (Host.dotGeneral dot_S2x512x2048_S2048x512_S2x512x512_2_0_01_1_n_n none (A.x) (A.qr)) shapeCasts_S2x512x512_S2x512x16x32
def rkeyT : FVec Ideal S2x512x16x32 .f32 := broadcastInDim S2x512x16x32 ![0, 1, 2, 3] bcast_S2x512x1x32_S2x512x16x32_0_1_2_3 (shapeCast _ (Host.dotGeneral dot_S2x512x2048_S2048x32_S2x512x32_2_0_01_1_n_n none (A.x) (A.kr)) shapeCasts_S2x512x32_S2x512x1x32)
def scoreT : FVec Ideal S2x16x512x512 .f32 :=
  mulf (addf (Host.dotGeneral dot_S2x512x16x128_S2x512x16x128_S2x16x512x512_3_3_1_1_02_02 none (queryT A) (keyT A))
    (Host.dotGeneral dot_S2x512x16x32_S2x512x16x32_S2x16x512x512_3_3_1_1_02_02 none (rqueryT A) (rkeyT A)))
    (broadcastInDim S2x16x512x512 ![] bcast_S_S2x16x512x512 (constant S_ .f32 0x3DA1E89B#32))
def weightT : FVec Ideal S2x16x512x512 .f32 :=
  Host.exp (subf (scoreT A) (broadcastInDim S2x16x512x512 ![0, 1, 2, 3] bcast_S2x16x512x1_S2x16x512x512_0_1_2_3 (broadcastInDim S2x16x512x1 ![0, 1, 2] bcast_S2x16x512_S2x16x512x1_0_1_2
    (Host.reduce FloatOps.maximumf (scoreT A) (constant S_ .f32 0xFF800000#32) reducesTo_S2x16x512x512_S2x16x512_d3 h_S_))))
def normT : FVec Ideal S2x16x512x512 .f32 :=
  Host.divf (weightT A) (broadcastInDim S2x16x512x512 ![0, 1, 2, 3] bcast_S2x16x512x1_S2x16x512x512_0_1_2_3 (broadcastInDim S2x16x512x1 ![0, 1, 2] bcast_S2x16x512_S2x16x512x1_0_1_2
    (Host.reduceAdd (weightT A) (constant S_ .f32 0x00000000#32) reducesTo_S2x16x512x512_S2x16x512_d3 h_S_)))
def headT : FVec Ideal S2x512x2048 .f32 :=
  shapeCast _ (transpose S2x512x16x128 [0, 3, 1, 2] (Host.dotGeneral dot_S2x512x16x128_S2x16x512x512_S2x16x128x512_1_3_3_2_02_01 none (valT A) (normT A)) transposes_S2x16x128x512_S2x512x16x128_0_3_1_2) shapeCasts_S2x512x16x128_S2x512x2048

set_option maxHeartbeats 1000000 in
theorem res_stages (m : (ℓ : Loc nD τ sig) → Buf (Elt Ideal) ℓ) (c : Dev nD) :
    Cert.ReferenceIdeal.Value.res_out0 m c = Host.dotGeneral dot_S2x512x2048_S2048x2048_S2x512x2048_2_0_01_1_n_n none (headT (refArgs m c)) ((refArgs m c).o) := rfl

theorem compT_at (b : Fin 2) (s j : Fin 512) : compT A (ix3 b s j) = A.comp b s j := by
  unfold compT Args.comp
  pointwise
theorem keyT_at (b : Fin 2) (s : Fin 512) (h : Fin 16) (d : Fin 128) : keyT A (ix4 b s h d) = A.key b s ⟨h.val * 128 + d.val, by omega⟩ := by
  unfold keyT Args.key
  pointwise
  simp only [compT_at]
theorem valT_at (b : Fin 2) (s : Fin 512) (h : Fin 16) (d : Fin 128) : valT A (ix4 b s h d) = A.val b s ⟨h.val * 128 + d.val, by omega⟩ := by
  unfold valT Args.val
  pointwise
  simp only [compT_at]
theorem queryT_at (b : Fin 2) (s : Fin 512) (h : Fin 16) (d : Fin 128) : queryT A (ix4 b s h d) = A.query b s ⟨h.val * 128 + d.val, by omega⟩ := by
  unfold queryT Args.query
  pointwise
theorem rqueryT_at (b : Fin 2) (s : Fin 512) (h : Fin 16) (d : Fin 32) : rqueryT A (ix4 b s h d) = A.rquery b s ⟨h.val * 32 + d.val, by omega⟩ := by
  unfold rqueryT Args.rquery
  pointwise
theorem rkeyT_at (b : Fin 2) (s : Fin 512) (h : Fin 16) (d : Fin 32) : rkeyT A (ix4 b s h d) = A.rkey b s d := by
  unfold rkeyT Args.rkey
  pointwise
theorem scoreT_at (b : Fin 2) (h : Fin 16) (s t : Fin 512) : scoreT A (ix4 b h s t) = A.score b h s t := by
  unfold scoreT Args.score
  pointwise
  simp only [queryT_at, keyT_at, rqueryT_at, rkeyT_at]
theorem weightT_at (b : Fin 2) (h : Fin 16) (s t : Fin 512) : weightT A (ix4 b h s t) = A.weight b h s t := by
  unfold weightT Args.weight
  pointwise
  simp only [scoreT_at]
theorem normT_at (b : Fin 2) (h : Fin 16) (s t : Fin 512) : normT A (ix4 b h s t) = Ideal.div (A.weight b h s t) (∑ u : Fin 512, A.weight b h s u) := by
  unfold normT
  pointwise
  simp only [weightT_at]
theorem headT_at (b : Fin 2) (s : Fin 512) (n : Fin 2048) : headT A (ix3 b s n) = A.head b ⟨n.val / 128, by omega⟩ s ⟨n.val % 128, by omega⟩ := by
  unfold headT Args.head
  pointwise
  simp only [valT_at, normT_at]

/-- The reference's result at an index. -/
theorem res_at (m : (ℓ : Loc nD τ sig) → Buf (Elt Ideal) ℓ) (c : Dev nD) (b : Fin 2) (s : Fin 512) (n : Fin 2048) :
    Cert.ReferenceIdeal.Value.res_out0 m c (ix3 b s n) = (refArgs m c).result b s n := by
  rw [res_stages]
  unfold Args.result
  pointwise
  simp only [headT_at]

end Stages

end Cert.Mla

end
-- ==== Proof.Softmax.lean ====
/-
The one law of the extended reals that needs finite scores. Where every score of a row is finite, so are its
exponentials, their sum is a positive real, and dividing the weighed sum of the values by it is the same as weighing
the values by the quotients. The values themselves may be infinite.
-/
module

public import proofs.«01_k».proof.Proof.Reference

@[expose] public section

set_option maxRecDepth 8000

noncomputable section

namespace Cert.Mla

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A finite extended real. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.max {x y : EReal} (hx : IsReal x) (hy : IsReal y) : IsReal (Max.max x y) := by
  rcases max_choice x y with h | h <;> rw [h] <;> assumption
theorem coe_sum {n : ℕ} (g : Fin n → ℝ) : ((∑ i, g i : ℝ) : EReal) = ∑ i, (g i : EReal) := by
  have key (S : Finset (Fin n)) : ((∑ i ∈ S, g i : ℝ) : EReal) = ∑ i ∈ S, (g i : EReal) := by
    induction S using Finset.induction_on with
    | empty => simp
    | insert a S ha ih => rw [Finset.sum_insert ha, Finset.sum_insert ha, EReal.coe_add, ih]
  exact key _
theorem IsReal.sum {n : ℕ} {f : Fin n → EReal} (h : ∀ i, IsReal (f i)) : IsReal (∑ i, f i) := by
  choose g hg using h
  refine ⟨∑ i, g i, ?_⟩
  rw [coe_sum]
  exact Finset.sum_congr rfl fun i _ => hg i

theorem real_scale : IsReal (Ideal.ofBits .f32 0x3DA1E89B#32) := by
  simp [Ideal.ofBits, Ideal.ieee, -EReal.coe_mul]
  exact ⟨_, rfl⟩
theorem bot_start : Ideal.ofBits .f32 0xFF800000#32 = ⊥ := by simp [Ideal.ofBits, Ideal.ieee]

/-- The greatest of finitely many finite values, one at least, is finite. -/
theorem real_fold {n : ℕ} {f : Fin n → EReal} (h : ∀ i, IsReal (f i)) (S : Finset (Fin n)) :
    S.fold max (⊥ : EReal) f = ⊥ ∧ S = ∅ ∨ IsReal (S.fold max (⊥ : EReal) f) := by
  induction S using Finset.induction_on with
  | empty => exact .inl ⟨rfl, rfl⟩
  | insert a S ha ih =>
    right
    rw [Finset.fold_insert ha]
    rcases ih with ⟨e, _⟩ | e
    · rw [e, max_eq_left bot_le]; exact h a
    · exact (h a).max e

/-- A sum times a positive real. -/
theorem sum_mul_real {n : ℕ} (f : Fin n → EReal) {r : ℝ} (hr : 0 < r) : (∑ i, f i) * (r : EReal) = ∑ i, f i * (r : EReal) := by
  have hd (x y : EReal) : (x + y) * (r : EReal) = x * (r : EReal) + y * (r : EReal) :=
    EReal.right_distrib_of_nonneg_of_ne_top (by exact_mod_cast hr.le) (EReal.coe_ne_top r) x y
  have key (S : Finset (Fin n)) : (∑ i ∈ S, f i) * (r : EReal) = ∑ i ∈ S, f i * (r : EReal) := by
    induction S using Finset.induction_on with
    | empty => simp
    | insert a S ha ih => rw [Finset.sum_insert ha, Finset.sum_insert ha, hd, ih]
  exact key _

/-- The normalization may come before the weighing or after it. -/
theorem normalize {n : ℕ} {sc v : Fin n → EReal} (h : ∀ i, IsReal (sc i)) (hn : 0 < n) :
    Ideal.div (∑ t, Ideal.exp (sc t - Finset.univ.fold max ⊥ sc) * v t) (∑ t, Ideal.exp (sc t - Finset.univ.fold max ⊥ sc))
      = ∑ t, v t * Ideal.div (Ideal.exp (sc t - Finset.univ.fold max ⊥ sc)) (∑ u, Ideal.exp (sc u - Finset.univ.fold max ⊥ sc)) := by
  have hm : IsReal (Finset.univ.fold max ⊥ sc) := by
    rcases real_fold h Finset.univ with ⟨_, e⟩ | e
    · exact absurd e (Finset.univ_nonempty_iff.mpr ⟨⟨0, hn⟩⟩).ne_empty
    · exact e
  generalize Finset.univ.fold max ⊥ sc = M at hm
  have hp : ∀ i, ∃ r : ℝ, 0 < r ∧ Ideal.exp (sc i - M) = (r : EReal) := fun i => by
    obtain ⟨a, ha⟩ := (h i).sub hm
    exact ⟨Real.exp a, Real.exp_pos a, by rw [ha]; rfl⟩
  choose p hp0 hp using hp
  have hden : (∑ u, Ideal.exp (sc u - M)) = ((∑ u, p u : ℝ) : EReal) := by
    rw [coe_sum]
    exact Finset.sum_congr rfl fun i _ => hp i
  have hpos : 0 < ∑ u, p u := Finset.sum_pos (fun i _ => hp0 i) (Finset.univ_nonempty_iff.mpr ⟨⟨0, hn⟩⟩)
  have hne : ((∑ u, p u : ℝ) : EReal) ≠ 0 := by exact_mod_cast hpos.ne'
  have hdiv (x : EReal) : Ideal.div x ((∑ u, p u : ℝ) : EReal) = x * (((∑ u, p u)⁻¹ : ℝ) : EReal) := by
    unfold Ideal.div
    rw [if_neg hne, EReal.coe_inv]
  rw [hden, hdiv, sum_mul_real _ (inv_pos.mpr hpos)]
  refine Finset.sum_congr rfl fun t _ => ?_
  rw [hdiv, ← mul_assoc, mul_comm (v t)]

/-- The arguments that the scores are made of are finite. -/
structure Args.Finite (A : Args) : Prop where
  x : ∀ i, IsReal (A.x i)
  dkv : ∀ i, IsReal (A.dkv i)
  uk : ∀ i, IsReal (A.uk i)
  q : ∀ i, IsReal (A.q i)
  qr : ∀ i, IsReal (A.qr i)
  kr : ∀ i, IsReal (A.kr i)

theorem Args.Finite.score {A : Args} (h : A.Finite) (b : Fin 2) (hd : Fin 16) (s t : Fin 512) : IsReal (A.score b hd s t) := by
  unfold Args.score
  refine ((IsReal.sum fun d => ?_).add (IsReal.sum fun d => ?_)).mul real_scale
  · exact (IsReal.sum fun k => (h.x _).mul (h.q _)).mul (IsReal.sum fun j => (IsReal.sum fun k => (h.x _).mul (h.dkv _)).mul (h.uk _))
  · exact (IsReal.sum fun k => (h.x _).mul (h.qr _)).mul (IsReal.sum fun k => (h.x _).mul (h.kr _))

/-- A head's output, the division last. -/
theorem Args.Finite.head {A : Args} (h : A.Finite) (b : Fin 2) (hd : Fin 16) (s : Fin 512) (d : Fin 128) :
    Ideal.div (∑ t : Fin 512, A.weight b hd s t * A.val b t ⟨hd.val * 128 + d.val, by omega⟩) (∑ t : Fin 512, A.weight b hd s t) = A.head b hd s d := by
  unfold Args.head Args.weight
  rw [bot_start]
  exact normalize (fun i => h.score b hd s i) (by decide)

end Cert.Mla

end
-- ==== Proof.Attend.lean ====
/-
What the kernel's buffers hold, in terms of the whole arguments. Device `4 p + z` starts from block `z` of the
down-projection's columns and of the two up-projections' rows; its slots `0 … 3` hold the blocks of the devices before
it around the ring, so each sum over the slots is the whole sum in another order.
-/
module

public import proofs.«01_k».proof.Proof.Payloads
public import proofs.«01_k».proof.Proof.Reference
public import proofs.«01_k».proof.Proof.Softmax
public import proofs.«01_k».proof.Proof.Start

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The launch memory holds the arguments `A`, laid out over the devices. -/
structure Laid (m : (ℓ : Loc nD τ sig) → Buf (Elt Ideal) ℓ) (A : Args) : Prop where
  x : ∀ c i, xV m c i = A.x i
  dkv : ∀ c k (j : Fin 128), wdkvV m c (ix2 k j) = A.dkv (ix2 k ⟨c.val % 4 * 128 + j.val, by omega⟩)
  uk : ∀ c (j : Fin 128) n, wukV m c (ix2 j n) = A.uk (ix2 ⟨c.val % 4 * 128 + j.val, by omega⟩ n)
  uv : ∀ c (j : Fin 128) n, wuvV m c (ix2 j n) = A.uv (ix2 ⟨c.val % 4 * 128 + j.val, by omega⟩ n)
  q : ∀ c i, wqV m c i = A.q i
  qr : ∀ c i, wqrV m c i = A.qr i
  kr : ∀ c i, wkrV m c i = A.kr i
  o : ∀ c i, woV m c i = A.o i

theorem ix2_congr {a b : ℕ} {i i' : Fin a} {j j' : Fin b} (hi : i.val = i'.val) (hj : j.val = j'.val) :
    (ix2 i j : (⟨2, ![a, b]⟩ : Shape).Idx) = ix2 i' j' := by
  rw [Fin.ext hi, Fin.ext hj]
theorem ix3_congr {a b d : ℕ} {i i' : Fin a} {j j' : Fin b} {k k' : Fin d} (hi : i.val = i'.val) (hj : j.val = j'.val)
    (hk : k.val = k'.val) : (ix3 i j k : (⟨3, ![a, b, d]⟩ : Shape).Idx) = ix3 i' j' k' := by
  rw [Fin.ext hi, Fin.ext hj, Fin.ext hk]

/-- The block that slot `d` holds, around the ring of a position `z`. -/
def rot (z : ℕ) (d : Fin 4) : Fin 4 := ⟨(z + (4 - d.val)) % 4, Nat.mod_lt _ (by decide)⟩

/-- A sum over the slots is the sum over the blocks. -/
theorem sum_rot {z : ℕ} (G : Fin 4 → EReal) : G (rot z 0) + G (rot z 1) + G (rot z 2) + G (rot z 3) = ∑ i, G i := by
  rw [Fin.sum_univ_four]
  have h : z % 4 = 0 ∨ z % 4 = 1 ∨ z % 4 = 2 ∨ z % 4 = 3 := by omega
  rcases h with h | h | h | h
  · rw [show rot z 0 = 0 from Fin.ext (by simp [rot]; omega), show rot z 1 = 3 from Fin.ext (by simp [rot]; omega),
      show rot z 2 = 2 from Fin.ext (by simp [rot]; omega), show rot z 3 = 1 from Fin.ext (by simp [rot]; omega)]
    ac_rfl
  · rw [show rot z 0 = 1 from Fin.ext (by simp [rot]; omega), show rot z 1 = 0 from Fin.ext (by simp [rot]; omega),
      show rot z 2 = 3 from Fin.ext (by simp [rot]; omega), show rot z 3 = 2 from Fin.ext (by simp [rot]; omega)]
    ac_rfl
  · rw [show rot z 0 = 2 from Fin.ext (by simp [rot]; omega), show rot z 1 = 1 from Fin.ext (by simp [rot]; omega),
      show rot z 2 = 0 from Fin.ext (by simp [rot]; omega), show rot z 3 = 3 from Fin.ext (by simp [rot]; omega)]
    ac_rfl
  · rw [show rot z 0 = 3 from Fin.ext (by simp [rot]; omega), show rot z 1 = 2 from Fin.ext (by simp [rot]; omega),
      show rot z 2 = 1 from Fin.ext (by simp [rot]; omega), show rot z 3 = 0 from Fin.ext (by simp [rot]; omega)]
    ac_rfl

/-- The head that device `c` works on as its `h`-th. -/
def hd (c : Dev nD) (h : Fin 4) : Fin 16 := ⟨c.val / 4 * 4 + h.val, by have := c.isLt; simp only [nD] at this; omega⟩

section

variable {m : (ℓ : Loc nD τ sig) → Buf (Elt Ideal) ℓ} {A : Args} (L : Laid m A) (c : Dev nD)

include L

theorem xbV_at (b : Fin 2) (s : Fin 512) (k : Fin 2048) {h : 512 * b.val + s.val < 1024} :
    xbV m c (ix2 ⟨512 * b.val + s.val, h⟩ k) = A.x (ix3 b s k) := by
  unfold xbV
  rw [pay36_at, L.x]
  exact congrArg A.x (ix3_congr (by change (512 * b.val + s.val) / 512 = b.val; omega) (by change (512 * b.val + s.val) % 512 = s.val; omega) rfl)

theorem cB_at (d : Fin 4) (b : Fin 2) (t : Fin 512) (j : Fin 128) :
    cB m c d b (ix3 0 t j) = A.comp b t ⟨(rot (c.val % 4) d).val * 128 + j.val, by omega⟩ := by
  change k0_pay37 (xV m (zf (4 - d.val) c)) (wdkvV m (zf (4 - d.val) c)) (at3 0 ⟨512 * b.val + t.val, _⟩ j) = _
  rw [at3_ix, pay37_at]
  unfold Args.comp
  refine Finset.sum_congr rfl fun k _ => ?_
  rw [L.x, L.dkv]
  have e1 : (zf (4 - d.val) c).val % 4 = (c.val % 4 + (4 - d.val)) % 4 := by simp only [zf]; omega
  exact congrArg₂ (· * ·) (congrArg A.x (ix3_congr (by change (512 * b.val + t.val) / 512 = b.val; omega) (by change (512 * b.val + t.val) % 512 = t.val; omega) rfl))
    (congrArg A.dkv (ix2_congr rfl (by change (zf (4 - d.val) c).val % 4 * 128 + j.val = (c.val % 4 + (4 - d.val)) % 4 * 128 + j.val; rw [e1])))

theorem castV_key (k : ℕ) (hk : k < 32) (h : k % 2 = 0) (j e : Fin 128) :
    castV m c k hk (ix2 j e) = A.uk (ix2 ⟨c.val % 4 * 128 + j.val, by omega⟩ ⟨128 * (k / 2) + e.val, by omega⟩) := by
  unfold castV
  rw [if_pos h, pay1_at]
  change wukV m c (at2 j _) = _
  rw [at2_ix, L.uk]
  rfl
theorem castV_val (k : ℕ) (hk : k < 32) (h : ¬ k % 2 = 0) (j e : Fin 128) :
    castV m c k hk (ix2 j e) = A.uv (ix2 ⟨c.val % 4 * 128 + j.val, by omega⟩ ⟨128 * (k / 2) + e.val, by omega⟩) := by
  unfold castV
  rw [if_neg h, pay1_at]
  change wuvV m c (at2 j _) = _
  rw [at2_ix, L.uv]
  rfl

theorem wB_key (d h : Fin 4) (j e : Fin 128) :
    wB m c d h (ix3 0 j ⟨e.val, by omega⟩) = A.uk (ix2 ⟨(rot (c.val % 4) d).val * 128 + j.val, by omega⟩ ⟨(hd c h).val * 128 + e.val, by omega⟩) := by
  have hc := c.isLt
  simp only [nD] at hc
  change castV m (zf (4 - d.val) c) ((1024 * (c.val / 4) + (256 * h.val + e.val)) / 128) (by omega)
    (at2 j ⟨(1024 * (c.val / 4) + (256 * h.val + e.val)) % 128, _⟩) = _
  rw [at2_ix, castV_key L _ _ _ (by omega)]
  have e1 : (zf (4 - d.val) c).val % 4 = (c.val % 4 + (4 - d.val)) % 4 := by simp only [zf]; omega
  refine congrArg A.uk (ix2_congr ?_ ?_)
  · change (zf (4 - d.val) c).val % 4 * 128 + j.val = (c.val % 4 + (4 - d.val)) % 4 * 128 + j.val
    rw [e1]
  · change 128 * ((1024 * (c.val / 4) + (256 * h.val + e.val)) / 128 / 2) + (1024 * (c.val / 4) + (256 * h.val + e.val)) % 128
      = (c.val / 4 * 4 + h.val) * 128 + e.val
    omega
theorem wB_val (d h : Fin 4) (j e : Fin 128) :
    wB m c d h (ix3 0 j ⟨128 + e.val, by omega⟩) = A.uv (ix2 ⟨(rot (c.val % 4) d).val * 128 + j.val, by omega⟩ ⟨(hd c h).val * 128 + e.val, by omega⟩) := by
  have hc := c.isLt
  simp only [nD] at hc
  change castV m (zf (4 - d.val) c) ((1024 * (c.val / 4) + (256 * h.val + (128 + e.val))) / 128) (by omega)
    (at2 j ⟨(1024 * (c.val / 4) + (256 * h.val + (128 + e.val))) % 128, _⟩) = _
  rw [at2_ix, castV_val L _ _ _ (by omega)]
  have e1 : (zf (4 - d.val) c).val % 4 = (c.val % 4 + (4 - d.val)) % 4 := by simp only [zf]; omega
  refine congrArg A.uv (ix2_congr ?_ ?_)
  · change (zf (4 - d.val) c).val % 4 * 128 + j.val = (c.val % 4 + (4 - d.val)) % 4 * 128 + j.val
    rw [e1]
  · change 128 * ((1024 * (c.val / 4) + (256 * h.val + (128 + e.val))) / 128 / 2) + (1024 * (c.val / 4) + (256 * h.val + (128 + e.val))) % 128
      = (c.val / 4 * 4 + h.val) * 128 + e.val
    omega

theorem qB_at (b : Fin 2) (h : Fin 4) (s : Fin 512) (d : Fin 128) :
    qB m c b h (ix2 s d) = A.query b s ⟨(hd c h).val * 128 + d.val, by omega⟩ := by
  change k0_pay40 (xbV m c) (qtV m c) (at2 ⟨512 * b.val + s.val, _⟩ ⟨128 * h.val + d.val, _⟩) = _
  rw [at2_ix, pay40_at]
  unfold Args.query
  refine Finset.sum_congr rfl fun k _ => congrArg₂ (· * ·) (xbV_at L c b s k) ?_
  change wqV m c (at2 k _) = _
  rw [at2_ix, L.q]
  exact congrArg A.q (ix2_congr rfl (by change 512 * (c.val / 4) + (128 * h.val + d.val) = (c.val / 4 * 4 + h.val) * 128 + d.val; omega))
theorem qrB_at (b : Fin 2) (h : Fin 4) (s : Fin 512) (d : Fin 32) :
    qrB m c b h (ix2 s d) = A.rquery b s ⟨(hd c h).val * 32 + d.val, by omega⟩ := by
  change k0_pay39 (xbV m c) (qrtV m c) (at2 ⟨512 * b.val + s.val, _⟩ ⟨32 * h.val + d.val, _⟩) = _
  rw [at2_ix, pay39_at]
  unfold Args.rquery
  refine Finset.sum_congr rfl fun k _ => congrArg₂ (· * ·) (xbV_at L c b s k) ?_
  change wqrV m c (at2 k _) = _
  rw [at2_ix, L.qr]
  exact congrArg A.qr (ix2_congr rfl (by change 128 * (c.val / 4) + (32 * h.val + d.val) = (c.val / 4 * 4 + h.val) * 32 + d.val; omega))
theorem krB_at (b : Fin 2) (t : Fin 512) (d : Fin 32) : krB m c b (ix2 t d) = A.rkey b t d := by
  change k0_pay38 (xbV m c) (wkrV m c) (at2 ⟨512 * b.val + t.val, _⟩ d) = _
  rw [at2_ix, pay38_at]
  unfold Args.rkey
  exact Finset.sum_congr rfl fun k _ => congrArg₂ (· * ·) (xbV_at L c b t k) (L.kr c _)

omit L in
/-- The keys and values of a head, from the four slots. -/
def kvV (m : (ℓ : Loc nD τ sig) → Buf (Elt Ideal) ℓ) (c : Dev nD) (b : Fin 2) (h : Fin 4) : FVec Ideal S512x256 .f32 :=
  k0_pay42 (k0_pay41 (cB m c 0 b) (wB m c 0 h)) (cB m c 1 b) (wB m c 1 h) (cB m c 2 b) (wB m c 2 h) (cB m c 3 b) (wB m c 3 h)

omit L in
theorem kv_sum (b : Fin 2) (h : Fin 4) (t : Fin 512) (e : Fin 256) (G : Fin 4 → EReal)
    (hG : ∀ d : Fin 4, ∑ k : Fin 128, cB m c d b (ix3 0 t k) * wB m c d h (ix3 0 k e) = G (rot (c.val % 4) d)) :
    kvV m c b h (ix2 t e) = ∑ i, G i := by
  unfold kvV
  rw [pay42_at, pay41_at, hG 0, hG 1, hG 2, hG 3]
  exact sum_rot G

theorem kv_key (b : Fin 2) (h : Fin 4) (t : Fin 512) (e : Fin 128) :
    kvV m c b h (ix2 t ⟨e.val, by omega⟩) = A.key b t ⟨(hd c h).val * 128 + e.val, by omega⟩ := by
  unfold Args.key
  rw [Fin.sum_univ_tiles 4 128 (by norm_num)]
  refine kv_sum c b h t _ (fun i => ∑ k : Fin 128, A.comp b t ⟨i.val * 128 + k.val, by omega⟩ * A.uk (ix2 ⟨i.val * 128 + k.val, by omega⟩ ⟨(hd c h).val * 128 + e.val, by omega⟩)) fun d => ?_
  exact Finset.sum_congr rfl fun k _ => congrArg₂ (· * ·) (cB_at L c d b t k) (wB_key L c d h k e)
theorem kv_val (b : Fin 2) (h : Fin 4) (t : Fin 512) (e : Fin 128) :
    kvV m c b h (ix2 t ⟨128 + e.val, by omega⟩) = A.val b t ⟨(hd c h).val * 128 + e.val, by omega⟩ := by
  unfold Args.val
  rw [Fin.sum_univ_tiles 4 128 (by norm_num)]
  refine kv_sum c b h t _ (fun i => ∑ k : Fin 128, A.comp b t ⟨i.val * 128 + k.val, by omega⟩ * A.uv (ix2 ⟨i.val * 128 + k.val, by omega⟩ ⟨(hd c h).val * 128 + e.val, by omega⟩)) fun d => ?_
  exact Finset.sum_congr rfl fun k _ => congrArg₂ (· * ·) (cB_at L c d b t k) (wB_val L c d h k e)

theorem score_at (b : Fin 2) (h : Fin 4) (s t : Fin 512) :
    scoreK (krB m c b) (kvV m c b h) (qB m c b h) (qrB m c b h) s t = A.score b (hd c h) s t := by
  unfold scoreK Args.score
  simp only [kv_key L, qB_at L, qrB_at L, krB_at L]

/-- A tile is a head's output. -/
theorem tileV_at (hA : A.Finite) (b : Fin 2) (h : Fin 4) (s : Fin 512) (d : Fin 128) :
    tileV m c b h (ix2 s d) = A.head b (hd c h) s d := by
  have hw (t : Fin 512) : k0_pay44 (krB m c b) (k0_pay41 (cB m c 0 b) (wB m c 0 h)) (cB m c 1 b) (wB m c 1 h) (cB m c 2 b) (wB m c 2 h)
      (cB m c 3 b) (wB m c 3 h) (qB m c b h) (qrB m c b h) (ix2 s t) = A.weight b (hd c h) s t := by
    rw [pay44_at]
    change Ideal.exp (scoreK (krB m c b) (kvV m c b h) (qB m c b h) (qrB m c b h) s t
      - Finset.univ.fold max (Ideal.ofBits .f32 0xFF800000#32) (fun u => scoreK (krB m c b) (kvV m c b h) (qB m c b h) (qrB m c b h) s u)) = _
    simp only [score_at L]
    rfl
  have hv (t : Fin 512) : k0_pay43 (k0_pay41 (cB m c 0 b) (wB m c 0 h)) (cB m c 1 b) (wB m c 1 h) (cB m c 2 b) (wB m c 2 h)
      (cB m c 3 b) (wB m c 3 h) (ix2 t d) = A.val b t ⟨(hd c h).val * 128 + d.val, by omega⟩ :=
    (pay43_at ..).trans (kv_val L c b h t d)
  unfold tileV headV
  rw [pay46_at, pay45_at]
  simp only [hw, hv]
  exact hA.head b (hd c h) s d

theorem ooV_at (hA : A.Finite) (b : Fin 2) (s : Fin 512) (k : Fin 512) {h : b.val * 512 + s.val < 1024} :
    ooV m c (ix2 ⟨b.val * 512 + s.val, h⟩ k)
      = A.head b ⟨(c.val / 4 * 512 + k.val) / 128, by have := c.isLt; simp only [nD] at this; omega⟩ s ⟨(c.val / 4 * 512 + k.val) % 128, Nat.mod_lt _ (by decide)⟩ := by
  change tileV m c ⟨(b.val * 512 + s.val) / 512, _⟩ ⟨k.val / 128, _⟩ (at2 ⟨(b.val * 512 + s.val) % 512, _⟩ ⟨k.val % 128, _⟩) = _
  rw [at2_ix, tileV_at L c hA]
  congr 1
  · exact Fin.ext (by change (b.val * 512 + s.val) / 512 = b.val; omega)
  · exact Fin.ext (by change c.val / 4 * 4 + k.val / 128 = (c.val / 4 * 512 + k.val) / 128; omega)
  · exact Fin.ext (by change (b.val * 512 + s.val) % 512 = s.val; omega)
  · exact Fin.ext (by change k.val % 128 = (c.val / 4 * 512 + k.val) % 128; omega)

omit L in
/-- A slot's part of the last projection. -/
def part (A : Args) (b : Fin 2) (s : Fin 512) (n : Fin 2048) (i : Fin 4) : EReal :=
  ∑ k : Fin 512, A.head b ⟨(i.val * 512 + k.val) / 128, by omega⟩ s ⟨(i.val * 512 + k.val) % 128, Nat.mod_lt _ (by decide)⟩
    * A.o (ix2 ⟨i.val * 512 + k.val, by omega⟩ n)

omit L in
theorem result_parts (b : Fin 2) (s : Fin 512) (n : Fin 2048) : A.result b s n = ∑ i, part A b s n i := by
  unfold Args.result
  rw [Fin.sum_univ_tiles 4 512 (by norm_num)]
  rfl

theorem woT_at (d : Fin 4) (k : Fin 512) (n : Fin 2048) :
    woT m c d (ix3 0 k n) = A.o (ix2 ⟨(rot (c.val / 4) d).val * 512 + k.val, by omega⟩ n) := by
  change woV m c (at2 ⟨512 * ((c.val / 4 + (4 - d.val)) % 4) + k.val, _⟩ n) = _
  rw [at2_ix, L.o]
  exact congrArg A.o (ix2_congr (by change 512 * ((c.val / 4 + (4 - d.val)) % 4) + k.val = (c.val / 4 + (4 - d.val)) % 4 * 512 + k.val; omega) rfl)

theorem part_got (hA : A.Finite) (d : Fin 4) (b : Fin 2) (s : Fin 512) (n : Fin 2048) {h : b.val * 512 + s.val < 1024} :
    ∑ k : Fin 512, ogT m c d (ix3 0 ⟨b.val * 512 + s.val, h⟩ k) * woT m c d (ix3 0 k n) = part A b s n (rot (c.val / 4) d) := by
  have hc := c.isLt
  simp only [nD] at hc
  refine Finset.sum_congr rfl fun k _ => congrArg₂ (· * ·) ?_ (woT_at L c d k n)
  change ooV m (pf (4 - d.val) c) (at2 ⟨b.val * 512 + s.val, h⟩ k) = _
  rw [at2_ix, ooV_at L _ hA]
  have e : (pf (4 - d.val) c).val / 4 = (c.val / 4 + (4 - d.val)) % 4 := by simp only [pf]; omega
  congr 1
  · exact Fin.ext (by change ((pf (4 - d.val) c).val / 4 * 512 + k.val) / 128 = ((c.val / 4 + (4 - d.val)) % 4 * 512 + k.val) / 128; rw [e])
  · exact Fin.ext (by change ((pf (4 - d.val) c).val / 4 * 512 + k.val) % 128 = ((c.val / 4 + (4 - d.val)) % 4 * 512 + k.val) % 128; rw [e])

theorem part_own (hA : A.Finite) (b : Fin 2) (s : Fin 512) (n : Fin 2048) {h : b.val * 512 + s.val < 1024} :
    ∑ k : Fin 512, ooV m c (ix2 ⟨b.val * 512 + s.val, h⟩ k) * woT m c 0 (ix3 0 k n) = part A b s n (rot (c.val / 4) 0) := by
  rw [← part_got L c hA 0 b s n (h := h)]
  refine Finset.sum_congr rfl fun k _ => congrArg (· * _) ?_
  have e : pf 4 c = c := by
    have hc := c.isLt
    simp only [nD] at hc
    exact Fin.ext (by simp only [pf]; omega)
  change _ = ooV m (pf 4 c) (at2 ⟨b.val * 512 + s.val, h⟩ k)
  rw [e, at2_ix]

theorem lo3_at (hA : A.Finite) (b : Fin 2) (s : Fin 512) (n : Fin 1024) :
    lo3 m c (ix3 b s n) = A.result b s ⟨n.val, by omega⟩ := by
  unfold lo3 lo2 lo1 lo0
  rw [pay92_eq, pay88_eq, pay84_at, pay84_at, pay84_at, pay80_at, part_own L c hA, part_got L c hA, part_got L c hA, part_got L c hA,
    result_parts]
  exact sum_rot _
theorem hi3_at (hA : A.Finite) (b : Fin 2) (s : Fin 512) (n : Fin 1024) :
    hi3 m c (ix3 b s n) = A.result b s ⟨1024 + n.val, by omega⟩ := by
  unfold hi3 hi2 hi1 hi0
  rw [pay93_eq, pay89_eq, pay85_at, pay85_at, pay85_at, pay81_at, part_own L c hA, part_got L c hA, part_got L c hA, part_got L c hA,
    result_parts]
  exact sum_rot _

/-- The kernel's result at an index. -/
theorem outV_at (hA : A.Finite) (b : Fin 2) (s : Fin 512) (n : Fin 2048) : outV m c (ix3 b s n) = A.result b s n := by
  by_cases hn : n.val < 1024
  · have e : outV m c (ix3 b s n) = lo3 m c (at3 b s ⟨n.val, hn⟩) := dif_pos hn
    rw [e, at3_ix, lo3_at L c hA]
  · have e : outV m c (ix3 b s n) = hi3 m c (at3 b s ⟨n.val - 1024, by omega⟩) := dif_neg hn
    rw [e, at3_ix, hi3_at L c hA]
    exact congrArg (A.result b s) (Fin.ext (by change 1024 + (n.val - 1024) = n.val; omega))

end

end Cert.Mla

end
-- ==== Proof.Equal.lean ====
/-
From a launch memory of finite scores, laid out over the devices, to the equality of the two results: the layout and
the precondition read off as facts about the whole arguments.
-/
module

public import proofs.«01_k».proof.Proof.Attend
public import proofs.«01_k».proof.Proof.Run

@[expose] public section

set_option maxRecDepth 8000

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem real_of_cmp {x : EReal} (h : Ideal.cmp .olt (Max.max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- What the precondition says of one array. -/
theorem real_of_pre {s : Shape} {T : Shape} {dims : Fin T.rank → Fin s.rank} (hb : T.BroadcastsInDim s dims) {v : FVec Ideal s .f32}
    (h : cmpf .olt (Host.absf v) (broadcastInDim s dims hb (constant T .f32 0x7F800000#32 : FVec Ideal T .f32)) = fun _ => 1#1) (i : s.Idx) :
    IsReal (v i) := real_of_cmp (congrFun h i)

/-- The column block of device `c`. -/
theorem block_cols {α : Type} (v : (⟨2, ![2048, 512]⟩ : Shape).Idx → α) (c : Dev nD) (k : Fin 2048) (j : Fin 128) :
    (Layout.blockN ⟨2, ![2048, 128]⟩ ⟨2, ![2048, 512]⟩ (Layout.meshBlock [2, 2, 4] ![[], [2]] c) v) (ix2 k j)
      = v (ix2 k ⟨c.val % 4 * 128 + j.val, by omega⟩) := by
  refine congrArg v (funext fun a => Fin.ext ?_)
  match a with
  | 0 => change 0 * 2048 + k.val = k.val; omega
  | 1 => change (c.val / 1 % 4 * 1 + 0) * 128 + j.val = c.val % 4 * 128 + j.val; omega
/-- The row block of device `c`. -/
theorem block_rows {α : Type} (v : (⟨2, ![512, 2048]⟩ : Shape).Idx → α) (c : Dev nD) (j : Fin 128) (n : Fin 2048) :
    (Layout.blockN ⟨2, ![128, 2048]⟩ ⟨2, ![512, 2048]⟩ (Layout.meshBlock [2, 2, 4] ![[2], []] c) v) (ix2 j n)
      = v (ix2 ⟨c.val % 4 * 128 + j.val, by omega⟩ n) := by
  refine congrArg v (funext fun a => Fin.ext ?_)
  match a with
  | 0 => change (c.val / 1 % 4 * 1 + 0) * 128 + j.val = c.val % 4 * 128 + j.val; omega
  | 1 => change 0 * 2048 + n.val = n.val; omega

section

variable {m : (ℓ : Loc nD τ sig) → Buf (Elt Ideal) ℓ} {A : Args}

/-- Finite blocks make finite arguments. -/
theorem finite_of (L : Laid m A) (hx : ∀ c i, IsReal (xV m c i)) (hd : ∀ c i, IsReal (wdkvV m c i)) (hu : ∀ c i, IsReal (wukV m c i))
    (hq : ∀ c i, IsReal (wqV m c i)) (hqr : ∀ c i, IsReal (wqrV m c i)) (hkr : ∀ c i, IsReal (wkrV m c i)) : A.Finite where
  x i := L.x 0 i ▸ hx 0 i
  q i := L.q 0 i ▸ hq 0 i
  qr i := L.qr 0 i ▸ hqr 0 i
  kr i := L.kr 0 i ▸ hkr 0 i
  dkv i := by
    have h1 : (i 1).val < 512 := (i 1).isLt
    have e := L.dkv (⟨(i 1).val / 128, by simp only [nD]; omega⟩ : Dev nD) (i 0) ⟨(i 1).val % 128, Nat.mod_lt _ (by decide)⟩
    have ei : i = ix2 (i 0) ⟨(i 1).val / 128 % 4 * 128 + (i 1).val % 128, by omega⟩ := by
      refine (eq_ix2 i).trans (ix2_congr rfl ?_)
      change (i 1).val = (i 1).val / 128 % 4 * 128 + (i 1).val % 128
      omega
    rw [ei]
    exact e ▸ hd _ _
  uk i := by
    have h1 : (i 0).val < 512 := (i 0).isLt
    have e := L.uk (⟨(i 0).val / 128, by simp only [nD]; omega⟩ : Dev nD) ⟨(i 0).val % 128, Nat.mod_lt _ (by decide)⟩ (i 1)
    have ei : i = ix2 ⟨(i 0).val / 128 % 4 * 128 + (i 0).val % 128, by omega⟩ (i 1) := by
      refine (eq_ix2 i).trans (ix2_congr ?_ rfl)
      change (i 0).val = (i 0).val / 128 % 4 * 128 + (i 0).val % 128
      omega
    rw [ei]
    exact e ▸ hu _ _

/-- Each device's result is the reference's. -/
theorem outV_eq (m' : (ℓ : Loc Cert.ReferenceIdeal.nD Cert.ReferenceIdeal.τ Cert.ReferenceIdeal.sig) → Buf (Elt Ideal) ℓ) (L : Laid m (refArgs m' 0))
    (hA : (refArgs m' 0).Finite) (c : Dev nD) : outV m c = Cert.ReferenceIdeal.Value.res_out0 m' 0 := by
  funext i
  have e : i = ix3 (i 0) (i 1) (i 2) := eq_ix3 i
  rw [e]
  exact (outV_at L c hA (i 0) (i 1) (i 2)).trans (res_at m' 0 (i 0) (i 1) (i 2)).symm

end

end Cert.Mla

end
-- ==== Proof.lean ====
/-
The proof of `Cert.Claim`: the frames of the kernel, of its idealization and of the reference, that the idealization
changes nothing, and that the idealized kernel's result is the reference's. The kernel's run is in Proof/Run.lean,
carried over to both programs in Proof/Frames.lean; the equality of the results is in Proof/Equal.lean.
-/
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- Every run of the kernel ends with its arguments unchanged and every semaphore at zero. -/
theorem frame_kernel : Cert.quiescent_Kernel (hKernel := Cert.Kernel.Gen.facts) := by
  intro m ρ _
  exact (θ_run _ _ _).mono (fun r h => ⟨fun c => (h.1 c).1, h.2⟩) (Cert.Mla.run_kernel (F := Bits) m ρ)

/-- So does every run of its idealization. -/
theorem frame_ideal : Cert.quiescent_KernelIdeal (hKernelIdeal := Cert.KernelIdeal.Gen.facts) := by
  intro m ρ _
  exact (θ_run _ _ _).mono (fun r h => ⟨fun c => (h.1 c).1, h.2⟩) (Cert.Mla.run_good (F := Ideal) m ρ)

/-- And of the reference, which has no semaphore at all. -/
theorem frame_reference : Cert.quiescent_ReferenceIdeal (hReferenceIdeal := Cert.ReferenceIdeal.Gen.facts) := by
  intro m ρ _
  exact (θ_run _ _ _).mono (fun r h => ⟨fun c => (h c).2, sem_eq_zero_of_no_sems (by decide) r.2⟩)
    (Cert.ReferenceIdeal.Value.run (F := Ideal) m ρ)

/-- The precondition's side conditions. -/
theorem facts_pre : Cert.Pre_finite_scores_KernelIdeal.Facts := by constructor <;> decide
theorem facts_pre_reference : Cert.Pre_finite_scores_ReferenceIdeal.Facts := by constructor <;> decide

/-- From finite scores, every device's result of the idealized kernel is the reference's. -/
theorem equal_results : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := facts_pre) := by
  intro m ρ m' ρ' hpre h
  have L : Cert.Mla.Laid m (Cert.Mla.refArgs m' 0) :=
    { x := fun c i => congrFun (h c).1 i
      dkv := fun c k j => (congrFun (h c).2.1 _).trans (Cert.Mla.block_cols _ c k j)
      uk := fun c j n => (congrFun (h c).2.2.1 _).trans (Cert.Mla.block_rows _ c j n)
      uv := fun c j n => (congrFun (h c).2.2.2.1 _).trans (Cert.Mla.block_rows _ c j n)
      q := fun c i => congrFun (h c).2.2.2.2.1 i
      qr := fun c i => congrFun (h c).2.2.2.2.2.1 i
      kr := fun c i => congrFun (h c).2.2.2.2.2.2.1 i
      o := fun c i => congrFun (h c).2.2.2.2.2.2.2 i }
  have hA : (Cert.Mla.refArgs m' 0).Finite := Cert.Mla.finite_of L
    (fun c => Cert.Mla.real_of_pre _ (hpre c).1) (fun c => Cert.Mla.real_of_pre _ (hpre c).2.1)
    (fun c => Cert.Mla.real_of_pre _ (hpre c).2.2.1) (fun c => Cert.Mla.real_of_pre _ (hpre c).2.2.2.1)
    (fun c => Cert.Mla.real_of_pre _ (hpre c).2.2.2.2.1) (fun c => Cert.Mla.real_of_pre _ (hpre c).2.2.2.2.2)
  refine ⟨Cert.ReferenceIdeal.Value.res_out0 m' 0, ?_, ?_⟩
  · exact (θ_run _ _ _).mono (fun r g c => ⟨((g.1 c).2).trans (Cert.Mla.outV_eq m' L hA c), (g.1 c).1⟩) (Cert.Mla.run_good (F := Ideal) m ρ)
  · exact (θ_run _ _ _).mono (fun r g => g 0) (Cert.ReferenceIdeal.Value.run (F := Ideal) m' ρ')

theorem claim : Cert.Claim :=
  ⟨Cert.Kernel.Gen.facts, Cert.KernelIdeal.Gen.facts, Cert.ReferenceIdeal.Gen.facts, facts_pre, facts_pre_reference, frame_kernel, frame_ideal,
    fun m ρ _ => frame_ideal m ρ trivial, frame_reference, fun m ρ _ => frame_reference m ρ trivial, trivial, equal_results⟩

end Cert.Proof

end
